-- ==== Defs.lean ====
def Pre_Samp0 (m : (ℓ : Loc Cert.Samp0.nD Cert.Samp0.τ Cert.Samp0.sig) → Buf (Elt Bits) ℓ) : Prop :=
  True

def Pre_Samp0Ideal (m : (ℓ : Loc Cert.Samp0Ideal.nD Cert.Samp0Ideal.τ Cert.Samp0Ideal.sig) → Buf (Elt Ideal) ℓ) : Prop :=
  True

def Pre_Samp0Ideal_finite_arguments [hPre_finite_arguments : Cert.Pre_finite_arguments.Facts] (m : (ℓ : Loc Cert.Samp0Ideal.nD Cert.Samp0Ideal.τ Cert.Samp0Ideal.sig) → Buf (Elt Ideal) ℓ) : Prop :=
  ∀ c : Dev Cert.Samp0Ideal.nD,
    (Cert.Pre_finite_arguments.fn (F := Ideal) (m ((c.tc : Thread Cert.Samp0Ideal.nD Cert.Samp0Ideal.τ).loc Cert.Samp0Ideal.main_arg0)) (m ((c.tc : Thread Cert.Samp0Ideal.nD Cert.Samp0Ideal.τ).loc Cert.Samp0Ideal.main_arg1))).1 = (fun _ => 1#1)
    ∧ (Cert.Pre_finite_arguments.fn (F := Ideal) (m ((c.tc : Thread Cert.Samp0Ideal.nD Cert.Samp0Ideal.τ).loc Cert.Samp0Ideal.main_arg0)) (m ((c.tc : Thread Cert.Samp0Ideal.nD Cert.Samp0Ideal.τ).loc Cert.Samp0Ideal.main_arg1))).2 = (fun _ => 1#1)

def Pre_SampRef0Ideal (m : (ℓ : Loc Cert.SampRef0Ideal.nD Cert.SampRef0Ideal.τ Cert.SampRef0Ideal.sig) → Buf (Elt Ideal) ℓ) : Prop :=
  True

def Pre_SampRef0Ideal_finite_arguments [hPre_finite_arguments : Cert.Pre_finite_arguments.Facts] (m : (ℓ : Loc Cert.SampRef0Ideal.nD Cert.SampRef0Ideal.τ Cert.SampRef0Ideal.sig) → Buf (Elt Ideal) ℓ) : Prop :=
  ∀ c : Dev Cert.SampRef0Ideal.nD,
    (Cert.Pre_finite_arguments.fn (F := Ideal) (m ((c.tc : Thread Cert.SampRef0Ideal.nD Cert.SampRef0Ideal.τ).loc Cert.SampRef0Ideal.main_arg0)) (m ((c.tc : Thread Cert.SampRef0Ideal.nD Cert.SampRef0Ideal.τ).loc Cert.SampRef0Ideal.main_arg1))).1 = (fun _ => 1#1)
    ∧ (Cert.Pre_finite_arguments.fn (F := Ideal) (m ((c.tc : Thread Cert.SampRef0Ideal.nD Cert.SampRef0Ideal.τ).loc Cert.SampRef0Ideal.main_arg0)) (m ((c.tc : Thread Cert.SampRef0Ideal.nD Cert.SampRef0Ideal.τ).loc Cert.SampRef0Ideal.main_arg1))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Samp1 (m : (ℓ : Loc Cert.Samp1.nD Cert.Samp1.τ Cert.Samp1.sig) → Buf (Elt Bits) ℓ) : Prop :=
  True

def Pre_Samp1Ideal (m : (ℓ : Loc Cert.Samp1Ideal.nD Cert.Samp1Ideal.τ Cert.Samp1Ideal.sig) → Buf (Elt Ideal) ℓ) : Prop :=
  True

def Pre_Samp1Ideal_finite_arguments_512 [hPre_finite_arguments_512 : Cert.Pre_finite_arguments_512.Facts] (m : (ℓ : Loc Cert.Samp1Ideal.nD Cert.Samp1Ideal.τ Cert.Samp1Ideal.sig) → Buf (Elt Ideal) ℓ) : Prop :=
  ∀ c : Dev Cert.Samp1Ideal.nD,
    (Cert.Pre_finite_arguments_512.fn (F := Ideal) (m ((c.tc : Thread Cert.Samp1Ideal.nD Cert.Samp1Ideal.τ).loc Cert.Samp1Ideal.main_arg0)) (m ((c.tc : Thread Cert.Samp1Ideal.nD Cert.Samp1Ideal.τ).loc Cert.Samp1Ideal.main_arg1))).1 = (fun _ => 1#1)
    ∧ (Cert.Pre_finite_arguments_512.fn (F := Ideal) (m ((c.tc : Thread Cert.Samp1Ideal.nD Cert.Samp1Ideal.τ).loc Cert.Samp1Ideal.main_arg0)) (m ((c.tc : Thread Cert.Samp1Ideal.nD Cert.Samp1Ideal.τ).loc Cert.Samp1Ideal.main_arg1))).2 = (fun _ => 1#1)

def Pre_SampRef1Ideal (m : (ℓ : Loc Cert.SampRef1Ideal.nD Cert.SampRef1Ideal.τ Cert.SampRef1Ideal.sig) → Buf (Elt Ideal) ℓ) : Prop :=
  True

def Pre_SampRef1Ideal_finite_arguments_512 [hPre_finite_arguments_512 : Cert.Pre_finite_arguments_512.Facts] (m : (ℓ : Loc Cert.SampRef1Ideal.nD Cert.SampRef1Ideal.τ Cert.SampRef1Ideal.sig) → Buf (Elt Ideal) ℓ) : Prop :=
  ∀ c : Dev Cert.SampRef1Ideal.nD,
    (Cert.Pre_finite_arguments_512.fn (F := Ideal) (m ((c.tc : Thread Cert.SampRef1Ideal.nD Cert.SampRef1Ideal.τ).loc Cert.SampRef1Ideal.main_arg0)) (m ((c.tc : Thread Cert.SampRef1Ideal.nD Cert.SampRef1Ideal.τ).loc Cert.SampRef1Ideal.main_arg1))).1 = (fun _ => 1#1)
    ∧ (Cert.Pre_finite_arguments_512.fn (F := Ideal) (m ((c.tc : Thread Cert.SampRef1Ideal.nD Cert.SampRef1Ideal.τ).loc Cert.SampRef1Ideal.main_arg0)) (m ((c.tc : Thread Cert.SampRef1Ideal.nD Cert.SampRef1Ideal.τ).loc Cert.SampRef1Ideal.main_arg1))).2 = (fun _ => 1#1)

def Pre_Samp2 (m : (ℓ : Loc Cert.Samp2.nD Cert.Samp2.τ Cert.Samp2.sig) → Buf (Elt Bits) ℓ) : Prop :=
  True

def Pre_Samp2Ideal (m : (ℓ : Loc Cert.Samp2Ideal.nD Cert.Samp2Ideal.τ Cert.Samp2Ideal.sig) → Buf (Elt Ideal) ℓ) : Prop :=
  True

def Pre_Samp2Ideal_finite_arguments_2048 [hPre_finite_arguments_2048 : Cert.Pre_finite_arguments_2048.Facts] (m : (ℓ : Loc Cert.Samp2Ideal.nD Cert.Samp2Ideal.τ Cert.Samp2Ideal.sig) → Buf (Elt Ideal) ℓ) : Prop :=
  ∀ c : Dev Cert.Samp2Ideal.nD,
    (Cert.Pre_finite_arguments_2048.fn (F := Ideal) (m ((c.tc : Thread Cert.Samp2Ideal.nD Cert.Samp2Ideal.τ).loc Cert.Samp2Ideal.main_arg0)) (m ((c.tc : Thread Cert.Samp2Ideal.nD Cert.Samp2Ideal.τ).loc Cert.Samp2Ideal.main_arg1))).1 = (fun _ => 1#1)
    ∧ (Cert.Pre_finite_arguments_2048.fn (F := Ideal) (m ((c.tc : Thread Cert.Samp2Ideal.nD Cert.Samp2Ideal.τ).loc Cert.Samp2Ideal.main_arg0)) (m ((c.tc : Thread Cert.Samp2Ideal.nD Cert.Samp2Ideal.τ).loc Cert.Samp2Ideal.main_arg1))).2 = (fun _ => 1#1)

def Pre_SampRef2Ideal (m : (ℓ : Loc Cert.SampRef2Ideal.nD Cert.SampRef2Ideal.τ Cert.SampRef2Ideal.sig) → Buf (Elt Ideal) ℓ) : Prop :=
  True

def Pre_SampRef2Ideal_finite_arguments_2048 [hPre_finite_arguments_2048 : Cert.Pre_finite_arguments_2048.Facts] (m : (ℓ : Loc Cert.SampRef2Ideal.nD Cert.SampRef2Ideal.τ Cert.SampRef2Ideal.sig) → Buf (Elt Ideal) ℓ) : Prop :=
  ∀ c : Dev Cert.SampRef2Ideal.nD,
    (Cert.Pre_finite_arguments_2048.fn (F := Ideal) (m ((c.tc : Thread Cert.SampRef2Ideal.nD Cert.SampRef2Ideal.τ).loc Cert.SampRef2Ideal.main_arg0)) (m ((c.tc : Thread Cert.SampRef2Ideal.nD Cert.SampRef2Ideal.τ).loc Cert.SampRef2Ideal.main_arg1))).1 = (fun _ => 1#1)
    ∧ (Cert.Pre_finite_arguments_2048.fn (F := Ideal) (m ((c.tc : Thread Cert.SampRef2Ideal.nD Cert.SampRef2Ideal.τ).loc Cert.SampRef2Ideal.main_arg0)) (m ((c.tc : Thread Cert.SampRef2Ideal.nD Cert.SampRef2Ideal.τ).loc Cert.SampRef2Ideal.main_arg1))).2 = (fun _ => 1#1)

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_ConvP (m : (ℓ : Loc Cert.ConvP.nD Cert.ConvP.τ Cert.ConvP.sig) → Buf (Elt Bits) ℓ) : Prop :=
  True

def Pre_ConvPIdeal (m : (ℓ : Loc Cert.ConvPIdeal.nD Cert.ConvPIdeal.τ Cert.ConvPIdeal.sig) → Buf (Elt Ideal) ℓ) : Prop :=
  True

def Pre_ConvPRefIdeal (m : (ℓ : Loc Cert.ConvPRefIdeal.nD Cert.ConvPRefIdeal.τ Cert.ConvPRefIdeal.sig) → Buf (Elt Ideal) ℓ) : Prop :=
  True

def quiescent_Samp0 [hSamp0 : Cert.Samp0.Facts] : Prop :=
  ∀ (m : (ℓ : Loc Cert.Samp0.nD Cert.Samp0.τ Cert.Samp0.sig) → Buf (Elt Bits) ℓ) (g : Dev Cert.Samp0.nD → PrngReg), Pre_Samp0 m →
    θ_run (Cert.Samp0.defs (F := Bits)) (onTc (τ := Cert.Samp0.τ) (Cert.Samp0.main (F := Bits))) ⟨m, fun _ => 0, g⟩ (fun r => (∀ c : Dev Cert.Samp0.nD,
      r.2.mem ((c.tc : Thread Cert.Samp0.nD Cert.Samp0.τ).loc Cert.Samp0.main_arg0) = m ((c.tc : Thread Cert.Samp0.nD Cert.Samp0.τ).loc Cert.Samp0.main_arg0)
      ∧ r.2.mem ((c.tc : Thread Cert.Samp0.nD Cert.Samp0.τ).loc Cert.Samp0.main_arg1) = m ((c.tc : Thread Cert.Samp0.nD Cert.Samp0.τ).loc Cert.Samp0.main_arg1))
      ∧ r.2.sem = fun _ => 0)

def quiescent_Samp0Ideal [hSamp0Ideal : Cert.Samp0Ideal.Facts] : Prop :=
  ∀ (m : (ℓ : Loc Cert.Samp0Ideal.nD Cert.Samp0Ideal.τ Cert.Samp0Ideal.sig) → Buf (Elt Ideal) ℓ) (g : Dev Cert.Samp0Ideal.nD → PrngReg), Pre_Samp0Ideal m →
    θ_run (Cert.Samp0Ideal.defs (F := Ideal)) (onTc (τ := Cert.Samp0Ideal.τ) (Cert.Samp0Ideal.main (F := Ideal))) ⟨m, fun _ => 0, g⟩ (fun r => (∀ c : Dev Cert.Samp0Ideal.nD,
      r.2.mem ((c.tc : Thread Cert.Samp0Ideal.nD Cert.Samp0Ideal.τ).loc Cert.Samp0Ideal.main_arg0) = m ((c.tc : Thread Cert.Samp0Ideal.nD Cert.Samp0Ideal.τ).loc Cert.Samp0Ideal.main_arg0)
      ∧ r.2.mem ((c.tc : Thread Cert.Samp0Ideal.nD Cert.Samp0Ideal.τ).loc Cert.Samp0Ideal.main_arg1) = m ((c.tc : Thread Cert.Samp0Ideal.nD Cert.Samp0Ideal.τ).loc Cert.Samp0Ideal.main_arg1))
      ∧ r.2.sem = fun _ => 0)

def quiescent_Samp0Ideal_pre_finite_arguments [hSamp0Ideal : Cert.Samp0Ideal.Facts] [hPre_finite_arguments : Cert.Pre_finite_arguments.Facts] : Prop :=
  ∀ (m : (ℓ : Loc Cert.Samp0Ideal.nD Cert.Samp0Ideal.τ Cert.Samp0Ideal.sig) → Buf (Elt Ideal) ℓ) (g : Dev Cert.Samp0Ideal.nD → PrngReg), Pre_Samp0Ideal_finite_arguments m →
    θ_run (Cert.Samp0Ideal.defs (F := Ideal)) (onTc (τ := Cert.Samp0Ideal.τ) (Cert.Samp0Ideal.main (F := Ideal))) ⟨m, fun _ => 0, g⟩ (fun r => (∀ c : Dev Cert.Samp0Ideal.nD,
      r.2.mem ((c.tc : Thread Cert.Samp0Ideal.nD Cert.Samp0Ideal.τ).loc Cert.Samp0Ideal.main_arg0) = m ((c.tc : Thread Cert.Samp0Ideal.nD Cert.Samp0Ideal.τ).loc Cert.Samp0Ideal.main_arg0)
      ∧ r.2.mem ((c.tc : Thread Cert.Samp0Ideal.nD Cert.Samp0Ideal.τ).loc Cert.Samp0Ideal.main_arg1) = m ((c.tc : Thread Cert.Samp0Ideal.nD Cert.Samp0Ideal.τ).loc Cert.Samp0Ideal.main_arg1))
      ∧ r.2.sem = fun _ => 0)

def quiescent_SampRef0Ideal [hSampRef0Ideal : Cert.SampRef0Ideal.Facts] : Prop :=
  ∀ (m : (ℓ : Loc Cert.SampRef0Ideal.nD Cert.SampRef0Ideal.τ Cert.SampRef0Ideal.sig) → Buf (Elt Ideal) ℓ) (g : Dev Cert.SampRef0Ideal.nD → PrngReg), Pre_SampRef0Ideal m →
    θ_run (Cert.SampRef0Ideal.defs (F := Ideal)) (onTc (τ := Cert.SampRef0Ideal.τ) (Cert.SampRef0Ideal.main (F := Ideal))) ⟨m, fun _ => 0, g⟩ (fun r => (∀ c : Dev Cert.SampRef0Ideal.nD,
      r.2.mem ((c.tc : Thread Cert.SampRef0Ideal.nD Cert.SampRef0Ideal.τ).loc Cert.SampRef0Ideal.main_arg0) = m ((c.tc : Thread Cert.SampRef0Ideal.nD Cert.SampRef0Ideal.τ).loc Cert.SampRef0Ideal.main_arg0)
      ∧ r.2.mem ((c.tc : Thread Cert.SampRef0Ideal.nD Cert.SampRef0Ideal.τ).loc Cert.SampRef0Ideal.main_arg1) = m ((c.tc : Thread Cert.SampRef0Ideal.nD Cert.SampRef0Ideal.τ).loc Cert.SampRef0Ideal.main_arg1))
      ∧ r.2.sem = fun _ => 0)

def quiescent_SampRef0Ideal_pre_finite_arguments [hSampRef0Ideal : Cert.SampRef0Ideal.Facts] [hPre_finite_arguments : Cert.Pre_finite_arguments.Facts] : Prop :=
  ∀ (m : (ℓ : Loc Cert.SampRef0Ideal.nD Cert.SampRef0Ideal.τ Cert.SampRef0Ideal.sig) → Buf (Elt Ideal) ℓ) (g : Dev Cert.SampRef0Ideal.nD → PrngReg), Pre_SampRef0Ideal_finite_arguments m →
    θ_run (Cert.SampRef0Ideal.defs (F := Ideal)) (onTc (τ := Cert.SampRef0Ideal.τ) (Cert.SampRef0Ideal.main (F := Ideal))) ⟨m, fun _ => 0, g⟩ (fun r => (∀ c : Dev Cert.SampRef0Ideal.nD,
      r.2.mem ((c.tc : Thread Cert.SampRef0Ideal.nD Cert.SampRef0Ideal.τ).loc Cert.SampRef0Ideal.main_arg0) = m ((c.tc : Thread Cert.SampRef0Ideal.nD Cert.SampRef0Ideal.τ).loc Cert.SampRef0Ideal.main_arg0)
      ∧ r.2.mem ((c.tc : Thread Cert.SampRef0Ideal.nD Cert.SampRef0Ideal.τ).loc Cert.SampRef0Ideal.main_arg1) = m ((c.tc : Thread Cert.SampRef0Ideal.nD Cert.SampRef0Ideal.τ).loc Cert.SampRef0Ideal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Samp1 [hSamp1 : Cert.Samp1.Facts] : Prop :=
  ∀ (m : (ℓ : Loc Cert.Samp1.nD Cert.Samp1.τ Cert.Samp1.sig) → Buf (Elt Bits) ℓ) (g : Dev Cert.Samp1.nD → PrngReg), Pre_Samp1 m →
    θ_run (Cert.Samp1.defs (F := Bits)) (onTc (τ := Cert.Samp1.τ) (Cert.Samp1.main (F := Bits))) ⟨m, fun _ => 0, g⟩ (fun r => (∀ c : Dev Cert.Samp1.nD,
      r.2.mem ((c.tc : Thread Cert.Samp1.nD Cert.Samp1.τ).loc Cert.Samp1.main_arg0) = m ((c.tc : Thread Cert.Samp1.nD Cert.Samp1.τ).loc Cert.Samp1.main_arg0)
      ∧ r.2.mem ((c.tc : Thread Cert.Samp1.nD Cert.Samp1.τ).loc Cert.Samp1.main_arg1) = m ((c.tc : Thread Cert.Samp1.nD Cert.Samp1.τ).loc Cert.Samp1.main_arg1))
      ∧ r.2.sem = fun _ => 0)

def quiescent_Samp1Ideal [hSamp1Ideal : Cert.Samp1Ideal.Facts] : Prop :=
  ∀ (m : (ℓ : Loc Cert.Samp1Ideal.nD Cert.Samp1Ideal.τ Cert.Samp1Ideal.sig) → Buf (Elt Ideal) ℓ) (g : Dev Cert.Samp1Ideal.nD → PrngReg), Pre_Samp1Ideal m →
    θ_run (Cert.Samp1Ideal.defs (F := Ideal)) (onTc (τ := Cert.Samp1Ideal.τ) (Cert.Samp1Ideal.main (F := Ideal))) ⟨m, fun _ => 0, g⟩ (fun r => (∀ c : Dev Cert.Samp1Ideal.nD,
      r.2.mem ((c.tc : Thread Cert.Samp1Ideal.nD Cert.Samp1Ideal.τ).loc Cert.Samp1Ideal.main_arg0) = m ((c.tc : Thread Cert.Samp1Ideal.nD Cert.Samp1Ideal.τ).loc Cert.Samp1Ideal.main_arg0)
      ∧ r.2.mem ((c.tc : Thread Cert.Samp1Ideal.nD Cert.Samp1Ideal.τ).loc Cert.Samp1Ideal.main_arg1) = m ((c.tc : Thread Cert.Samp1Ideal.nD Cert.Samp1Ideal.τ).loc Cert.Samp1Ideal.main_arg1))
      ∧ r.2.sem = fun _ => 0)

def quiescent_Samp1Ideal_pre_finite_arguments_512 [hSamp1Ideal : Cert.Samp1Ideal.Facts] [hPre_finite_arguments_512 : Cert.Pre_finite_arguments_512.Facts] : Prop :=
  ∀ (m : (ℓ : Loc Cert.Samp1Ideal.nD Cert.Samp1Ideal.τ Cert.Samp1Ideal.sig) → Buf (Elt Ideal) ℓ) (g : Dev Cert.Samp1Ideal.nD → PrngReg), Pre_Samp1Ideal_finite_arguments_512 m →
    θ_run (Cert.Samp1Ideal.defs (F := Ideal)) (onTc (τ := Cert.Samp1Ideal.τ) (Cert.Samp1Ideal.main (F := Ideal))) ⟨m, fun _ => 0, g⟩ (fun r => (∀ c : Dev Cert.Samp1Ideal.nD,
      r.2.mem ((c.tc : Thread Cert.Samp1Ideal.nD Cert.Samp1Ideal.τ).loc Cert.Samp1Ideal.main_arg0) = m ((c.tc : Thread Cert.Samp1Ideal.nD Cert.Samp1Ideal.τ).loc Cert.Samp1Ideal.main_arg0)
      ∧ r.2.mem ((c.tc : Thread Cert.Samp1Ideal.nD Cert.Samp1Ideal.τ).loc Cert.Samp1Ideal.main_arg1) = m ((c.tc : Thread Cert.Samp1Ideal.nD Cert.Samp1Ideal.τ).loc Cert.Samp1Ideal.main_arg1))
      ∧ r.2.sem = fun _ => 0)

def quiescent_SampRef1Ideal [hSampRef1Ideal : Cert.SampRef1Ideal.Facts] : Prop :=
  ∀ (m : (ℓ : Loc Cert.SampRef1Ideal.nD Cert.SampRef1Ideal.τ Cert.SampRef1Ideal.sig) → Buf (Elt Ideal) ℓ) (g : Dev Cert.SampRef1Ideal.nD → PrngReg), Pre_SampRef1Ideal m →
    θ_run (Cert.SampRef1Ideal.defs (F := Ideal)) (onTc (τ := Cert.SampRef1Ideal.τ) (Cert.SampRef1Ideal.main (F := Ideal))) ⟨m, fun _ => 0, g⟩ (fun r => (∀ c : Dev Cert.SampRef1Ideal.nD,
      r.2.mem ((c.tc : Thread Cert.SampRef1Ideal.nD Cert.SampRef1Ideal.τ).loc Cert.SampRef1Ideal.main_arg0) = m ((c.tc : Thread Cert.SampRef1Ideal.nD Cert.SampRef1Ideal.τ).loc Cert.SampRef1Ideal.main_arg0)
      ∧ r.2.mem ((c.tc : Thread Cert.SampRef1Ideal.nD Cert.SampRef1Ideal.τ).loc Cert.SampRef1Ideal.main_arg1) = m ((c.tc : Thread Cert.SampRef1Ideal.nD Cert.SampRef1Ideal.τ).loc Cert.SampRef1Ideal.main_arg1))
      ∧ r.2.sem = fun _ => 0)

def quiescent_SampRef1Ideal_pre_finite_arguments_512 [hSampRef1Ideal : Cert.SampRef1Ideal.Facts] [hPre_finite_arguments_512 : Cert.Pre_finite_arguments_512.Facts] : Prop :=
  ∀ (m : (ℓ : Loc Cert.SampRef1Ideal.nD Cert.SampRef1Ideal.τ Cert.SampRef1Ideal.sig) → Buf (Elt Ideal) ℓ) (g : Dev Cert.SampRef1Ideal.nD → PrngReg), Pre_SampRef1Ideal_finite_arguments_512 m →
    θ_run (Cert.SampRef1Ideal.defs (F := Ideal)) (onTc (τ := Cert.SampRef1Ideal.τ) (Cert.SampRef1Ideal.main (F := Ideal))) ⟨m, fun _ => 0, g⟩ (fun r => (∀ c : Dev Cert.SampRef1Ideal.nD,
      r.2.mem ((c.tc : Thread Cert.SampRef1Ideal.nD Cert.SampRef1Ideal.τ).loc Cert.SampRef1Ideal.main_arg0) = m ((c.tc : Thread Cert.SampRef1Ideal.nD Cert.SampRef1Ideal.τ).loc Cert.SampRef1Ideal.main_arg0)
      ∧ r.2.mem ((c.tc : Thread Cert.SampRef1Ideal.nD Cert.SampRef1Ideal.τ).loc Cert.SampRef1Ideal.main_arg1) = m ((c.tc : Thread Cert.SampRef1Ideal.nD Cert.SampRef1Ideal.τ).loc Cert.SampRef1Ideal.main_arg1))
      ∧ r.2.sem = fun _ => 0)

def quiescent_Samp2 [hSamp2 : Cert.Samp2.Facts] : Prop :=
  ∀ (m : (ℓ : Loc Cert.Samp2.nD Cert.Samp2.τ Cert.Samp2.sig) → Buf (Elt Bits) ℓ) (g : Dev Cert.Samp2.nD → PrngReg), Pre_Samp2 m →
    θ_run (Cert.Samp2.defs (F := Bits)) (onTc (τ := Cert.Samp2.τ) (Cert.Samp2.main (F := Bits))) ⟨m, fun _ => 0, g⟩ (fun r => (∀ c : Dev Cert.Samp2.nD,
      r.2.mem ((c.tc : Thread Cert.Samp2.nD Cert.Samp2.τ).loc Cert.Samp2.main_arg0) = m ((c.tc : Thread Cert.Samp2.nD Cert.Samp2.τ).loc Cert.Samp2.main_arg0)
      ∧ r.2.mem ((c.tc : Thread Cert.Samp2.nD Cert.Samp2.τ).loc Cert.Samp2.main_arg1) = m ((c.tc : Thread Cert.Samp2.nD Cert.Samp2.τ).loc Cert.Samp2.main_arg1))
      ∧ r.2.sem = fun _ => 0)

def quiescent_Samp2Ideal [hSamp2Ideal : Cert.Samp2Ideal.Facts] : Prop :=
  ∀ (m : (ℓ : Loc Cert.Samp2Ideal.nD Cert.Samp2Ideal.τ Cert.Samp2Ideal.sig) → Buf (Elt Ideal) ℓ) (g : Dev Cert.Samp2Ideal.nD → PrngReg), Pre_Samp2Ideal m →
    θ_run (Cert.Samp2Ideal.defs (F := Ideal)) (onTc (τ := Cert.Samp2Ideal.τ) (Cert.Samp2Ideal.main (F := Ideal))) ⟨m, fun _ => 0, g⟩ (fun r => (∀ c : Dev Cert.Samp2Ideal.nD,
      r.2.mem ((c.tc : Thread Cert.Samp2Ideal.nD Cert.Samp2Ideal.τ).loc Cert.Samp2Ideal.main_arg0) = m ((c.tc : Thread Cert.Samp2Ideal.nD Cert.Samp2Ideal.τ).loc Cert.Samp2Ideal.main_arg0)
      ∧ r.2.mem ((c.tc : Thread Cert.Samp2Ideal.nD Cert.Samp2Ideal.τ).loc Cert.Samp2Ideal.main_arg1) = m ((c.tc : Thread Cert.Samp2Ideal.nD Cert.Samp2Ideal.τ).loc Cert.Samp2Ideal.main_arg1))
      ∧ r.2.sem = fun _ => 0)

def quiescent_Samp2Ideal_pre_finite_arguments_2048 [hSamp2Ideal : Cert.Samp2Ideal.Facts] [hPre_finite_arguments_2048 : Cert.Pre_finite_arguments_2048.Facts] : Prop :=
  ∀ (m : (ℓ : Loc Cert.Samp2Ideal.nD Cert.Samp2Ideal.τ Cert.Samp2Ideal.sig) → Buf (Elt Ideal) ℓ) (g : Dev Cert.Samp2Ideal.nD → PrngReg), Pre_Samp2Ideal_finite_arguments_2048 m →
    θ_run (Cert.Samp2Ideal.defs (F := Ideal)) (onTc (τ := Cert.Samp2Ideal.τ) (Cert.Samp2Ideal.main (F := Ideal))) ⟨m, fun _ => 0, g⟩ (fun r => (∀ c : Dev Cert.Samp2Ideal.nD,
      r.2.mem ((c.tc : Thread Cert.Samp2Ideal.nD Cert.Samp2Ideal.τ).loc Cert.Samp2Ideal.main_arg0) = m ((c.tc : Thread Cert.Samp2Ideal.nD Cert.Samp2Ideal.τ).loc Cert.Samp2Ideal.main_arg0)
      ∧ r.2.mem ((c.tc : Thread Cert.Samp2Ideal.nD Cert.Samp2Ideal.τ).loc Cert.Samp2Ideal.main_arg1) = m ((c.tc : Thread Cert.Samp2Ideal.nD Cert.Samp2Ideal.τ).loc Cert.Samp2Ideal.main_arg1))
      ∧ r.2.sem = fun _ => 0)

def quiescent_SampRef2Ideal [hSampRef2Ideal : Cert.SampRef2Ideal.Facts] : Prop :=
  ∀ (m : (ℓ : Loc Cert.SampRef2Ideal.nD Cert.SampRef2Ideal.τ Cert.SampRef2Ideal.sig) → Buf (Elt Ideal) ℓ) (g : Dev Cert.SampRef2Ideal.nD → PrngReg), Pre_SampRef2Ideal m →
    θ_run (Cert.SampRef2Ideal.defs (F := Ideal)) (onTc (τ := Cert.SampRef2Ideal.τ) (Cert.SampRef2Ideal.main (F := Ideal))) ⟨m, fun _ => 0, g⟩ (fun r => (∀ c : Dev Cert.SampRef2Ideal.nD,
      r.2.mem ((c.tc : Thread Cert.SampRef2Ideal.nD Cert.SampRef2Ideal.τ).loc Cert.SampRef2Ideal.main_arg0) = m ((c.tc : Thread Cert.SampRef2Ideal.nD Cert.SampRef2Ideal.τ).loc Cert.SampRef2Ideal.main_arg0)
      ∧ r.2.mem ((c.tc : Thread Cert.SampRef2Ideal.nD Cert.SampRef2Ideal.τ).loc Cert.SampRef2Ideal.main_arg1) = m ((c.tc : Thread Cert.SampRef2Ideal.nD Cert.SampRef2Ideal.τ).loc Cert.SampRef2Ideal.main_arg1))
      ∧ r.2.sem = fun _ => 0)

def quiescent_SampRef2Ideal_pre_finite_arguments_2048 [hSampRef2Ideal : Cert.SampRef2Ideal.Facts] [hPre_finite_arguments_2048 : Cert.Pre_finite_arguments_2048.Facts] : Prop :=
  ∀ (m : (ℓ : Loc Cert.SampRef2Ideal.nD Cert.SampRef2Ideal.τ Cert.SampRef2Ideal.sig) → Buf (Elt Ideal) ℓ) (g : Dev Cert.SampRef2Ideal.nD → PrngReg), Pre_SampRef2Ideal_finite_arguments_2048 m →
    θ_run (Cert.SampRef2Ideal.defs (F := Ideal)) (onTc (τ := Cert.SampRef2Ideal.τ) (Cert.SampRef2Ideal.main (F := Ideal))) ⟨m, fun _ => 0, g⟩ (fun r => (∀ c : Dev Cert.SampRef2Ideal.nD,
      r.2.mem ((c.tc : Thread Cert.SampRef2Ideal.nD Cert.SampRef2Ideal.τ).loc Cert.SampRef2Ideal.main_arg0) = m ((c.tc : Thread Cert.SampRef2Ideal.nD Cert.SampRef2Ideal.τ).loc Cert.SampRef2Ideal.main_arg0)
      ∧ r.2.mem ((c.tc : Thread Cert.SampRef2Ideal.nD Cert.SampRef2Ideal.τ).loc Cert.SampRef2Ideal.main_arg1) = m ((c.tc : Thread Cert.SampRef2Ideal.nD Cert.SampRef2Ideal.τ).loc Cert.SampRef2Ideal.main_arg1))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2))
      ∧ r.2.sem = fun _ => 0)

def quiescent_ConvP [hConvP : Cert.ConvP.Facts] : Prop :=
  ∀ (m : (ℓ : Loc Cert.ConvP.nD Cert.ConvP.τ Cert.ConvP.sig) → Buf (Elt Bits) ℓ) (g : Dev Cert.ConvP.nD → PrngReg), Pre_ConvP m →
    θ_run (Cert.ConvP.defs (F := Bits)) (onTc (τ := Cert.ConvP.τ) (Cert.ConvP.main (F := Bits))) ⟨m, fun _ => 0, g⟩ (fun r => (∀ c : Dev Cert.ConvP.nD,
      r.2.mem ((c.tc : Thread Cert.ConvP.nD Cert.ConvP.τ).loc Cert.ConvP.main_arg0) = m ((c.tc : Thread Cert.ConvP.nD Cert.ConvP.τ).loc Cert.ConvP.main_arg0)
      ∧ r.2.mem ((c.tc : Thread Cert.ConvP.nD Cert.ConvP.τ).loc Cert.ConvP.main_arg1) = m ((c.tc : Thread Cert.ConvP.nD Cert.ConvP.τ).loc Cert.ConvP.main_arg1))
      ∧ r.2.sem = fun _ => 0)

def quiescent_ConvPIdeal [hConvPIdeal : Cert.ConvPIdeal.Facts] : Prop :=
  ∀ (m : (ℓ : Loc Cert.ConvPIdeal.nD Cert.ConvPIdeal.τ Cert.ConvPIdeal.sig) → Buf (Elt Ideal) ℓ) (g : Dev Cert.ConvPIdeal.nD → PrngReg), Pre_ConvPIdeal m →
    θ_run (Cert.ConvPIdeal.defs (F := Ideal)) (onTc (τ := Cert.ConvPIdeal.τ) (Cert.ConvPIdeal.main (F := Ideal))) ⟨m, fun _ => 0, g⟩ (fun r => (∀ c : Dev Cert.ConvPIdeal.nD,
      r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
      ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1))
      ∧ r.2.sem = fun _ => 0)

def quiescent_ConvPRefIdeal [hConvPRefIdeal : Cert.ConvPRefIdeal.Facts] : Prop :=
  ∀ (m : (ℓ : Loc Cert.ConvPRefIdeal.nD Cert.ConvPRefIdeal.τ Cert.ConvPRefIdeal.sig) → Buf (Elt Ideal) ℓ) (g : Dev Cert.ConvPRefIdeal.nD → PrngReg), Pre_ConvPRefIdeal m →
    θ_run (Cert.ConvPRefIdeal.defs (F := Ideal)) (onTc (τ := Cert.ConvPRefIdeal.τ) (Cert.ConvPRefIdeal.main (F := Ideal))) ⟨m, fun _ => 0, g⟩ (fun r => (∀ c : Dev Cert.ConvPRefIdeal.nD,
      r.2.mem ((c.tc : Thread Cert.ConvPRefIdeal.nD Cert.ConvPRefIdeal.τ).loc Cert.ConvPRefIdeal.main_arg0) = m ((c.tc : Thread Cert.ConvPRefIdeal.nD Cert.ConvPRefIdeal.τ).loc Cert.ConvPRefIdeal.main_arg0)
      ∧ r.2.mem ((c.tc : Thread Cert.ConvPRefIdeal.nD Cert.ConvPRefIdeal.τ).loc Cert.ConvPRefIdeal.main_arg1) = m ((c.tc : Thread Cert.ConvPRefIdeal.nD Cert.ConvPRefIdeal.τ).loc Cert.ConvPRefIdeal.main_arg1))
      ∧ r.2.sem = fun _ => 0)

def preserves_Samp0_Samp0Ideal : Prop :=
  IdealRules.named_const.Statement Cert.Samp0Ideal.κ "mask" .f32 0xF149F2CA#32 ⊥

def algebraic_Samp0Ideal_SampRef0Ideal_pre_finite_arguments [hSamp0Ideal : Cert.Samp0Ideal.Facts] [hSampRef0Ideal : Cert.SampRef0Ideal.Facts] [hPre_finite_arguments : Cert.Pre_finite_arguments.Facts] : Prop :=
  ∀ (m : (ℓ : Loc Cert.Samp0Ideal.nD Cert.Samp0Ideal.τ Cert.Samp0Ideal.sig) → Buf (Elt Ideal) ℓ) (g : Dev Cert.Samp0Ideal.nD → PrngReg)
    (m' : (ℓ : Loc Cert.SampRef0Ideal.nD Cert.SampRef0Ideal.τ Cert.SampRef0Ideal.sig) → Buf (Elt Ideal) ℓ) (g' : Dev Cert.SampRef0Ideal.nD → PrngReg), Pre_Samp0Ideal_finite_arguments m →
    (∀ c : Dev Cert.Samp0Ideal.nD,
      m' ((c.tc : Thread Cert.SampRef0Ideal.nD Cert.SampRef0Ideal.τ).loc Cert.SampRef0Ideal.main_arg0) = m ((c.tc : Thread Cert.Samp0Ideal.nD Cert.Samp0Ideal.τ).loc Cert.Samp0Ideal.main_arg0)
      ∧ m' ((c.tc : Thread Cert.SampRef0Ideal.nD Cert.SampRef0Ideal.τ).loc Cert.SampRef0Ideal.main_arg1) = m ((c.tc : Thread Cert.Samp0Ideal.nD Cert.Samp0Ideal.τ).loc Cert.Samp0Ideal.main_arg1)) →
    ∃ (v0 : (c : Dev Cert.Samp0Ideal.nD) → Buf (Elt Ideal) ((c.tc : Thread Cert.Samp0Ideal.nD Cert.Samp0Ideal.τ).loc Cert.Samp0Ideal.main_v7_0)) (v1 : (c : Dev Cert.Samp0Ideal.nD) → Buf (Elt Ideal) ((c.tc : Thread Cert.Samp0Ideal.nD Cert.Samp0Ideal.τ).loc Cert.Samp0Ideal.main_v7_1)) (v2 : (c : Dev Cert.Samp0Ideal.nD) → Buf (Elt Ideal) ((c.tc : Thread Cert.Samp0Ideal.nD Cert.Samp0Ideal.τ).loc Cert.Samp0Ideal.main_v7_2)),
      θ_run (Cert.Samp0Ideal.defs (F := Ideal)) (onTc (τ := Cert.Samp0Ideal.τ) (Cert.Samp0Ideal.main (F := Ideal))) ⟨m, fun _ => 0, g⟩ (fun r => ∀ c : Dev Cert.Samp0Ideal.nD,
          r.2.mem ((c.tc : Thread Cert.Samp0Ideal.nD Cert.Samp0Ideal.τ).loc Cert.Samp0Ideal.main_v7_0) = v0 c
          ∧ r.2.mem ((c.tc : Thread Cert.Samp0Ideal.nD Cert.Samp0Ideal.τ).loc Cert.Samp0Ideal.main_v7_1) = v1 c
          ∧ r.2.mem ((c.tc : Thread Cert.Samp0Ideal.nD Cert.Samp0Ideal.τ).loc Cert.Samp0Ideal.main_v7_2) = v2 c
          ∧ r.2.mem ((c.tc : Thread Cert.Samp0Ideal.nD Cert.Samp0Ideal.τ).loc Cert.Samp0Ideal.main_arg0) = m ((c.tc : Thread Cert.Samp0Ideal.nD Cert.Samp0Ideal.τ).loc Cert.Samp0Ideal.main_arg0)
          ∧ r.2.mem ((c.tc : Thread Cert.Samp0Ideal.nD Cert.Samp0Ideal.τ).loc Cert.Samp0Ideal.main_arg1) = m ((c.tc : Thread Cert.Samp0Ideal.nD Cert.Samp0Ideal.τ).loc Cert.Samp0Ideal.main_arg1))
      ∧ θ_run (Cert.SampRef0Ideal.defs (F := Ideal)) (onTc (τ := Cert.SampRef0Ideal.τ) (Cert.SampRef0Ideal.main (F := Ideal))) ⟨m', fun _ => 0, g'⟩ (fun r => ∀ c : Dev Cert.SampRef0Ideal.nD,
          r.2.mem ((c.tc : Thread Cert.SampRef0Ideal.nD Cert.SampRef0Ideal.τ).loc Cert.SampRef0Ideal.main_v62) = v0 c
          ∧ r.2.mem ((c.tc : Thread Cert.SampRef0Ideal.nD Cert.SampRef0Ideal.τ).loc Cert.SampRef0Ideal.main_v63) = v1 c
          ∧ r.2.mem ((c.tc : Thread Cert.SampRef0Ideal.nD Cert.SampRef0Ideal.τ).loc Cert.SampRef0Ideal.main_v65) = v2 c
          ∧ r.2.mem ((c.tc : Thread Cert.SampRef0Ideal.nD Cert.SampRef0Ideal.τ).loc Cert.SampRef0Ideal.main_arg0) = m' ((c.tc : Thread Cert.SampRef0Ideal.nD Cert.SampRef0Ideal.τ).loc Cert.SampRef0Ideal.main_arg0)
          ∧ r.2.mem ((c.tc : Thread Cert.SampRef0Ideal.nD Cert.SampRef0Ideal.τ).loc Cert.SampRef0Ideal.main_arg1) = m' ((c.tc : Thread Cert.SampRef0Ideal.nD Cert.SampRef0Ideal.τ).loc Cert.SampRef0Ideal.main_arg1))

def preserves_Mix_MixIdeal : Prop :=
  True

def algebraic_MixIdeal_MixRefIdeal_on_rows_of_the_prompt [hMixIdeal : Cert.MixIdeal.Facts] [hMixRefIdeal : Cert.MixRefIdeal.Facts] [hOn_rows_of_the_prompt : Cert.On_rows_of_the_prompt.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v11)),
      θ_run (Cert.MixIdeal.defs (F := Ideal)) (onTc (τ := Cert.MixIdeal.τ) (Cert.MixIdeal.main (F := Ideal))) ⟨m, fun _ => 0, g⟩ (fun r => ∀ c : Dev Cert.MixIdeal.nD,
          (∀ i : (⟨2, ![8320, 2048]⟩ : Shape).Idx, (Cert.On_rows_of_the_prompt.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))) i = 1#1 → r.2.mem ((c.tc : Thread Cert.MixIdeal.nD Cert.MixIdeal.τ).loc Cert.MixIdeal.main_v11) i = v0 c i)
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          (∀ i : (⟨2, ![8320, 2048]⟩ : Shape).Idx, (Cert.On_rows_of_the_prompt.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))) i = 1#1 → r.2.mem ((c.tc : Thread Cert.MixRefIdeal.nD Cert.MixRefIdeal.τ).loc Cert.MixRefIdeal.main_v56) i = v0 c i)
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v8)) (v3 : (c : Dev Cert.ProjIdeal.nD) → Buf (Elt Ideal) ((c.tc : Thread Cert.ProjIdeal.nD Cert.ProjIdeal.τ).loc Cert.ProjIdeal.main_v11)) (v4 : (c : Dev Cert.ProjIdeal.nD) → Buf (Elt Ideal) ((c.tc : Thread Cert.ProjIdeal.nD Cert.ProjIdeal.τ).loc Cert.ProjIdeal.main_v14)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v8) = v2 c
          ∧ r.2.mem ((c.tc : Thread Cert.ProjIdeal.nD Cert.ProjIdeal.τ).loc Cert.ProjIdeal.main_v11) = v3 c
          ∧ r.2.mem ((c.tc : Thread Cert.ProjIdeal.nD Cert.ProjIdeal.τ).loc Cert.ProjIdeal.main_v14) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v35) = v0 c
          ∧ r.2.mem ((c.tc : Thread Cert.ProjRefIdeal.nD Cert.ProjRefIdeal.τ).loc Cert.ProjRefIdeal.main_v36) = v1 c
          ∧ r.2.mem ((c.tc : Thread Cert.ProjRefIdeal.nD Cert.ProjRefIdeal.τ).loc Cert.ProjRefIdeal.main_v37) = v2 c
          ∧ r.2.mem ((c.tc : Thread Cert.ProjRefIdeal.nD Cert.ProjRefIdeal.τ).loc Cert.ProjRefIdeal.main_v38) = v3 c
          ∧ r.2.mem ((c.tc : Thread Cert.ProjRefIdeal.nD Cert.ProjRefIdeal.τ).loc Cert.ProjRefIdeal.main_v39) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Samp1_Samp1Ideal : Prop :=
  IdealRules.named_const.Statement Cert.Samp1Ideal.κ "mask" .f32 0xF149F2CA#32 ⊥

def algebraic_Samp1Ideal_SampRef1Ideal_pre_finite_arguments_512 [hSamp1Ideal : Cert.Samp1Ideal.Facts] [hSampRef1Ideal : Cert.SampRef1Ideal.Facts] [hPre_finite_arguments_512 : Cert.Pre_finite_arguments_512.Facts] : Prop :=
  ∀ (m : (ℓ : Loc Cert.Samp1Ideal.nD Cert.Samp1Ideal.τ Cert.Samp1Ideal.sig) → Buf (Elt Ideal) ℓ) (g : Dev Cert.Samp1Ideal.nD → PrngReg)
    (m' : (ℓ : Loc Cert.SampRef1Ideal.nD Cert.SampRef1Ideal.τ Cert.SampRef1Ideal.sig) → Buf (Elt Ideal) ℓ) (g' : Dev Cert.SampRef1Ideal.nD → PrngReg), Pre_Samp1Ideal_finite_arguments_512 m →
    (∀ c : Dev Cert.Samp1Ideal.nD,
      m' ((c.tc : Thread Cert.SampRef1Ideal.nD Cert.SampRef1Ideal.τ).loc Cert.SampRef1Ideal.main_arg0) = m ((c.tc : Thread Cert.Samp1Ideal.nD Cert.Samp1Ideal.τ).loc Cert.Samp1Ideal.main_arg0)
      ∧ m' ((c.tc : Thread Cert.SampRef1Ideal.nD Cert.SampRef1Ideal.τ).loc Cert.SampRef1Ideal.main_arg1) = m ((c.tc : Thread Cert.Samp1Ideal.nD Cert.Samp1Ideal.τ).loc Cert.Samp1Ideal.main_arg1)) →
    ∃ (v0 : (c : Dev Cert.Samp1Ideal.nD) → Buf (Elt Ideal) ((c.tc : Thread Cert.Samp1Ideal.nD Cert.Samp1Ideal.τ).loc Cert.Samp1Ideal.main_v7_0)) (v1 : (c : Dev Cert.Samp1Ideal.nD) → Buf (Elt Ideal) ((c.tc : Thread Cert.Samp1Ideal.nD Cert.Samp1Ideal.τ).loc Cert.Samp1Ideal.main_v7_1)) (v2 : (c : Dev Cert.Samp1Ideal.nD) → Buf (Elt Ideal) ((c.tc : Thread Cert.Samp1Ideal.nD Cert.Samp1Ideal.τ).loc Cert.Samp1Ideal.main_v7_2)),
      θ_run (Cert.Samp1Ideal.defs (F := Ideal)) (onTc (τ := Cert.Samp1Ideal.τ) (Cert.Samp1Ideal.main (F := Ideal))) ⟨m, fun _ => 0, g⟩ (fun r => ∀ c : Dev Cert.Samp1Ideal.nD,
          r.2.mem ((c.tc : Thread Cert.Samp1Ideal.nD Cert.Samp1Ideal.τ).loc Cert.Samp1Ideal.main_v7_0) = v0 c
          ∧ r.2.mem ((c.tc : Thread Cert.Samp1Ideal.nD Cert.Samp1Ideal.τ).loc Cert.Samp1Ideal.main_v7_1) = v1 c
          ∧ r.2.mem ((c.tc : Thread Cert.Samp1Ideal.nD Cert.Samp1Ideal.τ).loc Cert.Samp1Ideal.main_v7_2) = v2 c
          ∧ r.2.mem ((c.tc : Thread Cert.Samp1Ideal.nD Cert.Samp1Ideal.τ).loc Cert.Samp1Ideal.main_arg0) = m ((c.tc : Thread Cert.Samp1Ideal.nD Cert.Samp1Ideal.τ).loc Cert.Samp1Ideal.main_arg0)
          ∧ r.2.mem ((c.tc : Thread Cert.Samp1Ideal.nD Cert.Samp1Ideal.τ).loc Cert.Samp1Ideal.main_arg1) = m ((c.tc : Thread Cert.Samp1Ideal.nD Cert.Samp1Ideal.τ).loc Cert.Samp1Ideal.main_arg1))
      ∧ θ_run (Cert.SampRef1Ideal.defs (F := Ideal)) (onTc (τ := Cert.SampRef1Ideal.τ) (Cert.SampRef1Ideal.main (F := Ideal))) ⟨m', fun _ => 0, g'⟩ (fun r => ∀ c : Dev Cert.SampRef1Ideal.nD,
          r.2.mem ((c.tc : Thread Cert.SampRef1Ideal.nD Cert.SampRef1Ideal.τ).loc Cert.SampRef1Ideal.main_v62) = v0 c
          ∧ r.2.mem ((c.tc : Thread Cert.SampRef1Ideal.nD Cert.SampRef1Ideal.τ).loc Cert.SampRef1Ideal.main_v63) = v1 c
          ∧ r.2.mem ((c.tc : Thread Cert.SampRef1Ideal.nD Cert.SampRef1Ideal.τ).loc Cert.SampRef1Ideal.main_v65) = v2 c
          ∧ r.2.mem ((c.tc : Thread Cert.SampRef1Ideal.nD Cert.SampRef1Ideal.τ).loc Cert.SampRef1Ideal.main_arg0) = m' ((c.tc : Thread Cert.SampRef1Ideal.nD Cert.SampRef1Ideal.τ).loc Cert.SampRef1Ideal.main_arg0)
          ∧ r.2.mem ((c.tc : Thread Cert.SampRef1Ideal.nD Cert.SampRef1Ideal.τ).loc Cert.SampRef1Ideal.main_arg1) = m' ((c.tc : Thread Cert.SampRef1Ideal.nD Cert.SampRef1Ideal.τ).loc Cert.SampRef1Ideal.main_arg1))

def preserves_Samp2_Samp2Ideal : Prop :=
  IdealRules.named_const.Statement Cert.Samp2Ideal.κ "mask" .f32 0xF149F2CA#32 ⊥

def algebraic_Samp2Ideal_SampRef2Ideal_pre_finite_arguments_2048 [hSamp2Ideal : Cert.Samp2Ideal.Facts] [hSampRef2Ideal : Cert.SampRef2Ideal.Facts] [hPre_finite_arguments_2048 : Cert.Pre_finite_arguments_2048.Facts] : Prop :=
  ∀ (m : (ℓ : Loc Cert.Samp2Ideal.nD Cert.Samp2Ideal.τ Cert.Samp2Ideal.sig) → Buf (Elt Ideal) ℓ) (g : Dev Cert.Samp2Ideal.nD → PrngReg)
    (m' : (ℓ : Loc Cert.SampRef2Ideal.nD Cert.SampRef2Ideal.τ Cert.SampRef2Ideal.sig) → Buf (Elt Ideal) ℓ) (g' : Dev Cert.SampRef2Ideal.nD → PrngReg), Pre_Samp2Ideal_finite_arguments_2048 m →
    (∀ c : Dev Cert.Samp2Ideal.nD,
      m' ((c.tc : Thread Cert.SampRef2Ideal.nD Cert.SampRef2Ideal.τ).loc Cert.SampRef2Ideal.main_arg0) = m ((c.tc : Thread Cert.Samp2Ideal.nD Cert.Samp2Ideal.τ).loc Cert.Samp2Ideal.main_arg0)
      ∧ m' ((c.tc : Thread Cert.SampRef2Ideal.nD Cert.SampRef2Ideal.τ).loc Cert.SampRef2Ideal.main_arg1) = m ((c.tc : Thread Cert.Samp2Ideal.nD Cert.Samp2Ideal.τ).loc Cert.Samp2Ideal.main_arg1)) →
    ∃ (v0 : (c : Dev Cert.Samp2Ideal.nD) → Buf (Elt Ideal) ((c.tc : Thread Cert.Samp2Ideal.nD Cert.Samp2Ideal.τ).loc Cert.Samp2Ideal.main_v7_0)) (v1 : (c : Dev Cert.Samp2Ideal.nD) → Buf (Elt Ideal) ((c.tc : Thread Cert.Samp2Ideal.nD Cert.Samp2Ideal.τ).loc Cert.Samp2Ideal.main_v7_1)) (v2 : (c : Dev Cert.Samp2Ideal.nD) → Buf (Elt Ideal) ((c.tc : Thread Cert.Samp2Ideal.nD Cert.Samp2Ideal.τ).loc Cert.Samp2Ideal.main_v7_2)),
      θ_run (Cert.Samp2Ideal.defs (F := Ideal)) (onTc (τ := Cert.Samp2Ideal.τ) (Cert.Samp2Ideal.main (F := Ideal))) ⟨m, fun _ => 0, g⟩ (fun r => ∀ c : Dev Cert.Samp2Ideal.nD,
          r.2.mem ((c.tc : Thread Cert.Samp2Ideal.nD Cert.Samp2Ideal.τ).loc Cert.Samp2Ideal.main_v7_0) = v0 c
          ∧ r.2.mem ((c.tc : Thread Cert.Samp2Ideal.nD Cert.Samp2Ideal.τ).loc Cert.Samp2Ideal.main_v7_1) = v1 c
          ∧ r.2.mem ((c.tc : Thread Cert.Samp2Ideal.nD Cert.Samp2Ideal.τ).loc Cert.Samp2Ideal.main_v7_2) = v2 c
          ∧ r.2.mem ((c.tc : Thread Cert.Samp2Ideal.nD Cert.Samp2Ideal.τ).loc Cert.Samp2Ideal.main_arg0) = m ((c.tc : Thread Cert.Samp2Ideal.nD Cert.Samp2Ideal.τ).loc Cert.Samp2Ideal.main_arg0)
          ∧ r.2.mem ((c.tc : Thread Cert.Samp2Ideal.nD Cert.Samp2Ideal.τ).loc Cert.Samp2Ideal.main_arg1) = m ((c.tc : Thread Cert.Samp2Ideal.nD Cert.Samp2Ideal.τ).loc Cert.Samp2Ideal.main_arg1))
      ∧ θ_run (Cert.SampRef2Ideal.defs (F := Ideal)) (onTc (τ := Cert.SampRef2Ideal.τ) (Cert.SampRef2Ideal.main (F := Ideal))) ⟨m', fun _ => 0, g'⟩ (fun r => ∀ c : Dev Cert.SampRef2Ideal.nD,
          r.2.mem ((c.tc : Thread Cert.SampRef2Ideal.nD Cert.SampRef2Ideal.τ).loc Cert.SampRef2Ideal.main_v62) = v0 c
          ∧ r.2.mem ((c.tc : Thread Cert.SampRef2Ideal.nD Cert.SampRef2Ideal.τ).loc Cert.SampRef2Ideal.main_v63) = v1 c
          ∧ r.2.mem ((c.tc : Thread Cert.SampRef2Ideal.nD Cert.SampRef2Ideal.τ).loc Cert.SampRef2Ideal.main_v65) = v2 c
          ∧ r.2.mem ((c.tc : Thread Cert.SampRef2Ideal.nD Cert.SampRef2Ideal.τ).loc Cert.SampRef2Ideal.main_arg0) = m' ((c.tc : Thread Cert.SampRef2Ideal.nD Cert.SampRef2Ideal.τ).loc Cert.SampRef2Ideal.main_arg0)
          ∧ r.2.mem ((c.tc : Thread Cert.SampRef2Ideal.nD Cert.SampRef2Ideal.τ).loc Cert.SampRef2Ideal.main_arg1) = m' ((c.tc : Thread Cert.SampRef2Ideal.nD Cert.SampRef2Ideal.τ).loc Cert.SampRef2Ideal.main_arg1))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)) →
    ∃ (v0 : (c : Dev Cert.ConvSIdeal.nD) → Buf (Elt Ideal) ((c.tc : Thread Cert.ConvSIdeal.nD Cert.ConvSIdeal.τ).loc Cert.ConvSIdeal.main_v9)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v9) = v0 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v40) = v0 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2))

def preserves_ConvP_ConvPIdeal : Prop :=
  True

def algebraic_ConvPIdeal_ConvPRefIdeal [hConvPIdeal : Cert.ConvPIdeal.Facts] [hConvPRefIdeal : Cert.ConvPRefIdeal.Facts] : Prop :=
  ∀ (m : (ℓ : Loc Cert.ConvPIdeal.nD Cert.ConvPIdeal.τ Cert.ConvPIdeal.sig) → Buf (Elt Ideal) ℓ) (g : Dev Cert.ConvPIdeal.nD → PrngReg)
    (m' : (ℓ : Loc Cert.ConvPRefIdeal.nD Cert.ConvPRefIdeal.τ Cert.ConvPRefIdeal.sig) → Buf (Elt Ideal) ℓ) (g' : Dev Cert.ConvPRefIdeal.nD → PrngReg), Pre_ConvPIdeal m →
    (∀ c : Dev Cert.ConvPIdeal.nD,
      m' ((c.tc : Thread Cert.ConvPRefIdeal.nD Cert.ConvPRefIdeal.τ).loc Cert.ConvPRefIdeal.main_arg0) = m ((c.tc : Thread Cert.ConvPIdeal.nD Cert.ConvPIdeal.τ).loc Cert.ConvPIdeal.main_arg0)
      ∧ m' ((c.tc : Thread Cert.ConvPRefIdeal.nD Cert.ConvPRefIdeal.τ).loc Cert.ConvPRefIdeal.main_arg1) = m ((c.tc : Thread Cert.ConvPIdeal.nD Cert.ConvPIdeal.τ).loc Cert.ConvPIdeal.main_arg1)) →
    ∃ (v0 : (c : Dev Cert.ConvPIdeal.nD) → Buf (Elt Ideal) ((c.tc : Thread Cert.ConvPIdeal.nD Cert.ConvPIdeal.τ).loc Cert.ConvPIdeal.main_v1_1)),
      θ_run (Cert.ConvPIdeal.defs (F := Ideal)) (onTc (τ := Cert.ConvPIdeal.τ) (Cert.ConvPIdeal.main (F := Ideal))) ⟨m, fun _ => 0, g⟩ (fun r => ∀ c : Dev Cert.ConvPIdeal.nD,
          r.2.mem ((c.tc : Thread Cert.ConvPIdeal.nD Cert.ConvPIdeal.τ).loc Cert.ConvPIdeal.main_v1_1) = v0 c
          ∧ r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
          ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1))
      ∧ θ_run (Cert.ConvPRefIdeal.defs (F := Ideal)) (onTc (τ := Cert.ConvPRefIdeal.τ) (Cert.ConvPRefIdeal.main (F := Ideal))) ⟨m', fun _ => 0, g'⟩ (fun r => ∀ c : Dev Cert.ConvPRefIdeal.nD,
          r.2.mem ((c.tc : Thread Cert.ConvPRefIdeal.nD Cert.ConvPRefIdeal.τ).loc Cert.ConvPRefIdeal.main_v39) = v0 c
          ∧ r.2.mem ((c.tc : Thread Cert.ConvPRefIdeal.nD Cert.ConvPRefIdeal.τ).loc Cert.ConvPRefIdeal.main_arg0) = m' ((c.tc : Thread Cert.ConvPRefIdeal.nD Cert.ConvPRefIdeal.τ).loc Cert.ConvPRefIdeal.main_arg0)
          ∧ r.2.mem ((c.tc : Thread Cert.ConvPRefIdeal.nD Cert.ConvPRefIdeal.τ).loc Cert.ConvPRefIdeal.main_arg1) = m' ((c.tc : Thread Cert.ConvPRefIdeal.nD Cert.ConvPRefIdeal.τ).loc Cert.ConvPRefIdeal.main_arg1))

def Claim : Prop :=
  ∃ (hSamp0 : Cert.Samp0.Facts) (hSamp0Ideal : Cert.Samp0Ideal.Facts) (hSampRef0Ideal : Cert.SampRef0Ideal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hSamp1 : Cert.Samp1.Facts) (hSamp1Ideal : Cert.Samp1Ideal.Facts) (hSampRef1Ideal : Cert.SampRef1Ideal.Facts) (hSamp2 : Cert.Samp2.Facts) (hSamp2Ideal : Cert.Samp2Ideal.Facts) (hSampRef2Ideal : Cert.SampRef2Ideal.Facts) (hConvS : Cert.ConvS.Facts) (hConvSIdeal : Cert.ConvSIdeal.Facts) (hConvSRefIdeal : Cert.ConvSRefIdeal.Facts) (hConvP : Cert.ConvP.Facts) (hConvPIdeal : Cert.ConvPIdeal.Facts) (hConvPRefIdeal : Cert.ConvPRefIdeal.Facts) (hPre_finite_arguments : Cert.Pre_finite_arguments.Facts) (hPre_finite_arguments_512 : Cert.Pre_finite_arguments_512.Facts) (hPre_finite_arguments_2048 : Cert.Pre_finite_arguments_2048.Facts) (hOn_rows_of_the_prompt : Cert.On_rows_of_the_prompt.Facts),
    quiescent_Samp0 (hSamp0 := hSamp0)
    ∧ quiescent_Samp0Ideal (hSamp0Ideal := hSamp0Ideal)
    ∧ quiescent_Samp0Ideal_pre_finite_arguments (hSamp0Ideal := hSamp0Ideal) (hPre_finite_arguments := hPre_finite_arguments)
    ∧ quiescent_SampRef0Ideal (hSampRef0Ideal := hSampRef0Ideal)
    ∧ quiescent_SampRef0Ideal_pre_finite_arguments (hSampRef0Ideal := hSampRef0Ideal) (hPre_finite_arguments := hPre_finite_arguments)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ quiescent_Samp1 (hSamp1 := hSamp1)
    ∧ quiescent_Samp1Ideal (hSamp1Ideal := hSamp1Ideal)
    ∧ quiescent_Samp1Ideal_pre_finite_arguments_512 (hSamp1Ideal := hSamp1Ideal) (hPre_finite_arguments_512 := hPre_finite_arguments_512)
    ∧ quiescent_SampRef1Ideal (hSampRef1Ideal := hSampRef1Ideal)
    ∧ quiescent_SampRef1Ideal_pre_finite_arguments_512 (hSampRef1Ideal := hSampRef1Ideal) (hPre_finite_arguments_512 := hPre_finite_arguments_512)
    ∧ quiescent_Samp2 (hSamp2 := hSamp2)
    ∧ quiescent_Samp2Ideal (hSamp2Ideal := hSamp2Ideal)
    ∧ quiescent_Samp2Ideal_pre_finite_arguments_2048 (hSamp2Ideal := hSamp2Ideal) (hPre_finite_arguments_2048 := hPre_finite_arguments_2048)
    ∧ quiescent_SampRef2Ideal (hSampRef2Ideal := hSampRef2Ideal)
    ∧ quiescent_SampRef2Ideal_pre_finite_arguments_2048 (hSampRef2Ideal := hSampRef2Ideal) (hPre_finite_arguments_2048 := hPre_finite_arguments_2048)
    ∧ quiescent_ConvS (hConvS := hConvS)
    ∧ quiescent_ConvSIdeal (hConvSIdeal := hConvSIdeal)
    ∧ quiescent_ConvSRefIdeal (hConvSRefIdeal := hConvSRefIdeal)
    ∧ quiescent_ConvP (hConvP := hConvP)
    ∧ quiescent_ConvPIdeal (hConvPIdeal := hConvPIdeal)
    ∧ quiescent_ConvPRefIdeal (hConvPRefIdeal := hConvPRefIdeal)
    ∧ preserves_Samp0_Samp0Ideal
    ∧ algebraic_Samp0Ideal_SampRef0Ideal_pre_finite_arguments (hSamp0Ideal := hSamp0Ideal) (hSampRef0Ideal := hSampRef0Ideal) (hPre_finite_arguments := hPre_finite_arguments)
    ∧ preserves_Mix_MixIdeal
    ∧ algebraic_MixIdeal_MixRefIdeal_on_rows_of_the_prompt (hMixIdeal := hMixIdeal) (hMixRefIdeal := hMixRefIdeal) (hOn_rows_of_the_prompt := hOn_rows_of_the_prompt)
    ∧ preserves_Proj_ProjIdeal
    ∧ algebraic_ProjIdeal_ProjRefIdeal (hProjIdeal := hProjIdeal) (hProjRefIdeal := hProjRefIdeal)
    ∧ preserves_Samp1_Samp1Ideal
    ∧ algebraic_Samp1Ideal_SampRef1Ideal_pre_finite_arguments_512 (hSamp1Ideal := hSamp1Ideal) (hSampRef1Ideal := hSampRef1Ideal) (hPre_finite_arguments_512 := hPre_finite_arguments_512)
    ∧ preserves_Samp2_Samp2Ideal
    ∧ algebraic_Samp2Ideal_SampRef2Ideal_pre_finite_arguments_2048 (hSamp2Ideal := hSamp2Ideal) (hSampRef2Ideal := hSampRef2Ideal) (hPre_finite_arguments_2048 := hPre_finite_arguments_2048)
    ∧ preserves_ConvS_ConvSIdeal
    ∧ algebraic_ConvSIdeal_ConvSRefIdeal (hConvSIdeal := hConvSIdeal) (hConvSRefIdeal := hConvSRefIdeal)
    ∧ preserves_ConvP_ConvPIdeal
    ∧ algebraic_ConvPIdeal_ConvPRefIdeal (hConvPIdeal := hConvPIdeal) (hConvPRefIdeal := hConvPRefIdeal)
-- ==== On_rows_of_the_prompt.lean ====
abbrev S8192x1024 : Shape := ⟨2, ![8192, 1024]⟩
abbrev S8192x512 : Shape := ⟨2, ![8192, 512]⟩
abbrev S8192x7168 : Shape := ⟨2, ![8192, 7168]⟩
abbrev S2x4096x2048 : Shape := ⟨3, ![2, 4096, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S8320x2048 : Shape := ⟨2, ![8320, 2048]⟩
abbrev S_ : Shape := ⟨0, ![]⟩

class Facts : Prop where
  bcast_S_S8320x2048 : S_.BroadcastsInDim S8320x2048 (![] : Fin 0 → Fin S8320x2048.rank)

variable [Facts]

def fn {F : FTy → Type} [FloatOps F] (main_arg0 : FVec F S8192x1024 .bf16) (main_arg1 : FVec F S8192x512 .bf16) (main_arg2 : FVec F S8192x7168 .bf16) (main_arg3 : FVec F S2x4096x2048 .f32) (main_arg4 : FVec F S1x1024x2048 .f32) (main_arg5 : FVec F S1x512x2048 .f32) (main_arg6 : FVec F S1x2048x2048 .f32) (main_arg7 : FVec F S1x2048 .f32) (main_arg8 : FVec F S1x2048 .f32) : IVec S8320x2048 1 :=
  let main_v0 : IVec S8320x2048 32 := iotaInDim S8320x2048 32 0
  let main_c : IVec S_ 32 := constantI S_ 32 8192#32
  let main_v1 : IVec S8320x2048 32 := broadcastInDim S8320x2048 ![] bcast_S_S8320x2048 main_c
  let main_v2 : IVec S8320x2048 1 := cmpi .slt main_v0 main_v1
  main_v2
-- ==== Pre_finite_arguments.lean ====
abbrev S128x4608 : Shape := ⟨2, ![128, 4608]⟩
abbrev S1x32x128x2x4x128 : Shape := ⟨6, ![1, 32, 128, 2, 4, 128]⟩
abbrev S_ : Shape := ⟨0, ![]⟩

class Facts : Prop where
  bcast_S_S128x4608 : S_.BroadcastsInDim S128x4608 (![] : Fin 0 → Fin S128x4608.rank)
  bcast_S_S1x32x128x2x4x128 : S_.BroadcastsInDim S1x32x128x2x4x128 (![] : Fin 0 → Fin S1x32x128x2x4x128.rank)

variable [Facts]

def fn {F : FTy → Type} [FloatOps F] (main_arg0 : FVec F S128x4608 .f32) (main_arg1 : FVec F S1x32x128x2x4x128 .f32) : IVec S128x4608 1 × IVec S1x32x128x2x4x128 1 :=
  let main_v0 : FVec F S128x4608 .f32 := Host.absf main_arg0
  let main_cst : FVec F S_ .f32 := constant S_ .f32 0x7F800000#32
  let main_v1 : FVec F S128x4608 .f32 := broadcastInDim S128x4608 ![] bcast_S_S128x4608 main_cst
  let main_v2 : IVec S128x4608 1 := cmpf .olt main_v0 main_v1
  let main_v3 : FVec F S1x32x128x2x4x128 .f32 := Host.absf main_arg1
  let main_cst_0 : FVec F S_ .f32 := constant S_ .f32 0x7F800000#32
  let main_v4 : FVec F S1x32x128x2x4x128 .f32 := broadcastInDim S1x32x128x2x4x128 ![] bcast_S_S1x32x128x2x4x128 main_cst_0
  let main_v5 : IVec S1x32x128x2x4x128 1 := cmpf .olt main_v3 main_v4
  (main_v2, main_v5)
-- ==== Pre_finite_arguments_2048.lean ====
abbrev S128x4608 : Shape := ⟨2, ![128, 4608]⟩
abbrev S1x32x2048x2x4x128 : Shape := ⟨6, ![1, 32, 2048, 2, 4, 128]⟩
abbrev S_ : Shape := ⟨0, ![]⟩

class Facts : Prop where
  bcast_S_S128x4608 : S_.BroadcastsInDim S128x4608 (![] : Fin 0 → Fin S128x4608.rank)
  bcast_S_S1x32x2048x2x4x128 : S_.BroadcastsInDim S1x32x2048x2x4x128 (![] : Fin 0 → Fin S1x32x2048x2x4x128.rank)

variable [Facts]

def fn {F : FTy → Type} [FloatOps F] (main_arg0 : FVec F S128x4608 .f32) (main_arg1 : FVec F S1x32x2048x2x4x128 .f32) : IVec S128x4608 1 × IVec S1x32x2048x2x4x128 1 :=
  let main_v0 : FVec F S128x4608 .f32 := Host.absf main_arg0
  let main_cst : FVec F S_ .f32 := constant S_ .f32 0x7F800000#32
  let main_v1 : FVec F S128x4608 .f32 := broadcastInDim S128x4608 ![] bcast_S_S128x4608 main_cst
  let main_v2 : IVec S128x4608 1 := cmpf .olt main_v0 main_v1
  let main_v3 : FVec F S1x32x2048x2x4x128 .f32 := Host.absf main_arg1
  let main_cst_0 : FVec F S_ .f32 := constant S_ .f32 0x7F800000#32
  let main_v4 : FVec F S1x32x2048x2x4x128 .f32 := broadcastInDim S1x32x2048x2x4x128 ![] bcast_S_S1x32x2048x2x4x128 main_cst_0
  let main_v5 : IVec S1x32x2048x2x4x128 1 := cmpf .olt main_v3 main_v4
  (main_v2, main_v5)
-- ==== Pre_finite_arguments_512.lean ====
abbrev S128x4608 : Shape := ⟨2, ![128, 4608]⟩
abbrev S1x32x512x2x4x128 : Shape := ⟨6, ![1, 32, 512, 2, 4, 128]⟩
abbrev S_ : Shape := ⟨0, ![]⟩

class Facts : Prop where
  bcast_S_S128x4608 : S_.BroadcastsInDim S128x4608 (![] : Fin 0 → Fin S128x4608.rank)
  bcast_S_S1x32x512x2x4x128 : S_.BroadcastsInDim S1x32x512x2x4x128 (![] : Fin 0 → Fin S1x32x512x2x4x128.rank)

variable [Facts]

def fn {F : FTy → Type} [FloatOps F] (main_arg0 : FVec F S128x4608 .f32) (main_arg1 : FVec F S1x32x512x2x4x128 .f32) : IVec S128x4608 1 × IVec S1x32x512x2x4x128 1 :=
  let main_v0 : FVec F S128x4608 .f32 := Host.absf main_arg0
  let main_cst : FVec F S_ .f32 := constant S_ .f32 0x7F800000#32
  let main_v1 : FVec F S128x4608 .f32 := broadcastInDim S128x4608 ![] bcast_S_S128x4608 main_cst
  let main_v2 : IVec S128x4608 1 := cmpf .olt main_v0 main_v1
  let main_v3 : FVec F S1x32x512x2x4x128 .f32 := Host.absf main_arg1
  let main_cst_0 : FVec F S_ .f32 := constant S_ .f32 0x7F800000#32
  let main_v4 : FVec F S1x32x512x2x4x128 .f32 := broadcastInDim S1x32x512x2x4x128 ![] bcast_S_S1x32x512x2x4x128 main_cst_0
  let main_v5 : IVec S1x32x512x2x4x128 1 := cmpf .olt main_v3 main_v4
  (main_v2, main_v5)
-- ==== Samp0.lean ====
abbrev S128x4608 : Shape := ⟨2, ![128, 4608]⟩
abbrev S1x32x128x2x4x128 : Shape := ⟨6, ![1, 32, 128, 2, 4, 128]⟩
abbrev S32x4x4608 : Shape := ⟨3, ![32, 4, 4608]⟩
abbrev S32x4x3x3x4x128 : Shape := ⟨6, ![32, 4, 3, 3, 4, 128]⟩
abbrev S32x128x2x4x128 : Shape := ⟨5, ![32, 128, 2, 4, 128]⟩
abbrev S32x1024x128 : Shape := ⟨3, ![32, 1024, 128]⟩
abbrev S32x4x2x1x4x128 : Shape := ⟨6, ![32, 4, 2, 1, 4, 128]⟩
abbrev S32x4x2x4x128 : Shape := ⟨5, ![32, 4, 2, 4, 128]⟩
abbrev S32x32x128 : Shape := ⟨3, ![32, 32, 128]⟩
abbrev S32x4x512 : Shape := ⟨3, ![32, 4, 512]⟩
abbrev S1x4x512 : Shape := ⟨3, ![1, 4, 512]⟩
abbrev S1x1024x128 : Shape := ⟨3, ![1, 1024, 128]⟩
abbrev S1x32x128 : Shape := ⟨3, ![1, 32, 128]⟩
abbrev S4x128 : Shape := ⟨2, ![4, 128]⟩
abbrev S4x4 : Shape := ⟨2, ![4, 4]⟩
abbrev S1x4x128 : Shape := ⟨3, ![1, 4, 128]⟩
abbrev S1x128x128 : Shape := ⟨3, ![1, 128, 128]⟩
abbrev S128x128 : Shape := ⟨2, ![128, 128]⟩
abbrev S4 : Shape := ⟨1, ![4]⟩
abbrev S4x1 : Shape := ⟨2, ![4, 1]⟩
abbrev S1x992x128 : Shape := ⟨3, ![1, 992, 128]⟩
abbrev S992x128 : Shape := ⟨2, ![992, 128]⟩
abbrev S32x128 : Shape := ⟨2, ![32, 128]⟩

abbrev nBuf : Space → Nat
  | .hbm => 12
  | .vmem => 12
  | .smem => 0
  | _ => 0

abbrev bufTy : (tb : Table) → Fin (tcTables nBuf tb) → BufTy
  | .hbm, ⟨0, _⟩ => ⟨S128x4608, .f32⟩
  | .hbm, ⟨1, _⟩ => ⟨S1x32x128x2x4x128, .f32⟩
  | .hbm, ⟨2, _⟩ => ⟨S32x4x4608, .f32⟩
  | .hbm, ⟨3, _⟩ => ⟨S32x4x3x3x4x128, .f32⟩
  | .hbm, ⟨4, _⟩ => ⟨S32x128x2x4x128, .f32⟩
  | .hbm, ⟨5, _⟩ => ⟨S32x1024x128, .f32⟩
  | .hbm, ⟨6, _⟩ => ⟨S32x4x2x1x4x128, .f32⟩
  | .hbm, ⟨7, _⟩ => ⟨S32x4x2x4x128, .f32⟩
  | .hbm, ⟨8, _⟩ => ⟨S32x32x128, .f32⟩
  | .hbm, ⟨9, _⟩ => ⟨S32x1024x128, .f32⟩
  | .hbm, ⟨10, _⟩ => ⟨S32x4x512, .f32⟩
  | .hbm, ⟨11, _⟩ => ⟨S32x4x512, .f32⟩
  | .local _ .vmem, ⟨0, _⟩ => ⟨S1x4x512, .f32⟩
  | .local _ .vmem, ⟨1, _⟩ => ⟨S1x4x512, .f32⟩
  | .local _ .vmem, ⟨2, _⟩ => ⟨S1x1024x128, .f32⟩
  | .local _ .vmem, ⟨3, _⟩ => ⟨S1x1024x128, .f32⟩
  | .local _ .vmem, ⟨4, _⟩ => ⟨S1x32x128, .f32⟩
  | .local _ .vmem, ⟨5, _⟩ => ⟨S1x32x128, .f32⟩
  | .local _ .vmem, ⟨6, _⟩ => ⟨S1x1024x128, .f32⟩
  | .local _ .vmem, ⟨7, _⟩ => ⟨S1x1024x128, .f32⟩
  | .local _ .vmem, ⟨8, _⟩ => ⟨S1x4x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | _, _ => ⟨S128x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Samp0Ideal.lean ====
variable {F : FTy → Type} [FloatOps F] [Named F]
def κ : String → Option EReal := fun
  | "mask" => some ⊥
  | _ => none
-- ==== SampRef0Ideal.lean ====
abbrev S128x4608 : Shape := ⟨2, ![128, 4608]⟩
abbrev S1x32x128x2x4x128 : Shape := ⟨6, ![1, 32, 128, 2, 4, 128]⟩
abbrev S128x1536 : Shape := ⟨2, ![128, 1536]⟩
abbrev S32x4x3x4x128 : Shape := ⟨5, ![32, 4, 3, 4, 128]⟩
abbrev S32x4x1x4x128 : Shape := ⟨5, ![32, 4, 1, 4, 128]⟩
abbrev S32x4x4x128 : Shape := ⟨4, ![32, 4, 4, 128]⟩
abbrev S32x128x2x4x128 : Shape := ⟨5, ![32, 128, 2, 4, 128]⟩
abbrev S32x4x2x4x128 : Shape := ⟨5, ![32, 4, 2, 4, 128]⟩
abbrev S32x132x2x4x128 : Shape := ⟨5, ![32, 132, 2, 4, 128]⟩
abbrev S4 : Shape := ⟨1, ![4]⟩
abbrev S4x1 : Shape := ⟨2, ![4, 1]⟩
abbrev S_ : Shape := ⟨0, ![]⟩
abbrev S129 : Shape := ⟨1, ![129]⟩
abbrev S1x129 : Shape := ⟨2, ![1, 129]⟩
abbrev S4x129 : Shape := ⟨2, ![4, 129]⟩
abbrev S4x129x1 : Shape := ⟨3, ![4, 129, 1]⟩
abbrev S32x4x129x2x4x128 : Shape := ⟨6, ![32, 4, 129, 2, 4, 128]⟩
abbrev S32x4x129x1x4x128 : Shape := ⟨6, ![32, 4, 129, 1, 4, 128]⟩
abbrev S32x4x129x4x128 : Shape := ⟨5, ![32, 4, 129, 4, 128]⟩
abbrev S32x4x4x129 : Shape := ⟨4, ![32, 4, 4, 129]⟩
abbrev S1x4x1x129 : Shape := ⟨4, ![1, 4, 1, 129]⟩
abbrev S32x4x4 : Shape := ⟨3, ![32, 4, 4]⟩
abbrev S32x4x4x1 : Shape := ⟨4, ![32, 4, 4, 1]⟩
abbrev S32x1024x128 : Shape := ⟨3, ![32, 1024, 128]⟩
abbrev S32x4x512 : Shape := ⟨3, ![32, 4, 512]⟩

abbrev nBuf : Space → Nat
  | .hbm => 81
  | .vmem => 0
  | .smem => 0
  | _ => 0

abbrev bufTy : (tb : Table) → Fin (tcTables nBuf tb) → BufTy
  | .hbm, ⟨0, _⟩ => ⟨S128x4608, .f32⟩
  | .hbm, ⟨1, _⟩ => ⟨S1x32x128x2x4x128, .f32⟩
  | .hbm, ⟨2, _⟩ => ⟨S128x1536, .f32⟩
  | .hbm, ⟨3, _⟩ => ⟨S32x4x3x4x128, .f32⟩
  | .hbm, ⟨4, _⟩ => ⟨S32x4x1x4x128, .f32⟩
  | .hbm, ⟨5, _⟩ => ⟨S32x4x4x128, .f32⟩
  | .hbm, ⟨6, _⟩ => ⟨S128x1536, .f32⟩
  | .hbm, ⟨7, _⟩ => ⟨S32x4x3x4x128, .f32⟩
  | .hbm, ⟨8, _⟩ => ⟨S32x4x1x4x128, .f32⟩
  | .hbm, ⟨9, _⟩ => ⟨S32x4x4x128, .f32⟩
  | .hbm, ⟨10, _⟩ => ⟨S128x1536, .f32⟩
  | .hbm, ⟨11, _⟩ => ⟨S32x4x3x4x128, .f32⟩
  | .hbm, ⟨12, _⟩ => ⟨S32x4x1x4x128, .f32⟩
  | .hbm, ⟨13, _⟩ => ⟨S32x4x4x128, .f32⟩
  | .hbm, ⟨14, _⟩ => ⟨S32x128x2x4x128, .f32⟩
  | .hbm, ⟨15, _⟩ => ⟨S32x4x1x4x128, .f32⟩
  | .hbm, ⟨16, _⟩ => ⟨S32x4x1x4x128, .f32⟩
  | .hbm, ⟨17, _⟩ => ⟨S32x4x2x4x128, .f32⟩
  | .hbm, ⟨18, _⟩ => ⟨S32x132x2x4x128, .f32⟩
  | .hbm, ⟨19, _⟩ => ⟨S4, .i32⟩
  | .hbm, ⟨20, _⟩ => ⟨S4x1, .i32⟩
  | .hbm, ⟨21, _⟩ => ⟨S_, .i32⟩
  | .hbm, ⟨22, _⟩ => ⟨S4x1, .i32⟩
  | .hbm, ⟨23, _⟩ => ⟨S4x1, .i32⟩
  | .hbm, ⟨24, _⟩ => ⟨S129, .i32⟩
  | .hbm, ⟨25, _⟩ => ⟨S1x129, .i32⟩
  | .hbm, ⟨26, _⟩ => ⟨S_, .i32⟩
  | .hbm, ⟨27, _⟩ => ⟨S1x129, .i32⟩
  | .hbm, ⟨28, _⟩ => ⟨S1x129, .i32⟩
  | .hbm, ⟨29, _⟩ => ⟨S4x129, .i32⟩
  | .hbm, ⟨30, _⟩ => ⟨S4x129, .i32⟩
  | .hbm, ⟨31, _⟩ => ⟨S4x129, .i32⟩
  | .hbm, ⟨32, _⟩ => ⟨S_, .i32⟩
  | .hbm, ⟨33, _⟩ => ⟨S4x129, .i32⟩
  | .hbm, ⟨34, _⟩ => ⟨S4x129, .i1⟩
  | .hbm, ⟨35, _⟩ => ⟨S_, .i32⟩
  | .hbm, ⟨36, _⟩ => ⟨S4x129, .i32⟩
  | .hbm, ⟨37, _⟩ => ⟨S4x129, .i32⟩
  | .hbm, ⟨38, _⟩ => ⟨S_, .i32⟩
  | .hbm, ⟨39, _⟩ => ⟨S4x129, .i32⟩
  | .hbm, ⟨40, _⟩ => ⟨S4x129, .i1⟩
  | .hbm, ⟨41, _⟩ => ⟨S_, .i32⟩
  | .hbm, ⟨42, _⟩ => ⟨S4x129, .i32⟩
  | .hbm, ⟨43, _⟩ => ⟨S4x129, .i32⟩
  | .hbm, ⟨44, _⟩ => ⟨S4x129, .i32⟩
  | .hbm, ⟨45, _⟩ => ⟨S4x129x1, .i32⟩
  | .hbm, ⟨46, _⟩ => ⟨S32x4x129x2x4x128, .f32⟩
  | .hbm, ⟨47, _⟩ => ⟨S32x4x129x1x4x128, .f32⟩
  | .hbm, ⟨48, _⟩ => ⟨S32x4x129x4x128, .f32⟩
  | .hbm, ⟨49, _⟩ => ⟨S32x4x4x129, .f32⟩
  | .hbm, ⟨50, _⟩ => ⟨S_, .f32⟩
  | .hbm, ⟨51, _⟩ => ⟨S32x4x4x129, .f32⟩
  | .hbm, ⟨52, _⟩ => ⟨S32x4x4x129, .f32⟩
  | .hbm, ⟨53, _⟩ => ⟨S1x4x1x129, .i1⟩
  | .hbm, ⟨54, _⟩ => ⟨S_, .f32⟩
  | .hbm, ⟨55, _⟩ => ⟨S_, .f32⟩
  | .hbm, ⟨56, _⟩ => ⟨S32x4x4x129, .i1⟩
  | .hbm, ⟨57, _⟩ => ⟨S32x4x4x129, .f32⟩
  | .hbm, ⟨58, _⟩ => ⟨S32x4x4x129, .f32⟩
  | .hbm, ⟨59, _⟩ => ⟨S_, .f32⟩
  | .hbm, ⟨60, _⟩ => ⟨S32x4x4, .f32⟩
  | .hbm, ⟨61, _⟩ => ⟨S32x4x4x1, .f32⟩
  | .hbm, ⟨62, _⟩ => ⟨S32x4x4x129, .f32⟩
  | .hbm, ⟨63, _⟩ => ⟨S32x4x4x129, .f32⟩
  | .hbm, ⟨64, _⟩ => ⟨S32x4x4x129, .f32⟩
  | .hbm, ⟨65, _⟩ => ⟨S_, .f32⟩
  | .hbm, ⟨66, _⟩ => ⟨S32x4x4, .f32⟩
  | .hbm, ⟨67, _⟩ => ⟨S32x4x4x1, .f32⟩
  | .hbm, ⟨68, _⟩ => ⟨S32x4x4x129, .f32⟩
  | .hbm, ⟨69, _⟩ => ⟨S32x4x4x129, .f32⟩
  | .hbm, ⟨70, _⟩ => ⟨S32x4x129x1x4x128, .f32⟩
  | .hbm, ⟨71, _⟩ => ⟨S32x4x129x4x128, .f32⟩
  | .hbm, ⟨72, _⟩ => ⟨S32x4x4x128, .f32⟩
  | .hbm, ⟨73, _⟩ => ⟨S32x4x4x1, .f32⟩
  | .hbm, ⟨74, _⟩ => ⟨S32x4x4x1, .f32⟩
  | .hbm, ⟨75, _⟩ => ⟨S32x4x4, .f32⟩
  | .hbm, ⟨76, _⟩ => ⟨S32x128x2x4x128, .f32⟩
  | .hbm, ⟨77, _⟩ => ⟨S32x1024x128, .f32⟩
  | .hbm, ⟨78, _⟩ => ⟨S32x4x512, .f32⟩
  | .hbm, ⟨79, _⟩ => ⟨S32x4x4x128, .f32⟩
  | .hbm, ⟨80, _⟩ => ⟨S32x4x512, .f32⟩
  | _, _ => ⟨S128x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_1 : Ref sig .tc := ⟨.hbm, 32, rfl⟩
abbrev main_v28 : Ref sig .tc := ⟨.hbm, 33, rfl⟩
abbrev main_v29 : Ref sig .tc := ⟨.hbm, 34, rfl⟩
abbrev main_c_2 : Ref sig .tc := ⟨.hbm, 35, rfl⟩
abbrev main_v30 : Ref sig .tc := ⟨.hbm, 36, rfl⟩
abbrev main_v31 : Ref sig .tc := ⟨.hbm, 37, rfl⟩
abbrev main_c_3 : Ref sig .tc := ⟨.hbm, 38, rfl⟩
abbrev main_v32 : Ref sig .tc := ⟨.hbm, 39, rfl⟩
abbrev main_v33 : Ref sig .tc := ⟨.hbm, 40, rfl⟩
abbrev main_c_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]

def κ : String → Option EReal := fun
  | "mask" => some ⊥
  | _ => none
-- ==== Mix.lean ====
abbrev S8192x1024 : Shape := ⟨2, ![8192, 1024]⟩
abbrev S8192x512 : Shape := ⟨2, ![8192, 512]⟩
abbrev S8192x7168 : Shape := ⟨2, ![8192, 7168]⟩
abbrev S2x4096x2048 : Shape := ⟨3, ![2, 4096, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S8192x2048 : Shape := ⟨2, ![8192, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S8320x2048 : Shape := ⟨2, ![8320, 2048]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x7168, .bf16⟩
  | .hbm, ⟨3, _⟩ => ⟨S2x4096x2048, .f32⟩
  | .hbm, ⟨4, _⟩ => ⟨S1x1024x2048, .f32⟩
  | .hbm, ⟨5, _⟩ => ⟨S1x512x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S1024x2048, .f32⟩
  | .hbm, ⟨11, _⟩ => ⟨S1024x2048, .bf16⟩
  | .hbm, ⟨12, _⟩ => ⟨S512x2048, .f32⟩
  | .hbm, ⟨13, _⟩ => ⟨S512x2048, .bf16⟩
  | .hbm, ⟨14, _⟩ => ⟨S2048x2048, .f32⟩
  | .hbm, ⟨15, _⟩ => ⟨S2048x2048, .bf16⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8320x2048, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S512x2048, .bf16⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S8192x1024 : Shape := ⟨2, ![8192, 1024]⟩
abbrev S8192x512 : Shape := ⟨2, ![8192, 512]⟩
abbrev S8192x7168 : Shape := ⟨2, ![8192, 7168]⟩
abbrev S2x4096x2048 : Shape := ⟨3, ![2, 4096, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S8192x2048 : Shape := ⟨2, ![8192, 2048]⟩
abbrev S1024x2048 : Shape := ⟨2, ![1024, 2048]⟩
abbrev S512x2048 : Shape := ⟨2, ![512, 2048]⟩
abbrev S_ : Shape := ⟨0, ![]⟩
abbrev S2048x2048 : Shape := ⟨2, ![2048, 2048]⟩
abbrev S8192 : Shape := ⟨1, ![8192]⟩
abbrev S8192x1 : Shape := ⟨2, ![8192, 1]⟩
abbrev S2048 : Shape := ⟨1, ![2048]⟩
abbrev S8320x2048 : Shape := ⟨2, ![8320, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x7168, .bf16⟩
  | .hbm, ⟨3, _⟩ => ⟨S2x4096x2048, .f32⟩
  | .hbm, ⟨4, _⟩ => ⟨S1x1024x2048, .f32⟩
  | .hbm, ⟨5, _⟩ => ⟨S1x512x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S8192x1024, .f32⟩
  | .hbm, ⟨10, _⟩ => ⟨S8192x512, .f32⟩
  | .hbm, ⟨11, _⟩ => ⟨S8192x7168, .f32⟩
  | .hbm, ⟨12, _⟩ => ⟨S8192x2048, .f32⟩
  | .hbm, ⟨13, _⟩ => ⟨S8192x2048, .f32⟩
  | .hbm, ⟨14, _⟩ => ⟨S1024x2048, .f32⟩
  | .hbm, ⟨15, _⟩ => ⟨S8192x2048, .f32⟩
  | .hbm, ⟨16, _⟩ => ⟨S512x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S2048x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S2048, .f32⟩
  | .hbm, ⟨68, _⟩ => ⟨S1x2048, .f32⟩
  | .hbm, ⟨69, _⟩ => ⟨S8192x2048, .f32⟩
  | .hbm, ⟨70, _⟩ => ⟨S8192x2048, .f32⟩
  | .hbm, ⟨71, _⟩ => ⟨S2048, .f32⟩
  | .hbm, ⟨72, _⟩ => ⟨S1x2048, .f32⟩
  | .hbm, ⟨73, _⟩ => ⟨S8192x2048, .f32⟩
  | .hbm, ⟨74, _⟩ => ⟨S8192x2048, .f32⟩
  | .hbm, ⟨75, _⟩ => ⟨S_, .i32⟩
  | .hbm, ⟨76, _⟩ => ⟨S_, .f32⟩
  | .hbm, ⟨77, _⟩ => ⟨S8320x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c : Ref sig .tc := ⟨.hbm, 75, rfl⟩
abbrev main_call0_v0 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Proj.lean ====
abbrev S2x4096x2048 : Shape := ⟨3, ![2, 4096, 2048]⟩
abbrev S1x2048x11776 : Shape := ⟨3, ![1, 2048, 11776]⟩
abbrev S23 : Shape := ⟨1, ![23]⟩
abbrev S8192x2048 : Shape := ⟨2, ![8192, 2048]⟩
abbrev S2048x11776 : Shape := ⟨2, ![2048, 11776]⟩
abbrev S8192x7168 : Shape := ⟨2, ![8192, 7168]⟩
abbrev S8192x4608 : Shape := ⟨2, ![8192, 4608]⟩
abbrev S1024x2048 : Shape := ⟨2, ![1024, 2048]⟩
abbrev S2048x512 : Shape := ⟨2, ![2048, 512]⟩
abbrev S1 : Shape := ⟨1, ![1]⟩
abbrev S1024x512 : Shape := ⟨2, ![1024, 512]⟩
abbrev S2x4096x3x3x4x128 : Shape := ⟨6, ![2, 4096, 3, 3, 4, 128]⟩
abbrev S2x128x2x1x4x128 : Shape := ⟨6, ![2, 128, 2, 1, 4, 128]⟩
abbrev S2x128x2x4x128 : Shape := ⟨5, ![2, 128, 2, 4, 128]⟩
abbrev S1x2x128x2x4x128 : Shape := ⟨6, ![1, 2, 128, 2, 4, 128]⟩
abbrev S2x512x2x1x4x128 : Shape := ⟨6, ![2, 512, 2, 1, 4, 128]⟩
abbrev S2x512x2x4x128 : Shape := ⟨5, ![2, 512, 2, 4, 128]⟩
abbrev S1x2x512x2x4x128 : Shape := ⟨6, ![1, 2, 512, 2, 4, 128]⟩
abbrev S2x2048x2x1x4x128 : Shape := ⟨6, ![2, 2048, 2, 1, 4, 128]⟩
abbrev S2x2048x2x4x128 : Shape := ⟨5, ![2, 2048, 2, 4, 128]⟩
abbrev S1x2x2048x2x4x128 : Shape := ⟨6, ![1, 2, 2048, 2, 4, 128]⟩

abbrev nBuf : Space → Nat
  | .hbm => 18
  | .vmem => 8
  | .smem => 1
  | _ => 0

abbrev bufTy : (tb : Table) → Fin (tcTables nBuf tb) → BufTy
  | .hbm, ⟨0, _⟩ => ⟨S2x4096x2048, .f32⟩
  | .hbm, ⟨1, _⟩ => ⟨S1x2048x11776, .f32⟩
  | .hbm, ⟨2, _⟩ => ⟨S8192x2048, .f32⟩
  | .hbm, ⟨3, _⟩ => ⟨S8192x2048, .bf16⟩
  | .hbm, ⟨4, _⟩ => ⟨S2048x11776, .f32⟩
  | .hbm, ⟨5, _⟩ => ⟨S2048x11776, .bf16⟩
  | .hbm, ⟨6, _⟩ => ⟨S8192x7168, .bf16⟩
  | .hbm, ⟨7, _⟩ => ⟨S8192x4608, .f32⟩
  | .hbm, ⟨8, _⟩ => ⟨S2x4096x3x3x4x128, .f32⟩
  | .hbm, ⟨9, _⟩ => ⟨S2x128x2x1x4x128, .f32⟩
  | .hbm, ⟨10, _⟩ => ⟨S2x128x2x4x128, .f32⟩
  | .hbm, ⟨11, _⟩ => ⟨S1x2x128x2x4x128, .f32⟩
  | .hbm, ⟨12, _⟩ => ⟨S2x512x2x1x4x128, .f32⟩
  | .hbm, ⟨13, _⟩ => ⟨S2x512x2x4x128, .f32⟩
  | .hbm, ⟨14, _⟩ => ⟨S1x2x512x2x4x128, .f32⟩
  | .hbm, ⟨15, _⟩ => ⟨S2x2048x2x1x4x128, .f32⟩
  | .hbm, ⟨16, _⟩ => ⟨S2x2048x2x4x128, .f32⟩
  | .hbm, ⟨17, _⟩ => ⟨S1x2x2048x2x4x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .smem, ⟨0, _⟩ => ⟨S23, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 23], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg1 : BitVec 32 := BitVec.ofNat 32 (i 1).val
  let c14_i32 : BitVec 32 := 14#32
  let v0 : BitVec 1 := Scalar.cmpi .slt arg1 c14_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c14_i32_0 : BitVec 32 := 14#32
  let v3 : BitVec 1 := Scalar.cmpi .sge arg1 c14_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S23.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S23) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.minsi arg1 c13_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S2x4096x2048 : Shape := ⟨3, ![2, 4096, 2048]⟩
abbrev S1x2048x11776 : Shape := ⟨3, ![1, 2048, 11776]⟩
abbrev S8192x2048 : Shape := ⟨2, ![8192, 2048]⟩
abbrev S2048x11776 : Shape := ⟨2, ![2048, 11776]⟩
abbrev S8192x11776 : Shape := ⟨2, ![8192, 11776]⟩
abbrev S8192x1536 : Shape := ⟨2, ![8192, 1536]⟩
abbrev S2x4096x3x4x128 : Shape := ⟨5, ![2, 4096, 3, 4, 128]⟩
abbrev S2x4096x1x4x128 : Shape := ⟨5, ![2, 4096, 1, 4, 128]⟩
abbrev S2x4096x4x128 : Shape := ⟨4, ![2, 4096, 4, 128]⟩
abbrev S2x4096x2x4x128 : Shape := ⟨5, ![2, 4096, 2, 4, 128]⟩
abbrev S2x128x2x4x128 : Shape := ⟨5, ![2, 128, 2, 4, 128]⟩
abbrev S2x512x2x4x128 : Shape := ⟨5, ![2, 512, 2, 4, 128]⟩
abbrev S2x2048x2x4x128 : Shape := ⟨5, ![2, 2048, 2, 4, 128]⟩
abbrev S8192x3072 : Shape := ⟨2, ![8192, 3072]⟩
abbrev S8192x7168 : Shape := ⟨2, ![8192, 7168]⟩
abbrev S8192x4608 : Shape := ⟨2, ![8192, 4608]⟩
abbrev S1x2x128x2x4x128 : Shape := ⟨6, ![1, 2, 128, 2, 4, 128]⟩
abbrev S1x2x512x2x4x128 : Shape := ⟨6, ![1, 2, 512, 2, 4, 128]⟩
abbrev S1x2x2048x2x4x128 : Shape := ⟨6, ![1, 2, 2048, 2, 4, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x11776, .f32⟩
  | .hbm, ⟨2, _⟩ => ⟨S8192x2048, .f32⟩
  | .hbm, ⟨3, _⟩ => ⟨S2048x11776, .f32⟩
  | .hbm, ⟨4, _⟩ => ⟨S8192x11776, .f32⟩
  | .hbm, ⟨5, _⟩ => ⟨S8192x1536, .f32⟩
  | .hbm, ⟨6, _⟩ => ⟨S2x4096x3x4x128, .f32⟩
  | .hbm, ⟨7, _⟩ => ⟨S8192x1536, .f32⟩
  | .hbm, ⟨8, _⟩ => ⟨S2x4096x3x4x128, .f32⟩
  | .hbm, ⟨9, _⟩ => ⟨S2x4096x1x4x128, .f32⟩
  | .hbm, ⟨10, _⟩ => ⟨S2x4096x4x128, .f32⟩
  | .hbm, ⟨11, _⟩ => ⟨S2x4096x1x4x128, .f32⟩
  | .hbm, ⟨12, _⟩ => ⟨S2x4096x4x128, .f32⟩
  | .hbm, ⟨13, _⟩ => ⟨S2x4096x1x4x128, .f32⟩
  | .hbm, ⟨14, _⟩ => ⟨S2x4096x1x4x128, .f32⟩
  | .hbm, ⟨15, _⟩ => ⟨S2x4096x2x4x128, .f32⟩
  | .hbm, ⟨16, _⟩ => ⟨S2x128x2x4x128, .f32⟩
  | .hbm, ⟨17, _⟩ => ⟨S2x4096x1x4x128, .f32⟩
  | .hbm, ⟨18, _⟩ => ⟨S2x4096x4x128, .f32⟩
  | .hbm, ⟨19, _⟩ => ⟨S2x4096x1x4x128, .f32⟩
  | .hbm, ⟨20, _⟩ => ⟨S2x4096x4x128, .f32⟩
  | .hbm, ⟨21, _⟩ => ⟨S2x4096x1x4x128, .f32⟩
  | .hbm, ⟨22, _⟩ => ⟨S2x4096x1x4x128, .f32⟩
  | .hbm, ⟨23, _⟩ => ⟨S2x4096x2x4x128, .f32⟩
  | .hbm, ⟨24, _⟩ => ⟨S2x512x2x4x128, .f32⟩
  | .hbm, ⟨25, _⟩ => ⟨S2x4096x1x4x128, .f32⟩
  | .hbm, ⟨26, _⟩ => ⟨S2x4096x4x128, .f32⟩
  | .hbm, ⟨27, _⟩ => ⟨S2x4096x1x4x128, .f32⟩
  | .hbm, ⟨28, _⟩ => ⟨S2x4096x4x128, .f32⟩
  | .hbm, ⟨29, _⟩ => ⟨S2x4096x1x4x128, .f32⟩
  | .hbm, ⟨30, _⟩ => ⟨S2x4096x1x4x128, .f32⟩
  | .hbm, ⟨31, _⟩ => ⟨S2x4096x2x4x128, .f32⟩
  | .hbm, ⟨32, _⟩ => ⟨S2x2048x2x4x128, .f32⟩
  | .hbm, ⟨33, _⟩ => ⟨S8192x2048, .f32⟩
  | .hbm, ⟨34, _⟩ => ⟨S8192x2048, .f32⟩
  | .hbm, ⟨35, _⟩ => ⟨S8192x3072, .f32⟩
  | .hbm, ⟨36, _⟩ => ⟨S8192x7168, .f32⟩
  | .hbm, ⟨37, _⟩ => ⟨S8192x7168, .bf16⟩
  | .hbm, ⟨38, _⟩ => ⟨S8192x4608, .f32⟩
  | .hbm, ⟨39, _⟩ => ⟨S1x2x128x2x4x128, .f32⟩
  | .hbm, ⟨40, _⟩ => ⟨S1x2x512x2x4x128, .f32⟩
  | .hbm, ⟨41, _⟩ => ⟨S1x2x2048x2x4x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩

abbrev nD : Nat := 1
abbrev τ : Topo := Topo.v7x

variable {F : FTy → Type} [FloatOps F]
-- ==== Samp1.lean ====
abbrev S128x4608 : Shape := ⟨2, ![128, 4608]⟩
abbrev S1x32x512x2x4x128 : Shape := ⟨6, ![1, 32, 512, 2, 4, 128]⟩
abbrev S32x4x4608 : Shape := ⟨3, ![32, 4, 4608]⟩
abbrev S32x4x3x3x4x128 : Shape := ⟨6, ![32, 4, 3, 3, 4, 128]⟩
abbrev S32x512x2x4x128 : Shape := ⟨5, ![32, 512, 2, 4, 128]⟩
abbrev S32x4096x128 : Shape := ⟨3, ![32, 4096, 128]⟩
abbrev S32x4x2x1x4x128 : Shape := ⟨6, ![32, 4, 2, 1, 4, 128]⟩
abbrev S32x4x2x4x128 : Shape := ⟨5, ![32, 4, 2, 4, 128]⟩
abbrev S32x32x128 : Shape := ⟨3, ![32, 32, 128]⟩
abbrev S32x4x512 : Shape := ⟨3, ![32, 4, 512]⟩
abbrev S1x4x512 : Shape := ⟨3, ![1, 4, 512]⟩
abbrev S1x4096x128 : Shape := ⟨3, ![1, 4096, 128]⟩
abbrev S1x32x128 : Shape := ⟨3, ![1, 32, 128]⟩
abbrev S4x512 : Shape := ⟨2, ![4, 512]⟩
abbrev S4x4 : Shape := ⟨2, ![4, 4]⟩
abbrev S1x4x128 : Shape := ⟨3, ![1, 4, 128]⟩
abbrev S4x128 : Shape := ⟨2, ![4, 128]⟩
abbrev S1x512x128 : Shape := ⟨3, ![1, 512, 128]⟩
abbrev S512x128 : Shape := ⟨2, ![512, 128]⟩
abbrev S4 : Shape := ⟨1, ![4]⟩
abbrev S4x1 : Shape := ⟨2, ![4, 1]⟩
abbrev S1x4064x128 : Shape := ⟨3, ![1, 4064, 128]⟩
abbrev S4064x128 : Shape := ⟨2, ![4064, 128]⟩
abbrev S32x128 : Shape := ⟨2, ![32, 128]⟩

abbrev nBuf : Space → Nat
  | .hbm => 12
  | .vmem => 12
  | .smem => 0
  | _ => 0

abbrev bufTy : (tb : Table) → Fin (tcTables nBuf tb) → BufTy
  | .hbm, ⟨0, _⟩ => ⟨S128x4608, .f32⟩
  | .hbm, ⟨1, _⟩ => ⟨S1x32x512x2x4x128, .f32⟩
  | .hbm, ⟨2, _⟩ => ⟨S32x4x4608, .f32⟩
  | .hbm, ⟨3, _⟩ => ⟨S32x4x3x3x4x128, .f32⟩
  | .hbm, ⟨4, _⟩ => ⟨S32x512x2x4x128, .f32⟩
  | .hbm, ⟨5, _⟩ => ⟨S32x4096x128, .f32⟩
  | .hbm, ⟨6, _⟩ => ⟨S32x4x2x1x4x128, .f32⟩
  | .hbm, ⟨7, _⟩ => ⟨S32x4x2x4x128, .f32⟩
  | .hbm, ⟨8, _⟩ => ⟨S32x32x128, .f32⟩
  | .hbm, ⟨9, _⟩ => ⟨S32x4096x128, .f32⟩
  | .hbm, ⟨10, _⟩ => ⟨S32x4x512, .f32⟩
  | .hbm, ⟨11, _⟩ => ⟨S32x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4096x128, .f32⟩
  | .local _ .vmem, ⟨3, _⟩ => ⟨S1x4096x128, .f32⟩
  | .local _ .vmem, ⟨4, _⟩ => ⟨S1x32x128, .f32⟩
  | .local _ .vmem, ⟨5, _⟩ => ⟨S1x32x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | _, _ => ⟨S128x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Samp1Ideal.lean ====
variable {F : FTy → Type} [FloatOps F] [Named F]
def κ : String → Option EReal := fun
  | "mask" => some ⊥
  | _ => none
-- ==== SampRef1Ideal.lean ====
abbrev S128x4608 : Shape := ⟨2, ![128, 4608]⟩
abbrev S1x32x512x2x4x128 : Shape := ⟨6, ![1, 32, 512, 2, 4, 128]⟩
abbrev S128x1536 : Shape := ⟨2, ![128, 1536]⟩
abbrev S32x4x3x4x128 : Shape := ⟨5, ![32, 4, 3, 4, 128]⟩
abbrev S32x4x1x4x128 : Shape := ⟨5, ![32, 4, 1, 4, 128]⟩
abbrev S32x4x4x128 : Shape := ⟨4, ![32, 4, 4, 128]⟩
abbrev S32x512x2x4x128 : Shape := ⟨5, ![32, 512, 2, 4, 128]⟩
abbrev S32x4x2x4x128 : Shape := ⟨5, ![32, 4, 2, 4, 128]⟩
abbrev S32x516x2x4x128 : Shape := ⟨5, ![32, 516, 2, 4, 128]⟩
abbrev S4 : Shape := ⟨1, ![4]⟩
abbrev S4x1 : Shape := ⟨2, ![4, 1]⟩
abbrev S_ : Shape := ⟨0, ![]⟩
abbrev S129 : Shape := ⟨1, ![129]⟩
abbrev S1x129 : Shape := ⟨2, ![1, 129]⟩
abbrev S4x129 : Shape := ⟨2, ![4, 129]⟩
abbrev S4x129x1 : Shape := ⟨3, ![4, 129, 1]⟩
abbrev S32x4x129x2x4x128 : Shape := ⟨6, ![32, 4, 129, 2, 4, 128]⟩
abbrev S32x4x129x1x4x128 : Shape := ⟨6, ![32, 4, 129, 1, 4, 128]⟩
abbrev S32x4x129x4x128 : Shape := ⟨5, ![32, 4, 129, 4, 128]⟩
abbrev S32x4x4x129 : Shape := ⟨4, ![32, 4, 4, 129]⟩
abbrev S1x4x1x129 : Shape := ⟨4, ![1, 4, 1, 129]⟩
abbrev S32x4x4 : Shape := ⟨3, ![32, 4, 4]⟩
abbrev S32x4x4x1 : Shape := ⟨4, ![32, 4, 4, 1]⟩
abbrev S32x4096x128 : Shape := ⟨3, ![32, 4096, 128]⟩
abbrev S32x4x512 : Shape := ⟨3, ![32, 4, 512]⟩

abbrev nBuf : Space → Nat
  | .hbm => 81
  | .vmem => 0
  | .smem => 0
  | _ => 0

abbrev bufTy : (tb : Table) → Fin (tcTables nBuf tb) → BufTy
  | .hbm, ⟨0, _⟩ => ⟨S128x4608, .f32⟩
  | .hbm, ⟨1, _⟩ => ⟨S1x32x512x2x4x128, .f32⟩
  | .hbm, ⟨2, _⟩ => ⟨S128x1536, .f32⟩
  | .hbm, ⟨3, _⟩ => ⟨S32x4x3x4x128, .f32⟩
  | .hbm, ⟨4, _⟩ => ⟨S32x4x1x4x128, .f32⟩
  | .hbm, ⟨5, _⟩ => ⟨S32x4x4x128, .f32⟩
  | .hbm, ⟨6, _⟩ => ⟨S128x1536, .f32⟩
  | .hbm, ⟨7, _⟩ => ⟨S32x4x3x4x128, .f32⟩
  | .hbm, ⟨8, _⟩ => ⟨S32x4x1x4x128, .f32⟩
  | .hbm, ⟨9, _⟩ => ⟨S32x4x4x128, .f32⟩
  | .hbm, ⟨10, _⟩ => ⟨S128x1536, .f32⟩
  | .hbm, ⟨11, _⟩ => ⟨S32x4x3x4x128, .f32⟩
  | .hbm, ⟨12, _⟩ => ⟨S32x4x1x4x128, .f32⟩
  | .hbm, ⟨13, _⟩ => ⟨S32x4x4x128, .f32⟩
  | .hbm, ⟨14, _⟩ => ⟨S32x512x2x4x128, .f32⟩
  | .hbm, ⟨15, _⟩ => ⟨S32x4x1x4x128, .f32⟩
  | .hbm, ⟨16, _⟩ => ⟨S32x4x1x4x128, .f32⟩
  | .hbm, ⟨17, _⟩ => ⟨S32x4x2x4x128, .f32⟩
  | .hbm, ⟨18, _⟩ => ⟨S32x516x2x4x128, .f32⟩
  | .hbm, ⟨19, _⟩ => ⟨S4, .i32⟩
  | .hbm, ⟨20, _⟩ => ⟨S4x1, .i32⟩
  | .hbm, ⟨21, _⟩ => ⟨S_, .i32⟩
  | .hbm, ⟨22, _⟩ => ⟨S4x1, .i32⟩
  | .hbm, ⟨23, _⟩ => ⟨S4x1, .i32⟩
  | .hbm, ⟨24, _⟩ => ⟨S129, .i32⟩
  | .hbm, ⟨25, _⟩ => ⟨S1x129, .i32⟩
  | .hbm, ⟨26, _⟩ => ⟨S_, .i32⟩
  | .hbm, ⟨27, _⟩ => ⟨S1x129, .i32⟩
  | .hbm, ⟨28, _⟩ => ⟨S1x129, .i32⟩
  | .hbm, ⟨29, _⟩ => ⟨S4x129, .i32⟩
  | .hbm, ⟨30, _⟩ => ⟨S4x129, .i32⟩
  | .hbm, ⟨31, _⟩ => ⟨S4x129, .i32⟩
  | .hbm, ⟨32, _⟩ => ⟨S_, .i32⟩
  | .hbm, ⟨33, _⟩ => ⟨S4x129, .i32⟩
  | .hbm, ⟨34, _⟩ => ⟨S4x129, .i1⟩
  | .hbm, ⟨35, _⟩ => ⟨S_, .i32⟩
  | .hbm, ⟨36, _⟩ => ⟨S4x129, .i32⟩
  | .hbm, ⟨37, _⟩ => ⟨S4x129, .i32⟩
  | .hbm, ⟨38, _⟩ => ⟨S_, .i32⟩
  | .hbm, ⟨39, _⟩ => ⟨S4x129, .i32⟩
  | .hbm, ⟨40, _⟩ => ⟨S4x129, .i1⟩
  | .hbm, ⟨41, _⟩ => ⟨S_, .i32⟩
  | .hbm, ⟨42, _⟩ => ⟨S4x129, .i32⟩
  | .hbm, ⟨43, _⟩ => ⟨S4x129, .i32⟩
  | .hbm, ⟨44, _⟩ => ⟨S4x129, .i32⟩
  | .hbm, ⟨45, _⟩ => ⟨S4x129x1, .i32⟩
  | .hbm, ⟨46, _⟩ => ⟨S32x4x129x2x4x128, .f32⟩
  | .hbm, ⟨47, _⟩ => ⟨S32x4x129x1x4x128, .f32⟩
  | .hbm, ⟨48, _⟩ => ⟨S32x4x129x4x128, .f32⟩
  | .hbm, ⟨49, _⟩ => ⟨S32x4x4x129, .f32⟩
  | .hbm, ⟨50, _⟩ => ⟨S_, .f32⟩
  | .hbm, ⟨51, _⟩ => ⟨S32x4x4x129, .f32⟩
  | .hbm, ⟨52, _⟩ => ⟨S32x4x4x129, .f32⟩
  | .hbm, ⟨53, _⟩ => ⟨S1x4x1x129, .i1⟩
  | .hbm, ⟨54, _⟩ => ⟨S_, .f32⟩
  | .hbm, ⟨55, _⟩ => ⟨S_, .f32⟩
  | .hbm, ⟨56, _⟩ => ⟨S32x4x4x129, .i1⟩
  | .hbm, ⟨57, _⟩ => ⟨S32x4x4x129, .f32⟩
  | .hbm, ⟨58, _⟩ => ⟨S32x4x4x129, .f32⟩
  | .hbm, ⟨59, _⟩ => ⟨S_, .f32⟩
  | .hbm, ⟨60, _⟩ => ⟨S32x4x4, .f32⟩
  | .hbm, ⟨61, _⟩ => ⟨S32x4x4x1, .f32⟩
  | .hbm, ⟨62, _⟩ => ⟨S32x4x4x129, .f32⟩
  | .hbm, ⟨63, _⟩ => ⟨S32x4x4x129, .f32⟩
  | .hbm, ⟨64, _⟩ => ⟨S32x4x4x129, .f32⟩
  | .hbm, ⟨65, _⟩ => ⟨S_, .f32⟩
  | .hbm, ⟨66, _⟩ => ⟨S32x4x4, .f32⟩
  | .hbm, ⟨67, _⟩ => ⟨S32x4x4x1, .f32⟩
  | .hbm, ⟨68, _⟩ => ⟨S32x4x4x129, .f32⟩
  | .hbm, ⟨69, _⟩ => ⟨S32x4x4x129, .f32⟩
  | .hbm, ⟨70, _⟩ => ⟨S32x4x129x1x4x128, .f32⟩
  | .hbm, ⟨71, _⟩ => ⟨S32x4x129x4x128, .f32⟩
  | .hbm, ⟨72, _⟩ => ⟨S32x4x4x128, .f32⟩
  | .hbm, ⟨73, _⟩ => ⟨S32x4x4x1, .f32⟩
  | .hbm, ⟨74, _⟩ => ⟨S32x4x4x1, .f32⟩
  | .hbm, ⟨75, _⟩ => ⟨S32x4x4, .f32⟩
  | .hbm, ⟨76, _⟩ => ⟨S32x512x2x4x128, .f32⟩
  | .hbm, ⟨77, _⟩ => ⟨S32x4096x128, .f32⟩
  | .hbm, ⟨78, _⟩ => ⟨S32x4x512, .f32⟩
  | .hbm, ⟨79, _⟩ => ⟨S32x4x4x128, .f32⟩
  | .hbm, ⟨80, _⟩ => ⟨S32x4x512, .f32⟩
  | _, _ => ⟨S128x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_1 : Ref sig .tc := ⟨.hbm, 32, rfl⟩
abbrev main_v28 : Ref sig .tc := ⟨.hbm, 33, rfl⟩
abbrev main_v29 : Ref sig .tc := ⟨.hbm, 34, rfl⟩
abbrev main_c_2 : Ref sig .tc := ⟨.hbm, 35, rfl⟩
abbrev main_v30 : Ref sig .tc := ⟨.hbm, 36, rfl⟩
abbrev main_v31 : Ref sig .tc := ⟨.hbm, 37, rfl⟩
abbrev main_c_3 : Ref sig .tc := ⟨.hbm, 38, rfl⟩
abbrev main_v32 : Ref sig .tc := ⟨.hbm, 39, rfl⟩
abbrev main_v33 : Ref sig .tc := ⟨.hbm, 40, rfl⟩
abbrev main_c_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]

def κ : String → Option EReal := fun
  | "mask" => some ⊥
  | _ => none
-- ==== Samp2.lean ====
abbrev S128x4608 : Shape := ⟨2, ![128, 4608]⟩
abbrev S1x32x2048x2x4x128 : Shape := ⟨6, ![1, 32, 2048, 2, 4, 128]⟩
abbrev S32x4x4608 : Shape := ⟨3, ![32, 4, 4608]⟩
abbrev S32x4x3x3x4x128 : Shape := ⟨6, ![32, 4, 3, 3, 4, 128]⟩
abbrev S32x2048x2x4x128 : Shape := ⟨5, ![32, 2048, 2, 4, 128]⟩
abbrev S32x16384x128 : Shape := ⟨3, ![32, 16384, 128]⟩
abbrev S32x4x2x1x4x128 : Shape := ⟨6, ![32, 4, 2, 1, 4, 128]⟩
abbrev S32x4x2x4x128 : Shape := ⟨5, ![32, 4, 2, 4, 128]⟩
abbrev S32x32x128 : Shape := ⟨3, ![32, 32, 128]⟩
abbrev S32x4x512 : Shape := ⟨3, ![32, 4, 512]⟩
abbrev S1x4x512 : Shape := ⟨3, ![1, 4, 512]⟩
abbrev S1x16384x128 : Shape := ⟨3, ![1, 16384, 128]⟩
abbrev S1x32x128 : Shape := ⟨3, ![1, 32, 128]⟩
abbrev S4x2048 : Shape := ⟨2, ![4, 2048]⟩
abbrev S4x4 : Shape := ⟨2, ![4, 4]⟩
abbrev S1x4x128 : Shape := ⟨3, ![1, 4, 128]⟩
abbrev S4x128 : Shape := ⟨2, ![4, 128]⟩
abbrev S1x2048x128 : Shape := ⟨3, ![1, 2048, 128]⟩
abbrev S2048x128 : Shape := ⟨2, ![2048, 128]⟩
abbrev S4 : Shape := ⟨1, ![4]⟩
abbrev S4x1 : Shape := ⟨2, ![4, 1]⟩
abbrev S1x16352x128 : Shape := ⟨3, ![1, 16352, 128]⟩
abbrev S16352x128 : Shape := ⟨2, ![16352, 128]⟩
abbrev S32x128 : Shape := ⟨2, ![32, 128]⟩

abbrev nBuf : Space → Nat
  | .hbm => 12
  | .vmem => 12
  | .smem => 0
  | _ => 0

abbrev bufTy : (tb : Table) → Fin (tcTables nBuf tb) → BufTy
  | .hbm, ⟨0, _⟩ => ⟨S128x4608, .f32⟩
  | .hbm, ⟨1, _⟩ => ⟨S1x32x2048x2x4x128, .f32⟩
  | .hbm, ⟨2, _⟩ => ⟨S32x4x4608, .f32⟩
  | .hbm, ⟨3, _⟩ => ⟨S32x4x3x3x4x128, .f32⟩
  | .hbm, ⟨4, _⟩ => ⟨S32x2048x2x4x128, .f32⟩
  | .hbm, ⟨5, _⟩ => ⟨S32x16384x128, .f32⟩
  | .hbm, ⟨6, _⟩ => ⟨S32x4x2x1x4x128, .f32⟩
  | .hbm, ⟨7, _⟩ => ⟨S32x4x2x4x128, .f32⟩
  | .hbm, ⟨8, _⟩ => ⟨S32x32x128, .f32⟩
  | .hbm, ⟨9, _⟩ => ⟨S32x16384x128, .f32⟩
  | .hbm, ⟨10, _⟩ => ⟨S32x4x512, .f32⟩
  | .hbm, ⟨11, _⟩ => ⟨S32x4x512, .f32⟩
  | .local _ .vmem, ⟨0, _⟩ => ⟨S1x4x512, .f32⟩
  | .local _ .vmem, ⟨1, _⟩ => ⟨S1x4x512, .f32⟩
  | .local _ .vmem, ⟨2, _⟩ => ⟨S1x16384x128, .f32⟩
  | .local _ .vmem, ⟨3, _⟩ => ⟨S1x16384x128, .f32⟩
  | .local _ .vmem, ⟨4, _⟩ => ⟨S1x32x128, .f32⟩
  | .local _ .vmem, ⟨5, _⟩ => ⟨S1x32x128, .f32⟩
  | .local _ .vmem, ⟨6, _⟩ => ⟨S1x16384x128, .f32⟩
  | .local _ .vmem, ⟨7, _⟩ => ⟨S1x16384x128, .f32⟩
  | .local _ .vmem, ⟨8, _⟩ => ⟨S1x4x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | _, _ => ⟨S128x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Samp2Ideal.lean ====
variable {F : FTy → Type} [FloatOps F] [Named F]
def κ : String → Option EReal := fun
  | "mask" => some ⊥
  | _ => none
-- ==== SampRef2Ideal.lean ====
abbrev S128x4608 : Shape := ⟨2, ![128, 4608]⟩
abbrev S1x32x2048x2x4x128 : Shape := ⟨6, ![1, 32, 2048, 2, 4, 128]⟩
abbrev S128x1536 : Shape := ⟨2, ![128, 1536]⟩
abbrev S32x4x3x4x128 : Shape := ⟨5, ![32, 4, 3, 4, 128]⟩
abbrev S32x4x1x4x128 : Shape := ⟨5, ![32, 4, 1, 4, 128]⟩
abbrev S32x4x4x128 : Shape := ⟨4, ![32, 4, 4, 128]⟩
abbrev S32x2048x2x4x128 : Shape := ⟨5, ![32, 2048, 2, 4, 128]⟩
abbrev S32x4x2x4x128 : Shape := ⟨5, ![32, 4, 2, 4, 128]⟩
abbrev S32x2052x2x4x128 : Shape := ⟨5, ![32, 2052, 2, 4, 128]⟩
abbrev S4 : Shape := ⟨1, ![4]⟩
abbrev S4x1 : Shape := ⟨2, ![4, 1]⟩
abbrev S_ : Shape := ⟨0, ![]⟩
abbrev S129 : Shape := ⟨1, ![129]⟩
abbrev S1x129 : Shape := ⟨2, ![1, 129]⟩
abbrev S4x129 : Shape := ⟨2, ![4, 129]⟩
abbrev S4x129x1 : Shape := ⟨3, ![4, 129, 1]⟩
abbrev S32x4x129x2x4x128 : Shape := ⟨6, ![32, 4, 129, 2, 4, 128]⟩
abbrev S32x4x129x1x4x128 : Shape := ⟨6, ![32, 4, 129, 1, 4, 128]⟩
abbrev S32x4x129x4x128 : Shape := ⟨5, ![32, 4, 129, 4, 128]⟩
abbrev S32x4x4x129 : Shape := ⟨4, ![32, 4, 4, 129]⟩
abbrev S1x4x1x129 : Shape := ⟨4, ![1, 4, 1, 129]⟩
abbrev S32x4x4 : Shape := ⟨3, ![32, 4, 4]⟩
abbrev S32x4x4x1 : Shape := ⟨4, ![32, 4, 4, 1]⟩
abbrev S32x16384x128 : Shape := ⟨3, ![32, 16384, 128]⟩
abbrev S32x4x512 : Shape := ⟨3, ![32, 4, 512]⟩

abbrev nBuf : Space → Nat
  | .hbm => 81
  | .vmem => 0
  | .smem => 0
  | _ => 0

abbrev bufTy : (tb : Table) → Fin (tcTables nBuf tb) → BufTy
  | .hbm, ⟨0, _⟩ => ⟨S128x4608, .f32⟩
  | .hbm, ⟨1, _⟩ => ⟨S1x32x2048x2x4x128, .f32⟩
  | .hbm, ⟨2, _⟩ => ⟨S128x1536, .f32⟩
  | .hbm, ⟨3, _⟩ => ⟨S32x4x3x4x128, .f32⟩
  | .hbm, ⟨4, _⟩ => ⟨S32x4x1x4x128, .f32⟩
  | .hbm, ⟨5, _⟩ => ⟨S32x4x4x128, .f32⟩
  | .hbm, ⟨6, _⟩ => ⟨S128x1536, .f32⟩
  | .hbm, ⟨7, _⟩ => ⟨S32x4x3x4x128, .f32⟩
  | .hbm, ⟨8, _⟩ => ⟨S32x4x1x4x128, .f32⟩
  | .hbm, ⟨9, _⟩ => ⟨S32x4x4x128, .f32⟩
  | .hbm, ⟨10, _⟩ => ⟨S128x1536, .f32⟩
  | .hbm, ⟨11, _⟩ => ⟨S32x4x3x4x128, .f32⟩
  | .hbm, ⟨12, _⟩ => ⟨S32x4x1x4x128, .f32⟩
  | .hbm, ⟨13, _⟩ => ⟨S32x4x4x128, .f32⟩
  | .hbm, ⟨14, _⟩ => ⟨S32x2048x2x4x128, .f32⟩
  | .hbm, ⟨15, _⟩ => ⟨S32x4x1x4x128, .f32⟩
  | .hbm, ⟨16, _⟩ => ⟨S32x4x1x4x128, .f32⟩
  | .hbm, ⟨17, _⟩ => ⟨S32x4x2x4x128, .f32⟩
  | .hbm, ⟨18, _⟩ => ⟨S32x2052x2x4x128, .f32⟩
  | .hbm, ⟨19, _⟩ => ⟨S4, .i32⟩
  | .hbm, ⟨20, _⟩ => ⟨S4x1, .i32⟩
  | .hbm, ⟨21, _⟩ => ⟨S_, .i32⟩
  | .hbm, ⟨22, _⟩ => ⟨S4x1, .i32⟩
  | .hbm, ⟨23, _⟩ => ⟨S4x1, .i32⟩
  | .hbm, ⟨24, _⟩ => ⟨S129, .i32⟩
  | .hbm, ⟨25, _⟩ => ⟨S1x129, .i32⟩
  | .hbm, ⟨26, _⟩ => ⟨S_, .i32⟩
  | .hbm, ⟨27, _⟩ => ⟨S1x129, .i32⟩
  | .hbm, ⟨28, _⟩ => ⟨S1x129, .i32⟩
  | .hbm, ⟨29, _⟩ => ⟨S4x129, .i32⟩
  | .hbm, ⟨30, _⟩ => ⟨S4x129, .i32⟩
  | .hbm, ⟨31, _⟩ => ⟨S4x129, .i32⟩
  | .hbm, ⟨32, _⟩ => ⟨S_, .i32⟩
  | .hbm, ⟨33, _⟩ => ⟨S4x129, .i32⟩
  | .hbm, ⟨34, _⟩ => ⟨S4x129, .i1⟩
  | .hbm, ⟨35, _⟩ => ⟨S_, .i32⟩
  | .hbm, ⟨36, _⟩ => ⟨S4x129, .i32⟩
  | .hbm, ⟨37, _⟩ => ⟨S4x129, .i32⟩
  | .hbm, ⟨38, _⟩ => ⟨S_, .i32⟩
  | .hbm, ⟨39, _⟩ => ⟨S4x129, .i32⟩
  | .hbm, ⟨40, _⟩ => ⟨S4x129, .i1⟩
  | .hbm, ⟨41, _⟩ => ⟨S_, .i32⟩
  | .hbm, ⟨42, _⟩ => ⟨S4x129, .i32⟩
  | .hbm, ⟨43, _⟩ => ⟨S4x129, .i32⟩
  | .hbm, ⟨44, _⟩ => ⟨S4x129, .i32⟩
  | .hbm, ⟨45, _⟩ => ⟨S4x129x1, .i32⟩
  | .hbm, ⟨46, _⟩ => ⟨S32x4x129x2x4x128, .f32⟩
  | .hbm, ⟨47, _⟩ => ⟨S32x4x129x1x4x128, .f32⟩
  | .hbm, ⟨48, _⟩ => ⟨S32x4x129x4x128, .f32⟩
  | .hbm, ⟨49, _⟩ => ⟨S32x4x4x129, .f32⟩
  | .hbm, ⟨50, _⟩ => ⟨S_, .f32⟩
  | .hbm, ⟨51, _⟩ => ⟨S32x4x4x129, .f32⟩
  | .hbm, ⟨52, _⟩ => ⟨S32x4x4x129, .f32⟩
  | .hbm, ⟨53, _⟩ => ⟨S1x4x1x129, .i1⟩
  | .hbm, ⟨54, _⟩ => ⟨S_, .f32⟩
  | .hbm, ⟨55, _⟩ => ⟨S_, .f32⟩
  | .hbm, ⟨56, _⟩ => ⟨S32x4x4x129, .i1⟩
  | .hbm, ⟨57, _⟩ => ⟨S32x4x4x129, .f32⟩
  | .hbm, ⟨58, _⟩ => ⟨S32x4x4x129, .f32⟩
  | .hbm, ⟨59, _⟩ => ⟨S_, .f32⟩
  | .hbm, ⟨60, _⟩ => ⟨S32x4x4, .f32⟩
  | .hbm, ⟨61, _⟩ => ⟨S32x4x4x1, .f32⟩
  | .hbm, ⟨62, _⟩ => ⟨S32x4x4x129, .f32⟩
  | .hbm, ⟨63, _⟩ => ⟨S32x4x4x129, .f32⟩
  | .hbm, ⟨64, _⟩ => ⟨S32x4x4x129, .f32⟩
  | .hbm, ⟨65, _⟩ => ⟨S_, .f32⟩
  | .hbm, ⟨66, _⟩ => ⟨S32x4x4, .f32⟩
  | .hbm, ⟨67, _⟩ => ⟨S32x4x4x1, .f32⟩
  | .hbm, ⟨68, _⟩ => ⟨S32x4x4x129, .f32⟩
  | .hbm, ⟨69, _⟩ => ⟨S32x4x4x129, .f32⟩
  | .hbm, ⟨70, _⟩ => ⟨S32x4x129x1x4x128, .f32⟩
  | .hbm, ⟨71, _⟩ => ⟨S32x4x129x4x128, .f32⟩
  | .hbm, ⟨72, _⟩ => ⟨S32x4x4x128, .f32⟩
  | .hbm, ⟨73, _⟩ => ⟨S32x4x4x1, .f32⟩
  | .hbm, ⟨74, _⟩ => ⟨S32x4x4x1, .f32⟩
  | .hbm, ⟨75, _⟩ => ⟨S32x4x4, .f32⟩
  | .hbm, ⟨76, _⟩ => ⟨S32x2048x2x4x128, .f32⟩
  | .hbm, ⟨77, _⟩ => ⟨S32x16384x128, .f32⟩
  | .hbm, ⟨78, _⟩ => ⟨S32x4x512, .f32⟩
  | .hbm, ⟨79, _⟩ => ⟨S32x4x4x128, .f32⟩
  | .hbm, ⟨80, _⟩ => ⟨S32x4x512, .f32⟩
  | _, _ => ⟨S128x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_1 : Ref sig .tc := ⟨.hbm, 32, rfl⟩
abbrev main_v28 : Ref sig .tc := ⟨.hbm, 33, rfl⟩
abbrev main_v29 : Ref sig .tc := ⟨.hbm, 34, rfl⟩
abbrev main_c_2 : Ref sig .tc := ⟨.hbm, 35, rfl⟩
abbrev main_v30 : Ref sig .tc := ⟨.hbm, 36, rfl⟩
abbrev main_v31 : Ref sig .tc := ⟨.hbm, 37, rfl⟩
abbrev main_c_3 : Ref sig .tc := ⟨.hbm, 38, rfl⟩
abbrev main_v32 : Ref sig .tc := ⟨.hbm, 39, rfl⟩
abbrev main_v33 : Ref sig .tc := ⟨.hbm, 40, rfl⟩
abbrev main_c_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]

def κ : String → Option EReal := fun
  | "mask" => some ⊥
  | _ => none
-- ==== ConvS.lean ====
abbrev S128x7168 : Shape := ⟨2, ![128, 7168]⟩
abbrev S1x3x1024 : Shape := ⟨3, ![1, 3, 1024]⟩
abbrev S1x32x2x1024 : Shape := ⟨4, ![1, 32, 2, 1024]⟩
abbrev S3x1024 : Shape := ⟨2, ![3, 1024]⟩
abbrev S32x2x1024 : Shape := ⟨3, ![32, 2, 1024]⟩
abbrev S32x1x1024 : Shape := ⟨3, ![32, 1, 1024]⟩
abbrev S_ : Shape := ⟨0, ![]⟩
abbrev S32x4x1024 : Shape := ⟨3, ![32, 4, 1024]⟩
abbrev S128x1024 : Shape := ⟨2, ![128, 1024]⟩
abbrev S136x1024 : Shape := ⟨2, ![136, 1024]⟩
abbrev S8x1024 : Shape := ⟨2, ![8, 1024]⟩
abbrev S1x1024 : Shape := ⟨2, ![1, 1024]⟩

abbrev nBuf : Space → Nat
  | .hbm => 18
  | .vmem => 9
  | .smem => 0
  | _ => 0

abbrev bufTy : (tb : Table) → Fin (tcTables nBuf tb) → BufTy
  | .hbm, ⟨0, _⟩ => ⟨S128x7168, .bf16⟩
  | .hbm, ⟨1, _⟩ => ⟨S1x3x1024, .f32⟩
  | .hbm, ⟨2, _⟩ => ⟨S1x32x2x1024, .f32⟩
  | .hbm, ⟨3, _⟩ => ⟨S3x1024, .f32⟩
  | .hbm, ⟨4, _⟩ => ⟨S32x2x1024, .f32⟩
  | .hbm, ⟨5, _⟩ => ⟨S32x1x1024, .f32⟩
  | .hbm, ⟨6, _⟩ => ⟨S_, .i32⟩
  | .hbm, ⟨7, _⟩ => ⟨S_, .f32⟩
  | .hbm, ⟨8, _⟩ => ⟨S32x4x1024, .f32⟩
  | .hbm, ⟨9, _⟩ => ⟨S128x1024, .f32⟩
  | .hbm, ⟨10, _⟩ => ⟨S_, .i32⟩
  | .hbm, ⟨11, _⟩ => ⟨S_, .f32⟩
  | .hbm, ⟨12, _⟩ => ⟨S32x4x1024, .f32⟩
  | .hbm, ⟨13, _⟩ => ⟨S128x1024, .f32⟩
  | .hbm, ⟨14, _⟩ => ⟨S128x1024, .bf16⟩
  | .hbm, ⟨15, _⟩ => ⟨S128x1024, .f32⟩
  | .hbm, ⟨16, _⟩ => ⟨S32x4x1024, .f32⟩
  | .hbm, ⟨17, _⟩ => ⟨S32x2x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S3x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .f32⟩
  | .local _ .vmem, ⟨8, _⟩ => ⟨S136x1024, .f32⟩
  | _, _ => ⟨S128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_1 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_2 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvSRefIdeal.lean ====
abbrev S128x7168 : Shape := ⟨2, ![128, 7168]⟩
abbrev S1x3x1024 : Shape := ⟨3, ![1, 3, 1024]⟩
abbrev S1x32x2x1024 : Shape := ⟨4, ![1, 32, 2, 1024]⟩
abbrev S128x1024 : Shape := ⟨2, ![128, 1024]⟩
abbrev S32x4x1024 : Shape := ⟨3, ![32, 4, 1024]⟩
abbrev S32x2x1024 : Shape := ⟨3, ![32, 2, 1024]⟩
abbrev S32x6x1024 : Shape := ⟨3, ![32, 6, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S128x7168, .bf16⟩
  | .hbm, ⟨1, _⟩ => ⟨S1x3x1024, .f32⟩
  | .hbm, ⟨2, _⟩ => ⟨S1x32x2x1024, .f32⟩
  | .hbm, ⟨3, _⟩ => ⟨S128x1024, .bf16⟩
  | .hbm, ⟨4, _⟩ => ⟨S128x1024, .f32⟩
  | .hbm, ⟨5, _⟩ => ⟨S32x4x1024, .f32⟩
  | .hbm, ⟨6, _⟩ => ⟨S128x1024, .bf16⟩
  | .hbm, ⟨7, _⟩ => ⟨S128x1024, .f32⟩
  | .hbm, ⟨8, _⟩ => ⟨S32x4x1024, .f32⟩
  | .hbm, ⟨9, _⟩ => ⟨S128x1024, .bf16⟩
  | .hbm, ⟨10, _⟩ => ⟨S128x1024, .f32⟩
  | .hbm, ⟨11, _⟩ => ⟨S32x4x1024, .f32⟩
  | .hbm, ⟨12, _⟩ => ⟨S32x4x1024, .f32⟩
  | .hbm, ⟨13, _⟩ => ⟨S32x2x1024, .f32⟩
  | .hbm, ⟨14, _⟩ => ⟨S32x6x1024, .f32⟩
  | .hbm, ⟨15, _⟩ => ⟨S3x1024, .f32⟩
  | .hbm, ⟨16, _⟩ => ⟨S1x1024, .f32⟩
  | .hbm, ⟨17, _⟩ => ⟨S1024, .f32⟩
  | .hbm, ⟨18, _⟩ => ⟨S32x4x1024, .f32⟩
  | .hbm, ⟨19, _⟩ => ⟨S1x1x1024, .f32⟩
  | .hbm, ⟨20, _⟩ => ⟨S32x4x1024, .f32⟩
  | .hbm, ⟨21, _⟩ => ⟨S32x4x1024, .f32⟩
  | .hbm, ⟨22, _⟩ => ⟨S_, .f32⟩
  | .hbm, ⟨23, _⟩ => ⟨S32x4x1024, .f32⟩
  | .hbm, ⟨24, _⟩ => ⟨S32x4x1024, .f32⟩
  | .hbm, ⟨25, _⟩ => ⟨S3x1024, .f32⟩
  | .hbm, ⟨26, _⟩ => ⟨S1x1024, .f32⟩
  | .hbm, ⟨27, _⟩ => ⟨S1024, .f32⟩
  | .hbm, ⟨28, _⟩ => ⟨S32x4x1024, .f32⟩
  | .hbm, ⟨29, _⟩ => ⟨S1x1x1024, .f32⟩
  | .hbm, ⟨30, _⟩ => ⟨S32x4x1024, .f32⟩
  | .hbm, ⟨31, _⟩ => ⟨S32x4x1024, .f32⟩
  | .hbm, ⟨32, _⟩ => ⟨S32x4x1024, .f32⟩
  | .hbm, ⟨33, _⟩ => ⟨S3x1024, .f32⟩
  | .hbm, ⟨34, _⟩ => ⟨S1x1024, .f32⟩
  | .hbm, ⟨35, _⟩ => ⟨S1024, .f32⟩
  | .hbm, ⟨36, _⟩ => ⟨S32x4x1024, .f32⟩
  | .hbm, ⟨37, _⟩ => ⟨S1x1x1024, .f32⟩
  | .hbm, ⟨38, _⟩ => ⟨S32x4x1024, .f32⟩
  | .hbm, ⟨39, _⟩ => ⟨S32x4x1024, .f32⟩
  | .hbm, ⟨40, _⟩ => ⟨S32x4x1024, .f32⟩
  | .hbm, ⟨41, _⟩ => ⟨S32x4x1024, .f32⟩
  | .hbm, ⟨42, _⟩ => ⟨S128x1024, .f32⟩
  | .hbm, ⟨43, _⟩ => ⟨S128x1024, .bf16⟩
  | .hbm, ⟨44, _⟩ => ⟨S32x2x1024, .f32⟩
  | _, _ => ⟨S128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩

abbrev nD : Nat := 1
abbrev τ : Topo := Topo.v7x

variable {F : FTy → Type} [FloatOps F]
-- ==== ConvP.lean ====
abbrev S8192x7168 : Shape := ⟨2, ![8192, 7168]⟩
abbrev S1x3x1024 : Shape := ⟨3, ![1, 3, 1024]⟩
abbrev S3x1024 : Shape := ⟨2, ![3, 1024]⟩
abbrev S8192x1024 : Shape := ⟨2, ![8192, 1024]⟩
abbrev S2x2x1024 : Shape := ⟨3, ![2, 2, 1024]⟩
abbrev S512x1024 : Shape := ⟨2, ![512, 1024]⟩
abbrev S1x2x1024 : Shape := ⟨3, ![1, 2, 1024]⟩
abbrev S520x1024 : Shape := ⟨2, ![520, 1024]⟩
abbrev S8x1024 : Shape := ⟨2, ![8, 1024]⟩
abbrev S1x1024 : Shape := ⟨2, ![1, 1024]⟩
abbrev S2x1024 : Shape := ⟨2, ![2, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x7168, .bf16⟩
  | .hbm, ⟨1, _⟩ => ⟨S1x3x1024, .f32⟩
  | .hbm, ⟨2, _⟩ => ⟨S3x1024, .f32⟩
  | .hbm, ⟨3, _⟩ => ⟨S8192x1024, .bf16⟩
  | .hbm, ⟨4, _⟩ => ⟨S2x2x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x1024, .f32⟩
  | .local _ .vmem, ⟨7, _⟩ => ⟨S512x1024, .bf16⟩
  | .local _ .vmem, ⟨8, _⟩ => ⟨S512x1024, .bf16⟩
  | .local _ .vmem, ⟨9, _⟩ => ⟨S1x2x1024, .f32⟩
  | .local _ .vmem, ⟨10, _⟩ => ⟨S1x2x1024, .f32⟩
  | .local _ .vmem, ⟨11, _⟩ => ⟨S520x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ConvPRefIdeal.lean ====
abbrev S8192x7168 : Shape := ⟨2, ![8192, 7168]⟩
abbrev S1x3x1024 : Shape := ⟨3, ![1, 3, 1024]⟩
abbrev S8192x1024 : Shape := ⟨2, ![8192, 1024]⟩
abbrev S2x4096x1024 : Shape := ⟨3, ![2, 4096, 1024]⟩
abbrev S_ : Shape := ⟨0, ![]⟩
abbrev S2x4098x1024 : Shape := ⟨3, ![2, 4098, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S2x2x1024 : Shape := ⟨3, ![2, 2, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1x3x1024, .f32⟩
  | .hbm, ⟨2, _⟩ => ⟨S8192x1024, .bf16⟩
  | .hbm, ⟨3, _⟩ => ⟨S8192x1024, .f32⟩
  | .hbm, ⟨4, _⟩ => ⟨S2x4096x1024, .f32⟩
  | .hbm, ⟨5, _⟩ => ⟨S8192x1024, .bf16⟩
  | .hbm, ⟨6, _⟩ => ⟨S8192x1024, .f32⟩
  | .hbm, ⟨7, _⟩ => ⟨S2x4096x1024, .f32⟩
  | .hbm, ⟨8, _⟩ => ⟨S8192x1024, .bf16⟩
  | .hbm, ⟨9, _⟩ => ⟨S8192x1024, .f32⟩
  | .hbm, ⟨10, _⟩ => ⟨S2x4096x1024, .f32⟩
  | .hbm, ⟨11, _⟩ => ⟨S2x4096x1024, .f32⟩
  | .hbm, ⟨12, _⟩ => ⟨S_, .i32⟩
  | .hbm, ⟨13, _⟩ => ⟨S_, .f32⟩
  | .hbm, ⟨14, _⟩ => ⟨S2x4098x1024, .f32⟩
  | .hbm, ⟨15, _⟩ => ⟨S3x1024, .f32⟩
  | .hbm, ⟨16, _⟩ => ⟨S1x1024, .f32⟩
  | .hbm, ⟨17, _⟩ => ⟨S1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S_, .f32⟩
  | .hbm, ⟨23, _⟩ => ⟨S2x4096x1024, .f32⟩
  | .hbm, ⟨24, _⟩ => ⟨S2x4096x1024, .f32⟩
  | .hbm, ⟨25, _⟩ => ⟨S3x1024, .f32⟩
  | .hbm, ⟨26, _⟩ => ⟨S1x1024, .f32⟩
  | .hbm, ⟨27, _⟩ => ⟨S1024, .f32⟩
  | .hbm, ⟨28, _⟩ => ⟨S2x4096x1024, .f32⟩
  | .hbm, ⟨29, _⟩ => ⟨S1x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S3x1024, .f32⟩
  | .hbm, ⟨34, _⟩ => ⟨S1x1024, .f32⟩
  | .hbm, ⟨35, _⟩ => ⟨S1024, .f32⟩
  | .hbm, ⟨36, _⟩ => ⟨S2x4096x1024, .f32⟩
  | .hbm, ⟨37, _⟩ => ⟨S1x1x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S8192x1024, .f32⟩
  | .hbm, ⟨43, _⟩ => ⟨S8192x1024, .bf16⟩
  | .hbm, ⟨44, _⟩ => ⟨S2x2x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== Proof.Softmax.lean ====
/- Softmax attention over the extended reals. A score that is `⊥` weighs nothing, so attention over a set of keys most
   of which are masked is attention over the keys that are not; and where the scores and the values are real, dividing
   the weighted sum by the weights' sum is the same as dividing each weight. -/
module

public import Idealize.ShloMosaic.PureOps.Ideal.Laws
public import Mathlib.Data.EReal.Inv

@[expose] public section

noncomputable section

namespace Cert.Softmax

open Idealize.ShloMosaic
open scoped BigOperators

/-- The least upper bound of finitely many scores. -/
def top {ι : Type} [Fintype ι] (s : ι → EReal) : EReal := Finset.univ.fold max ⊥ s

/-- The weight of key `i`: the exponential of its score's distance to the greatest one. -/
def wt {ι : Type} [Fintype ι] (s : ι → EReal) (i : ι) : EReal := Ideal.exp (s i - top s)

/-- The sum of the weights. -/
def den {ι : Type} [Fintype ι] (s : ι → EReal) : EReal := ∑ i, wt s i

/-- The weighted sum of the values, not yet divided. -/
def num {ι : Type} [Fintype ι] (s v : ι → EReal) : EReal := ∑ i, wt s i * v i

/-- The logarithm of the sum of the exponentials of the scores, as both programs form it. -/
def lse {ι : Type} [Fintype ι] (s : ι → EReal) : EReal := top s + Ideal.log (den s)

theorem top_eq_sup {ι : Type} [Fintype ι] (s : ι → EReal) : top s = Finset.univ.sup s := rfl

/-- Masked keys do not move the greatest score. -/
theorem top_of_mask {ι κ : Type} [Fintype ι] [Fintype κ] (f : κ → ι) (s : ι → EReal) (r : κ → EReal)
    (hr : ∀ k, s (f k) = r k) (hm : ∀ i, i ∉ Set.range f → s i = ⊥) : top s = top r := by
  rw [top_eq_sup, top_eq_sup]
  apply le_antisymm
  · apply Finset.sup_le
    intro i _
    by_cases hi : i ∈ Set.range f
    · obtain ⟨k, rfl⟩ := hi
      rw [hr k]; exact Finset.le_sup (f := r) (Finset.mem_univ k)
    · rw [hm i hi]; exact bot_le
  · apply Finset.sup_le
    intro k _
    rw [← hr k]; exact Finset.le_sup (f := s) (Finset.mem_univ (f k))

theorem wt_of_bot {ι : Type} [Fintype ι] (s : ι → EReal) (i : ι) (h : s i = ⊥) : wt s i = 0 := by
  unfold wt; rw [h, EReal.bot_sub]; rfl

/-- Masked keys add nothing to a weighted sum. -/
theorem num_of_mask {ι κ : Type} [Fintype ι] [Fintype κ] (f : κ → ι) (hf : Function.Injective f) (s : ι → EReal)
    (r : κ → EReal) (hr : ∀ k, s (f k) = r k) (hm : ∀ i, i ∉ Set.range f → s i = ⊥) (v : ι → EReal) :
    num s v = num r (fun k => v (f k)) := by
  symm
  refine Fintype.sum_of_injective f hf _ _ (fun i hi => ?_) (fun k => ?_)
  · rw [wt_of_bot s i (hm i hi), zero_mul]
  · unfold wt; rw [hr k, top_of_mask f s r hr hm]

/-- Masked keys add nothing to the sum of the weights. -/
theorem den_of_mask {ι κ : Type} [Fintype ι] [Fintype κ] (f : κ → ι) (hf : Function.Injective f) (s : ι → EReal)
    (r : κ → EReal) (hr : ∀ k, s (f k) = r k) (hm : ∀ i, i ∉ Set.range f → s i = ⊥) : den s = den r := by
  symm
  refine Fintype.sum_of_injective f hf _ _ (fun i hi => wt_of_bot s i (hm i hi)) (fun k => ?_)
  unfold wt; rw [hr k, top_of_mask f s r hr hm]

/-- … nor to the log-sum-exp. -/
theorem lse_of_mask {ι κ : Type} [Fintype ι] [Fintype κ] (f : κ → ι) (hf : Function.Injective f) (s : ι → EReal)
    (r : κ → EReal) (hr : ∀ k, s (f k) = r k) (hm : ∀ i, i ∉ Set.range f → s i = ⊥) : lse s = lse r := by
  unfold lse; rw [top_of_mask f s r hr hm, den_of_mask f hf s r hr hm]

/-- A finite sum of reals is the real sum. -/
theorem coe_sum {ι : Type} (t : Finset ι) (x : ι → ℝ) : ((∑ i ∈ t, x i : ℝ) : EReal) = ∑ i ∈ t, (x i : EReal) := by
  classical
  induction t using Finset.induction_on with
  | empty => simp
  | insert a t ha ih => rw [Finset.sum_insert ha, Finset.sum_insert ha, EReal.coe_add, ih]

/-- An extended real that is no infinity is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (t : Finset ι) (x : ι → EReal) (h : ∀ i, IsReal (x i)) : IsReal (∑ i ∈ t, x i) := by
  choose y hy using h
  exact ⟨∑ i ∈ t, y i, by rw [coe_sum]; exact Finset.sum_congr rfl fun i _ => hy i⟩

/-- The greatest of finitely many, at least one, real scores is real. -/
theorem IsReal.top {ι : Type} [Fintype ι] [Nonempty ι] (s : ι → EReal) (h : ∀ i, IsReal (s i)) : IsReal (top s) := by
  rw [top_eq_sup, ← Finset.sup'_eq_sup Finset.univ_nonempty]
  obtain ⟨i, -, hi⟩ := Finset.exists_mem_eq_sup' Finset.univ_nonempty s
  rw [hi]; exact h i

/-- Where the scores and the values are real, the weighted sum over the weights' sum is the sum of the values weighted
    by the quotients. -/
theorem div_num {ι : Type} [Fintype ι] [Nonempty ι] (s v : ι → EReal) (hs : ∀ i, IsReal (s i)) (hv : ∀ i, IsReal (v i)) :
    Ideal.div (num s v) (den s) = ∑ i, Ideal.div (wt s i) (den s) * v i := by
  obtain ⟨t, ht⟩ := IsReal.top s hs
  choose x hx using hs
  choose y hy using hv
  have hw : ∀ i, wt s i = ((Real.exp (x i - t) : ℝ) : EReal) := by
    intro i; unfold wt; rw [ht, hx i, ← EReal.coe_sub]; rfl
  have hd : den s = ((∑ i, Real.exp (x i - t) : ℝ) : EReal) := by
    unfold den; rw [coe_sum]; exact Finset.sum_congr rfl fun i _ => hw i
  have hpos : (0 : ℝ) < ∑ i, Real.exp (x i - t) :=
    Finset.sum_pos (fun i _ => Real.exp_pos _) Finset.univ_nonempty
  have hne : ((∑ i, Real.exp (x i - t) : ℝ) : EReal) ≠ 0 := by
    intro h; rw [EReal.coe_eq_zero] at h; exact hpos.ne' h
  have hdiv : ∀ z : ℝ, Ideal.div (z : EReal) (den s) = ((z * (∑ i, Real.exp (x i - t))⁻¹ : ℝ) : EReal) := by
    intro z; unfold Ideal.div; rw [hd, if_neg hne, ← EReal.coe_inv, ← EReal.coe_mul]
  have hn : num s v = ((∑ i, Real.exp (x i - t) * y i : ℝ) : EReal) := by
    unfold num; rw [coe_sum]
    exact Finset.sum_congr rfl fun i _ => by rw [hw i, hy i, EReal.coe_mul]
  rw [hn, hdiv, Finset.sum_mul, coe_sum]
  refine Finset.sum_congr rfl fun i _ => ?_
  rw [hw i, hdiv, hy i, ← EReal.coe_mul]
  congr 1; ring

/-- Keys in two sets: the greatest score. -/
theorem top_sum {ι κ : Type} [Fintype ι] [Fintype κ] (s : ι → EReal) (r : κ → EReal) :
    top (Sum.elim s r) = max (top s) (top r) := by
  rw [top_eq_sup, top_eq_sup, top_eq_sup]
  apply le_antisymm
  · apply Finset.sup_le
    rintro (i | k) _
    · exact le_max_of_le_left (Finset.le_sup (f := s) (Finset.mem_univ i))
    · exact le_max_of_le_right (Finset.le_sup (f := r) (Finset.mem_univ k))
  · apply max_le
    · exact Finset.sup_le fun i _ => Finset.le_sup (f := Sum.elim s r) (Finset.mem_univ (Sum.inl i))
    · exact Finset.sup_le fun k _ => Finset.le_sup (f := Sum.elim s r) (Finset.mem_univ (Sum.inr k))

/-- The f32 pattern of minus infinity is the least extended real. -/
theorem ofBits_neg_inf : Ideal.ofBits .f32 0xFF800000#32 = ⊥ := by simp [Ideal.ofBits, Ideal.ieee]

/-- The scale of the scores is real. -/
theorem scale_fin : IsReal (Ideal.ofBits .f32 0x3DB504F3#32) := by
  simp [Ideal.ofBits, Ideal.ieee, IsReal, -EReal.coe_mul]

end Cert.Softmax

end
-- ==== Proof.Head.lean ====
/- One head of the attention kernel over `n` cached keys and the four new ones, as the kernel writes it — the scores
   scaled and masked, two row maxima, the exponentials, two weighted sums, one division — and what it computes at an
   index over the extended reals. -/
module

public import proofs.«01_k».proof.Proof.Softmax
public import Idealize.ShloMosaic.Lib.MatmulPlain
public import Idealize.ShloMosaic.Lib.ValueIdx
public import Idealize.ShloMosaic.Lib.Pipeline.Value

@[expose] public section

noncomputable section

namespace Cert.Head

open Idealize.ShloMosaic Idealize.ShloMosaic.ValueIdx Cert.Softmax
open scoped BigOperators

/-- The shape facts of a head over `n` cached keys. -/
structure Facts (n : ℕ) : Prop where
  redn : (⟨2, ![4, n]⟩ : Shape).Reduces [1] ⟨1, ![4]⟩
  red4 : (⟨2, ![4, 4]⟩ : Shape).Reduces [1] ⟨1, ![4]⟩
  col : (⟨1, ![4]⟩ : Shape).ShapeCasts ⟨2, ![4, 1]⟩
  bn : (⟨2, ![4, 1]⟩ : Shape).Broadcasts ⟨2, ![4, n]⟩
  b4 : (⟨2, ![4, 1]⟩ : Shape).Broadcasts ⟨2, ![4, 4]⟩
  bl : (⟨2, ![4, 1]⟩ : Shape).Broadcasts ⟨2, ![4, 128]⟩
  up : (⟨2, ![4, 128]⟩ : Shape).ShapeCasts ⟨3, ![1, 4, 128]⟩
  same : (⟨2, ![4, 1]⟩ : Shape).ShapeCasts ⟨2, ![4, 1]⟩
  lt : FTy.bits .bf16 < FTy.bits .f32

variable {n : ℕ} (H : Facts n)
variable (Mc : IVec ⟨2, ![4, n]⟩ 1) (Mn : IVec ⟨2, ![4, 4]⟩ 1) (msk : Ideal .f32)
variable (q : FVec Ideal ⟨2, ![4, 128]⟩ .bf16) (k v : FVec Ideal ⟨2, ![n, 128]⟩ .bf16)
variable (kn vn : FVec Ideal ⟨2, ![4, 128]⟩ .bf16)

/-- The scores of the queries against `p` keys, scaled, and the constant `msk` where the mask is off. -/
def scores {p : ℕ} (M : IVec ⟨2, ![4, p]⟩ 1) (msk : Ideal .f32) (q : FVec Ideal ⟨2, ![4, 128]⟩ .bf16)
    (k : FVec Ideal ⟨2, ![p, 128]⟩ .bf16) : FVec Ideal ⟨2, ![4, p]⟩ .f32 :=
  select M (mulf (matmul (DotDims.transposedRhs 4 128 p) none q k (constant _ .f32 0x00000000#32))
    (broadcast _ (Scalar.ofBits .f32 0x3DB504F3#32))) (broadcast _ msk)

/-- The greatest score of each query, as a column. -/
def mx : FVec Ideal ⟨2, ![4, 1]⟩ .f32 :=
  maximumf (shapeCast ⟨2, ![4, 1]⟩ (multiReduction .maximumf [1] ⟨1, ![4]⟩ (scores Mc msk q k) 0xFF800000#32 H.redn (.inl rfl) rfl) H.col)
    (shapeCast ⟨2, ![4, 1]⟩ (multiReduction .maximumf [1] ⟨1, ![4]⟩ (scores Mn msk q kn) 0xFF800000#32 H.red4 (.inl rfl) rfl) H.col)

/-- The weights of the cached keys. -/
def pc : FVec Ideal ⟨2, ![4, n]⟩ .f32 :=
  exp (subf (scores Mc msk q k) (broadcastTo ⟨2, ![4, n]⟩ (mx H Mc Mn msk q k kn) H.bn))

/-- The weights of the new keys. -/
def pn : FVec Ideal ⟨2, ![4, 4]⟩ .f32 :=
  exp (subf (scores Mn msk q kn) (broadcastTo ⟨2, ![4, 4]⟩ (mx H Mc Mn msk q k kn) H.b4))

/-- The sums of the weights, as a column. -/
def dn : FVec Ideal ⟨2, ![4, 1]⟩ .f32 :=
  addf (shapeCast ⟨2, ![4, 1]⟩ (multiReduction .add [1] ⟨1, ![4]⟩ (pc H Mc Mn msk q k kn) 0x00000000#32 H.redn (.inl rfl) rfl) H.col)
    (shapeCast ⟨2, ![4, 1]⟩ (multiReduction .add [1] ⟨1, ![4]⟩ (pn H Mc Mn msk q k kn) 0x00000000#32 H.red4 (.inl rfl) rfl) H.col)

/-- The head's output block. -/
def out : FVec Ideal ⟨3, ![1, 4, 128]⟩ .f32 :=
  shapeCast ⟨3, ![1, 4, 128]⟩ (divf
    (addf (matmul (DotDims.plain 4 n 128) none (truncf .bf16 (pc H Mc Mn msk q k kn) H.lt) v (constant _ .f32 0x00000000#32))
      (matmul (DotDims.plain 4 4 128) none (truncf .bf16 (pn H Mc Mn msk q k kn) H.lt) vn (constant _ .f32 0x00000000#32)))
    (broadcastTo ⟨2, ![4, 128]⟩ (dn H Mc Mn msk q k kn) H.bl)) H.up

/-- The head's log-sum-exp block: each query's one number on all the head's lanes. -/
def lg : FVec Ideal ⟨3, ![1, 4, 128]⟩ .f32 :=
  shapeCast ⟨3, ![1, 4, 128]⟩ (broadcastTo ⟨2, ![4, 128]⟩
    (shapeCast ⟨2, ![4, 1]⟩ (addf (mx H Mc Mn msk q k kn) (log (dn H Mc Mn msk q k kn))) H.same) H.bl) H.up

/-- The score of query `t` against key `j`: the scaled product where the mask is on, else `msk`. -/
def sc {p : ℕ} (M : IVec ⟨2, ![4, p]⟩ 1) (msk : EReal) (q : FVec Ideal ⟨2, ![4, 128]⟩ .bf16)
    (k : FVec Ideal ⟨2, ![p, 128]⟩ .bf16) (t : Fin 4) (j : Fin p) : EReal :=
  if M (ix2 t j) = 1#1 then (∑ e : Fin 128, (q (ix2 t e) * k (ix2 j e) : EReal)) * Ideal.ofBits .f32 0x3DB504F3#32 else msk

theorem scores_apply {p : ℕ} (M : IVec ⟨2, ![4, p]⟩ 1) (k : FVec Ideal ⟨2, ![p, 128]⟩ .bf16) (t : Fin 4) (j : Fin p) :
    scores M msk q k (ix2 t j) = sc M msk q k t j := by
  have h : matmul (DotDims.transposedRhs 4 128 p) none q k (constant (F := Ideal) _ .f32 0x00000000#32) (ix2 t j)
      = ∑ e : Fin 128, (q (ix2 t e) * k (ix2 j e) : EReal) := by
    simp only [matmul]
    rw [Ideal.matmul_transposedRhs_apply]
    show Ideal.ofBits .f32 0x00000000#32 + _ = _
    rw [Ideal.ofBits_zero_f32, zero_add]
  unfold scores sc
  by_cases hM : M (ix2 t j) = 1#1
  · rw [if_pos hM]
    refine (if_pos (c := M (ix2 t j) = 1) hM).trans ?_
    show matmul (DotDims.transposedRhs 4 128 p) none q k (constant (F := Ideal) _ .f32 0x00000000#32) (ix2 t j) * _ = _
    rw [h]; rfl
  · rw [if_neg hM]
    exact if_neg (c := M (ix2 t j) = 1) hM

/-- The scores of query `t` against the cached keys and the new ones. -/
def sAll (t : Fin 4) : Fin n ⊕ Fin 4 → EReal := Sum.elim (sc Mc msk q k t) (sc Mn msk q kn t)

theorem lift_two {a b : ℕ} (h : (⟨2, ![a, b]⟩ : Shape).Reduces [1] ⟨1, ![a]⟩) (t : Fin a) (j : Fin b) :
    h.lift (ix1 t) j = ix2 t j := by
  funext x; apply Fin.ext
  match x with
  | ⟨0, _⟩ => rfl
  | ⟨1, _⟩ => rfl

theorem col_apply (h : (⟨1, ![4]⟩ : Shape).ShapeCasts ⟨2, ![4, 1]⟩) (x : FVec Ideal ⟨1, ![4]⟩ .f32) (t : Fin 4) (z : Fin 1) :
    shapeCast ⟨2, ![4, 1]⟩ x h (ix2 t z) = x (ix1 t) := by
  refine shapeCast_apply x h (ix2 t z) (ix1 t) ?_
  rw [Shape.rowMajor_val_one, Shape.rowMajor_val_two]
  show t.val = t.val * 1 + z.val
  omega

theorem mx_apply (t : Fin 4) (z : Fin 1) : mx H Mc Mn msk q k kn (ix2 t z) = top (sAll Mc Mn msk q k kn t) := by
  have e : ∀ (p : ℕ) (M : IVec ⟨2, ![4, p]⟩ 1) (k : FVec Ideal ⟨2, ![p, 128]⟩ .bf16) (hr : (⟨2, ![4, p]⟩ : Shape).Reduces [1] ⟨1, ![4]⟩),
      multiReduction .maximumf [1] ⟨1, ![4]⟩ (scores M msk q k) 0xFF800000#32 hr (.inl rfl) rfl (ix1 t) = top (sc M msk q k t) := by
    intro p M k hr
    refine (Ideal.multiReduction_maximumf_single _ _ _ _ _ _).trans ?_
    show Finset.univ.fold max (Ideal.ofBits .f32 0xFF800000#32) _ = _
    rw [ofBits_neg_inf]
    refine congrArg (Finset.univ.fold max ⊥) (funext fun j => ?_)
    show scores M msk q k (hr.lift (ix1 t) j) = _
    exact (congrArg _ (lift_two hr t j)).trans (scores_apply msk q M k t j)
  show max (shapeCast ⟨2, ![4, 1]⟩ _ H.col (ix2 t z)) (shapeCast ⟨2, ![4, 1]⟩ _ H.col (ix2 t z)) = _
  rw [col_apply, col_apply, e, e, sAll, top_sum]

theorem bc_apply {p : ℕ} (h : (⟨2, ![4, 1]⟩ : Shape).Broadcasts ⟨2, ![4, p]⟩) (x : FVec Ideal ⟨2, ![4, 1]⟩ .f32) (t : Fin 4) (j : Fin p) :
    broadcastTo ⟨2, ![4, p]⟩ x h (ix2 t j) = x (ix2 t 0) := by
  refine broadcastTo_apply x h (ix2 t j) (ix2 t 0) fun a => ?_
  match a with
  | ⟨0, _⟩ => rfl
  | ⟨1, _⟩ => rfl

theorem pc_apply (t : Fin 4) (j : Fin n) : pc H Mc Mn msk q k kn (ix2 t j) = wt (sAll Mc Mn msk q k kn t) (Sum.inl j) := by
  show Ideal.exp (scores Mc msk q k (ix2 t j) - broadcastTo ⟨2, ![4, n]⟩ (mx H Mc Mn msk q k kn) H.bn (ix2 t j)) = _
  rw [bc_apply, mx_apply, scores_apply]; rfl

theorem pn_apply (t : Fin 4) (j : Fin 4) : pn H Mc Mn msk q k kn (ix2 t j) = wt (sAll Mc Mn msk q k kn t) (Sum.inr j) := by
  show Ideal.exp (scores Mn msk q kn (ix2 t j) - broadcastTo ⟨2, ![4, 4]⟩ (mx H Mc Mn msk q k kn) H.b4 (ix2 t j)) = _
  rw [bc_apply, mx_apply, scores_apply]; rfl

theorem dn_apply (t : Fin 4) (z : Fin 1) : dn H Mc Mn msk q k kn (ix2 t z) = den (sAll Mc Mn msk q k kn t) := by
  have e : ∀ (p : ℕ) (x : FVec Ideal ⟨2, ![4, p]⟩ .f32) (hr : (⟨2, ![4, p]⟩ : Shape).Reduces [1] ⟨1, ![4]⟩),
      multiReduction .add [1] ⟨1, ![4]⟩ x 0x00000000#32 hr (.inl rfl) rfl (ix1 t) = ∑ j : Fin p, (x (ix2 t j) : EReal) := by
    intro p x hr
    refine (Ideal.multiReduction_add_single _ _ _ _ _ _).trans ?_
    exact Finset.sum_congr rfl fun j _ => congrArg x (lift_two hr t j)
  show shapeCast ⟨2, ![4, 1]⟩ _ H.col (ix2 t z) + shapeCast ⟨2, ![4, 1]⟩ _ H.col (ix2 t z) = _
  rw [col_apply, col_apply, e, e, den, Fintype.sum_sum_type]
  congr 1
  · exact Finset.sum_congr rfl fun j _ => pc_apply H Mc Mn msk q k kn t j
  · exact Finset.sum_congr rfl fun j _ => pn_apply H Mc Mn msk q k kn t j

theorem up_apply (h : (⟨2, ![4, 128]⟩ : Shape).ShapeCasts ⟨3, ![1, 4, 128]⟩) (x : FVec Ideal ⟨2, ![4, 128]⟩ .f32) (z : Fin 1)
    (t : Fin 4) (e : Fin 128) : shapeCast ⟨3, ![1, 4, 128]⟩ x h (ix3 z t e) = x (ix2 t e) := by
  refine shapeCast_apply x h (ix3 z t e) (ix2 t e) ?_
  rw [Shape.rowMajor_val_two, Shape.rowMajor_val_three]
  show t.val * 128 + e.val = (z.val * 4 + t.val) * 128 + e.val
  omega

/-- The head's output at query `t` and lane `e`: the weighted sum of the values over the sum of the weights. -/
theorem out_apply (z : Fin 1) (t : Fin 4) (e : Fin 128) :
    out H Mc Mn msk q k v kn vn (ix3 z t e)
      = Ideal.div (num (sAll Mc Mn msk q k kn t) (Sum.elim (fun j => v (ix2 j e)) (fun j => vn (ix2 j e))))
          (den (sAll Mc Mn msk q k kn t)) := by
  unfold out
  rw [up_apply]
  show Ideal.div (matmul (DotDims.plain 4 n 128) none _ v _ (ix2 t e) + matmul (DotDims.plain 4 4 128) none _ vn _ (ix2 t e))
    (broadcastTo ⟨2, ![4, 128]⟩ (dn H Mc Mn msk q k kn) H.bl (ix2 t e)) = _
  rw [bc_apply, dn_apply]
  simp only [matmul]
  rw [Ideal.matmul_plain_apply, Ideal.matmul_plain_apply]
  congr 1
  show Ideal.ofBits .f32 0x00000000#32 + _ + (Ideal.ofBits .f32 0x00000000#32 + _) = _
  rw [Ideal.ofBits_zero_f32, zero_add, zero_add, num, Fintype.sum_sum_type]
  congr 1
  · exact Finset.sum_congr rfl fun j _ => congrArg (· * _) (pc_apply H Mc Mn msk q k kn t j)
  · exact Finset.sum_congr rfl fun j _ => congrArg (· * _) (pn_apply H Mc Mn msk q k kn t j)

/-- The head's log-sum-exp at query `t`, the same on every lane. -/
theorem lg_apply (z : Fin 1) (t : Fin 4) (e : Fin 128) :
    lg H Mc Mn msk q k kn (ix3 z t e) = lse (sAll Mc Mn msk q k kn t) := by
  unfold lg
  rw [up_apply, bc_apply, shapeCast_apply _ H.same (ix2 t 0) (ix2 t 0) rfl]
  show mx H Mc Mn msk q k kn (ix2 t 0) + Ideal.log (dn H Mc Mn msk q k kn (ix2 t 0)) = _
  rw [mx_apply, dn_apply]; rfl

end Cert.Head

end
-- ==== Proof.Attn.lean ====
/- Dilated attention over a ring buffer of `n` cached keys and four new ones, from the two arrays a call is given: the
   projected rows and the cache. Query `t` sees the 129 positions `n + t`, `n + t - d`, …, `n + t - 128 d`. -/
module

public import proofs.«01_k».proof.Proof.Softmax
public import Idealize.ShloMosaic.Lib.ValueIdx
public import Idealize.ShloMosaic.Lib.ValueIdxRank6
public import Idealize.ShloMosaic.Lib.Pipeline.Value

@[expose] public section

noncomputable section

namespace Cert.Attn

open Idealize.ShloMosaic Idealize.ShloMosaic.ValueIdx Cert.Softmax
open scoped BigOperators

/-- The projected rows: 32 batches of 4 positions, and in a row the queries, the keys and the values of 3 groups of
    4 heads of 128 entries. -/
abbrev Rows := (⟨2, ![128, 4608]⟩ : Shape).Idx → EReal

/-- The cache: per batch and position the keys and the values of 4 heads. -/
abbrev Cache (n : ℕ) := (⟨6, ![1, 32, n, 2, 4, 128]⟩ : Shape).Idx → EReal

/-- Entry `e` of head `h` of group `g` in part `p` (0 the queries, 1 the keys, 2 the values) of position `t` of batch `b`. -/
def proj (x0 : Rows) (g p : Fin 3) (b : Fin 32) (t h : Fin 4) (e : Fin 128) : EReal :=
  x0 (ix2 ⟨b.val * 4 + t.val, by omega⟩ ⟨p.val * 1536 + g.val * 512 + h.val * 128 + e.val, by omega⟩)

variable {n : ℕ}

/-- Row `j` of the buffer with the new rows appended: the keys for `w = 0`, the values for `w = 1`. -/
def row (x0 : Rows) (x1 : Cache n) (g : Fin 3) (b : Fin 32) (j : ℕ) (w : Fin 2) (h : Fin 4) (e : Fin 128) : EReal :=
  if hj : j < n then x1 (ix6 0 b ⟨j, hj⟩ w h e)
  else proj x0 g ⟨w.val + 1, by omega⟩ b ⟨(j - n) % 4, Nat.mod_lt _ (by decide)⟩ h e

/-- Query `t`'s score with its `k`-th key back. -/
def sco (x0 : Rows) (x1 : Cache n) (g : Fin 3) (d : ℕ) (b : Fin 32) (t h : Fin 4) (k : Fin 129) : EReal :=
  (∑ e : Fin 128, proj x0 g 0 b t h e * row x0 x1 g b (n + t.val - d * k.val) 0 h e) * Ideal.ofBits .f32 0x3DB504F3#32

/-- The attention output. -/
def out (x0 : Rows) (x1 : Cache n) (g : Fin 3) (d : ℕ) (b : Fin 32) (t h : Fin 4) (e : Fin 128) : EReal :=
  ∑ k : Fin 129, Ideal.div (wt (sco x0 x1 g d b t h) k) (den (sco x0 x1 g d b t h))
    * row x0 x1 g b (n + t.val - d * k.val) 1 h e

/-- A GATHER OF ROWS AT AN INDEX: from `[32, N, 2, 4, 128]` at start indices `[4, 129, 1]` along axis 1. -/
theorem gather_apply {α : Type} {N w : ℕ} (hN : 0 < N)
    (d : GatherDims ⟨5, ![32, N, 2, 4, 128]⟩ ⟨3, ![4, 129, 1]⟩ ⟨6, ![32, 4, 129, 2, 4, 128]⟩)
    (h1 : d.offsetDims = [0, 3, 4, 5]) (h2 : d.collapsedSliceDims = [1]) (h3 : d.operandBatchingDims = [])
    (h4 : d.startIndicesBatchingDims = []) (h5 : d.startIndexMap = [1]) (h6 : d.indexVectorDim = 2)
    (h7 : d.sliceSizes = ![32, 1, 2, 4, 128])
    (x : (⟨5, ![32, N, 2, 4, 128]⟩ : Shape).Idx → α) (idx : IVec ⟨3, ![4, 129, 1]⟩ w)
    (b : Fin 32) (t : Fin 4) (k : Fin 129) (c : Fin 2) (h : Fin 4) (e : Fin 128) (m : Fin N)
    (hm : (idx (ix3 t k 0)).toInt.toNat = m.val) :
    Host.gather d x idx (ix6 b t k c h e) = x (ix5 b m c h e) := by
  obtain ⟨o, cs, ob, sb, sm, iv, ss, wf⟩ := d
  dsimp only at h1 h2 h3 h4 h5 h6 h7
  subst h1 h2 h3 h4 h5 h6 h7
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have side : ∀ a : Fin 5, a ≠ 1 → a ∉ [(1 : Fin 5)] := fun a h h' => h (List.mem_singleton.mp h')
  have h01 : a = 0 ∨ a = 1 ∨ a = 2 ∨ a = 3 ∨ a = 4 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases h01 with rfl | rfl | rfl | rfl | rfl
  · unfold GatherDims.start GatherDims.offCoord
    rw [dif_neg (side 0 (by decide)), dif_pos ((GatherDims.mem_sKept _ _).mpr ⟨side 0 (by decide), List.not_mem_nil⟩)]
    exact Nat.zero_add _
  · rw [GatherDims.offCoord_eq_zero _ _ _ (fun h => ((GatherDims.mem_sKept _ _).mp h).1 (List.mem_singleton.mpr rfl))]
    simp only [Nat.add_zero]
    unfold GatherDims.start
    rw [dif_pos (show (1 : Fin 5) ∈ [(1 : Fin 5)] from List.mem_singleton.mpr rfl)]
    refine (congrArg (fun i => min (idx i).toInt.toNat (N - 1)) (?_ : _ = ix3 t k 0)).trans ?_
    · funext b; refine Fin.ext ?_
      match b with
      | ⟨0, _⟩ => rfl
      | ⟨1, _⟩ => rfl
      | ⟨2, _⟩ => rfl
    · show min (idx (ix3 t k 0)).toInt.toNat (N - 1) = m.val
      rw [hm]; have := m.isLt; omega
  · unfold GatherDims.start GatherDims.offCoord
    rw [dif_neg (side 2 (by decide)), dif_pos ((GatherDims.mem_sKept _ _).mpr ⟨side 2 (by decide), List.not_mem_nil⟩)]
    exact Nat.zero_add _
  · unfold GatherDims.start GatherDims.offCoord
    rw [dif_neg (side 3 (by decide)), dif_pos ((GatherDims.mem_sKept _ _).mpr ⟨side 3 (by decide), List.not_mem_nil⟩)]
    exact Nat.zero_add _
  · unfold GatherDims.start GatherDims.offCoord
    rw [dif_neg (side 4 (by decide)), dif_pos ((GatherDims.mem_sKept _ _).mpr ⟨side 4 (by decide), List.not_mem_nil⟩)]
    exact Nat.zero_add _

end Cert.Attn

end
-- ==== Proof.HeadAttn.lean ====
/- One head of the attention kernel computes dilated attention: the keys it masks weigh nothing, and the ones it keeps
   are the 129 positions the query sees. -/
module

public import proofs.«01_k».proof.Proof.Head
public import proofs.«01_k».proof.Proof.Attn

@[expose] public section

noncomputable section

namespace Cert.HeadAttn

open Idealize.ShloMosaic Idealize.ShloMosaic.ValueIdx Cert.Softmax Cert.Attn Cert.Head
open scoped BigOperators

/-- The two masks keep the positions the query sees: `n + t`, `n + t - d`, …, `n + t - 128 d`. -/
structure Masks (n d : ℕ) (Mc : IVec ⟨2, ![4, n]⟩ 1) (Mn : IVec ⟨2, ![4, 4]⟩ 1) : Prop where
  c : ∀ (t : Fin 4) (j : Fin n), Mc (ix2 t j) = 1#1 ↔ ∃ k : Fin 129, j.val + d * k.val = n + t.val
  w : ∀ t j : Fin 4, Mn (ix2 t j) = 1#1 ↔ ∃ k : Fin 129, n + j.val + d * k.val = n + t.val

/-- The operands of a head are the parts of the two arrays that belong to batch `b` and head `h`. -/
structure Operands (n : ℕ) (x0 : Rows) (x1 : Cache n) (g : Fin 3) (b : Fin 32) (h : Fin 4)
    (q : FVec Ideal ⟨2, ![4, 128]⟩ .bf16) (k v : FVec Ideal ⟨2, ![n, 128]⟩ .bf16) (kn vn : FVec Ideal ⟨2, ![4, 128]⟩ .bf16) : Prop where
  q : ∀ t e, q (ix2 t e) = proj x0 g 0 b t h e
  k : ∀ j e, k (ix2 j e) = row x0 x1 g b j.val 0 h e
  v : ∀ j e, v (ix2 j e) = row x0 x1 g b j.val 1 h e
  kn : ∀ j e, kn (ix2 j e) = row x0 x1 g b (n + j.val) 0 h e
  vn : ∀ j e, vn (ix2 j e) = row x0 x1 g b (n + j.val) 1 h e

/-- The kernel's key that query `t` sees `k` keys back. -/
def key (n d : ℕ) (t : Fin 4) (hn : n = 128 * d) (k : Fin 129) : Fin n ⊕ Fin 4 :=
  if hj : n + t.val - d * k.val < n then Sum.inl ⟨_, hj⟩ else Sum.inr ⟨n + t.val - d * k.val - n, by omega⟩

/-- The place of a key in the buffer with the new rows appended. -/
def place (n : ℕ) : Fin n ⊕ Fin 4 → ℕ := Sum.elim (fun j => j.val) (fun j => n + j.val)

variable {n d : ℕ} (hd : 0 < d) (hn : n = 128 * d)

include hn in
theorem dk_le (k : Fin 129) : d * k.val ≤ n := by
  have : k.val ≤ 128 := by omega
  calc d * k.val ≤ d * 128 := Nat.mul_le_mul_left d this
    _ = n := by omega

theorem place_key (t : Fin 4) (k : Fin 129) : place n (key n d t hn k) = n + t.val - d * k.val := by
  unfold key
  split
  · rfl
  · show n + (n + t.val - d * k.val - n) = _
    omega

theorem place_inj : Function.Injective (place n) := by
  rintro (i | i) (j | j) h
  · exact congrArg Sum.inl (Fin.ext h)
  · exact absurd h (by show ¬ i.val = n + j.val; omega)
  · exact absurd h (by show ¬ n + i.val = j.val; omega)
  · refine congrArg Sum.inr (Fin.ext ?_)
    have : n + i.val = n + j.val := h
    omega

include hd in
theorem key_inj (t : Fin 4) : Function.Injective (key n d t hn) := by
  intro a b hab
  have h := congrArg (place n) hab
  rw [place_key, place_key] at h
  have ha := dk_le hn a
  have hb := dk_le hn b
  exact Fin.ext (Nat.eq_of_mul_eq_mul_left hd (by omega))

variable {Mc : IVec ⟨2, ![4, n]⟩ 1} {Mn : IVec ⟨2, ![4, 4]⟩ 1} (HM : Masks n d Mc Mn) (H : Facts n)
variable {x0 : Rows} {x1 : Cache n} {g : Fin 3} {b : Fin 32} {h : Fin 4}
variable {q : FVec Ideal ⟨2, ![4, 128]⟩ .bf16} {k v : FVec Ideal ⟨2, ![n, 128]⟩ .bf16} {kn vn : FVec Ideal ⟨2, ![4, 128]⟩ .bf16}
variable (HO : Operands n x0 x1 g b h q k v kn vn)

include HM HO in
/-- A kept key's score is the reference's, a masked key's is `⊥`. -/
theorem sAll_key (t : Fin 4) (j : Fin 129) : sAll Mc Mn ⊥ q k kn t (key n d t hn j) = sco x0 x1 g d b t h j := by
  have hj := dk_le hn j
  unfold sco
  by_cases hlt : n + t.val - d * j.val < n
  · have hk : key n d t hn j = Sum.inl ⟨_, hlt⟩ := dif_pos hlt
    rw [hk]
    show sc Mc ⊥ q k t ⟨_, hlt⟩ = _
    unfold sc
    rw [if_pos ((HM.c t ⟨_, hlt⟩).mpr ⟨j, by show n + t.val - d * j.val + d * j.val = n + t.val; omega⟩)]
    exact congrArg (· * _) (Finset.sum_congr rfl fun e _ => by rw [HO.q, HO.k])
  · have hk : key n d t hn j = Sum.inr ⟨n + t.val - d * j.val - n, by omega⟩ := dif_neg hlt
    rw [hk]
    show sc Mn ⊥ q kn t ⟨n + t.val - d * j.val - n, _⟩ = _
    unfold sc
    rw [if_pos ((HM.w t ⟨n + t.val - d * j.val - n, by omega⟩).mpr ⟨j, by show n + (n + t.val - d * j.val - n) + d * j.val = n + t.val; omega⟩)]
    refine congrArg (· * _) (Finset.sum_congr rfl fun e _ => ?_)
    rw [HO.q, HO.kn, show n + (n + t.val - d * j.val - n) = n + t.val - d * j.val by omega]

include HM in
theorem sAll_masked (t : Fin 4) (i : Fin n ⊕ Fin 4) (hi : i ∉ Set.range (key n d t hn)) : sAll Mc Mn ⊥ q k kn t i = ⊥ := by
  have hno : ∀ j : Fin 129, place n i + d * j.val ≠ n + t.val := fun j hj =>
    hi ⟨j, place_inj (by rw [place_key]; omega)⟩
  match i with
  | Sum.inl i =>
    show sc Mc ⊥ q k t i = ⊥
    unfold sc
    exact if_neg fun hM => by obtain ⟨j, hj⟩ := (HM.c t i).mp hM; exact hno j hj
  | Sum.inr i =>
    show sc Mn ⊥ q kn t i = ⊥
    unfold sc
    exact if_neg fun hM => by obtain ⟨j, hj⟩ := (HM.w t i).mp hM; exact hno j hj

include hd hn HM HO in
/-- The log-sum-exp of a head. -/
theorem lg_eq (z : Fin 1) (t : Fin 4) (e : Fin 128) :
    lg H Mc Mn (⊥ : EReal) q k kn (ix3 z t e) = lse (sco x0 x1 g d b t h) :=
  (lg_apply H Mc Mn _ q k kn z t e).trans
    (lse_of_mask (key n d t hn) (key_inj hd hn t) _ _ (sAll_key hn HM HO t) (sAll_masked hn HM t))

include hd hn HM HO in
/-- The output of a head, where the arrays are real. -/
theorem out_eq (h0 : ∀ i, IsReal (x0 i)) (h1 : ∀ i, IsReal (x1 i)) (z : Fin 1) (t : Fin 4) (e : Fin 128) :
    Head.out H Mc Mn (⊥ : EReal) q k v kn vn (ix3 z t e) = Attn.out x0 x1 g d b t h e := by
  have hrow : ∀ j w e, IsReal (row x0 x1 g b j w h e) := fun j w e => by
    unfold row
    split
    · exact h1 _
    · exact h0 _
  refine (out_apply H Mc Mn _ q k v kn vn z t e).trans ?_
  rw [num_of_mask (key n d t hn) (key_inj hd hn t) _ _ (sAll_key hn HM HO t) (sAll_masked hn HM t),
    den_of_mask (key n d t hn) (key_inj hd hn t) _ _ (sAll_key hn HM HO t) (sAll_masked hn HM t)]
  have hv : ∀ j : Fin 129, Sum.elim (fun i => v (ix2 i e)) (fun i => vn (ix2 i e)) (key n d t hn j)
      = row x0 x1 g b (n + t.val - d * j.val) 1 h e := fun j => by
    rw [← place_key hn t j]
    match key n d t hn j with
    | Sum.inl i => exact HO.v i e
    | Sum.inr i => exact HO.vn i e
  rw [funext hv]
  exact div_num _ _ (fun j => IsReal.mul (IsReal.sum _ _ fun e => IsReal.mul (h0 _) (hrow _ _ _)) scale_fin) (fun j => hrow _ _ _)

end Cert.HeadAttn

end
-- ==== Proof.Samp0Kernel.lean ====
/- What one grid point of the attention kernel over the cache of 128 rows leaves in its three output blocks. -/
module

public import proofs.«01_k».proof.Proof.HeadAttn
public import proofs.«01_k».proof.Proof.Gen.Samp0Ideal.Value

@[expose] public section

noncomputable section

namespace Cert.Samp0Kernel

open Idealize.ShloMosaic Idealize.ShloMosaic.ValueIdx Cert.Softmax Cert.Attn Cert.HeadAttn
open Cert.Samp0Ideal Cert.Samp0Ideal.Gen Idealize.SL.Sem
open scoped BigOperators

/-- The shape facts the head's operations need. -/
theorem shapes : Head.Facts 128 where
  redn := by decide
  red4 := by decide
  col := by decide
  bn := by decide
  b4 := by decide
  bl := by decide
  up := by decide
  same := by decide
  lt := by decide

theorem cast_apply {a b : ℕ} (h : (⟨3, ![1, a, b]⟩ : Shape).ShapeCasts ⟨2, ![a, b]⟩) (x : FVec Ideal ⟨3, ![1, a, b]⟩ .f32)
    (i : Fin a) (j : Fin b) : shapeCast ⟨2, ![a, b]⟩ x h (ix2 i j) = x (ix3 0 i j) := by
  refine shapeCast_apply x h (ix2 i j) (ix3 0 i j) ?_
  rw [Shape.rowMajor_val_two, Shape.rowMajor_val_three]
  show (0 * a + i.val) * b + j.val = i.val * b + j.val
  rw [Nat.zero_mul, Nat.zero_add]

/-- A block of four rows, rounded to bfloat16. -/
def b4 (v : Vec Ideal S1x4x128 .f32) : FVec Ideal ⟨2, ![4, 128]⟩ .bf16 :=
  truncf .bf16 (shapeCast ⟨2, ![4, 128]⟩ v shapeCasts_S1x4x128_S4x128) bitsLt_bf16_f32

/-- A block of as many rows as the cache has, rounded to bfloat16. -/
def bn (v : Vec Ideal S1x128x128 .f32) : FVec Ideal ⟨2, ![128, 128]⟩ .bf16 :=
  truncf .bf16 (shapeCast ⟨2, ![128, 128]⟩ v shapeCasts_S1x128x128_S128x128) bitsLt_bf16_f32

theorem b4_apply (v : Vec Ideal S1x4x128 .f32) (t : Fin 4) (e : Fin 128) : b4 v (ix2 t e) = v (ix3 0 t e) :=
  cast_apply shapeCasts_S1x4x128_S4x128 v t e

theorem bn_apply (v : Vec Ideal S1x128x128 .f32) (j : Fin 128) (e : Fin 128) : bn v (ix2 j e) = v (ix3 0 j e) :=
  cast_apply shapeCasts_S1x128x128_S128x128 v j e

/-! Each head's stores are the head's output and log-sum-exp, of its five operands. -/

section heads

variable (Mc : IVec S4x128 1) (Mn : IVec S4x4 1) (q kn vn : Vec Ideal S1x4x128 .f32) (k v : Vec Ideal S1x128x128 .f32)

theorem o0 : k0_pay15 Mc Mn (k0_pay4 q) (k0_pay5 v) (k0_pay6 kn) (k0_pay7 vn) (k0_pay8 q k)
    = Head.out shapes Mc Mn (⊥ : EReal) (b4 q) (bn k) (bn v) (b4 kn) (b4 vn) := rfl

theorem l0 : k0_pay16 Mc Mn (k0_pay4 q) (k0_pay6 kn) (k0_pay8 q k)
    = Head.lg shapes Mc Mn (⊥ : EReal) (b4 q) (bn k) (b4 kn) := rfl

theorem o1 : k0_pay26 (k0_pay18 v) (k0_pay19 vn) (k0_pay23 Mc Mn q k kn) (k0_pay24 Mc Mn q k kn)
    = Head.out shapes Mc Mn (⊥ : EReal) (b4 q) (bn k) (bn v) (b4 kn) (b4 vn) := rfl

theorem l1 : k0_pay27 (k0_pay22 Mc Mn q k kn) (k0_pay23 Mc Mn q k kn) (k0_pay24 Mc Mn q k kn)
    = Head.lg shapes Mc Mn (⊥ : EReal) (b4 q) (bn k) (b4 kn) := rfl

theorem o2 : k0_pay38 Mc Mn (k0_pay28 q) (k0_pay29 k) (k0_pay30 v) (k0_pay31 kn) vn
    = Head.out shapes Mc Mn (⊥ : EReal) (b4 q) (bn k) (bn v) (b4 kn) (b4 vn) := rfl

theorem l2 : k0_pay40 (k0_pay39 Mc Mn (k0_pay28 q) (k0_pay29 k) (k0_pay31 kn))
    = Head.lg shapes Mc Mn (⊥ : EReal) (b4 q) (bn k) (b4 kn) := rfl

theorem o3 : k0_pay50 (k0_pay42 v) (k0_pay43 vn) (k0_pay44 Mc q k) (k0_pay45 Mn q kn) (k0_pay46 Mc Mn q k kn)
    = Head.out shapes Mc Mn (⊥ : EReal) (b4 q) (bn k) (bn v) (b4 kn) (b4 vn) := rfl

theorem l3 : k0_pay51 (k0_pay44 Mc q k) (k0_pay45 Mn q kn) (k0_pay46 Mc Mn q k kn)
    = Head.lg shapes Mc Mn (⊥ : EReal) (b4 q) (bn k) (b4 kn) := rfl

end heads

/-! The parts of the three input blocks a head loads. -/

/-- The lanes of head `h` in the query block. -/
def qr (h : Fin 4) : Rect S1x4x512 := Rect.unit ![0, 0, 128 * h.val] ![1, 4, 128] (by
  have := h.isLt
  intro a
  match a with
  | ⟨0, _⟩ => exact Nat.le_refl 1
  | ⟨1, _⟩ => exact Nat.le_refl 4
  | ⟨2, _⟩ => show 128 * h.val + 128 ≤ 512; omega)

/-- Rows `s`, `s + 8`, … of the cache block: head `s`'s keys if `s < 4`, else head `s - 4`'s values. -/
def cr (s : Fin 8) : LoadRect S1x1024x128 where
  off := ![0, s.val, 0]
  size := ![1, 128, 128]
  stride := ![1, 8, 1]
  inb := by
    revert s
    decide

/-- Rows `s`, `s + 8`, … of the block of new rows. -/
def nr (s : Fin 8) : LoadRect S1x32x128 where
  off := ![0, s.val, 0]
  size := ![1, 4, 128]
  stride := ![1, 8, 1]
  inb := by
    revert s
    decide

variable (c : Dev nD) (t : Fin cfg0.N)
variable (X0 : Vec Ideal S1x4x512 .f32) (X1 : Vec Ideal S1x1024x128 .f32) (X2 : Vec Ideal S1x32x128 .f32)

/-- The queries of head `h`. -/
def qh (h : Fin 4) : Vec Ideal S1x4x128 .f32 := View.ld X0 (qr h)

/-- Head `s`'s cached keys, or head `s - 4`'s cached values. -/
def ch (s : Fin 8) : Vec Ideal S1x128x128 .f32 := fun x => X1 ((cr s).idx x)

/-- Head `s`'s new keys, or head `s - 4`'s new values. -/
def nh (s : Fin 8) : Vec Ideal S1x4x128 .f32 := fun x => X2 ((nr s).idx x)

theorem qh_apply (h t : Fin 4) (e : Fin 128) : b4 (qh X0 h) (ix2 t e) = X0 (ix3 0 t ⟨h.val * 128 + e.val, by omega⟩) := by
  rw [b4_apply]
  refine congrArg X0 (funext fun a => Fin.ext ?_)
  match a with
  | ⟨0, _⟩ => rfl
  | ⟨1, _⟩ => show 0 + 1 * t.val = t.val; omega
  | ⟨2, _⟩ => show 128 * h.val + 1 * e.val = h.val * 128 + e.val; omega

theorem ch_apply (s : Fin 8) (j e : Fin 128) : bn (ch X1 s) (ix2 j e) = X1 (ix3 0 ⟨j.val * 8 + s.val, by omega⟩ e) := by
  rw [bn_apply]
  refine congrArg X1 (funext fun a => Fin.ext ?_)
  match a with
  | ⟨0, _⟩ => rfl
  | ⟨1, _⟩ => show s.val + 8 * j.val = j.val * 8 + s.val; omega
  | ⟨2, _⟩ => show 0 + 1 * e.val = e.val; omega

theorem nh_apply (s : Fin 8) (j : Fin 4) (e : Fin 128) : b4 (nh X2 s) (ix2 j e) = X2 (ix3 0 ⟨j.val * 8 + s.val, by omega⟩ e) := by
  rw [b4_apply]
  refine congrArg X2 (funext fun a => Fin.ext ?_)
  match a with
  | ⟨0, _⟩ => rfl
  | ⟨1, _⟩ => show s.val + 8 * j.val = j.val * 8 + s.val; omega
  | ⟨2, _⟩ => show 0 + 1 * e.val = e.val; omega

theorem ch_load (M : Memref sig .tc .vmem S1x1024x128 .f32) (hM : M.IsWhole) (s : Fin 8) :
    M.view.readAt (Elt Ideal) (cr s) (hM.unread X1) = ch X1 s :=
  funext fun x => congrFun (hM.read_unread (Val := Elt Ideal) X1) ((cr s).idx x)

theorem nh_load (M : Memref sig .tc .vmem S1x32x128 .f32) (hM : M.IsWhole) (s : Fin 8) :
    M.view.readAt (Elt Ideal) (nr s) (hM.unread X2) = nh X2 s :=
  funext fun x => congrFun (hM.read_unread (Val := Elt Ideal) X2) ((nr s).idx x)

section loads

variable (M1 : Memref sig .tc .vmem S1x1024x128 .f32) (h1 : M1.IsWhole) (M2 : Memref sig .tc .vmem S1x32x128 .f32) (h2 : M2.IsWhole)

theorem q0 : View.ld X0 (Rect.unit (s := S1x4x512) ![0, 0, 0] ![1, 4, 128] inb_S1x4x512_S1x4x128_0_0_0) = qh X0 0 := rfl

theorem q1 : View.ld X0 (Rect.unit (s := S1x4x512) ![0, 0, 128] ![1, 4, 128] inb_S1x4x512_S1x4x128_0_0_128) = qh X0 1 := rfl

theorem q2 : View.ld X0 (Rect.unit (s := S1x4x512) ![0, 0, 256] ![1, 4, 128] inb_S1x4x512_S1x4x128_0_0_256) = qh X0 2 := rfl

theorem q3 : View.ld X0 (Rect.unit (s := S1x4x512) ![0, 0, 384] ![1, 4, 128] inb_S1x4x512_S1x4x128_0_0_384) = qh X0 3 := rfl

theorem c0 : M1.view.readAt (Elt Ideal) (⟨![0, 0, 0], ![1, 128, 128], ![1, 8, 1], inb_S1x1024x128_S1x128x128_0_0_0_s_1_8_1⟩ : LoadRect S1x1024x128) (h1.unread X1) = ch X1 0 :=
  ch_load X1 M1 h1 0

theorem n0 : M2.view.readAt (Elt Ideal) (⟨![0, 0, 0], ![1, 4, 128], ![1, 8, 1], inb_S1x32x128_S1x4x128_0_0_0_s_1_8_1⟩ : LoadRect S1x32x128) (h2.unread X2) = nh X2 0 :=
  nh_load X2 M2 h2 0

theorem c1 : M1.view.readAt (Elt Ideal) (⟨![0, 1, 0], ![1, 128, 128], ![1, 8, 1], inb_S1x1024x128_S1x128x128_0_1_0_s_1_8_1⟩ : LoadRect S1x1024x128) (h1.unread X1) = ch X1 1 :=
  ch_load X1 M1 h1 1

theorem n1 : M2.view.readAt (Elt Ideal) (⟨![0, 1, 0], ![1, 4, 128], ![1, 8, 1], inb_S1x32x128_S1x4x128_0_1_0_s_1_8_1⟩ : LoadRect S1x32x128) (h2.unread X2) = nh X2 1 :=
  nh_load X2 M2 h2 1

theorem c2 : M1.view.readAt (Elt Ideal) (⟨![0, 2, 0], ![1, 128, 128], ![1, 8, 1], inb_S1x1024x128_S1x128x128_0_2_0_s_1_8_1⟩ : LoadRect S1x1024x128) (h1.unread X1) = ch X1 2 :=
  ch_load X1 M1 h1 2

theorem n2 : M2.view.readAt (Elt Ideal) (⟨![0, 2, 0], ![1, 4, 128], ![1, 8, 1], inb_S1x32x128_S1x4x128_0_2_0_s_1_8_1⟩ : LoadRect S1x32x128) (h2.unread X2) = nh X2 2 :=
  nh_load X2 M2 h2 2

theorem c3 : M1.view.readAt (Elt Ideal) (⟨![0, 3, 0], ![1, 128, 128], ![1, 8, 1], inb_S1x1024x128_S1x128x128_0_3_0_s_1_8_1⟩ : LoadRect S1x1024x128) (h1.unread X1) = ch X1 3 :=
  ch_load X1 M1 h1 3

theorem n3 : M2.view.readAt (Elt Ideal) (⟨![0, 3, 0], ![1, 4, 128], ![1, 8, 1], inb_S1x32x128_S1x4x128_0_3_0_s_1_8_1⟩ : LoadRect S1x32x128) (h2.unread X2) = nh X2 3 :=
  nh_load X2 M2 h2 3

theorem c4 : M1.view.readAt (Elt Ideal) (⟨![0, 4, 0], ![1, 128, 128], ![1, 8, 1], inb_S1x1024x128_S1x128x128_0_4_0_s_1_8_1⟩ : LoadRect S1x1024x128) (h1.unread X1) = ch X1 4 :=
  ch_load X1 M1 h1 4

theorem n4 : M2.view.readAt (Elt Ideal) (⟨![0, 4, 0], ![1, 4, 128], ![1, 8, 1], inb_S1x32x128_S1x4x128_0_4_0_s_1_8_1⟩ : LoadRect S1x32x128) (h2.unread X2) = nh X2 4 :=
  nh_load X2 M2 h2 4

theorem c5 : M1.view.readAt (Elt Ideal) (⟨![0, 5, 0], ![1, 128, 128], ![1, 8, 1], inb_S1x1024x128_S1x128x128_0_5_0_s_1_8_1⟩ : LoadRect S1x1024x128) (h1.unread X1) = ch X1 5 :=
  ch_load X1 M1 h1 5

theorem n5 : M2.view.readAt (Elt Ideal) (⟨![0, 5, 0], ![1, 4, 128], ![1, 8, 1], inb_S1x32x128_S1x4x128_0_5_0_s_1_8_1⟩ : LoadRect S1x32x128) (h2.unread X2) = nh X2 5 :=
  nh_load X2 M2 h2 5

theorem c6 : M1.view.readAt (Elt Ideal) (⟨![0, 6, 0], ![1, 128, 128], ![1, 8, 1], inb_S1x1024x128_S1x128x128_0_6_0_s_1_8_1⟩ : LoadRect S1x1024x128) (h1.unread X1) = ch X1 6 :=
  ch_load X1 M1 h1 6

theorem n6 : M2.view.readAt (Elt Ideal) (⟨![0, 6, 0], ![1, 4, 128], ![1, 8, 1], inb_S1x32x128_S1x4x128_0_6_0_s_1_8_1⟩ : LoadRect S1x32x128) (h2.unread X2) = nh X2 6 :=
  nh_load X2 M2 h2 6

theorem c7 : M1.view.readAt (Elt Ideal) (⟨![0, 7, 0], ![1, 128, 128], ![1, 8, 1], inb_S1x1024x128_S1x128x128_0_7_0_s_1_8_1⟩ : LoadRect S1x1024x128) (h1.unread X1) = ch X1 7 :=
  ch_load X1 M1 h1 7

theorem n7 : M2.view.readAt (Elt Ideal) (⟨![0, 7, 0], ![1, 4, 128], ![1, 8, 1], inb_S1x32x128_S1x4x128_0_7_0_s_1_8_1⟩ : LoadRect S1x32x128) (h2.unread X2) = nh X2 7 :=
  nh_load X2 M2 h2 7

end loads

/-- Head `h`'s output from the three blocks. -/
def ob (h : Fin 4) : FVec Ideal S1x4x128 .f32 :=
  Head.out shapes k0_pay2 k0_pay3 (⊥ : EReal) (b4 (qh X0 h)) (bn (ch X1 ⟨h.val, by omega⟩)) (bn (ch X1 ⟨4 + h.val, by omega⟩))
    (b4 (nh X2 ⟨h.val, by omega⟩)) (b4 (nh X2 ⟨4 + h.val, by omega⟩))

/-- Head `h`'s log-sum-exp from the three blocks. -/
def lb (h : Fin 4) : FVec Ideal S1x4x128 .f32 :=
  Head.lg shapes k0_pay2 k0_pay3 (⊥ : EReal) (b4 (qh X0 h)) (bn (ch X1 ⟨h.val, by omega⟩)) (b4 (nh X2 ⟨h.val, by omega⟩))

/-- Head `k`'s part of a block. -/
def part (G : Fin 4 → FVec Ideal S1x4x128 .f32) (k : Fin 4) : View.Piece (Elt Ideal) S1x4x512 .f32 := ⟨qr k, G k⟩

/-- The four heads' parts of a block, set side by side. -/
def four (G : Fin 4 → FVec Ideal S1x4x128 .f32) : Vec Ideal S1x4x512 .f32 :=
  View.canon [part G 3, part G 2, part G 1, part G 0]

theorem o_pieces : out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) X0 X1 X2 = four (ob X0 X1 X2) := by
  unfold out0_A_4
  rw [View.read_writes_eq_canon _ _ _ (cover0_A_4 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [o0, o1, o2, o3, q0, q1, q2, q3, c0, c1, c2, c3, c4, c5, c6, c7, n0, n1, n2, n3, n4, n5, n6, n7]
  unfold four
  rfl

theorem l_pieces : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) X0 X1 X2 = four (lb X0 X1 X2) := by
  unfold out0_A_5
  rw [View.read_writes_eq_canon _ _ _ (cover0_A_5 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [l0, l1, l2, l3, q0, q1, q2, q3, c0, c1, c2, c3, n0, n1, n2, n3]
  unfold four
  rfl

end Cert.Samp0Kernel

end
-- ==== Proof.Samp0.lean ====
/- The arrays the attention kernel over the cache of 128 rows leaves, as functions of its two arguments. -/
module

public import proofs.«01_k».proof.Proof.Samp0Kernel
public import Idealize.ShloMosaic.Lib.Pipeline.ValueKit.Geometry

@[expose] public section

noncomputable section

namespace Cert.Samp0Run

open Idealize.ShloMosaic Idealize.ShloMosaic.TcCoe Idealize.ShloMosaic.ValueIdx Cert.Softmax Cert.Attn Cert.HeadAttn Cert.Samp0Kernel
open Cert.Samp0Ideal Cert.Samp0Ideal.Gen Cert.Samp0Ideal.Value Idealize.SL.Sem
open scoped BigOperators

/-! ## The masks -/

theorem masks : Masks 128 1 (k0_pay2) (k0_pay3) where
  c := by
    intro t j
    revert t j
    unfold k0_pay2
    decide +kernel
  w := by
    intro t j
    revert t j
    unfold k0_pay3
    decide +kernel

/-! ## The four heads of a block -/

theorem four_apply (G : Fin 4 → FVec Ideal S1x4x128 .f32) (t h : Fin 4) (e : Fin 128) :
    four G (ix3 0 t ⟨h.val * 128 + e.val, by omega⟩) = G h (ix3 0 t e) := by
  let Q : S1x4x512.Idx → EReal := fun y => G ⟨(y 2).val / 128, by have : (y 2).val < 512 := (y 2).isLt; omega⟩
    (ix3 0 (y 1) ⟨(y 2).val % 128, Nat.mod_lt _ (by decide)⟩)
  have piece : ∀ (k : Fin 4) (x : S1x4x128.Idx), G k x = Q ((qr k).emb x) := by
    intro k x
    have hx : (x 2).val < 128 := (x 2).isLt
    have h0 : x = ix3 0 (x 1) (x 2) := by
      refine funext fun a => Fin.ext ?_
      match a with
      | ⟨0, _⟩ => have : (x 0).val < 1 := (x 0).isLt
                  show (x 0).val = 0
                  omega
      | ⟨1, _⟩ => rfl
      | ⟨2, _⟩ => rfl
    conv_lhs => rw [h0]
    show G k _ = G ⟨(128 * k.val + 1 * (x 2).val) / 128, _⟩ (ix3 0 _ ⟨(128 * k.val + 1 * (x 2).val) % 128, _⟩)
    have hk : (⟨(128 * k.val + 1 * (x 2).val) / 128, by omega⟩ : Fin 4) = k := Fin.ext (by show (128 * k.val + 1 * (x 2).val) / 128 = k.val; omega)
    rw [hk]
    refine congrArg (G k) (funext fun a => Fin.ext ?_)
    match a with
    | ⟨0, _⟩ => rfl
    | ⟨1, _⟩ => show (x 1).val = 0 + 1 * (x 1).val; omega
    | ⟨2, _⟩ => show (x 2).val = (128 * k.val + 1 * (x 2).val) % 128; omega
  have cov : (ix3 0 t ⟨h.val * 128 + e.val, by omega⟩ : S1x4x512.Idx) ∈ (part G h).1.set := by
    have hi : (ix3 0 t ⟨h.val * 128 + e.val, by omega⟩ : S1x4x512.Idx) = (qr h).idx (ix3 0 t e) := by
      refine funext fun a => Fin.ext ?_
      match a with
      | ⟨0, _⟩ => rfl
      | ⟨1, _⟩ => show t.val = 0 + 1 * t.val; omega
      | ⟨2, _⟩ => show h.val * 128 + e.val = 128 * h.val + 1 * e.val; omega
    rw [hi]
    exact (qr h).idx_mem _
  have hQ : Q (ix3 0 t ⟨h.val * 128 + e.val, by omega⟩) = G h (ix3 0 t e) := by
    show G ⟨(h.val * 128 + e.val) / 128, _⟩ (ix3 0 t ⟨(h.val * 128 + e.val) % 128, _⟩) = _
    have hk : (⟨(h.val * 128 + e.val) / 128, by omega⟩ : Fin 4) = h := Fin.ext (by show (h.val * 128 + e.val) / 128 = h.val; omega)
    have he : (⟨(h.val * 128 + e.val) % 128, by omega⟩ : Fin 128) = e := Fin.ext (by show (h.val * 128 + e.val) % 128 = e.val; omega)
    rw [hk, he]
  have mem : ∀ k : Fin 4, part G k ∈ [part G 3, part G 2, part G 1, part G 0] := by
    intro k
    match k with
    | ⟨0, _⟩ => exact .tail _ (.tail _ (.tail _ (.head _)))
    | ⟨1, _⟩ => exact .tail _ (.tail _ (.head _))
    | ⟨2, _⟩ => exact .tail _ (.head _)
    | ⟨3, _⟩ => exact .head _
  have all : ∀ p ∈ [part G 3, part G 2, part G 1, part G 0], ∀ x, p.2 x = Q (p.1.emb x) := by
    intro p hp
    simp only [List.mem_cons, List.not_mem_nil, or_false] at hp
    have : ∃ k, p = part G k := by
      rcases hp with h | h | h | h
      · exact ⟨_, h⟩
      · exact ⟨_, h⟩
      · exact ⟨_, h⟩
      · exact ⟨_, h⟩
    obtain ⟨k, rfl⟩ := this
    exact piece k
  exact (View.canon_apply_of_pieces (Val := Elt Ideal) (S := S1x4x512) (e := .f32) Q _ all _ ⟨_, mem h, cov⟩).trans hQ

/-! ## The blocks of the two arguments -/

/-- The three input blocks are batch `b`'s part of the two arguments. -/
structure Blocks (x0 : Rows) (x1 : Cache 128) (b : Fin 32) (X0 : Vec Ideal S1x4x512 .f32) (X1 : Vec Ideal S1x1024x128 .f32)
    (X2 : Vec Ideal S1x32x128 .f32) : Prop where
  q : ∀ (t h : Fin 4) (e : Fin 128), X0 (ix3 0 t ⟨h.val * 128 + e.val, by omega⟩) = proj x0 0 0 b t h e
  c : ∀ (j : Fin 128) (w : Fin 2) (h : Fin 4) (e : Fin 128), X1 (ix3 0 ⟨j.val * 8 + w.val * 4 + h.val, by omega⟩ e) = x1 (ix6 0 b j w h e)
  n : ∀ (j : Fin 4) (w : Fin 2) (h : Fin 4) (e : Fin 128), X2 (ix3 0 ⟨j.val * 8 + w.val * 4 + h.val, by omega⟩ e) = proj x0 0 ⟨w.val + 1, by omega⟩ b j h e

section block

variable {x0 : Rows} {x1 : Cache 128} {b : Fin 32} {X0 : Vec Ideal S1x4x512 .f32} {X1 : Vec Ideal S1x1024x128 .f32}
  {X2 : Vec Ideal S1x32x128 .f32} (B : Blocks x0 x1 b X0 X1 X2)

include B

theorem cached (j : Fin 128) (w : Fin 2) (h : Fin 4) (s : Fin 8) (hs : s.val = w.val * 4 + h.val) (e : Fin 128) :
    bn (ch X1 s) (ix2 j e) = row x0 x1 0 b j.val w h e := by
  rw [ch_apply]
  unfold row
  rw [dif_pos j.isLt]
  refine Eq.trans (congrArg X1 ?_) (B.c j w h e)
  exact congrArg (fun r => (ix3 0 r e : S1x1024x128.Idx)) (Fin.ext (by show j.val * 8 + s.val = j.val * 8 + w.val * 4 + h.val; omega))

theorem fresh (j : Fin 4) (w : Fin 2) (h : Fin 4) (s : Fin 8) (hs : s.val = w.val * 4 + h.val) (e : Fin 128) :
    b4 (nh X2 s) (ix2 j e) = row x0 x1 0 b (128 + j.val) w h e := by
  rw [nh_apply]
  unfold row
  rw [dif_neg (by omega)]
  have hj : (⟨(128 + j.val - 128) % 4, Nat.mod_lt _ (by decide)⟩ : Fin 4) = j := Fin.ext (by show (128 + j.val - 128) % 4 = j.val; omega)
  refine Eq.trans (congrArg X2 ?_) ((B.n j w h e).trans ?_)
  · exact congrArg (fun r => (ix3 0 r e : S1x32x128.Idx)) (Fin.ext (by show j.val * 8 + s.val = j.val * 8 + w.val * 4 + h.val; omega))
  · exact congrArg (fun j => proj x0 0 _ b j h e) hj.symm

theorem operands (h : Fin 4) : Operands 128 x0 x1 0 b h (b4 (qh X0 h)) (bn (ch X1 ⟨h.val, by omega⟩)) (bn (ch X1 ⟨4 + h.val, by omega⟩))
    (b4 (nh X2 ⟨h.val, by omega⟩)) (b4 (nh X2 ⟨4 + h.val, by omega⟩)) where
  q t e := (qh_apply X0 h t e).trans (B.q t h e)
  k j e := cached B j 0 h _ (by show h.val = 0 * 4 + h.val; omega) e
  v j e := cached B j 1 h _ (by show 4 + h.val = 1 * 4 + h.val; omega) e
  kn j e := fresh B j 0 h _ (by show h.val = 0 * 4 + h.val; omega) e
  vn j e := fresh B j 1 h _ (by show 4 + h.val = 1 * 4 + h.val; omega) e

/-- The block of outputs is the attention of the queries. -/
theorem o_block (h0 : ∀ i, IsReal (x0 i)) (h1 : ∀ i, IsReal (x1 i)) (t h : Fin 4) (e : Fin 128) :
    four (ob X0 X1 X2) (ix3 0 t ⟨h.val * 128 + e.val, by omega⟩) = Attn.out x0 x1 0 1 b t h e := by
  rw [four_apply]
  unfold ob
  exact out_eq (d := 1) (by decide) rfl masks shapes (operands B h) h0 h1 0 t e

/-- The block of log-sum-exps is the attention's. -/
theorem l_block (t h : Fin 4) (e : Fin 128) :
    four (lb X0 X1 X2) (ix3 0 t ⟨h.val * 128 + e.val, by omega⟩) = lse (sco x0 x1 0 1 b t h) := by
  rw [four_apply]
  unfold lb
  exact lg_eq (d := 1) (by decide) rfl masks shapes (operands B h) 0 t e

/-- The block of the new buffer: the cached rows from the fifth on, then the new ones. -/
def nb (X1 : Vec Ideal S1x1024x128 .f32) (X2 : Vec Ideal S1x32x128 .f32) : Vec Ideal S1x1024x128 .f32 :=
  View.canon [
    ⟨Rect.unit ![0, 992, 0] ![1, 32, 128] inb_S1x1024x128_S1x32x128_0_992_0,
      k0_pay1 (k0_pay53 (View.ld X2 (Rect.unit ![0, 0, 0] ![1, 32, 128] inb_S1x32x128_S1x32x128_0_0_0)))⟩,
    ⟨Rect.unit ![0, 0, 0] ![1, 992, 128] inb_S1x1024x128_S1x992x128_0_0_0,
      k0_pay52 (View.ld X1 (Rect.unit ![0, 32, 0] ![1, 992, 128] inb_S1x1024x128_S1x992x128_0_32_0))⟩]

omit B in
theorem back_apply {p q : ℕ} (h : (⟨3, ![1, p, q]⟩ : Shape).ShapeCasts ⟨2, ![p, q]⟩) (h' : (⟨2, ![p, q]⟩ : Shape).ShapeCasts ⟨3, ![1, p, q]⟩)
    (x : FVec Ideal ⟨3, ![1, p, q]⟩ .f32) (i : Fin p) (j : Fin q) :
    shapeCast ⟨3, ![1, p, q]⟩ (shapeCast ⟨2, ![p, q]⟩ x h) h' (ix3 0 i j) = x (ix3 0 i j) := by
  refine (shapeCast_apply _ h' (ix3 0 i j) (ix2 i j) ?_).trans (cast_apply h x i j)
  rw [Shape.rowMajor_val_two, Shape.rowMajor_val_three]
  show i.val * q + j.val = (0 * p + i.val) * q + j.val
  rw [Nat.zero_mul, Nat.zero_add]

omit B in
theorem idx_eq {p q : ℕ} (x : (⟨3, ![1, p, q]⟩ : Shape).Idx) : x = ix3 0 (x 1) (x 2) := by
  refine funext fun a => Fin.ext ?_
  match a with
  | ⟨0, _⟩ => have : (x 0).val < 1 := (x 0).isLt
              show (x 0).val = 0
              omega
  | ⟨1, _⟩ => rfl
  | ⟨2, _⟩ => rfl

omit B in
theorem new_pay (v : Vec Ideal S1x32x128 .f32) (i : Fin 32) (j : Fin 128) : k0_pay1 (F := Ideal) (k0_pay53 v) (ix3 0 i j) = v (ix3 0 i j) := by
  unfold k0_pay1 k0_pay53
  exact back_apply (p := 32) (q := 128) _ _ v i j

omit B in
theorem old_pay (v : Vec Ideal S1x992x128 .f32) (i : Fin 992) (j : Fin 128) : k0_pay52 (F := Ideal) v (ix3 0 i j) = v (ix3 0 i j) := by
  unfold k0_pay52
  exact back_apply (p := 992) (q := 128) _ _ v i j

/-- Row `r` of a batch's new buffer: of row `r / 8 + 4` of the cache with the new rows appended, the head's key or value. -/
def shifted (x0 : Rows) (x1 : Cache 128) (b : Fin 32) (r : Fin 1024) (e : Fin 128) : EReal :=
  row x0 x1 0 b (r.val / 8 + 4) ⟨r.val % 8 / 4, by omega⟩ ⟨r.val % 4, by omega⟩ e

theorem new_row (r : Fin 32) (e : Fin 128) : X2 (ix3 0 r e) = shifted x0 x1 b ⟨992 + r.val, by omega⟩ e := by
  have hB := B.n ⟨r.val / 8, by omega⟩ ⟨r.val % 8 / 4, by omega⟩ ⟨r.val % 4, by omega⟩ e
  have hr : (⟨r.val / 8 * 8 + r.val % 8 / 4 * 4 + r.val % 4, by omega⟩ : Fin 32) = r := Fin.ext (by show r.val / 8 * 8 + r.val % 8 / 4 * 4 + r.val % 4 = r.val; omega)
  rw [hr] at hB
  rw [hB]
  unfold shifted row
  rw [dif_neg (by show ¬ (992 + r.val) / 8 + 4 < 128; omega)]
  have e1 : (⟨r.val % 8 / 4, by omega⟩ : Fin 2) = ⟨(992 + r.val) % 8 / 4, by omega⟩ := Fin.ext (by show r.val % 8 / 4 = (992 + r.val) % 8 / 4; omega)
  have e2 : (⟨r.val / 8, by omega⟩ : Fin 4) = ⟨((992 + r.val) / 8 + 4 - 128) % 4, by omega⟩ := Fin.ext (by show r.val / 8 = ((992 + r.val) / 8 + 4 - 128) % 4; omega)
  have e3 : (⟨r.val % 4, by omega⟩ : Fin 4) = ⟨(992 + r.val) % 4, by omega⟩ := Fin.ext (by show r.val % 4 = (992 + r.val) % 4; omega)
  have e4 : (⟨r.val % 8 / 4 + 1, by omega⟩ : Fin 3) = ⟨(992 + r.val) % 8 / 4 + 1, by omega⟩ := Fin.ext (by show r.val % 8 / 4 + 1 = (992 + r.val) % 8 / 4 + 1; omega)
  show proj x0 0 ⟨r.val % 8 / 4 + 1, _⟩ b ⟨r.val / 8, _⟩ ⟨r.val % 4, _⟩ e = proj x0 0 ⟨(992 + r.val) % 8 / 4 + 1, _⟩ b ⟨((992 + r.val) / 8 + 4 - 128) % 4, _⟩ ⟨(992 + r.val) % 4, _⟩ e
  rw [e2, e3, e4]

theorem old_row (r : Fin 992) (e : Fin 128) : X1 (ix3 0 ⟨32 + r.val, by omega⟩ e) = shifted x0 x1 b ⟨r.val, by omega⟩ e := by
  have hB := B.c ⟨r.val / 8 + 4, by omega⟩ ⟨r.val % 8 / 4, by omega⟩ ⟨r.val % 4, by omega⟩ e
  have hr : (⟨(r.val / 8 + 4) * 8 + r.val % 8 / 4 * 4 + r.val % 4, by omega⟩ : Fin 1024) = ⟨32 + r.val, by omega⟩ := Fin.ext (by show (r.val / 8 + 4) * 8 + r.val % 8 / 4 * 4 + r.val % 4 = 32 + r.val; omega)
  refine (congrArg (fun k => X1 (ix3 0 k e)) hr).symm.trans (hB.trans ?_)
  unfold shifted row
  rw [dif_pos (by show r.val / 8 + 4 < 128; omega)]

/-- The block of the new buffer holds the rows of the cache with the new ones appended, from the fifth on. -/
theorem n_block (r : Fin 1024) (e : Fin 128) : nb X1 X2 (ix3 0 r e) = shifted x0 x1 b r e := by
  let Q : S1x1024x128.Idx → EReal := fun y => shifted x0 x1 b (y 1) (y 2)
  have hl : ∀ (x : S1x32x128.Idx), (k0_pay1 (F := Ideal) (k0_pay53 (View.ld X2 (Rect.unit ![0, 0, 0] ![1, 32, 128] inb_S1x32x128_S1x32x128_0_0_0)))) x
      = Q ((Rect.unit (s := S1x1024x128) ![0, 992, 0] ![1, 32, 128] inb_S1x1024x128_S1x32x128_0_992_0).emb x) := by
    intro x
    have hi : (Rect.unit (s := S1x1024x128) ![0, 992, 0] ![1, 32, 128] inb_S1x1024x128_S1x32x128_0_992_0).emb x = ix3 0 ⟨992 + (x 1).val, by have : (x 1).val < 32 := (x 1).isLt; omega⟩ (x 2) := by
      refine funext fun a => Fin.ext ?_
      match a with
      | ⟨0, _⟩ => have : (x 0).val < 1 := (x 0).isLt
                  show 0 + 1 * (x 0).val = 0
                  omega
      | ⟨1, _⟩ => show 992 + 1 * (x 1).val = 992 + (x 1).val; omega
      | ⟨2, _⟩ => show 0 + 1 * (x 2).val = (x 2).val; omega
    refine Eq.trans ?_ ((new_row B (x 1) (x 2)).trans (congrArg Q hi).symm)
    conv_lhs => rw [idx_eq x]
    refine Eq.trans (new_pay _ (x 1) (x 2)) ?_
    refine congrArg X2 (funext fun a => Fin.ext ?_)
    match a with
    | ⟨0, _⟩ => rfl
    | ⟨1, _⟩ => show 0 + 1 * (x 1).val = (x 1).val; omega
    | ⟨2, _⟩ => show 0 + 1 * (x 2).val = (x 2).val; omega
  have hr : ∀ (x : S1x992x128.Idx), (k0_pay52 (F := Ideal) (View.ld X1 (Rect.unit ![0, 32, 0] ![1, 992, 128] inb_S1x1024x128_S1x992x128_0_32_0))) x
      = Q ((Rect.unit (s := S1x1024x128) ![0, 0, 0] ![1, 992, 128] inb_S1x1024x128_S1x992x128_0_0_0).emb x) := by
    intro x
    have hi : (Rect.unit (s := S1x1024x128) ![0, 0, 0] ![1, 992, 128] inb_S1x1024x128_S1x992x128_0_0_0).emb x = ix3 0 ⟨(x 1).val, by have : (x 1).val < 992 := (x 1).isLt; omega⟩ (x 2) := by
      refine funext fun a => Fin.ext ?_
      match a with
      | ⟨0, _⟩ => have : (x 0).val < 1 := (x 0).isLt
                  show 0 + 1 * (x 0).val = 0
                  omega
      | ⟨1, _⟩ => show 0 + 1 * (x 1).val = (x 1).val; omega
      | ⟨2, _⟩ => show 0 + 1 * (x 2).val = (x 2).val; omega
    refine Eq.trans ?_ ((old_row B (x 1) (x 2)).trans (congrArg Q hi).symm)
    conv_lhs => rw [idx_eq x]
    refine Eq.trans (old_pay _ (x 1) (x 2)) ?_
    refine congrArg X1 (funext fun a => Fin.ext ?_)
    match a with
    | ⟨0, _⟩ => rfl
    | ⟨1, _⟩ => show 32 + 1 * (x 1).val = 32 + (x 1).val; omega
    | ⟨2, _⟩ => show 0 + 1 * (x 2).val = (x 2).val; omega
  unfold nb
  refine View.canon_apply_of_pieces (Val := Elt Ideal) (S := S1x1024x128) (e := .f32) Q _ ?_ (ix3 0 r e) ?_
  · intro p hp
    simp only [List.mem_cons, List.not_mem_nil, or_false] at hp
    rcases hp with h | h
    · subst h
      exact hl
    · subst h
      exact hr
  · by_cases hlt : r.val < 992
    · refine ⟨_, .tail _ (.head _), ?_⟩
      have hi : (ix3 0 r e : S1x1024x128.Idx) = (Rect.unit (s := S1x1024x128) ![0, 0, 0] ![1, 992, 128] inb_S1x1024x128_S1x992x128_0_0_0).idx (ix3 0 ⟨r.val, hlt⟩ e) := by
        refine funext fun a => Fin.ext ?_
        match a with
        | ⟨0, _⟩ => rfl
        | ⟨1, _⟩ => show r.val = 0 + 1 * r.val; omega
        | ⟨2, _⟩ => show e.val = 0 + 1 * e.val; omega
      rw [hi]
      exact LoadRect.idx_mem _ _
    · refine ⟨_, .head _, ?_⟩
      have hi : (ix3 0 r e : S1x1024x128.Idx) = (Rect.unit (s := S1x1024x128) ![0, 992, 0] ![1, 32, 128] inb_S1x1024x128_S1x32x128_0_992_0).idx (ix3 0 ⟨r.val - 992, by omega⟩ e) := by
        refine funext fun a => Fin.ext ?_
        match a with
        | ⟨0, _⟩ => rfl
        | ⟨1, _⟩ => show r.val = 992 + 1 * (r.val - 992); omega
        | ⟨2, _⟩ => show e.val = 0 + 1 * e.val; omega
      rw [hi]
      exact LoadRect.idx_mem _ _

end block

theorem n_pieces (c : Dev nD) (t : Fin cfg0.N) (X0 : Vec Ideal S1x4x512 .f32) (X1 : Vec Ideal S1x1024x128 .f32) (X2 : Vec Ideal S1x32x128 .f32) :
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) X0 X1 X2 = nb X1 X2 := by
  unfold out0_A_3
  rw [View.read_writes_eq_canon _ _ _ (cover0_A_3 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rfl

/-! ## The arrays the windows read -/

variable (m : (ℓ : Loc nD τ sig) → Buf (Elt Ideal) ℓ) (ρ : Dev nD → PrngReg)

/-- The two arguments. -/
abbrev arg0 (c : Dev nD) : Rows := m ((c : Thread nD τ).loc main_arg0)
abbrev arg1 (c : Dev nD) : Cache 128 := m ((c : Thread nD τ).loc main_arg1)

theorem V0_eq (c : Dev nD) : V m c main_v0 = shapeCast S32x4x4608 (arg0 m c) shapeCasts_S128x4608_S32x4x4608 := by
  unfold_abbrev_sides
  after_results
  rfl

theorem V3_eq (c : Dev nD) : V m c main_v3 = shapeCast S32x1024x128 (shapeCast S32x128x2x4x128 (arg1 m c) shapeCasts_S1x32x128x2x4x128_S32x128x2x4x128) shapeCasts_S32x128x2x4x128_S32x1024x128 := by
  unfold_abbrev_sides
  after_results
  rfl

theorem V6_eq (c : Dev nD) : V m c main_v6 = shapeCast S32x32x128 (shapeCast S32x4x2x4x128
    (extractStridedSlice S32x4x2x1x4x128 ![0, 0, 1, 0, 0, 0] (shapeCast S32x4x3x3x4x128 (arg0 m c) shapeCasts_S128x4608_S32x4x3x3x4x128)
      slices_S32x4x3x3x4x128_S32x4x2x1x4x128_0_0_1_0_0_0) shapeCasts_S32x4x2x1x4x128_S32x4x2x4x128) shapeCasts_S32x4x2x4x128_S32x32x128 := by
  unfold_abbrev_sides
  after_results
  rfl

theorem V0_apply (c : Dev nD) (b : Fin 32) (t : Fin 4) (k : Fin 4608) : (V m c main_v0 : S32x4x4608.Idx → EReal) (ix3 b t k) = arg0 m c (ix2 ⟨b.val * 4 + t.val, by omega⟩ k) := by
  rw [V0_eq]
  refine shapeCast_apply _ _ _ _ ?_
  rw [Shape.rowMajor_val_two, Shape.rowMajor_val_three]
  rfl

theorem V3_apply (c : Dev nD) (b : Fin 32) (j : Fin 128) (w : Fin 2) (h : Fin 4) (e : Fin 128) :
    (V m c main_v3 : S32x1024x128.Idx → EReal) (ix3 b ⟨j.val * 8 + w.val * 4 + h.val, by omega⟩ e) = arg1 m c (ix6 0 b j w h e) := by
  rw [V3_eq]
  refine (shapeCast_apply _ _ _ (ix5 b j w h e) ?_).trans (shapeCast_apply _ _ _ (ix6 0 b j w h e) ?_)
  · rw [Shape.rowMajor_val_three, Shape.rowMajor_val_five]
    show (((b.val * 128 + j.val) * 2 + w.val) * 4 + h.val) * 128 + e.val = (b.val * 1024 + (j.val * 8 + w.val * 4 + h.val)) * 128 + e.val
    ring
  · rw [Shape.rowMajor_val_five, Shape.rowMajor_val_six]
    show ((((0 * 32 + b.val) * 128 + j.val) * 2 + w.val) * 4 + h.val) * 128 + e.val = (((b.val * 128 + j.val) * 2 + w.val) * 4 + h.val) * 128 + e.val
    ring

theorem V6_apply (c : Dev nD) (b : Fin 32) (j : Fin 4) (w : Fin 2) (h : Fin 4) (e : Fin 128) :
    (V m c main_v6 : S32x32x128.Idx → EReal) (ix3 b ⟨j.val * 8 + w.val * 4 + h.val, by omega⟩ e) = proj (arg0 m c) 0 ⟨w.val + 1, by omega⟩ b j h e := by
  rw [V6_eq]
  refine (shapeCast_apply _ _ _ (ix5 b j w h e) ?_).trans ((shapeCast_apply _ _ _ (ix6 b j w 0 h e) ?_).trans
    ((extractStridedSlice_apply _ _ _ _ (ix6 b j ⟨w.val + 1, by omega⟩ 0 h e) ?_).trans (shapeCast_apply _ _ _ _ ?_)))
  · rw [Shape.rowMajor_val_three, Shape.rowMajor_val_five]
    show (((b.val * 4 + j.val) * 2 + w.val) * 4 + h.val) * 128 + e.val = (b.val * 32 + (j.val * 8 + w.val * 4 + h.val)) * 128 + e.val
    ring
  · rw [Shape.rowMajor_val_five, Shape.rowMajor_val_six]
    show ((((b.val * 4 + j.val) * 2 + w.val) * 1 + 0) * 4 + h.val) * 128 + e.val = (((b.val * 4 + j.val) * 2 + w.val) * 4 + h.val) * 128 + e.val
    ring
  · intro a
    match a with
    | ⟨0, _⟩ => exact (Nat.zero_add _).symm
    | ⟨1, _⟩ => exact (Nat.zero_add _).symm
    | ⟨2, _⟩ => exact Nat.add_comm _ _
    | ⟨3, _⟩ => rfl
    | ⟨4, _⟩ => exact (Nat.zero_add _).symm
    | ⟨5, _⟩ => exact (Nat.zero_add _).symm
  · rw [Shape.rowMajor_val_two, Shape.rowMajor_val_six]
    show (b.val * 4 + j.val) * 4608 + ((w.val + 1) * 1536 + 0 * 512 + h.val * 128 + e.val)
      = ((((b.val * 4 + j.val) * 3 + (w.val + 1)) * 3 + 0) * 4 + h.val) * 128 + e.val
    ring

/-! ## Each point's blocks -/

/-- The batch a grid point computes. -/
def batch (t : Fin cfg0.N) : Fin 32 := ⟨t.val, t.isLt⟩

theorem index0 : ∀ t : Fin cfg0.N, win0_0.index t = ![t.val, 0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![t.val, 0, 0] := (by decide +kernel : ∀ t : Fin grid0.N, _)

theorem emb_eq {p q : ℕ} (t : Fin cfg0.N) (I : Fin 3 → ℕ) (hI : I = ![t.val, 0, 0]) (f : (⟨3, ![32, p, q]⟩ : Shape).Idx)
    (i : Fin p) (j : Fin q) (h0 : (f 0).val = I 0 * 1 + 1 * 0) (h1 : (f 1).val = I 1 * p + 1 * i.val) (h2 : (f 2).val = I 2 * q + 1 * j.val) :
    f = ix3 (batch t) i j := by
  subst hI
  refine funext fun a => Fin.ext ?_
  match a with
  | ⟨0, _⟩ => refine h0.trans ?_; show t.val * 1 + 1 * 0 = t.val; omega
  | ⟨1, _⟩ => refine h1.trans ?_; show 0 * p + 1 * i.val = i.val; omega
  | ⟨2, _⟩ => refine h2.trans ?_; show 0 * q + 1 * j.val = j.val; omega

theorem blocks (c : Dev nD) (t : Fin cfg0.N) : Blocks (arg0 m c) (arg1 m c) (batch t) (iblk m c 0 t) (iblk m c 1 t) (iblk m c 2 t) where
  q tt h e := by
    show (V m c main_v0 : S32x4x4608.Idx → EReal) (((cfg0.win 0).blk t).view.emb (ix3 0 tt ⟨h.val * 128 + e.val, _⟩)) = _
    have hi : ((cfg0.win 0).blk t).view.emb (ix3 0 tt ⟨h.val * 128 + e.val, by omega⟩) = ix3 (batch t) tt ⟨0 * 1536 + 0 * 512 + h.val * 128 + e.val, by omega⟩ := by
      have hI := index0 t
      refine funext fun a => Fin.ext ?_
      match a with
      | ⟨0, _⟩ => show win0_0.index t (0 : Fin 3) * 1 + 1 * 0 = t.val; rw [hI]; show t.val * 1 + 1 * 0 = t.val; omega
      | ⟨1, _⟩ => show win0_0.index t (1 : Fin 3) * 4 + 1 * tt.val = tt.val; rw [hI]; show 0 * 4 + 1 * tt.val = tt.val; omega
      | ⟨2, _⟩ => show win0_0.index t (2 : Fin 3) * 512 + 1 * (h.val * 128 + e.val) = 0 * 1536 + 0 * 512 + h.val * 128 + e.val; rw [hI]
                  show 0 * 512 + 1 * (h.val * 128 + e.val) = 0 * 1536 + 0 * 512 + h.val * 128 + e.val; omega
    rw [hi]
    exact V0_apply m c (batch t) tt _
  c j w h e := by
    show (V m c main_v3 : S32x1024x128.Idx → EReal) (((cfg0.win 1).blk t).view.emb (ix3 0 ⟨j.val * 8 + w.val * 4 + h.val, _⟩ e)) = _
    have hi : ((cfg0.win 1).blk t).view.emb (ix3 0 ⟨j.val * 8 + w.val * 4 + h.val, by omega⟩ e) = ix3 (batch t) ⟨j.val * 8 + w.val * 4 + h.val, by omega⟩ e :=
      emb_eq t _ (index1 t) _ _ _ rfl rfl rfl
    rw [hi]
    exact V3_apply m c (batch t) j w h e
  n j w h e := by
    show (V m c main_v6 : S32x32x128.Idx → EReal) (((cfg0.win 2).blk t).view.emb (ix3 0 ⟨j.val * 8 + w.val * 4 + h.val, _⟩ e)) = _
    have hi : ((cfg0.win 2).blk t).view.emb (ix3 0 ⟨j.val * 8 + w.val * 4 + h.val, by omega⟩ e) = ix3 (batch t) ⟨j.val * 8 + w.val * 4 + h.val, by omega⟩ e :=
      emb_eq t _ (index2 t) _ _ _ rfl rfl rfl
    rw [hi]
    exact V6_apply m c (batch t) j w h e

/-! ## The arrays after the run -/

/-- The new buffer. -/
def bufArr (c : Dev nD) : S32x1024x128.Idx → EReal := fun i =>
  shifted (arg0 m c) (arg1 m c) (i 0) (i 1) (i 2)

/-- The attention's outputs. -/
def outArr (c : Dev nD) : S32x4x512.Idx → EReal := fun i =>
  Attn.out (arg0 m c) (arg1 m c) 0 1 (i 0) (i 1) ⟨(i 2).val / 128, by have : (i 2).val < 512 := (i 2).isLt; omega⟩ ⟨(i 2).val % 128, by omega⟩

/-- The attention's log-sum-exps. -/
def lseArr (c : Dev nD) : S32x4x512.Idx → EReal := fun i =>
  lse (sco (arg0 m c) (arg1 m c) 0 1 (i 0) (i 1) ⟨(i 2).val / 128, by have : (i 2).val < 512 := (i 2).isLt; omega⟩)

theorem lanes (x : S1x4x512.Idx) : x = ix3 0 (x 1) ⟨(⟨(x 2).val / 128, by have : (x 2).val < 512 := (x 2).isLt; omega⟩ : Fin 4).val * 128
    + (⟨(x 2).val % 128, by omega⟩ : Fin 128).val, by have : (x 2).val < 512 := (x 2).isLt; show (x 2).val / 128 * 128 + (x 2).val % 128 < 512; omega⟩ := by
  conv_lhs => rw [idx_eq x]
  exact congrArg (fun k => (ix3 0 (x 1) k : S1x4x512.Idx)) (Fin.ext (by show (x 2).val = (x 2).val / 128 * 128 + (x 2).val % 128; omega))

theorem buf_final (c : Dev nD) : (dats m 0 c).arrAt 3 cfg0.N = bufArr m c := by
  refine (dats m 0 c).arrAt_eq_of_covers 3 _ (by decide +kernel) fun t hf (y : S1x1024x128.Idx) => ?_
  have hi : ((cfg0.win 3).blk t).view.emb y = ix3 (batch t) (y 1) (y 2) := by
    rw [idx_eq y]
    exact emb_eq t _ (index3 t) _ _ _ rfl rfl rfl
  rw [hi]
  show (dats m 0 c).after 3 t y = _
  rw [after0_3]
  unfold outsAt0
  dsimp only
  rw [n_pieces, idx_eq y]
  exact n_block (blocks m c t) (y 1) (y 2)

theorem out_final (c : Dev nD) (h0 : ∀ i, IsReal (arg0 m c i)) (h1 : ∀ i, IsReal (arg1 m c i)) : (dats m 0 c).arrAt 4 cfg0.N = outArr m c := by
  refine (dats m 0 c).arrAt_eq_of_covers 4 _ (by decide +kernel) fun t hf (y : S1x4x512.Idx) => ?_
  have hi : ((cfg0.win 4).blk t).view.emb y = ix3 (batch t) (y 1) (y 2) := by
    rw [idx_eq y]
    exact emb_eq t _ (index4 t) _ _ _ rfl rfl rfl
  rw [hi]
  show (dats m 0 c).after 4 t y = _
  rw [after0_4]
  unfold outsAt0
  dsimp only
  rw [o_pieces]
  refine (congrArg _ (lanes y)).trans ?_
  exact o_block (blocks m c t) h0 h1 (y 1) _ _

theorem lse_final (c : Dev nD) : (dats m 0 c).arrAt 5 cfg0.N = lseArr m c := by
  refine (dats m 0 c).arrAt_eq_of_covers 5 _ (by decide +kernel) fun t hf (y : S1x4x512.Idx) => ?_
  have hi : ((cfg0.win 5).blk t).view.emb y = ix3 (batch t) (y 1) (y 2) := by
    rw [idx_eq y]
    exact emb_eq t _ (index5 t) _ _ _ rfl rfl rfl
  rw [hi]
  show (dats m 0 c).after 5 t y = _
  rw [after0_5]
  unfold outsAt0
  dsimp only
  rw [l_pieces]
  refine (congrArg _ (lanes y)).trans ?_
  exact l_block (blocks m c t) (y 1) _ _

end Cert.Samp0Run

end
-- ==== Proof.SampRef0.lean ====
/- The reference's attention over group 0 read at an index: dilated attention over the buffer with the new rows
   appended, its log-sum-exp, and the buffer moved on by four positions. -/
module

public import proofs.«01_k».proof.Proof.Attn
public import proofs.«01_k».proof.Proof.Gen.SampRef0Ideal.Read

@[expose] public section

noncomputable section

namespace Cert.SampRef0

open Idealize.ShloMosaic Idealize.ShloMosaic.ValueIdx Cert.Softmax Cert.Attn
open Cert.SampRef0Ideal Cert.SampRef0Ideal.Read
open scoped BigOperators

variable (x0 : Rows) (x1 : Cache 128)

theorem head_idx3 (b : Fin 32) (t h : Fin 4) (e : Fin 128) : idx_main_v3 (ix4 b t h e) = ix5 b t 0 h e := by
  funext a; refine Fin.ext ?_
  match a with
  | ⟨0, _⟩ => show (((b.val * 4 + t.val) * 4 + h.val) * 128 + e.val) / 2048 = b.val; omega
  | ⟨1, _⟩ => show (((b.val * 4 + t.val) * 4 + h.val) * 128 + e.val) / 512 % 4 = t.val; omega
  | ⟨2, _⟩ => rfl
  | ⟨3, _⟩ => show (((b.val * 4 + t.val) * 4 + h.val) * 128 + e.val) / 128 % 4 = h.val; omega
  | ⟨4, _⟩ => show (((b.val * 4 + t.val) * 4 + h.val) * 128 + e.val) % 128 = e.val; omega

theorem head_idx7 (b : Fin 32) (t h : Fin 4) (e : Fin 128) : idx_main_v7 (ix4 b t h e) = ix5 b t 0 h e := by
  funext a; refine Fin.ext ?_
  match a with
  | ⟨0, _⟩ => show (((b.val * 4 + t.val) * 4 + h.val) * 128 + e.val) / 2048 = b.val; omega
  | ⟨1, _⟩ => show (((b.val * 4 + t.val) * 4 + h.val) * 128 + e.val) / 512 % 4 = t.val; omega
  | ⟨2, _⟩ => rfl
  | ⟨3, _⟩ => show (((b.val * 4 + t.val) * 4 + h.val) * 128 + e.val) / 128 % 4 = h.val; omega
  | ⟨4, _⟩ => show (((b.val * 4 + t.val) * 4 + h.val) * 128 + e.val) % 128 = e.val; omega

theorem head_idx11 (b : Fin 32) (t h : Fin 4) (e : Fin 128) : idx_main_v11 (ix4 b t h e) = ix5 b t 0 h e := by
  funext a; refine Fin.ext ?_
  match a with
  | ⟨0, _⟩ => show (((b.val * 4 + t.val) * 4 + h.val) * 128 + e.val) / 2048 = b.val; omega
  | ⟨1, _⟩ => show (((b.val * 4 + t.val) * 4 + h.val) * 128 + e.val) / 512 % 4 = t.val; omega
  | ⟨2, _⟩ => rfl
  | ⟨3, _⟩ => show (((b.val * 4 + t.val) * 4 + h.val) * 128 + e.val) / 128 % 4 = h.val; omega
  | ⟨4, _⟩ => show (((b.val * 4 + t.val) * 4 + h.val) * 128 + e.val) % 128 = e.val; omega

/-- The queries. -/
theorem q_apply (b : Fin 32) (t h : Fin 4) (e : Fin 128) :
    val_main_v3 (F := Ideal) x0 (ix4 b t h e) = proj x0 0 0 b t h e := by
  rw [val_main_v3_apply, head_idx3, val_main_v2_apply, val_main_v1_apply, val_main_v0_apply]
  refine congrArg x0 (funext fun a => Fin.ext ?_)
  match a with
  | ⟨0, _⟩ => show ((((b.val * 4 + t.val) * 3 + 0) * 4 + h.val) * 128 + e.val) / 1536 = b.val * 4 + t.val; omega
  | ⟨1, _⟩ => show ((((b.val * 4 + t.val) * 3 + 0) * 4 + h.val) * 128 + e.val) % 1536 = 0 * 1536 + 0 * 512 + h.val * 128 + e.val; omega

/-- The new keys. -/
theorem k_apply (b : Fin 32) (t h : Fin 4) (e : Fin 128) :
    val_main_v7 (F := Ideal) x0 (ix4 b t h e) = proj x0 0 1 b t h e := by
  rw [val_main_v7_apply, head_idx7, val_main_v6_apply, val_main_v5_apply, val_main_v4_apply]
  refine congrArg x0 (funext fun a => Fin.ext ?_)
  match a with
  | ⟨0, _⟩ => show ((((b.val * 4 + t.val) * 3 + 0) * 4 + h.val) * 128 + e.val) / 1536 = b.val * 4 + t.val; omega
  | ⟨1, _⟩ => show 1536 + ((((b.val * 4 + t.val) * 3 + 0) * 4 + h.val) * 128 + e.val) % 1536 = 1 * 1536 + 0 * 512 + h.val * 128 + e.val; omega

/-- The new values. -/
theorem v_apply (b : Fin 32) (t h : Fin 4) (e : Fin 128) :
    val_main_v11 (F := Ideal) x0 (ix4 b t h e) = proj x0 0 2 b t h e := by
  rw [val_main_v11_apply, head_idx11, val_main_v10_apply, val_main_v9_apply, val_main_v8_apply]
  refine congrArg x0 (funext fun a => Fin.ext ?_)
  match a with
  | ⟨0, _⟩ => show ((((b.val * 4 + t.val) * 3 + 0) * 4 + h.val) * 128 + e.val) / 1536 = b.val * 4 + t.val; omega
  | ⟨1, _⟩ => show 3072 + ((((b.val * 4 + t.val) * 3 + 0) * 4 + h.val) * 128 + e.val) % 1536 = 2 * 1536 + 0 * 512 + h.val * 128 + e.val; omega

/-- The new rows, keys and values side by side. -/
theorem new_apply (b : Fin 32) (t : Fin 4) (w : Fin 2) (h : Fin 4) (e : Fin 128) :
    val_main_v15 (F := Ideal) x0 (ix5 b t w h e) = proj x0 0 ⟨w.val + 1, by omega⟩ b t h e := by
  unfold val_main_v15
  have hw : w = 0 ∨ w = 1 := by omega
  rcases hw with rfl | rfl
  · refine (concatenate_pair_apply_left (t := S32x4x2x4x128) (s₁ := S32x4x1x4x128) (s₂ := S32x4x1x4x128) 2 _ _ _ (ix5 b t 0 h e) rfl (ix5 b t 0 h e) (fun a => ?_)).trans ?_
    · match a with
      | ⟨0, _⟩ => rfl
      | ⟨1, _⟩ => rfl
      | ⟨2, _⟩ => rfl
      | ⟨3, _⟩ => rfl
      | ⟨4, _⟩ => rfl
    · rw [val_main_v13_apply]
      refine (congrArg _ (?_ : _ = ix4 b t h e)).trans (k_apply x0 b t h e)
      funext a; refine Fin.ext ?_
      match a with
      | ⟨0, _⟩ => rfl
      | ⟨1, _⟩ => rfl
      | ⟨2, _⟩ => rfl
      | ⟨3, _⟩ => rfl
  · refine (concatenate_pair_apply_right (t := S32x4x2x4x128) (s₁ := S32x4x1x4x128) (s₂ := S32x4x1x4x128) 2 _ _ _ (ix5 b t 1 h e) rfl rfl (ix5 b t 0 h e) (fun a ha => ?_) rfl).trans ?_
    · match a with
      | ⟨0, _⟩ => rfl
      | ⟨1, _⟩ => rfl
      | ⟨2, _⟩ => exact absurd rfl ha
      | ⟨3, _⟩ => rfl
      | ⟨4, _⟩ => rfl
    · rw [val_main_v14_apply]
      refine (congrArg _ (?_ : _ = ix4 b t h e)).trans (v_apply x0 b t h e)
      funext a; refine Fin.ext ?_
      match a with
      | ⟨0, _⟩ => rfl
      | ⟨1, _⟩ => rfl
      | ⟨2, _⟩ => rfl
      | ⟨3, _⟩ => rfl

/-- The buffer with the new rows appended. -/
theorem row_apply (b : Fin 32) (j : Fin 132) (w : Fin 2) (h : Fin 4) (e : Fin 128) :
    val_main_v16 (F := Ideal) x0 x1 (ix5 b j w h e) = row x0 x1 0 b j.val w h e := by
  unfold val_main_v16 row
  by_cases hj : j.val < 128
  · rw [dif_pos hj]
    refine (concatenate_pair_apply_left (t := S32x132x2x4x128) (s₁ := S32x128x2x4x128) (s₂ := S32x4x2x4x128) 1 _ _ _ (ix5 b j w h e) rfl (ix5 b ⟨j.val, hj⟩ w h e) (fun a => ?_)).trans ?_
    · match a with
      | ⟨0, _⟩ => rfl
      | ⟨1, _⟩ => rfl
      | ⟨2, _⟩ => rfl
      | ⟨3, _⟩ => rfl
      | ⟨4, _⟩ => rfl
    · refine shapeCast_apply x1 _ (ix5 b ⟨j.val, hj⟩ w h e) (ix6 0 b ⟨j.val, hj⟩ w h e) ?_
      rw [Shape.rowMajor_val_six, Shape.rowMajor_val_five]
      show (((((0 : Fin 1).val * 32 + b.val) * 128 + j.val) * 2 + w.val) * 4 + h.val) * 128 + e.val
        = (((b.val * 128 + j.val) * 2 + w.val) * 4 + h.val) * 128 + e.val
      simp
  · rw [dif_neg hj]
    have hm : (j.val - 128) % 4 = j.val - 128 := by omega
    refine (concatenate_pair_apply_right (t := S32x132x2x4x128) (s₁ := S32x128x2x4x128) (s₂ := S32x4x2x4x128) 1 _ _ _ (ix5 b j w h e) rfl rfl
      (ix5 b ⟨(j.val - 128) % 4, Nat.mod_lt _ (by decide)⟩ w h e) (fun a ha => ?_) ?_).trans (new_apply x0 _ _ _ _ _)
    · match a with
      | ⟨0, _⟩ => rfl
      | ⟨1, _⟩ => exact absurd rfl ha
      | ⟨2, _⟩ => rfl
      | ⟨3, _⟩ => rfl
      | ⟨4, _⟩ => rfl
    · show (j.val - 128) % 4 + 128 = j.val
      omega

/-- The position that query `t` sees `k` keys back. -/
theorem pos_apply (t : Fin 4) (k : Fin 129) :
    val_main_v36 (F := Ideal) (ix2 t k) = BitVec.ofNat 32 (128 + t.val - 1 * k.val) := by
  simp only [val_main_v36_apply, val_main_v35_apply, val_main_v34_apply, val_main_v33_apply, val_main_v32_apply, val_main_v31_apply,
    val_main_v30_apply, val_main_v27_apply, val_main_v26_apply, val_main_v25_apply, val_main_v24_apply, val_main_v23_apply,
    val_main_v22_apply, val_main_v21_apply, val_main_v20_apply, val_main_v19_apply, val_main_v18_apply, val_main_v17_apply,
    val_main_c_apply, val_main_c_0_apply, val_main_c_2_apply, val_main_c_3_apply, val_main_c_4_apply]
  revert t k
  decide +kernel

/-- … is never before the buffer. -/
theorem seen_apply (t : Fin 4) (k : Fin 129) : val_main_v29 (F := Ideal) (ix2 t k) = 1#1 := by
  simp only [val_main_v29_apply, val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_c_apply, val_main_c_0_apply, val_main_c_1_apply]
  revert t k
  decide +kernel

/-- The rows gathered. -/
theorem seenRow_apply (b : Fin 32) (t : Fin 4) (k : Fin 129) (w : Fin 2) (h : Fin 4) (e : Fin 128) :
    val_main_v38 (F := Ideal) x0 x1 (ix6 b t k w h e) = row x0 x1 0 b (128 + t.val - 1 * k.val) w h e := by
  unfold val_main_v38
  refine (Attn.gather_apply (N := 132) (by decide) _ rfl rfl rfl rfl rfl rfl rfl _ _ b t k w h e
    ⟨128 + t.val - 1 * k.val, by omega⟩ ?_).trans (row_apply x0 x1 _ _ _ _ _)
  have : val_main_v37 (F := Ideal) (ix3 t k 0) = BitVec.ofNat 32 (128 + t.val - 1 * k.val) := by
    rw [val_main_v37_apply]
    refine (congrArg _ (?_ : _ = ix2 t k)).trans (pos_apply t k)
    funext a; refine Fin.ext ?_
    match a with
    | ⟨0, _⟩ => rfl
    | ⟨1, _⟩ => rfl
  rw [this]
  show (BitVec.ofNat 32 (128 + t.val - 1 * k.val)).toInt.toNat = 128 + t.val - 1 * k.val
  have hn : (BitVec.ofNat 32 (128 + t.val - 1 * k.val)).toNat = 128 + t.val - 1 * k.val := by
    rw [BitVec.toNat_ofNat]; exact Nat.mod_eq_of_lt (by omega)
  rw [BitVec.toInt_eq_toNat_of_lt (by rw [hn]; omega), hn]
  exact Int.toNat_natCast _

theorem seenKey_apply (b : Fin 32) (t : Fin 4) (k : Fin 129) (h : Fin 4) (e : Fin 128) :
    val_main_v40 (F := Ideal) x0 x1 (ix5 b t k h e) = row x0 x1 0 b (128 + t.val - 1 * k.val) 0 h e := by
  unfold val_main_v40
  refine (shapeCast_apply _ _ (ix5 b t k h e) (ix6 b t k 0 h e) ?_).trans ?_
  · rw [Shape.rowMajor_val_six, Shape.rowMajor_val_five]
    show (((((b.val * 4 + t.val) * 129 + k.val) * 1 + 0) * 4 + h.val) * 128 + e.val) = ((((b.val * 4 + t.val) * 129 + k.val) * 4 + h.val) * 128 + e.val)
    omega
  · rw [val_main_v39_apply]
    refine (congrArg _ (?_ : _ = ix6 b t k 0 h e)).trans (seenRow_apply x0 x1 b t k 0 h e)
    funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl

theorem seenVal_apply (b : Fin 32) (t : Fin 4) (k : Fin 129) (h : Fin 4) (e : Fin 128) :
    val_main_v56 (F := Ideal) x0 x1 (ix5 b t k h e) = row x0 x1 0 b (128 + t.val - 1 * k.val) 1 h e := by
  unfold val_main_v56
  refine (shapeCast_apply _ _ (ix5 b t k h e) (ix6 b t k 0 h e) ?_).trans ?_
  · rw [Shape.rowMajor_val_six, Shape.rowMajor_val_five]
    show (((((b.val * 4 + t.val) * 129 + k.val) * 1 + 0) * 4 + h.val) * 128 + e.val) = ((((b.val * 4 + t.val) * 129 + k.val) * 4 + h.val) * 128 + e.val)
    omega
  · rw [val_main_v55_apply]
    refine (congrArg _ (?_ : _ = ix6 b t k 1 h e)).trans (seenRow_apply x0 x1 b t k 1 h e)
    funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl

/-- The scores. -/
theorem score_apply (b : Fin 32) (t h : Fin 4) (k : Fin 129) :
    val_main_v45 (F := Ideal) x0 x1 (ix4 b t h k) = sco x0 x1 0 1 b t h k := by
  have hmask : val_main_call0_v1 (F := Ideal) (ix4 b t h k) = 1#1 := by
    rw [val_main_call0_v1_apply, val_main_v44_apply]
    refine (congrArg _ (?_ : _ = ix2 t k)).trans (seen_apply t k)
    funext a; refine Fin.ext ?_
    match a with
    | ⟨0, _⟩ => rfl
    | ⟨1, _⟩ => rfl
  rw [val_main_v45_apply, hmask]
  show val_main_v43 (F := Ideal) x0 x1 (ix4 b t h k) = _
  rw [val_main_v43_apply, val_main_v42_apply, val_main_cst_apply, val_main_v41_apply]
  show _ * Ideal.ofBits .f32 0x3DB504F3#32 = _
  refine congrArg (· * _) (Finset.sum_congr rfl fun e _ => ?_)
  refine congrArg₂ (· * ·) ((congrArg _ (?_ : _ = ix4 b t h e)).trans (q_apply x0 b t h e))
    ((congrArg _ (?_ : _ = ix5 b t k h e)).trans (seenKey_apply x0 x1 b t k h e))
  · funext a; refine Fin.ext ?_
    match a with
    | ⟨0, _⟩ => rfl
    | ⟨1, _⟩ => rfl
    | ⟨2, _⟩ => rfl
    | ⟨3, _⟩ => rfl
  · funext a; refine Fin.ext ?_
    match a with
    | ⟨0, _⟩ => rfl
    | ⟨1, _⟩ => rfl
    | ⟨2, _⟩ => rfl
    | ⟨3, _⟩ => rfl
    | ⟨4, _⟩ => rfl

/-- The greatest scores. -/
theorem top_apply (b : Fin 32) (t h : Fin 4) :
    val_main_v46 (F := Ideal) x0 x1 (ix3 b t h) = top (sco x0 x1 0 1 b t h) := by
  unfold val_main_v46
  refine (Host.reduce_eq_fold_single (FloatOps.maximumf (F := Ideal) (φ := .f32)) _ _ Facts₀.reducesTo_S32x4x4x129_S32x4x4_d3 (by decide) Facts₀.h_S_ (ix3 b t h)).trans ?_
  rw [val_main_cst_6_apply]
  show Finset.univ.fold max (Ideal.ofBits .f32 0xFF800000#32) _ = _
  rw [ofBits_neg_inf]
  refine congrArg (Finset.univ.fold max ⊥) (funext fun k => ?_)
  refine (congrArg (val_main_v45 (F := Ideal) x0 x1) (?_ : _ = ix4 b t h k)).trans (score_apply x0 x1 b t h k)
  funext a; refine Fin.ext ?_
  match a with
  | ⟨0, _⟩ => rfl
  | ⟨1, _⟩ => rfl
  | ⟨2, _⟩ => rfl
  | ⟨3, _⟩ => rfl

theorem ext3 {d : Fin 3 → ℕ} {i j : (⟨3, d⟩ : Shape).Idx} (h0 : (i 0).val = (j 0).val) (h1 : (i 1).val = (j 1).val)
    (h2 : (i 2).val = (j 2).val) : i = j := by
  funext a; refine Fin.ext ?_
  match a with
  | ⟨0, _⟩ => exact h0
  | ⟨1, _⟩ => exact h1
  | ⟨2, _⟩ => exact h2

theorem ext4 {d : Fin 4 → ℕ} {i j : (⟨4, d⟩ : Shape).Idx} (h0 : (i 0).val = (j 0).val) (h1 : (i 1).val = (j 1).val)
    (h2 : (i 2).val = (j 2).val) (h3 : (i 3).val = (j 3).val) : i = j := by
  funext a; refine Fin.ext ?_
  match a with
  | ⟨0, _⟩ => exact h0
  | ⟨1, _⟩ => exact h1
  | ⟨2, _⟩ => exact h2
  | ⟨3, _⟩ => exact h3

theorem topCol_apply (b : Fin 32) (t h : Fin 4) (z : Fin 1) :
    val_main_v47 (F := Ideal) x0 x1 (ix4 b t h z) = top (sco x0 x1 0 1 b t h) := by
  have hi : idx_main_v47 (ix4 b t h z) = ix3 b t h := ext3 rfl rfl rfl
  rw [val_main_v47_apply, hi, top_apply]

/-- The weights. -/
theorem wt_apply (b : Fin 32) (t h : Fin 4) (k : Fin 129) :
    val_main_v50 (F := Ideal) x0 x1 (ix4 b t h k) = wt (sco x0 x1 0 1 b t h) k := by
  have hi : idx_main_v48 (ix4 b t h k) = ix4 b t h 0 := ext4 rfl rfl rfl rfl
  rw [val_main_v50_apply, val_main_v49_apply, val_main_v48_apply, score_apply, hi, topCol_apply]
  rfl

/-- The sums of the weights. -/
theorem den_apply (b : Fin 32) (t h : Fin 4) (z : Fin 1) :
    val_main_v52 (F := Ideal) x0 x1 (ix4 b t h z) = den (sco x0 x1 0 1 b t h) := by
  rw [val_main_v52_apply, val_main_v51_apply, val_main_cst_7_apply]
  show Ideal.ofBits .f32 0x00000000#32 + _ = _
  rw [Ideal.ofBits_zero_f32, zero_add]
  refine Finset.sum_congr rfl fun k _ => ?_
  have hi : idx_main_v51 (idx_main_v52 (ix4 b t h z)) k = ix4 b t h k := ext4 rfl rfl rfl rfl
  rw [hi, wt_apply]

/-- THE ATTENTION OUTPUT of the reference. -/
theorem out_apply (b : Fin 32) (t h : Fin 4) (e : Fin 128) :
    val_main_v63 (F := Ideal) x0 x1 (ix3 b t ⟨h.val * 128 + e.val, by omega⟩) = Attn.out x0 x1 0 1 b t h e := by
  rw [val_main_v63_apply]
  refine (congrArg _ (ext4 ?_ ?_ ?_ ?_ : _ = ix4 b t h e)).trans ?_
  · show ((b.val * 4 + t.val) * 512 + (h.val * 128 + e.val)) / 2048 = b.val; omega
  · show ((b.val * 4 + t.val) * 512 + (h.val * 128 + e.val)) / 512 % 4 = t.val; omega
  · show ((b.val * 4 + t.val) * 512 + (h.val * 128 + e.val)) / 128 % 4 = h.val; omega
  · show ((b.val * 4 + t.val) * 512 + (h.val * 128 + e.val)) % 128 = e.val; omega
  rw [val_main_v57_apply]
  refine Finset.sum_congr rfl fun k _ => ?_
  have hl : lidx_main_v57 (ix4 b t h e) k = ix4 b t h k := ext4 rfl rfl rfl rfl
  have hr : ridx_main_v57 (ix4 b t h e) k = ix5 b t k h e := by
    funext a; refine Fin.ext ?_
    match a with
    | ⟨0, _⟩ => rfl
    | ⟨1, _⟩ => rfl
    | ⟨2, _⟩ => rfl
    | ⟨3, _⟩ => rfl
    | ⟨4, _⟩ => rfl
  have hi : idx_main_v53 (ix4 b t h k) = ix4 b t h 0 := ext4 rfl rfl rfl rfl
  rw [hl, hr, seenVal_apply, val_main_v54_apply, wt_apply, val_main_v53_apply, hi, den_apply]
  rfl

/-- THE LOG-SUM-EXP of the reference, the same in every entry of a head. -/
theorem lse_apply (b : Fin 32) (t h : Fin 4) (e : Fin 128) :
    val_main_v65 (F := Ideal) x0 x1 (ix3 b t ⟨h.val * 128 + e.val, by omega⟩) = lse (sco x0 x1 0 1 b t h) := by
  rw [val_main_v65_apply]
  refine (congrArg _ (ext4 ?_ ?_ ?_ ?_ : _ = ix4 b t h e)).trans ?_
  · show ((b.val * 4 + t.val) * 512 + (h.val * 128 + e.val)) / 2048 = b.val; omega
  · show ((b.val * 4 + t.val) * 512 + (h.val * 128 + e.val)) / 512 % 4 = t.val; omega
  · show ((b.val * 4 + t.val) * 512 + (h.val * 128 + e.val)) / 128 % 4 = h.val; omega
  · show ((b.val * 4 + t.val) * 512 + (h.val * 128 + e.val)) % 128 = e.val; omega
  have hi : idx_main_v64 (ix4 b t h e) = ix3 b t h := ext3 rfl rfl rfl
  rw [val_main_v64_apply, hi, val_main_v60_apply]
  refine (congrArg _ (ext4 ?_ ?_ ?_ ?_ : _ = ix4 b t h 0)).trans ?_
  · show ((b.val * 4 + t.val) * 4 + h.val) / 16 = b.val; omega
  · show ((b.val * 4 + t.val) * 4 + h.val) / 4 % 4 = t.val; omega
  · show ((b.val * 4 + t.val) * 4 + h.val) / 1 % 4 = h.val; omega
  · rfl
  rw [val_main_v59_apply, val_main_v58_apply, topCol_apply, den_apply]
  rfl

/-- THE BUFFER of the reference, four positions on: row `r` of a batch is entry `r / 8 + 4` of the buffer with the new
    rows appended, keys before values, head by head. -/
theorem buf_apply (b : Fin 32) (r : Fin 1024) (e : Fin 128) :
    val_main_v62 (F := Ideal) x0 x1 (ix3 b r e)
      = row x0 x1 0 b (r.val / 8 + 4) ⟨r.val % 8 / 4, by omega⟩ ⟨r.val % 4, by omega⟩ e := by
  rw [val_main_v62_apply, val_main_v61_apply]
  refine (congrArg _ (?_ : _ = ix5 b ⟨r.val / 8 + 4, by omega⟩ ⟨r.val % 8 / 4, by omega⟩ ⟨r.val % 4, by omega⟩ e)).trans (row_apply x0 x1 _ _ _ _ _)
  funext a; refine Fin.ext ?_
  match a with
  | ⟨0, _⟩ => show ((b.val * 1024 + r.val) * 128 + e.val) / 131072 = b.val; omega
  | ⟨1, _⟩ => show 4 + ((b.val * 1024 + r.val) * 128 + e.val) / 1024 % 128 = r.val / 8 + 4; omega
  | ⟨2, _⟩ => show ((b.val * 1024 + r.val) * 128 + e.val) / 512 % 2 = r.val % 8 / 4; omega
  | ⟨3, _⟩ => show ((b.val * 1024 + r.val) * 128 + e.val) / 128 % 4 = r.val % 4; omega
  | ⟨4, _⟩ => show ((b.val * 1024 + r.val) * 128 + e.val) % 128 = e.val; omega

end Cert.SampRef0

end
-- ==== Proof.Finite.lean ====
/- What the precondition on the arguments says at the extended reals: no entry is an infinity. -/
module

public import proofs.«01_k».proof.Proof.Attn

@[expose] public section

noncomputable section

namespace Cert.Finite

open Idealize.ShloMosaic Idealize.ShloMosaic.ValueIdx Cert.Softmax

/-- The word of the infinity of f32 denotes the greatest extended real. -/
theorem inf_word : Ideal.ofBits .f32 0x7F800000#32 = ⊤ := by
  simp [Ideal.ofBits, Ideal.ieee]

/-- An array whose entries all have an absolute value below infinity has real entries. -/
theorem real_of_lt (s : Shape) (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (i : s.Idx) :
    IsReal (x i) := by
  have h1 : BitVec.ofBool (decide (max (x i) (-(x i)) < Ideal.ofBits .f32 0x7F800000#32)) = 1#1 := congrFun h i
  rw [inf_word] at h1
  have h2 : max (x i) (-(x i)) < ⊤ := by
    by_contra hn
    rw [decide_eq_false hn] at h1
    exact absurd h1 (by decide)
  obtain ⟨ha, hb⟩ := max_lt_iff.mp h2
  exact ⟨(x i).toReal, (EReal.coe_toReal ha.ne (fun hn => by rw [hn] at hb; exact absurd hb (by simp))).symm⟩

end Cert.Finite

end
-- ==== Proof.Samp0Claim.lean ====
/- The claims about the attention over the cache of 128 rows. -/
module

public import proofs.«01_k».proof.Defs
public import proofs.«01_k».proof.Proof.Samp0
public import proofs.«01_k».proof.Proof.SampRef0
public import proofs.«01_k».proof.Proof.Finite
public import proofs.«01_k».proof.Proof.Gen.Samp0.Frame
public import proofs.«01_k».proof.Proof.Gen.Pre_finite_arguments
public import proofs.«01_k».proof.Proof.Gen.SampRef0Ideal.Run

@[expose] public section

noncomputable section

namespace Cert.Samp0Claim

open Idealize.ShloMosaic Idealize.ShloMosaic.TcCoe Idealize.ShloMosaic.ValueIdx Cert.Softmax Cert.Attn Cert.Finite Idealize.SL.Sem
open Cert.Samp0Run

theorem frame_p : Cert.quiescent_Samp0 := fun m ρ _ => Cert.Samp0.Gen.frame m ρ
theorem frame_pi : Cert.quiescent_Samp0Ideal := fun m ρ _ => Cert.Samp0Ideal.Gen.frame m ρ
theorem frame_pi_pre : Cert.quiescent_Samp0Ideal_pre_finite_arguments := fun m ρ _ => Cert.Samp0Ideal.Gen.frame m ρ
/-- The reference ends with its arguments unchanged. -/
theorem frame_ref (m : (ℓ : Loc Cert.SampRef0Ideal.nD Cert.SampRef0Ideal.τ Cert.SampRef0Ideal.sig) → Buf (Elt Ideal) ℓ)
    (ρ : Dev Cert.SampRef0Ideal.nD → PrngReg) :
    θ_run (Cert.SampRef0Ideal.defs (F := Ideal)) (onTc (τ := Cert.SampRef0Ideal.τ) (Cert.SampRef0Ideal.main (F := Ideal))) ⟨m, fun _ => 0, ρ⟩
      (fun r => (∀ c : Dev Cert.SampRef0Ideal.nD,
        r.2.mem ((c.tc : Thread Cert.SampRef0Ideal.nD Cert.SampRef0Ideal.τ).loc Cert.SampRef0Ideal.main_arg0) = m ((c.tc : Thread Cert.SampRef0Ideal.nD Cert.SampRef0Ideal.τ).loc Cert.SampRef0Ideal.main_arg0)
        ∧ r.2.mem ((c.tc : Thread Cert.SampRef0Ideal.nD Cert.SampRef0Ideal.τ).loc Cert.SampRef0Ideal.main_arg1) = m ((c.tc : Thread Cert.SampRef0Ideal.nD Cert.SampRef0Ideal.τ).loc Cert.SampRef0Ideal.main_arg1))
      ∧ r.2.sem = fun _ => 0) :=
  (θ_run Cert.SampRef0Ideal.defs _ _).mono (fun r h => ⟨fun c => (h c).2.2.2, sem_eq_zero_of_no_sems (by decide) r.2⟩)
    (Cert.SampRef0Ideal.Value.run (F := Ideal) m ρ)
theorem frame_ri : Cert.quiescent_SampRef0Ideal := fun m ρ _ => frame_ref m ρ
theorem frame_ri_pre : Cert.quiescent_SampRef0Ideal_pre_finite_arguments := fun m ρ _ => frame_ref m ρ
theorem preserves : Cert.preserves_Samp0_Samp0Ideal := IdealRules.named_const.statement Cert.Samp0Ideal.κ "mask" .f32 0xF149F2CA#32 ⊥ rfl

/-- An index of the lanes is a head and a lane of it. -/
theorem lanes (i : (⟨3, ![32, 4, 512]⟩ : Shape).Idx) : i = ix3 (i 0) (i 1) ⟨(⟨(i 2).val / 128, by have : (i 2).val < 512 := (i 2).isLt; omega⟩ : Fin 4).val * 128
    + (⟨(i 2).val % 128, by omega⟩ : Fin 128).val, by have : (i 2).val < 512 := (i 2).isLt; show (i 2).val / 128 * 128 + (i 2).val % 128 < 512; omega⟩ := by
  refine funext fun a => Fin.ext ?_
  match a with
  | ⟨0, _⟩ => rfl
  | ⟨1, _⟩ => rfl
  | ⟨2, _⟩ => show (i 2).val = (i 2).val / 128 * 128 + (i 2).val % 128; omega

/-- THE VALUES: the kernel's three arrays are the reference's, entry by entry. -/
theorem algebraic : Cert.algebraic_Samp0Ideal_SampRef0Ideal_pre_finite_arguments := by
  intro m g m' g' hp ha
  have h0 : ∀ c i, IsReal (arg0 m c i) := fun c i => real_of_lt _ _ _ (hp c).1 i
  have h1 : ∀ c i, IsReal (arg1 m c i) := fun c i => real_of_lt _ _ _ (hp c).2 i
  refine ⟨fun c => bufArr m c, fun c => outArr m c, fun c => lseArr m c, ?_, ?_⟩
  · refine (θ_run Cert.Samp0Ideal.defs _ _).mono (fun r h c => ?_) (Cert.Samp0Ideal.Value.run_blocks m g)
    obtain ⟨a, b, d, e⟩ := h c
    exact ⟨a.trans (buf_final m c), b.trans (out_final m c (h0 c) (h1 c)), d.trans (lse_final m c), e⟩
  · refine (θ_run Cert.SampRef0Ideal.defs _ _).mono (fun r h c => ?_) (Cert.SampRef0Ideal.Value.run (F := Ideal) m' g')
    obtain ⟨a, b, d, e⟩ := h c
    rw [Cert.SampRef0Ideal.Read.val_main_v63_eq, (ha c).1, (ha c).2] at b
    rw [Cert.SampRef0Ideal.Read.val_main_v65_eq, (ha c).1, (ha c).2] at d
    rw [Cert.SampRef0Ideal.Read.val_main_v62_eq, (ha c).1, (ha c).2] at a
    refine ⟨a.trans (funext fun i => ?_), b.trans (funext fun i => ?_), d.trans (funext fun i => ?_), e⟩
    · have hi : i = ix3 (i 0) (i 1) (i 2) := funext fun a => by
        match a with
        | ⟨0, _⟩ => rfl
        | ⟨1, _⟩ => rfl
        | ⟨2, _⟩ => rfl
      refine (congrArg _ hi).trans ?_
      exact Cert.SampRef0.buf_apply _ _ _ _ _
    · refine (congrArg _ (lanes i)).trans ?_
      exact Cert.SampRef0.out_apply _ _ _ _ _ _
    · refine (congrArg _ (lanes i)).trans ?_
      exact Cert.SampRef0.lse_apply _ _ _ _ _ _

end Cert.Samp0Claim

end
-- ==== Proof.ProjIdealRun.lean ====
/- The run of the input projection `ProjIdeal`: the pipeline's data at the contents its table of column blocks holds, what the body
   leaves in each output block at every point, and from these the final contents of every result.

   The grid is 8 row blocks by 23 column blocks. At the first 14 column blocks the body stores the product into the first
   result's block, at the last 9 into the second result's. The block of the first result stays in place from column block 13
   on and is written back after column block 22, so its contents there are the ones of column block 13.

   After the call ten host operations cut the three buffers of keys and values out of the second result. -/
module

public import proofs.«01_k».proof.Proof.Gen.ProjIdeal
public import proofs.«01_k».proof.Proof.Gen.ProjIdeal.Skeleton
public import proofs.«01_k».proof.Proof.Gen.ProjIdeal.Launch
public import Idealize.ShloMosaic.Lib.Pipeline.FrameBody
public import Idealize.ShloMosaic.Lib.Pipeline.FrameSuffix
public import Idealize.ShloMosaic.Lib.Ring
public import Idealize.ShloMosaic.Lib.WritesUnit
public import Idealize.ShloMosaic.Lib.Tactic
public import Idealize.ShloMosaic.Lib.WordCmp
public import Idealize.ShloMosaic.Lib.Claim

@[expose] public section

set_option maxRecDepth 16384

noncomputable section

namespace Cert.ProjIdealRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table -/

/-- The contents the table of column blocks holds when the call starts. -/
def table : pre0.Contents (Elt F) := fun
  | 0 => fun i => lit0 (S23.rowMajor i)
  | ⟨_ + 1, h⟩ => absurd h (Nat.not_lt.2 (Nat.le_add_left _ _))

/-- The block of the weights at a point, as a pair of block numbers. -/
def column (i : grid0.Coords) : Fin 2 → Nat :=
  ![0, (lit0 (S23.rowMajor ((Rect.unit (s := S23) ![(Scalar.indexCast (BitVec.ofNat 32 (i 1).val) : Index).toNat] S1.size
    (Facts₀.k0_off1_inb i)).emb (Shape.Idx.first (Facts₀.numel1_S1.symm ▸ Nat.one_pos))))).toNat]

/-- It is the block the index map reads from the table. -/
theorem column_eq (i : grid0.Coords) :
    cc0_transform_1 Facts₀.k0_off1_inb Facts₀.numel1_S1 (table (F := F)) i = column i := rfl

/-- Column block by column block, the table is the literal's word. -/
theorem column_word (i : grid0.Coords) : column i = ![0, (lit0 (i 1)).toNat] := by
  have h : ∀ (j : Fin 23) (hj : ∀ a, (![(Scalar.indexCast (BitVec.ofNat 32 j.val) : Index).toNat] : Fin 1 → Nat) a + S1.size a ≤ S23.size a),
      (lit0 (S23.rowMajor ((Rect.unit (s := S23) ![(Scalar.indexCast (BitVec.ofNat 32 j.val) : Index).toNat] S1.size hj).emb
        (Shape.Idx.first (Facts₀.numel1_S1.symm ▸ Nat.one_pos))))).toNat = (lit0 j).toNat := by decide +kernel
  unfold column
  rw [h (i 1) (Facts₀.k0_off1_inb i)]

/-- Every block of the weights that the table names lies inside the weights, whole words at both ends. -/
theorem table_ok : ok0 (table (F := F)) := by
  have h : ∀ j : Fin 23, ∃ h : (∀ a, ((![0, (lit0 j).toNat] : Fin 2 → Nat) a + 1) * S2048x512.size a ≤ S2048x11776.size a),
      EltTy.bits .bf16 = 32 ∨ (Rect.block (s := S2048x11776) S2048x512.size ![0, (lit0 j).toNat] h).WholeWords (EltTy.packing .bf16) := by
    decide +kernel
  intro i
  rw [column_eq, column_word]
  exact h (i 1)

/-- The table's contents as the pipeline takes them. -/
def adm (_ : Fin 1) : (pcfg0 (F := F)).Adm := ⟨table, table_ok⟩

/-- The pipeline at the table's contents. -/
abbrev cfg : Cfg sig Λ₀ := Pipeline.pin (pcfgs (F := F)) adm 0

/-! ## The schedule -/

/-- The first coordinate of a point is its row block, the second its column block. -/
theorem coords_val : ∀ t : Fin grid0.N, (grid0.coords t 0).val = t.val / 23 ∧ (grid0.coords t 1).val = t.val % 23 := by
  decide +kernel

/-- The first store happens at the first 14 column blocks. -/
theorem cond1_iff : ∀ t : Fin grid0.N, k0_cond1 (grid0.coords t) = 1#1 ↔ t.val % 23 < 14 := by decide +kernel

/-- The second store happens at the last 9. -/
theorem cond2_iff : ∀ t : Fin grid0.N, k0_cond2 (grid0.coords t) = 1#1 ↔ ¬ t.val % 23 < 14 := by decide +kernel

/-- The first result's block is written back after column blocks 0 to 12 and after the last one. -/
theorem flush_two (t : Fin grid0.N) :
    ((cfg (F := F)).win 2).flush t = decide (t.val % 23 < 13 ∨ t.val % 23 = 22) :=
  (by decide +kernel : ∀ t : Fin grid0.N, (true && (decide (t.val + 1 = grid0.N)
    || decide (∃ h : t.val + 1 < grid0.N, cc0_transform_2 (grid0.coords ⟨t.val + 1, h⟩) ≠ cc0_transform_2 (grid0.coords t))))
    = decide (t.val % 23 < 13 ∨ t.val % 23 = 22)) t

/-- The second result's block is written back after each of the last 9 column blocks. -/
theorem flush_three (t : Fin grid0.N) :
    ((cfg (F := F)).win 3).flush t = decide (¬ t.val % 23 < 14) :=
  (by decide +kernel : ∀ t : Fin grid0.N, (true && (decide (t.val + 1 = grid0.N)
    || decide (∃ h : t.val + 1 < grid0.N, cc0_transform_3 (grid0.coords ⟨t.val + 1, h⟩) ≠ cc0_transform_3 (grid0.coords t))))
    = decide (¬ t.val % 23 < 14)) t

/-- The body leaves the first result's block alone at the last 9 column blocks, -/
theorem idle_two (t : Fin grid0.N) : (cfg (F := F)).idle 2 ((cfg (F := F)).grid.coords t) = decide (¬ t.val % 23 < 14) :=
  (by decide +kernel : ∀ t : Fin grid0.N, (!(k0_cond1 (grid0.coords t) == 1#1)) = decide (¬ t.val % 23 < 14)) t

/-- and the second result's at the first 14. -/
theorem idle_three (t : Fin grid0.N) : (cfg (F := F)).idle 3 ((cfg (F := F)).grid.coords t) = decide (t.val % 23 < 14) :=
  (by decide +kernel : ∀ t : Fin grid0.N, (!(k0_cond2 (grid0.coords t) == 1#1)) = decide (t.val % 23 < 14)) t

/-- The point at which the first result's current block was stored. -/
def stored (t : Fin grid0.N) : Fin grid0.N :=
  ⟨t.val / 23 * 23 + min (t.val % 23) 13, by have h : t.val < 184 := N_0 ▸ t.isLt; have : grid0.N = 184 := N_0; omega⟩

theorem stored_self (t : Fin grid0.N) (h : t.val % 23 < 14) : stored t = t :=
  Fin.ext (by show t.val / 23 * 23 + min (t.val % 23) 13 = t.val; omega)

/-! ## The host operations before and after the call -/

variable (m : (ℓ : Loc nD τ sig) → Buf (Elt F) ℓ) (ρ : Dev nD → PrngReg)

/-- A core's buffers when the call starts, whatever holds them, -/
abbrev V0 (c : Dev nD) : Valuation τ sig (Elt F) := StableHlo.after (List.flatten [hostOps0]) (fun b => m (c, b))

/-- and the ones the core names. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

set_option maxHeartbeats 800000 in
/-- The program is its host operations, the call, and the host operations that cut out the buffers. -/
theorem hmain (𝒱₀ : Variants) : Pipeline.HMainPK (Ix := Unit) (Name := ℕ) (U := UR sig nD τ) (Lvl := ℕ) (pcfgs (F := F)) 0 defs₀ 𝒱₀ m (main (F := F)) (V m)
    (fun _ => Pipeline.chain ([hostOps1].map StableHlo.seq)) :=
  Pipeline.hmainP_around (pcfgs (F := F)) 0 defs₀ 𝒱₀ m main [hostOps0] [hostOps1] (by simp only [List.Forall]; exact hostOps0_sub)
    (by simp only [List.Forall]; exact hostOps0_fresh) main_chain

/-- The ten operations after the call read and write the call's arrays and the buffers the call leaves alone, never the table. -/
theorem tail_sub : ∀ ops ∈ ([hostOps1] : List (List (HloOp τ sig (Elt F)))), ∀ op ∈ ops, op.bufs ⊆ Pipeline.tailRefs sig pre0 spec0 := by
  intro ops hops op hop
  rw [List.mem_singleton.mp hops] at hop
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl
  all_goals
    intro j
    fin_cases j <;> simp only [StableHlo.unary_bufs, StableHlo.reshape_bufs, Finset.mem_insert, Finset.mem_singleton, not_or] <;>
      and_intros <;> exact StableHlo.devRef_ne_of_ne (by decide)

/-- They allocate nothing, -/
theorem tail_fresh : ∀ ops ∈ ([hostOps1] : List (List (HloOp τ sig (Elt F)))), ∀ op ∈ ops, op.fresh = ∅ := by
  intro ops hops op hop
  rw [List.mem_singleton.mp hops] at hop
  exact (List.forall_iff_forall_mem.mp hostOps1_fresh) op hop

/-- and write none of the call's arrays. -/
theorem tail_keeps : ∀ ops ∈ ([hostOps1] : List (List (HloOp τ sig (Elt F)))), ∀ op ∈ ops, ∀ w, Proc.devRef .tc (Pipeline.arrRef spec0 w) ∉ op.writes := by
  intro ops hops op hop
  rw [List.mem_singleton.mp hops] at hop
  simp only [hostOps1, List.mem_cons, List.mem_nil_iff, or_false] at hop
  rcases hop with rfl | rfl | rfl | rfl | rfl | rfl | rfl | rfl | rfl | rfl
  all_goals
    intro w
    fin_cases w <;> simp only [StableHlo.unary_writes, StableHlo.reshape_writes, Finset.mem_singleton] <;>
      exact StableHlo.devRef_ne_of_ne (by decide)

/-- The host operations leave the first argument as it was, -/
theorem V_main_arg0 (c : Dev nD) : V m c main_arg0 = m ((c : Thread nD τ).loc main_arg0) := by
  show StableHlo.after hostOps0 (fun b => m (c, b)) (Proc.devRef .tc main_arg0) = _
  after_results

/-- and the second. -/
theorem V_main_arg1 (c : Dev nD) : V m c main_arg1 = m ((c : Thread nD τ).loc main_arg1) := by
  show StableHlo.after hostOps0 (fun b => m (c, b)) (Proc.devRef .tc main_arg1) = _
  after_results

/-- They write the table's literal. -/
theorem V_table (c : Dev nD) (k : Fin pre0.K) : V m c (pre0.ref k) = (adm (F := F) 0).1 k := by
  match k with
  | ⟨0, _⟩ =>
    show StableHlo.after hostOps0 (fun b => m (c, b)) (Proc.devRef .tc main_c) = fun i => lit0 (S23.rowMajor i)
    after_results; rfl

/-- Window `w`'s block at point `t` of its array as the call finds it. -/
def iblk (c : Dev nD) (w : Fin 4) (t : Fin grid0.N) : (((cfg (F := F)).win w).xblock ((cfg (F := F)).grid.coords t)).Idx → Elt F ((cfg (F := F)).win w).elt :=
  (((cfg (F := F)).win w).blk t).view.read (Elt F) (V m c (Pipeline.arrRef spec0 w))

/-! ## The body at a point -/

/-- The product rounded, from a row block and a column block. -/
abbrev payRounded (x0 : Vec F S1024x2048 .bf16) (x1 : Vec F S2048x512 .bf16) : Vec F S1024x512 .bf16 := k0_pay1 x0 x1

/-- The product as it is. -/
abbrev payPlain (x0 : Vec F S1024x2048 .bf16) (x1 : Vec F S2048x512 .bf16) : Vec F S1024x512 .f32 := k0_pay2 x0 x1

/-- A load of a whole row block reads its contents. -/
theorem read_rows (M : Memref sig .tc .vmem S1024x2048 .bf16) (hM : M.IsWhole) (X : Vec F S1024x2048 .bf16) :
    M.view.readAt (Elt F) (Rect.unit (s := S1024x2048) ![0, 0] S1024x2048.size inb_S1024x2048_S1024x2048_0_0).toLoadRect (hM.unread X) = X := by
  funext x
  refine (congrFun (hM.read_unread X) _).trans (congrArg X ?_)
  funext a; apply Fin.ext
  match a with
  | ⟨0, _⟩ => show 0 + 1 * (x 0).val = (x 0).val; omega
  | ⟨1, _⟩ => show 0 + 1 * (x 1).val = (x 1).val; omega

/-- A load of a whole column block reads its contents. -/
theorem read_columns (M : Memref sig .tc .vmem S2048x512 .bf16) (hM : M.IsWhole) (X : Vec F S2048x512 .bf16) :
    M.view.readAt (Elt F) (Rect.unit (s := S2048x512) ![0, 0] S2048x512.size inb_S2048x512_S2048x512_0_0).toLoadRect (hM.unread X) = X := by
  funext x
  refine (congrFun (hM.read_unread X) _).trans (congrArg X ?_)
  funext a; apply Fin.ext
  match a with
  | ⟨0, _⟩ => show 0 + 1 * (x 0).val = (x 0).val; omega
  | ⟨1, _⟩ => show 0 + 1 * (x 1).val = (x 1).val; omega

/-- A store of a whole result block leaves what it stores. -/
theorem stored_block {e : EltTy} (M : Memref sig .tc .vmem S1024x512 e) (f) (p : Vec F S1024x512 e) :
    M.view.read (Elt F) (M.view.writes (Elt F) f
      [⟨Rect.unit (s := S1024x512) ![0, 0] S1024x512.size inb_S1024x512_S1024x512_0_0, p⟩]) = p := by
  funext y
  refine View.read_writes_cons_unit_of_mem M.view f inb_S1024x512_S1024x512_0_0 p [] y y rfl fun a => ?_
  match a with
  | ⟨0, _⟩ => show (y 0).val = 0 + (y 0).val; omega
  | ⟨1, _⟩ => show (y 1).val = 0 + (y 1).val; omega

set_option maxHeartbeats 1000000 in
/-- The body at the first 14 column blocks stores the rounded product, and leaves the second result's block. -/
theorem run_rounded (c : Dev nD) (i : grid0.Coords) (h1 : k0_cond1 i = 1#1) (h2 : ¬ k0_cond2 i = 1#1)
    (arg2 : Memref sig .tc .smem S23 .i32) (harg2 : arg2.IsWhole)
    (arg3 : Memref sig .tc .vmem S1024x2048 .bf16) (harg3 : arg3.IsWhole) (arg4 : Memref sig .tc .vmem S2048x512 .bf16) (harg4 : arg4.IsWhole)
    (arg5 : Memref sig .tc .vmem S1024x512 .bf16) (harg5 : arg5.IsWhole) (arg6 : Memref sig .tc .vmem S1024x512 .f32) (harg6 : arg6.IsWhole)
    (x0 : Vec F S1024x2048 .bf16) (x1 : Vec F S2048x512 .bf16) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (payRounded x0 x1)) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%d2, %f2, -, H2⟩, Hk⟩
  obtain rfl := harg3.eq_unread hf0; obtain rfl := harg4.eq_unread hf1
  sl_exec
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  refine (stored_block arg5 _ _).trans ?_
  rw [read_rows arg3 harg3, read_columns arg4 harg4]

set_option maxHeartbeats 1000000 in
/-- The body at the last 9 column blocks stores the product, and leaves the first result's block. -/
theorem run_plain (c : Dev nD) (i : grid0.Coords) (h1 : ¬ k0_cond1 i = 1#1) (h2 : k0_cond2 i = 1#1)
    (arg2 : Memref sig .tc .smem S23 .i32) (harg2 : arg2.IsWhole)
    (arg3 : Memref sig .tc .vmem S1024x2048 .bf16) (harg3 : arg3.IsWhole) (arg4 : Memref sig .tc .vmem S2048x512 .bf16) (harg4 : arg4.IsWhole)
    (arg5 : Memref sig .tc .vmem S1024x512 .bf16) (harg5 : arg5.IsWhole) (arg6 : Memref sig .tc .vmem S1024x512 .f32) (harg6 : arg6.IsWhole)
    (x0 : Vec F S1024x2048 .bf16) (x1 : Vec F S2048x512 .bf16) (E : Set ℕ) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1
            ∗ owns (c : Thread nD τ) arg6 fullShare (payPlain x0 x1)) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%d2, %f2, -, H2⟩, Hk⟩
  obtain rfl := harg3.eq_unread hf0; obtain rfl := harg4.eq_unread hf1
  sl_exec
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  refine (stored_block arg6 _ _).trans ?_
  rw [read_rows arg3 harg3, read_columns arg4 harg4]

/-! ## The pipeline's data -/

/-- What each window's block holds after the body at a point: the inputs their blocks, the first result the
    rounded product of the point it was stored at, the second the product of this point. -/
def dats (_ : Fin 1) (c : Dev nD) : Dat τ (Elt F) Unit ℕ (UR sig nD τ) ℕ (cfg (F := F)) c where
  A w := V m c (Pipeline.arrRef spec0 w)
  after w t := match w with
    | ⟨0, _⟩ => iblk m c 0 t
    | ⟨1, _⟩ => iblk m c 1 t
    | ⟨2, _⟩ => payRounded (iblk m c 0 (stored t)) (iblk m c 1 (stored t))
    | ⟨3, _⟩ => payPlain (iblk m c 0 t) (iblk m c 1 t)
  Φ _ := iprop(Pipeline.ΦA spec0 c ∗ Pipeline.ΦT pre0 (adm (F := F) 0).1 c)
  q _ := fullShare
  owed _ := 0

theorem A_eq (c : Dev nD) (w : Fin 4) : (dats m 0 c).A w = V m c (Pipeline.arrRef spec0 w) := by
  dsimp only [dats]

theorem after_zero (c : Dev nD) (t : Fin grid0.N) : (dats m 0 c).after 0 t = iblk m c 0 t := by dsimp only [dats]; rfl
theorem after_one (c : Dev nD) (t : Fin grid0.N) : (dats m 0 c).after 1 t = iblk m c 1 t := by dsimp only [dats]; rfl
theorem after_two (c : Dev nD) (t : Fin grid0.N) :
    (dats m 0 c).after 2 t = payRounded (iblk m c 0 (stored t)) (iblk m c 1 (stored t)) := by dsimp only [dats]; rfl
theorem after_three (c : Dev nD) (t : Fin grid0.N) :
    (dats m 0 c).after 3 t = payPlain (iblk m c 0 t) (iblk m c 1 t) := by dsimp only [dats]; rfl

/-- A row block is in place at every point, -/
theorem before_zero (c : Dev nD) (t : Fin grid0.N) (d) : (dats m 0 c).before 0 t d = iblk m c 0 t :=
  ((dats m 0 c).before_in_eq_fetched 0 rfl (fun _ => rfl) (fun _ _ _ => rfl)
    (fun t => by rw [after_zero]; unfold Dat.blockOf iblk; rw [A_eq]; try rfl) t d).trans
      (by unfold Dat.fetched Dat.blockOf iblk; rw [A_eq]; try rfl)

/-- and so is a column block. -/
theorem before_one (c : Dev nD) (t : Fin grid0.N) (d) : (dats m 0 c).before 1 t d = iblk m c 1 t :=
  ((dats m 0 c).before_in_eq_fetched 1 rfl (fun _ => rfl) (fun _ _ _ => rfl)
    (fun t => by rw [after_one]; unfold Dat.blockOf iblk; rw [A_eq]; try rfl) t d).trans
      (by unfold Dat.fetched Dat.blockOf iblk; rw [A_eq]; try rfl)

/-- At the last 9 column blocks the first result's block still holds what was stored in it. -/
theorem before_two (c : Dev nD) (d) : ∀ (n : ℕ) (t : Fin grid0.N), t.val = n → ¬ t.val % 23 < 14 →
    (dats m 0 c).before 2 t d = (dats m 0 c).after 2 t := by
  intro n
  induction n with
  | zero => intro t ht h; omega
  | succ n ih =>
    intro t ht h
    have hN : grid0.N = 184 := N_0
    have hlt : n < grid0.N := by have := t.isLt; omega
    have hstored : stored ⟨n, hlt⟩ = stored t := Fin.ext (by
      show n / 23 * 23 + min (n % 23) 13 = t.val / 23 * 23 + min (t.val % 23) 13; omega)
    have hflush : ((cfg (F := F)).win 2).flush ⟨n, hlt⟩ = false := by
      rw [flush_two]; exact decide_eq_false (by show ¬ (n % 23 < 13 ∨ n % 23 = 22); omega)
    have hpos := (dats m 0 c).before_of_pos 2 t (by omega) (Window.fetch_out _ rfl _) d
    refine hpos.trans ?_
    have hpred : (⟨t.val - 1, by have := t.isLt; omega⟩ : Fin grid0.N) = ⟨n, hlt⟩ := Fin.ext (by show t.val - 1 = n; omega)
    rw [show (⟨t.val - 1, _⟩ : Fin (cfg (F := F)).N) = ⟨n, hlt⟩ from hpred, hflush]
    show (dats m 0 c).left 2 ⟨n, hlt⟩ d = _
    unfold Dat.left
    rw [idle_two]
    by_cases h' : n % 23 < 14
    · rw [show decide (¬ (⟨n, hlt⟩ : Fin grid0.N).val % 23 < 14) = false from decide_eq_false (by show ¬ ¬ n % 23 < 14; omega)]
      show (dats m 0 c).after 2 ⟨n, hlt⟩ = _
      rw [after_two, after_two, hstored]
    · rw [show decide (¬ (⟨n, hlt⟩ : Fin grid0.N).val % 23 < 14) = true from decide_eq_true (by show ¬ n % 23 < 14; omega)]
      show (dats m 0 c).before 2 ⟨n, hlt⟩ d = _
      rw [ih ⟨n, hlt⟩ rfl h', after_two, after_two, hstored]

/-! ## The body's obligation -/

/-- The memref window `w`'s block is staged in at point `t`. -/
abbrev mem (t : Fin grid0.N) (w : Fin 4) := ((cfg (F := F)).win w).stage ((cfg (F := F)).slots t w)

/-- The body at a point, on the memrefs of that point. -/
abbrev bodyAt (t : Fin grid0.N) : Prog (TpuEff nD τ sig (Elt F) Λ₀ .tc) PUnit :=
  cc0_proj_in (grid0.coords t) (Memref.whole main_c) (Memref.isWhole_whole _)
    (mem (F := F) t 0) (hstage0_0 (((cfg (F := F)).slots t 0).cast nbuf0_0)) (mem (F := F) t 1) (hstage0_1 (((cfg (F := F)).slots t 1).cast nbuf0_1))
    (mem (F := F) t 2) (hstage0_2 (((cfg (F := F)).slots t 2).cast nbuf0_2)) (mem (F := F) t 3) (hstage0_3 (((cfg (F := F)).slots t 3).cast nbuf0_3))

/-- It is what the table of bodies holds. -/
theorem defs₀_row (t : Fin grid0.N) :
    defs₀ (F := F) .tc (cfg (F := F)).body ((cfg (F := F)).bodyArgs t ((cfg (F := F)).slots t)) = bodyAt (F := F) t := by
  unfold defs₀; rw [Defs.onTc_tc]

/-- What the body starts from at a point. -/
def bodyPre (c : Dev nD) (t : Fin grid0.N) : sProp 𝕄 :=
  iprop((dats m 0 c).Φ t.castSucc ∗ (dats m 0 c).owesAt () t.castSucc
    ∗ (∃ d, owns (c : Thread nD τ) (mem (F := F) t 0) fullShare ((dats m 0 c).before 0 t d))
    ∗ (∃ d, owns (c : Thread nD τ) (mem (F := F) t 1) fullShare ((dats m 0 c).before 1 t d))
    ∗ (∃ d, owns (c : Thread nD τ) (mem (F := F) t 2) fullShare ((dats m 0 c).before 2 t d))
    ∗ (∃ d, owns (c : Thread nD τ) (mem (F := F) t 3) fullShare ((dats m 0 c).before 3 t d)))

/-- What it leaves at the first 14 column blocks, -/
def postRounded (c : Dev nD) (t : Fin grid0.N) : sProp 𝕄 :=
  iprop((dats m 0 c).Φ t.succ ∗ (dats m 0 c).owesAt () t.succ
    ∗ owns (c : Thread nD τ) (mem (F := F) t 0) fullShare ((dats m 0 c).after 0 t)
    ∗ owns (c : Thread nD τ) (mem (F := F) t 1) fullShare ((dats m 0 c).after 1 t)
    ∗ owns (c : Thread nD τ) (mem (F := F) t 2) fullShare ((dats m 0 c).after 2 t)
    ∗ (∃ d, owns (c : Thread nD τ) (mem (F := F) t 3) fullShare ((dats m 0 c).before 3 t d)))

/-- and at the last 9. -/
def postPlain (c : Dev nD) (t : Fin grid0.N) : sProp 𝕄 :=
  iprop((dats m 0 c).Φ t.succ ∗ (dats m 0 c).owesAt () t.succ
    ∗ owns (c : Thread nD τ) (mem (F := F) t 0) fullShare ((dats m 0 c).after 0 t)
    ∗ owns (c : Thread nD τ) (mem (F := F) t 1) fullShare ((dats m 0 c).after 1 t)
    ∗ (∃ d, owns (c : Thread nD τ) (mem (F := F) t 2) fullShare ((dats m 0 c).before 2 t d))
    ∗ owns (c : Thread nD τ) (mem (F := F) t 3) fullShare ((dats m 0 c).after 3 t))

/-- What a result's block holds afterwards: what it held before if the body is idle there and nothing is written back,
    what the data say otherwise. -/
def leftIn (idle flush : Bool) (before after : sProp 𝕄) : sProp 𝕄 :=
  match idle with
  | true => match flush with
    | false => before
    | true => after
  | false => after

/-- What the body leaves, from which of the result blocks it is idle in and which are written back. -/
def postOf (c : Dev nD) (t : Fin grid0.N) (i2 f2 i3 f3 : Bool) : sProp 𝕄 :=
  iprop((dats m 0 c).Φ t.succ ∗ (dats m 0 c).owesAt () t.succ
    ∗ owns (c : Thread nD τ) (mem (F := F) t 0) fullShare ((dats m 0 c).after 0 t)
    ∗ owns (c : Thread nD τ) (mem (F := F) t 1) fullShare ((dats m 0 c).after 1 t)
    ∗ leftIn i2 f2 iprop(∃ d, owns (c : Thread nD τ) (mem (F := F) t 2) fullShare ((dats m 0 c).before 2 t d))
        (owns (c : Thread nD τ) (mem (F := F) t 2) fullShare ((dats m 0 c).after 2 t))
    ∗ leftIn i3 f3 iprop(∃ d, owns (c : Thread nD τ) (mem (F := F) t 3) fullShare ((dats m 0 c).before 3 t d))
        (owns (c : Thread nD τ) (mem (F := F) t 3) fullShare ((dats m 0 c).after 3 t)))

theorem sound_rounded (c : Dev nD) (t : Fin grid0.N) (h : t.val % 23 < 14) :
    bodyPre m c t ⊢ wp frame (wpE (defs₀ (F := F)) Variants.none c none) Set.univ (bodyAt (F := F) t) (fun _ => postRounded m c t) := by
  unfold bodyPre postRounded bodyAt
  simp only [before_zero, before_one]
  rw [show (dats m 0 c).Φ t.succ = (dats m 0 c).Φ t.castSucc from rfl,
    show (dats m 0 c).owesAt () t.succ = (dats m 0 c).owesAt () t.castSucc from rfl,
    after_zero, after_one, after_two, stored_self t h]
  iintro ⟨HΦ, Ho, ⟨%d0, H0⟩, ⟨%d1, H1⟩, ⟨%d2, H2⟩, H3⟩
  iapply (run_rounded c (grid0.coords t) ((cond1_iff t).2 h) (fun h2 => (cond2_iff t).1 h2 h) _ _ _ _ _ _ _ _ _ _
    (iblk m c 0 t) (iblk m c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  isplitl [H2]; · iexact H2
  iexact H3

theorem sound_plain (c : Dev nD) (t : Fin grid0.N) (h : ¬ t.val % 23 < 14) :
    bodyPre m c t ⊢ wp frame (wpE (defs₀ (F := F)) Variants.none c none) Set.univ (bodyAt (F := F) t) (fun _ => postPlain m c t) := by
  unfold bodyPre postPlain bodyAt
  simp only [before_zero, before_one]
  rw [show (dats m 0 c).Φ t.succ = (dats m 0 c).Φ t.castSucc from rfl,
    show (dats m 0 c).owesAt () t.succ = (dats m 0 c).owesAt () t.castSucc from rfl,
    after_zero, after_one, after_three]
  iintro ⟨HΦ, Ho, ⟨%d0, H0⟩, ⟨%d1, H1⟩, H2, ⟨%d3, H3⟩⟩
  iapply (run_plain c (grid0.coords t) (fun h1 => h ((cond1_iff t).1 h1)) ((cond2_iff t).2 h) _ _ _ _ _ _ _ _ _ _
    (iblk m c 0 t) (iblk m c 1 t) Set.univ _)
  isplitl [H0]; · iexact H0
  isplitl [H1]; · iexact H1
  isplitl [H3]; · iexists _; iexact H3
  iintro ⟨H0, H1, H3⟩
  isplitl [HΦ]; · iexact HΦ
  isplitl [Ho]; · iexact Ho
  isplitl [H0]; · iexact H0
  isplitl [H1]; · iexact H1
  isplitl [H2]; · iexact H2
  iexact H3

/-- The body keeps its contract at every point. -/
theorem body_obligation (c : Dev nD) : BodyObligation (dats (F := F) m 0 c) (defs₀ (F := F)) Variants.none () Set.univ := fun t => by
  rw [bigSep_W0, bigSep_W0, defs₀_row]
  have hi2 := idle_two (F := F) t
  have hi3 := idle_three (F := F) t
  have hf2 := flush_two (F := F) t
  have hf3 := flush_three (F := F) t
  by_cases h : t.val % 23 < 14
  · rw [decide_eq_false (by omega)] at hi2
    rw [decide_eq_true h] at hi3
    rw [decide_eq_false (by omega)] at hf3
    refine triple_restated (sound_rounded m c t h) rfl .rfl fun _ => ?_
    show _ ⊢ postOf m c t ((cfg (F := F)).idle 2 ((cfg (F := F)).grid.coords t)) (((cfg (F := F)).win 2).flush t) ((cfg (F := F)).idle 3 ((cfg (F := F)).grid.coords t)) (((cfg (F := F)).win 3).flush t)
    rw [hi2, hi3, hf3]
    exact .rfl
  · rw [decide_eq_true h] at hi2
    rw [decide_eq_false h] at hi3
    refine triple_restated (sound_plain m c t h) rfl .rfl fun _ => ?_
    show _ ⊢ postOf m c t ((cfg (F := F)).idle 2 ((cfg (F := F)).grid.coords t)) (((cfg (F := F)).win 2).flush t) ((cfg (F := F)).idle 3 ((cfg (F := F)).grid.coords t)) (((cfg (F := F)).win 3).flush t)
    rw [hi2, hi3]
    by_cases h' : t.val % 23 = 22
    · rw [decide_eq_true (by omega)] at hf2
      rw [hf2]
      show _ ⊢ iprop((dats m 0 c).Φ t.succ ∗ (dats m 0 c).owesAt () t.succ
        ∗ owns (c : Thread nD τ) (mem (F := F) t 0) fullShare ((dats m 0 c).after 0 t)
        ∗ owns (c : Thread nD τ) (mem (F := F) t 1) fullShare ((dats m 0 c).after 1 t)
        ∗ owns (c : Thread nD τ) (mem (F := F) t 2) fullShare ((dats m 0 c).after 2 t)
        ∗ owns (c : Thread nD τ) (mem (F := F) t 3) fullShare ((dats m 0 c).after 3 t))
      unfold postPlain
      iintro ⟨HΦ, Ho, H0, H1, ⟨%d, H2⟩, H3⟩
      rw [before_two m c d t.val t rfl h]
      isplitl [HΦ]; · iexact HΦ
      isplitl [Ho]; · iexact Ho
      isplitl [H0]; · iexact H0
      isplitl [H1]; · iexact H1
      isplitl [H2]; · iexact H2
      iexact H3
    · rw [decide_eq_false (by omega)] at hf2
      rw [hf2]
      exact .rfl

/-! ## The run -/

/-- A core's buffers at the end, from what the call leaves in its arrays. -/
abbrev final (c : Dev nD) (b : Ref sig .tc) : Buf (Elt F) ((c : Thread nD τ).loc b) :=
  Pipeline.afterTail (pcfgs (F := F)) adm (dats m) 0 (V0 m) [hostOps1] c b

set_option backward.isDefEq.respectTransparency.types false in
/-- The program runs, each array ends at what the blocks written back into it leave, the other buffers at what the host
    operations after the call make of those, every counter at zero. -/
theorem run_all : θ_run defs (onTc (τ := τ) (main (F := F))) (s₀ m ρ)
    (fun r => Pipeline.FramePost (Pipeline.pin (pcfgs (F := F)) adm) (dats m) 0 (final m) r ∧ r.2.sem = fun _ => 0) :=
  Pipeline.θ_run_frameP_around (Q' := _) (pcfgs (F := F)) adm (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := V_table m) (hΦ := fun _ _ => rfl)
    (hQ' := fun _ h => h)

/-- The second result with its columns split: which of queries, keys and values, which group, which head, which feature. -/
abbrev split (q : Vec F S8192x4608 .f32) : Vec F S2x4096x3x3x4x128 .f32 := shapeCast _ q shapeCasts_S8192x4608_S2x4096x3x3x4x128

/-- The keys and values of the last 128 rows, first group. -/
def buffer0 (q : Vec F S8192x4608 .f32) : Vec F S1x2x128x2x4x128 .f32 :=
  broadcastInDim S1x2x128x2x4x128 ![1, 2, 3, 4, 5] bcast_S2x128x2x4x128_S1x2x128x2x4x128_1_2_3_4_5
    (shapeCast S2x128x2x4x128 (extractStridedSlice S2x128x2x1x4x128 ![0, 3968, 1, 0, 0, 0] (split q) slices_S2x4096x3x3x4x128_S2x128x2x1x4x128_0_3968_1_0_0_0)
      shapeCasts_S2x128x2x1x4x128_S2x128x2x4x128)

/-- The keys and values of the last 512 rows, second group. -/
def buffer1 (q : Vec F S8192x4608 .f32) : Vec F S1x2x512x2x4x128 .f32 :=
  broadcastInDim S1x2x512x2x4x128 ![1, 2, 3, 4, 5] bcast_S2x512x2x4x128_S1x2x512x2x4x128_1_2_3_4_5
    (shapeCast S2x512x2x4x128 (extractStridedSlice S2x512x2x1x4x128 ![0, 3584, 1, 1, 0, 0] (split q) slices_S2x4096x3x3x4x128_S2x512x2x1x4x128_0_3584_1_1_0_0)
      shapeCasts_S2x512x2x1x4x128_S2x512x2x4x128)

/-- The keys and values of the last 2048 rows, third group. -/
def buffer2 (q : Vec F S8192x4608 .f32) : Vec F S1x2x2048x2x4x128 .f32 :=
  broadcastInDim S1x2x2048x2x4x128 ![1, 2, 3, 4, 5] bcast_S2x2048x2x4x128_S1x2x2048x2x4x128_1_2_3_4_5
    (shapeCast S2x2048x2x4x128 (extractStridedSlice S2x2048x2x1x4x128 ![0, 2048, 1, 2, 0, 0] (split q) slices_S2x4096x3x3x4x128_S2x2048x2x1x4x128_0_2048_1_2_0_0)
      shapeCasts_S2x2048x2x1x4x128_S2x2048x2x4x128)

/-- From whatever contents the operations after the call start, they cut the first buffer out of the second result, -/
theorem tail_buffer0 (W : Valuation τ sig (Elt F)) : StableHlo.after (List.flatten [hostOps1]) W (Proc.devRef .tc main_v8) = buffer0 (W (Proc.devRef .tc main_v4_1)) := by
  unfold buffer0 split; after_results; rfl

/-- the second, -/
theorem tail_buffer1 (W : Valuation τ sig (Elt F)) : StableHlo.after (List.flatten [hostOps1]) W (Proc.devRef .tc main_v11) = buffer1 (W (Proc.devRef .tc main_v4_1)) := by
  unfold buffer1 split; after_results; rfl

/-- and the third; -/
theorem tail_buffer2 (W : Valuation τ sig (Elt F)) : StableHlo.after (List.flatten [hostOps1]) W (Proc.devRef .tc main_v14) = buffer2 (W (Proc.devRef .tc main_v4_1)) := by
  unfold buffer2 split; after_results; rfl

/-- they leave the first argument as it was, -/
theorem tail_main_arg0 (W : Valuation τ sig (Elt F)) : StableHlo.after (List.flatten [hostOps1]) W (Proc.devRef .tc main_arg0) = W (Proc.devRef .tc main_arg0) := by
  show StableHlo.after hostOps1 W (Proc.devRef .tc main_arg0) = _
  after_results

/-- and the second. -/
theorem tail_main_arg1 (W : Valuation τ sig (Elt F)) : StableHlo.after (List.flatten [hostOps1]) W (Proc.devRef .tc main_arg1) = W (Proc.devRef .tc main_arg1) := by
  show StableHlo.after hostOps1 W (Proc.devRef .tc main_arg1) = _
  after_results

/-- A core's buffers when the call is over: its arrays at what the blocks written back leave, the others untouched. -/
abbrev leaves (c : Dev nD) : Valuation τ sig (Elt F) :=
  Pipeline.withArrays (Pipeline.pin (pcfgs (F := F)) adm 0).spec c (V0 m c) fun w => (dats m 0 c).arrAt w (Pipeline.pin (pcfgs (F := F)) adm 0).N

/-- What the call leaves in the second result's array. -/
theorem leaves_three (c : Dev nD) : leaves m c (Proc.devRef .tc main_v4_1) = (dats m 0 c).arrAt 3 grid0.N :=
  Pipeline.withArrays_arr (Pipeline.pin (pcfgs (F := F)) adm 0).spec (launch0 (F := F)).win.arr_inj c (V0 m c)
    (fun w => (dats m 0 c).arrAt w (Pipeline.pin (pcfgs (F := F)) adm 0).N) 3

/-- The first buffer at the end is cut out of the second result, -/
theorem final_buffer0 (c : Dev nD) : final m c main_v8 = buffer0 ((dats m 0 c).arrAt 3 grid0.N) :=
  (tail_buffer0 (leaves m c)).trans (congrArg (buffer0 (F := F)) (leaves_three m c))

/-- so is the second, -/
theorem final_buffer1 (c : Dev nD) : final m c main_v11 = buffer1 ((dats m 0 c).arrAt 3 grid0.N) :=
  (tail_buffer1 (leaves m c)).trans (congrArg (buffer1 (F := F)) (leaves_three m c))

/-- and the third. -/
theorem final_buffer2 (c : Dev nD) : final m c main_v14 = buffer2 ((dats m 0 c).arrAt 3 grid0.N) :=
  (tail_buffer2 (leaves m c)).trans (congrArg (buffer2 (F := F)) (leaves_three m c))

/-- The first argument at the end is what it was, -/
theorem final_main_arg0 (c : Dev nD) : final m c main_arg0 = m ((c : Thread nD τ).loc main_arg0) :=
  (tail_main_arg0 (leaves m c)).trans ((Pipeline.withArrays_of_ne _ c (V0 m c) _ main_arg0
    (by exact (by decide : ∀ w, Pipeline.arrRef spec0 w ≠ main_arg0))).trans (V_main_arg0 m c))

/-- and the second. -/
theorem final_main_arg1 (c : Dev nD) : final m c main_arg1 = m ((c : Thread nD τ).loc main_arg1) :=
  (tail_main_arg1 (leaves m c)).trans ((Pipeline.withArrays_of_ne _ c (V0 m c) _ main_arg1
    (by exact (by decide : ∀ w, Pipeline.arrRef spec0 w ≠ main_arg1))).trans (V_main_arg1 m c))

/-- The final contents: the call's two results at what the blocks written back into them leave, the three buffers cut out of
    the second, the arguments as they were. -/
theorem run : θ_run defs (onTc (τ := τ) (main (F := F))) ⟨m, fun _ => 0, ρ⟩ (fun r =>
    (∀ c : Dev nD,
      r.2.mem ((c.tc : Thread nD τ).loc main_v4_0) = (dats m 0 c).arrAt 2 grid0.N
      ∧ r.2.mem ((c.tc : Thread nD τ).loc main_v4_1) = (dats m 0 c).arrAt 3 grid0.N
      ∧ r.2.mem ((c.tc : Thread nD τ).loc main_v8) = buffer0 ((dats m 0 c).arrAt 3 grid0.N)
      ∧ r.2.mem ((c.tc : Thread nD τ).loc main_v11) = buffer1 ((dats m 0 c).arrAt 3 grid0.N)
      ∧ r.2.mem ((c.tc : Thread nD τ).loc main_v14) = buffer2 ((dats m 0 c).arrAt 3 grid0.N)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2, (h.1 c).1 3,
      ((h.1 c).2 main_v8 (Pipeline.mem_restRefs_of main_v8 (by decide) (by decide : ∀ w : Fin 4, (spec0 w).arr.view.ref ≠ main_v8))).trans (final_buffer0 m c),
      ((h.1 c).2 main_v11 (Pipeline.mem_restRefs_of main_v11 (by decide) (by decide : ∀ w : Fin 4, (spec0 w).arr.view.ref ≠ main_v11))).trans (final_buffer1 m c),
      ((h.1 c).2 main_v14 (Pipeline.mem_restRefs_of main_v14 (by decide) (by decide : ∀ w : Fin 4, (spec0 w).arr.view.ref ≠ main_v14))).trans (final_buffer2 m c),
      ((h.1 c).2 main_arg0 (Pipeline.mem_restRefs_of main_arg0 (by decide) (by decide : ∀ w : Fin 4, (spec0 w).arr.view.ref ≠ main_arg0))).trans (final_main_arg0 m c),
      ((h.1 c).2 main_arg1 (Pipeline.mem_restRefs_of main_arg1 (by decide) (by decide : ∀ w : Fin 4, (spec0 w).arr.view.ref ≠ main_arg1))).trans (final_main_arg1 m c)⟩, h.2⟩) (run_all m ρ)

/-- The frame: the program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2.2.2.2, h.2⟩) (run m ρ)

end Cert.ProjIdealRun

end
-- ==== Proof.ProjValue.lean ====
/- The values of the input projection at `Ideal`: both results, entry by entry, are inner products of a row of the activations
   and a column of the weights. -/
module

public import proofs.«01_k».proof.Proof.ProjIdealRun
public import Idealize.ShloMosaic.Lib.Pipeline.ValueKit.Geometry
public import Idealize.ShloMosaic.PureOps.Ideal.Laws
public import Idealize.ShloMosaic.Lib.MatmulPlain
public import Idealize.ShloMosaic.Lib.ValueIdx

@[expose] public section

set_option maxRecDepth 16384

noncomputable section

namespace Cert.ProjValue

open Cert.ProjIdeal Cert.ProjIdeal.Gen Cert.ProjIdealRun
open Idealize.ShloMosaic Idealize.ShloMosaic.TcCoe Idealize.ShloMosaic.ValueIdx Idealize.ShloMosaic.Tactic Idealize.SL.Sem
open Idealize.ShloMosaic.Pipeline (Dat Cfg Window)

variable (m : (ℓ : Loc nD τ sig) → Buf (Elt Ideal) ℓ) (c : Dev nD)

/-! ## The product of two blocks -/

/-- An entry of the product of a row block and a column block. -/
theorem plain_apply (X : Vec Ideal S1024x2048 .bf16) (W : Vec Ideal S2048x512 .bf16) (y : S1024x512.Idx) :
    payPlain X W y = ∑ k : Fin 2048, X (ix2 (y 0) k) * W (ix2 k (y 1)) := by
  have h : ∀ (r : Fin 1024) (j : Fin 512), matmul (φ₁ := .bf16) (φ₂ := .bf16) (DotDims.plain 1024 2048 512) none
      (shapeCast S1024x2048 X shapeCasts_S1024x2048_S1024x2048)
      (shapeCast S2048x512 W shapeCasts_S2048x512_S2048x512) (constant (F := Ideal) ⟨2, ![1024, 512]⟩ .f32 0x00000000#32) (ix2 r j)
      = ∑ k : Fin 2048, (X (ix2 r k) * W (ix2 k j) : EReal) := by
    intro r j
    rw [shapeCast_self, shapeCast_self]
    simp only [matmul]
    rw [Ideal.matmul_plain_apply]
    show Ideal.ofBits .f32 0x00000000#32 + _ = _
    rw [Ideal.ofBits_zero_f32, zero_add]
  refine Eq.trans (congrArg _ ?_) (h (y 0) (y 1))
  funext a
  match a with
  | ⟨0, _⟩ => rfl
  | ⟨1, _⟩ => rfl

/-- Rounding is the identity at `Ideal`. -/
theorem rounded_apply (X : Vec Ideal S1024x2048 .bf16) (W : Vec Ideal S2048x512 .bf16) (y : S1024x512.Idx) :
    payRounded X W y = ∑ k : Fin 2048, X (ix2 (y 0) k) * W (ix2 k (y 1)) := plain_apply X W y

/-! ## The blocks -/

theorem rows_index : ∀ t : Fin grid0.N, cc0_transform_0 (grid0.coords t) = ![t.val / 23, 0] := by decide +kernel
theorem columns_word : ∀ t : Fin grid0.N, (lit0 (grid0.coords t 1)).toNat = (t.val % 23 + 15) % 23 := by decide +kernel
theorem first_index : ∀ t : Fin grid0.N, cc0_transform_2 (grid0.coords t) = ![t.val / 23, min (t.val % 23) 13] := by decide +kernel
theorem second_index : ∀ t : Fin grid0.N, cc0_transform_3 (grid0.coords t) = ![t.val / 23, t.val % 23 - 14] := by decide +kernel

theorem point_lt (t : Fin grid0.N) : t.val < 184 := N_0 ▸ t.isLt

/-- Where an entry of a row block lies in the activations. -/
theorem emb_rows (t : Fin grid0.N) (y : S1024x2048.Idx) :
    (((cfg (F := Ideal)).win 0).blk t).view.emb y = (ix2 ⟨t.val / 23 * 1024 + (y 0).val, by have := point_lt t; have : (y 0).val < 1024 := (y 0).isLt; omega⟩ (y 1) : S8192x2048.Idx) := by
  refine funext fun a => Fin.ext ?_
  match a with
  | ⟨0, _⟩ =>
    show cc0_transform_0 (grid0.coords t) 0 * 1024 + 1 * (y 0).val = t.val / 23 * 1024 + (y 0).val
    rw [rows_index]; show t.val / 23 * 1024 + 1 * (y 0).val = _; omega
  | ⟨1, _⟩ =>
    show cc0_transform_0 (grid0.coords t) 1 * 2048 + 1 * (y 1).val = (y 1).val
    rw [rows_index]; show 0 * 2048 + 1 * (y 1).val = _; omega

/-- Where an entry of a column block lies in the weights. -/
theorem emb_columns (t : Fin grid0.N) (y : S2048x512.Idx) :
    (((cfg (F := Ideal)).win 1).blk t).view.emb y = (ix2 (y 0) ⟨(t.val % 23 + 15) % 23 * 512 + (y 1).val, by have : (y 1).val < 512 := (y 1).isLt; omega⟩ : S2048x11776.Idx) := by
  refine funext fun a => Fin.ext ?_
  match a with
  | ⟨0, _⟩ =>
    show column (grid0.coords t) 0 * 2048 + 1 * (y 0).val = (y 0).val
    rw [column_word]; show 0 * 2048 + 1 * (y 0).val = _; omega
  | ⟨1, _⟩ =>
    show column (grid0.coords t) 1 * 512 + 1 * (y 1).val = _
    rw [column_word]; show (lit0 (grid0.coords t 1)).toNat * 512 + 1 * (y 1).val = (t.val % 23 + 15) % 23 * 512 + (y 1).val
    rw [columns_word]; omega

/-- Where an entry of a block of the first result lies, -/
theorem emb_first (t : Fin grid0.N) (y : S1024x512.Idx) :
    (((cfg (F := Ideal)).win 2).blk t).view.emb y = (ix2 ⟨t.val / 23 * 1024 + (y 0).val, by have := point_lt t; have : (y 0).val < 1024 := (y 0).isLt; omega⟩
      ⟨min (t.val % 23) 13 * 512 + (y 1).val, by have : (y 1).val < 512 := (y 1).isLt; omega⟩ : S8192x7168.Idx) := by
  refine funext fun a => Fin.ext ?_
  match a with
  | ⟨0, _⟩ =>
    show cc0_transform_2 (grid0.coords t) 0 * 1024 + 1 * (y 0).val = t.val / 23 * 1024 + (y 0).val
    rw [first_index]; show t.val / 23 * 1024 + 1 * (y 0).val = _; omega
  | ⟨1, _⟩ =>
    show cc0_transform_2 (grid0.coords t) 1 * 512 + 1 * (y 1).val = min (t.val % 23) 13 * 512 + (y 1).val
    rw [first_index]; show min (t.val % 23) 13 * 512 + 1 * (y 1).val = _; omega

/-- and of the second. -/
theorem emb_second (t : Fin grid0.N) (y : S1024x512.Idx) :
    (((cfg (F := Ideal)).win 3).blk t).view.emb y = (ix2 ⟨t.val / 23 * 1024 + (y 0).val, by have := point_lt t; have : (y 0).val < 1024 := (y 0).isLt; omega⟩
      ⟨(t.val % 23 - 14) * 512 + (y 1).val, by have : (y 1).val < 512 := (y 1).isLt; omega⟩ : S8192x4608.Idx) := by
  refine funext fun a => Fin.ext ?_
  match a with
  | ⟨0, _⟩ =>
    show cc0_transform_3 (grid0.coords t) 0 * 1024 + 1 * (y 0).val = t.val / 23 * 1024 + (y 0).val
    rw [second_index]; show t.val / 23 * 1024 + 1 * (y 0).val = _; omega
  | ⟨1, _⟩ =>
    show cc0_transform_3 (grid0.coords t) 1 * 512 + 1 * (y 1).val = (t.val % 23 - 14) * 512 + (y 1).val
    rw [second_index]; show (t.val % 23 - 14) * 512 + 1 * (y 1).val = _; omega

/-! ## The arrays -/

/-- The activations, row by row. -/
def acts (m : (ℓ : Loc nD τ sig) → Buf (Elt Ideal) ℓ) (c : Dev nD) : S8192x2048.Idx → EReal :=
  shapeCast S8192x2048 (m ((c : Thread nD τ).loc main_arg0) : Vec Ideal S2x4096x2048 .f32) shapeCasts_S2x4096x2048_S8192x2048

/-- The weights. -/
def weights (m : (ℓ : Loc nD τ sig) → Buf (Elt Ideal) ℓ) (c : Dev nD) : S2048x11776.Idx → EReal :=
  shapeCast S2048x11776 (m ((c : Thread nD τ).loc main_arg1) : Vec Ideal S1x2048x11776 .f32) shapeCasts_S1x2048x11776_S2048x11776

theorem V_rows : V m c main_v1 = acts m c := by
  show StableHlo.after hostOps0 (fun b => m (c, b)) (Proc.devRef .tc main_v1) = _
  unfold acts; after_results; rfl

theorem V_columns : V m c main_v3 = weights m c := by
  show StableHlo.after hostOps0 (fun b => m (c, b)) (Proc.devRef .tc main_v3) = _
  unfold weights; after_results; rfl

/-- An entry of the projection. -/
def entry (r : Fin 8192) (j : Fin 11776) : EReal := ∑ k : Fin 2048, acts m c (ix2 r k) * weights m c (ix2 k j)

/-- A row block at a point, -/
def rowsAt (t : Fin grid0.N) : S1024x2048.Idx → EReal := iblk m c 0 t

/-- and a column block. -/
def columnsAt (t : Fin grid0.N) : S2048x512.Idx → EReal := iblk m c 1 t

theorem rows_apply (t : Fin grid0.N) (y : S1024x2048.Idx) :
    rowsAt m c t y = acts m c (ix2 ⟨t.val / 23 * 1024 + (y 0).val, by have := point_lt t; have : (y 0).val < 1024 := (y 0).isLt; omega⟩ (y 1)) := by
  show V m c main_v1 ((((cfg (F := Ideal)).win 0).blk t).view.emb y) = _
  rw [V_rows, emb_rows]

theorem columns_apply (t : Fin grid0.N) (y : S2048x512.Idx) :
    columnsAt m c t y = weights m c (ix2 (y 0) ⟨(t.val % 23 + 15) % 23 * 512 + (y 1).val, by have : (y 1).val < 512 := (y 1).isLt; omega⟩) := by
  show V m c main_v3 ((((cfg (F := Ideal)).win 1).blk t).view.emb y) = _
  rw [V_columns, emb_columns]

/-- The first result: its columns are those of the projection from 7680 on, and then the first 3072. -/
def first : S8192x7168.Idx → EReal := fun i =>
  entry m c (i 0) ⟨((i 1).val + 7680) % 11776, Nat.mod_lt _ (by decide)⟩

/-- The second result: its columns are those of the projection from 3072 on. -/
def second : S8192x4608.Idx → EReal := fun i =>
  entry m c (i 0) ⟨3072 + (i 1).val, by have : (i 1).val < 4608 := (i 1).isLt; omega⟩

/-- The first result ends at the entries stated. -/
theorem first_final : (dats m 0 c).arrAt 2 grid0.N = first m c := by
  refine (dats m 0 c).arrAt_eq_of_covers 2 _ (by decide +kernel) fun t hf y => ?_
  show (dats m 0 c).after 2 t y = first m c ((((cfg (F := Ideal)).win 2).blk t).view.emb y)
  rw [after_two, emb_first, rounded_apply]
  unfold first entry
  show (∑ k : Fin 2048, rowsAt m c (stored t) (ix2 (y 0) k) * columnsAt m c (stored t) (ix2 k (y 1))) = ∑ k : Fin 2048, acts m c _ * weights m c _
  refine Finset.sum_congr (M := EReal) rfl fun k _ => ?_
  rw [rows_apply, columns_apply]
  have hs : (stored t).val = t.val / 23 * 23 + min (t.val % 23) 13 := rfl
  have ht := point_lt t
  have hy : ((y : S1024x512.Idx) 1).val < 512 := (y 1).isLt
  refine congrArg₂ (· * ·) (congrArg _ ?_) (congrArg _ ?_)
  · refine funext fun a => Fin.ext ?_
    match a with
    | ⟨0, _⟩ => show (stored t).val / 23 * 1024 + (y 0).val = t.val / 23 * 1024 + (y 0).val; rw [hs]; omega
    | ⟨1, _⟩ => rfl
  · refine funext fun a => Fin.ext ?_
    match a with
    | ⟨0, _⟩ => rfl
    | ⟨1, _⟩ =>
      show ((stored t).val % 23 + 15) % 23 * 512 + (y 1).val = (min (t.val % 23) 13 * 512 + (y 1).val + 7680) % 11776
      rw [hs]; omega

/-- The second result ends at the entries stated. -/
theorem second_final : (dats m 0 c).arrAt 3 grid0.N = second m c := by
  refine (dats m 0 c).arrAt_eq_of_covers 3 _ (by decide +kernel) fun t hf y => ?_
  show (dats m 0 c).after 3 t y = second m c ((((cfg (F := Ideal)).win 3).blk t).view.emb y)
  rw [after_three, emb_second, plain_apply]
  rw [flush_three] at hf
  have h14 : ¬ t.val % 23 < 14 := of_decide_eq_true hf
  unfold second entry
  show (∑ k : Fin 2048, rowsAt m c t (ix2 (y 0) k) * columnsAt m c t (ix2 k (y 1))) = ∑ k : Fin 2048, acts m c _ * weights m c _
  refine Finset.sum_congr (M := EReal) rfl fun k _ => ?_
  rw [rows_apply, columns_apply]
  have ht := point_lt t
  have hy : ((y : S1024x512.Idx) 1).val < 512 := (y 1).isLt
  refine congrArg₂ (· * ·) rfl (congrArg _ ?_)
  refine funext fun a => Fin.ext ?_
  match a with
  | ⟨0, _⟩ => rfl
  | ⟨1, _⟩ =>
    show (t.val % 23 + 15) % 23 * 512 + (y 1).val = 3072 + ((t.val % 23 - 14) * 512 + (y 1).val)
    omega

end Cert.ProjValue

end
-- ==== Proof.Buffers.lean ====
/- Buffers of keys and values cut out of a matrix whose rows are the positions of two sequences of 4096 and whose columns are
   split by group, head and feature: where an entry of such a buffer lies in the matrix. Once for a matrix that holds queries,
   keys and values side by side, once for keys and values that are stacked first. -/
module

public import Idealize.ShloMosaic.Lib.Pipeline.Value
public import Idealize.ShloMosaic.Lib.ValueIdx
public import Idealize.ShloMosaic.Lib.ValueIdxRank6

@[expose] public section

namespace Cert.Buffers

open Idealize.ShloMosaic Idealize.ShloMosaic.ValueIdx

variable {α : Type}

/-- An index of a buffer is its coordinates, the leading one zero. -/
theorem sequence {n : Nat} (i : (⟨6, ![1, 2, n, 2, 4, 128]⟩ : Shape).Idx) :
    i = ix6 (n0 := 1) (n1 := 2) (n2 := n) (n3 := 2) (n4 := 4) (n5 := 128) 0 (i 1) (i 2) (i 3) (i 4) (i 5) := by
  refine funext fun k => ?_
  match k with
  | ⟨0, _⟩ => exact Subsingleton.elim (α := Fin 1) _ _
  | ⟨1, _⟩ => rfl
  | ⟨2, _⟩ => rfl
  | ⟨3, _⟩ => rfl
  | ⟨4, _⟩ => rfl
  | ⟨5, _⟩ => rfl

/-- The row of position `o + j` of sequence `b`. -/
abbrev row {n o : Nat} (ho : o + n = 4096) (b : Fin 2) (j : Fin n) : Fin 8192 := ⟨b.val * 4096 + (o + j.val), by omega⟩

/-- A leading unit axis changes nothing. -/
theorem outer_apply {n : Nat} (hn : n ≠ 1) (y : (⟨5, ![2, n, 2, 4, 128]⟩ : Shape).Idx → α)
    (hb : (⟨5, ![2, n, 2, 4, 128]⟩ : Shape).BroadcastsInDim ⟨6, ![1, 2, n, 2, 4, 128]⟩ (![1, 2, 3, 4, 5] : Fin 5 → Fin 6))
    (b : Fin 2) (j : Fin n) (w : Fin 2) (h : Fin 4) (e : Fin 128) :
    broadcastInDim ⟨6, ![1, 2, n, 2, 4, 128]⟩ ![1, 2, 3, 4, 5] hb y (ix6 0 b j w h e) = y (ix5 b j w h e) := by
  refine broadcastInDim_apply _ hb y _ _ fun a => ?_
  match a with
  | ⟨0, _⟩ => rfl
  | ⟨1, _⟩ => show j.val = if n = 1 then 0 else j.val; rw [if_neg hn]
  | ⟨2, _⟩ => rfl
  | ⟨3, _⟩ => rfl
  | ⟨4, _⟩ => rfl

/-- A buffer cut out of queries, keys and values side by side: keys start at column 1536 and values at column 3072, a group has
    512 columns of either, a head 128. -/
theorem side_apply {n o g : Nat} (hn : n ≠ 1) (ho : o + n = 4096) (hg : g < 3) (q : (⟨2, ![8192, 4608]⟩ : Shape).Idx → α)
    (h0 : (⟨2, ![8192, 4608]⟩ : Shape).ShapeCasts ⟨6, ![2, 4096, 3, 3, 4, 128]⟩)
    (h1 : (⟨6, ![2, 4096, 3, 3, 4, 128]⟩ : Shape).Slices ![0, o, 1, g, 0, 0] ⟨6, ![2, n, 2, 1, 4, 128]⟩)
    (h2 : (⟨6, ![2, n, 2, 1, 4, 128]⟩ : Shape).ShapeCasts ⟨5, ![2, n, 2, 4, 128]⟩)
    (h3 : (⟨5, ![2, n, 2, 4, 128]⟩ : Shape).BroadcastsInDim ⟨6, ![1, 2, n, 2, 4, 128]⟩ (![1, 2, 3, 4, 5] : Fin 5 → Fin 6))
    (b : Fin 2) (j : Fin n) (w : Fin 2) (h : Fin 4) (e : Fin 128) :
    broadcastInDim ⟨6, ![1, 2, n, 2, 4, 128]⟩ ![1, 2, 3, 4, 5] h3 (shapeCast ⟨5, ![2, n, 2, 4, 128]⟩
      (extractStridedSlice ⟨6, ![2, n, 2, 1, 4, 128]⟩ ![0, o, 1, g, 0, 0] (shapeCast ⟨6, ![2, 4096, 3, 3, 4, 128]⟩ q h0) h1) h2) (ix6 0 b j w h e)
    = q (ix2 (row ho b j) ⟨1536 * (1 + w.val) + (g * 512 + h.val * 128 + e.val), by omega⟩) := by
  refine (outer_apply hn _ h3 b j w h e).trans ?_
  refine (shapeCast_apply _ h2 _ (ix6 b j w 0 h e) ?_).trans ?_
  · rw [Shape.rowMajor_val_six, Shape.rowMajor_val_five]
    show ((((b.val * n + j.val) * 2 + w.val) * 1 + 0) * 4 + h.val) * 128 + e.val = (((b.val * n + j.val) * 2 + w.val) * 4 + h.val) * 128 + e.val
    rw [Nat.mul_one, Nat.add_zero]
  refine (extractStridedSlice_apply _ _ h1 _ (ix6 b ⟨o + j.val, by omega⟩ ⟨1 + w.val, by omega⟩ ⟨g, hg⟩ h e) fun a => ?_).trans ?_
  · match a with
    | ⟨0, _⟩ => show b.val = 0 + b.val; omega
    | ⟨1, _⟩ => rfl
    | ⟨2, _⟩ => rfl
    | ⟨3, _⟩ => rfl
    | ⟨4, _⟩ => show h.val = 0 + h.val; omega
    | ⟨5, _⟩ => show e.val = 0 + e.val; omega
  refine shapeCast_apply q h0 _ _ ?_
  rw [Shape.rowMajor_val_six, Shape.rowMajor_val_two]
  show (b.val * 4096 + (o + j.val)) * 4608 + (1536 * (1 + w.val) + (g * 512 + h.val * 128 + e.val))
    = ((((b.val * 4096 + (o + j.val)) * 3 + (1 + w.val)) * 3 + g) * 4 + h.val) * 128 + e.val
  omega

/-- One group of the keys, or of the values, with a unit axis for the stacking: group `g` has columns `512 g` on. -/
theorem group_apply {g : Nat} (hg : g < 3) (z : (⟨2, ![8192, 1536]⟩ : Shape).Idx → α)
    (h0 : (⟨2, ![8192, 1536]⟩ : Shape).ShapeCasts ⟨5, ![2, 4096, 3, 4, 128]⟩)
    (h1 : (⟨5, ![2, 4096, 3, 4, 128]⟩ : Shape).Slices ![0, 0, g, 0, 0] ⟨5, ![2, 4096, 1, 4, 128]⟩)
    (h2 : (⟨5, ![2, 4096, 1, 4, 128]⟩ : Shape).ShapeCasts ⟨4, ![2, 4096, 4, 128]⟩)
    (h3 : (⟨4, ![2, 4096, 4, 128]⟩ : Shape).BroadcastsInDim ⟨5, ![2, 4096, 1, 4, 128]⟩ (![0, 1, 3, 4] : Fin 4 → Fin 5))
    (b : Fin 2) (s : Fin 4096) (h : Fin 4) (e : Fin 128) :
    broadcastInDim ⟨5, ![2, 4096, 1, 4, 128]⟩ ![0, 1, 3, 4] h3 (shapeCast ⟨4, ![2, 4096, 4, 128]⟩
      (extractStridedSlice ⟨5, ![2, 4096, 1, 4, 128]⟩ ![0, 0, g, 0, 0] (shapeCast ⟨5, ![2, 4096, 3, 4, 128]⟩ z h0) h1) h2) (ix5 b s 0 h e)
    = z (ix2 ⟨b.val * 4096 + s.val, by omega⟩ ⟨g * 512 + h.val * 128 + e.val, by omega⟩) := by
  refine (broadcastInDim_apply _ h3 _ _ (ix4 b s h e) fun a => ?_).trans ?_
  · match a with
    | ⟨0, _⟩ => rfl
    | ⟨1, _⟩ => rfl
    | ⟨2, _⟩ => rfl
    | ⟨3, _⟩ => rfl
  refine (shapeCast_apply _ h2 _ (ix5 b s 0 h e) ?_).trans ?_
  · rw [Shape.rowMajor_val_five, Shape.rowMajor_val_four]
    show (((b.val * 4096 + s.val) * 1 + 0) * 4 + h.val) * 128 + e.val = ((b.val * 4096 + s.val) * 4 + h.val) * 128 + e.val
    omega
  refine (extractStridedSlice_apply _ _ h1 _ (ix5 b s ⟨g, hg⟩ h e) fun a => ?_).trans ?_
  · match a with
    | ⟨0, _⟩ => show b.val = 0 + b.val; omega
    | ⟨1, _⟩ => show s.val = 0 + s.val; omega
    | ⟨2, _⟩ => rfl
    | ⟨3, _⟩ => show h.val = 0 + h.val; omega
    | ⟨4, _⟩ => show e.val = 0 + e.val; omega
  refine shapeCast_apply z h0 _ _ ?_
  rw [Shape.rowMajor_val_five, Shape.rowMajor_val_two]
  show (b.val * 4096 + s.val) * 1536 + (g * 512 + h.val * 128 + e.val) = (((b.val * 4096 + s.val) * 3 + g) * 4 + h.val) * 128 + e.val
  omega

/-- A buffer cut out of stacked keys and values: its last `n` positions, keys first. -/
theorem stacked_apply {n o : Nat} (hn : n ≠ 1) (ho : o + n = 4096) (k v : (⟨5, ![2, 4096, 1, 4, 128]⟩ : Shape).Idx → α)
    (h0 : Shape.Concatenates [⟨5, ![2, 4096, 1, 4, 128]⟩, ⟨5, ![2, 4096, 1, 4, 128]⟩] ⟨5, ![2, 4096, 2, 4, 128]⟩ 2)
    (h1 : (⟨5, ![2, 4096, 2, 4, 128]⟩ : Shape).Slices ![0, o, 0, 0, 0] ⟨5, ![2, n, 2, 4, 128]⟩)
    (h2 : (⟨5, ![2, n, 2, 4, 128]⟩ : Shape).BroadcastsInDim ⟨6, ![1, 2, n, 2, 4, 128]⟩ (![1, 2, 3, 4, 5] : Fin 5 → Fin 6))
    (b : Fin 2) (j : Fin n) (w : Fin 2) (h : Fin 4) (e : Fin 128) :
    broadcastInDim ⟨6, ![1, 2, n, 2, 4, 128]⟩ ![1, 2, 3, 4, 5] h2 (extractStridedSlice ⟨5, ![2, n, 2, 4, 128]⟩ ![0, o, 0, 0, 0]
      (concatenate ⟨5, ![2, 4096, 2, 4, 128]⟩ 2 [⟨⟨5, ![2, 4096, 1, 4, 128]⟩, k⟩, ⟨⟨5, ![2, 4096, 1, 4, 128]⟩, v⟩] h0) h1) (ix6 0 b j w h e)
    = (if w.val = 0 then k else v) (ix5 b ⟨o + j.val, by omega⟩ 0 h e) := by
  refine (outer_apply hn _ h2 b j w h e).trans ?_
  refine (extractStridedSlice_apply _ _ h1 _ (ix5 b ⟨o + j.val, by omega⟩ w h e) fun a => ?_).trans ?_
  · match a with
    | ⟨0, _⟩ => show b.val = 0 + b.val; omega
    | ⟨1, _⟩ => rfl
    | ⟨2, _⟩ => show w.val = 0 + w.val; omega
    | ⟨3, _⟩ => show h.val = 0 + h.val; omega
    | ⟨4, _⟩ => show e.val = 0 + e.val; omega
  match w with
  | ⟨0, _⟩ =>
    rw [if_pos rfl]
    refine concatenate_apply_piece (t := ⟨5, ![2, 4096, 2, 4, 128]⟩) 2 _ _ _ 0 (by show 0 < 2; omega) ⟨5, ![2, 4096, 1, 4, 128]⟩ k rfl rfl 0 rfl
      (ix5 b ⟨o + j.val, by omega⟩ 0 h e) (fun a ha => ?_) rfl
    match a with
    | ⟨0, _⟩ => rfl
    | ⟨1, _⟩ => rfl
    | ⟨2, _⟩ => exact absurd rfl ha
    | ⟨3, _⟩ => rfl
    | ⟨4, _⟩ => rfl
  | ⟨1, _⟩ =>
    rw [if_neg Nat.one_ne_zero]
    refine concatenate_apply_piece (t := ⟨5, ![2, 4096, 2, 4, 128]⟩) 2 _ _ _ 1 (by show 1 < 2; omega) ⟨5, ![2, 4096, 1, 4, 128]⟩ v rfl rfl 1 rfl
      (ix5 b ⟨o + j.val, by omega⟩ 0 h e) (fun a ha => ?_) rfl
    match a with
    | ⟨0, _⟩ => rfl
    | ⟨1, _⟩ => rfl
    | ⟨2, _⟩ => exact absurd rfl ha
    | ⟨3, _⟩ => rfl
    | ⟨4, _⟩ => rfl

end Cert.Buffers

end
-- ==== Proof.ProjClaim.lean ====
/- The claims about the input projection. -/
module

public import proofs.«01_k».proof.Defs
public import proofs.«01_k».proof.Proof.ProjRun
public import proofs.«01_k».proof.Proof.ProjValue
public import proofs.«01_k».proof.Proof.Buffers
public import proofs.«01_k».proof.Proof.Gen.ProjRefIdeal.Run
public import proofs.«01_k».proof.Proof.Gen.ProjRefIdeal.Read
public import Idealize.ShloMosaic.Lib.Pipeline.Value

@[expose] public section

set_option maxRecDepth 16384

noncomputable section

namespace Cert.ProjClaim

open Idealize.ShloMosaic Idealize.ShloMosaic.TcCoe Idealize.ShloMosaic.ValueIdx Idealize.SL.Sem
open Cert.ProjRefIdeal.Read

theorem frame_p : Cert.quiescent_Proj := fun m ρ _ => Cert.ProjRun.frame m ρ
theorem frame_pi : Cert.quiescent_ProjIdeal := fun m ρ _ => Cert.ProjIdealRun.frame m ρ
theorem frame_ri : Cert.quiescent_ProjRefIdeal := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)
theorem preserves : Cert.preserves_Proj_ProjIdeal := trivial

/-! ## The reference, entry by entry -/

section Reference

open Cert.ProjRefIdeal Cert.ProjRefIdeal.Gen

variable (x : Vec Ideal S2x4096x2048 .f32) (w : Vec Ideal S1x2048x11776 .f32)

/-- The reference's product, from its two factors as matrices. -/
theorem product_apply (r : Fin 8192) (j : Fin 11776) : val_main_v2 (F := Ideal) x w (ix2 r j)
    = ∑ k : Fin 2048, (val_main_v0 (F := Ideal) x (ix2 r k) * val_main_v1 (F := Ideal) w (ix2 k j) : EReal) := by
  refine (val_main_v2_apply x w (ix2 r j)).trans ?_
  refine Finset.sum_congr rfl fun k _ => ?_
  refine congrArg₂ (· * ·) (congrArg _ ?_) (congrArg _ ?_)
  · refine funext fun a => ?_
    match a with
    | ⟨0, _⟩ => rfl
    | ⟨1, _⟩ => rfl
  · refine funext fun a => ?_
    match a with
    | ⟨0, _⟩ => rfl
    | ⟨1, _⟩ => rfl

/-- Its first result at column `j` is the product's column `j + 7680`, counted around. -/
theorem first_apply (r : Fin 8192) (j : Fin 7168) : val_main_v35 (F := Ideal) x w (ix2 r j)
    = val_main_v2 (F := Ideal) x w (ix2 r ⟨(j.val + 7680) % 11776, Nat.mod_lt _ (by decide)⟩) := by
  show val_main_v34 (F := Ideal) x w (ix2 r j) = _
  unfold val_main_v34
  have hj := j.isLt
  rcases Nat.lt_or_ge j.val 2048 with h | h
  · refine (concatenate_apply_piece (t := S8192x7168) 1 _ _ (ix2 r j) 0 (by show 0 < 3; omega) S8192x2048 _ rfl rfl 0 rfl
      (ix2 r ⟨j.val, h⟩) (fun b hb => ?_) (by show 0 + j.val = j.val; omega)).trans ?_
    · match b with
      | ⟨0, _⟩ => rfl
      | ⟨1, _⟩ => exact absurd rfl hb
    · refine (val_main_v31_apply x w _).trans (congrArg _ (funext fun a => Fin.ext ?_))
      match a with
      | ⟨0, _⟩ => rfl
      | ⟨1, _⟩ => show 7680 + j.val = (j.val + 7680) % 11776; omega
  rcases Nat.lt_or_ge j.val 4096 with h' | h'
  · refine (concatenate_apply_piece (t := S8192x7168) 1 _ _ (ix2 r j) 1 (by show 1 < 3; omega) S8192x2048 _ rfl rfl 2048 rfl
      (ix2 r ⟨j.val - 2048, by omega⟩) (fun b hb => ?_) (by show 2048 + (j.val - 2048) = j.val; omega)).trans ?_
    · match b with
      | ⟨0, _⟩ => rfl
      | ⟨1, _⟩ => exact absurd rfl hb
    · refine (val_main_v32_apply x w _).trans (congrArg _ (funext fun a => Fin.ext ?_))
      match a with
      | ⟨0, _⟩ => rfl
      | ⟨1, _⟩ => show 9728 + (j.val - 2048) = (j.val + 7680) % 11776; omega
  · refine (concatenate_apply_piece (t := S8192x7168) 1 _ _ (ix2 r j) 2 (by show 2 < 3; omega) S8192x3072 _ rfl rfl 4096 rfl
      (ix2 r ⟨j.val - 4096, by omega⟩) (fun b hb => ?_) (by show 4096 + (j.val - 4096) = j.val; omega)).trans ?_
    · match b with
      | ⟨0, _⟩ => rfl
      | ⟨1, _⟩ => exact absurd rfl hb
    · refine (val_main_v33_apply x w _).trans (congrArg _ (funext fun a => Fin.ext ?_))
      match a with
      | ⟨0, _⟩ => rfl
      | ⟨1, _⟩ => show j.val - 4096 = (j.val + 7680) % 11776; omega

/-- Its second result at column `j` is the product's column `3072 + j`. -/
theorem second_apply (r : Fin 8192) (j : Fin 4608) : val_main_v36 (F := Ideal) x w (ix2 r j)
    = val_main_v2 (F := Ideal) x w (ix2 r ⟨3072 + j.val, by omega⟩) := by
  refine (val_main_v36_apply x w _).trans (congrArg _ (funext fun a => ?_))
  match a with
  | ⟨0, _⟩ => rfl
  | ⟨1, _⟩ => rfl

/-- Its keys at column `j` are the product's column `4608 + j`, -/
theorem keys_apply (r : Fin 8192) (j : Fin 1536) : val_main_v3 (F := Ideal) x w (ix2 r j)
    = val_main_v2 (F := Ideal) x w (ix2 r ⟨3072 + (1536 + j.val), by omega⟩) := by
  refine (val_main_v3_apply x w _).trans (congrArg _ (funext fun a => Fin.ext ?_))
  match a with
  | ⟨0, _⟩ => rfl
  | ⟨1, _⟩ => show 4608 + j.val = 3072 + (1536 + j.val); omega

/-- its values the product's column `6144 + j`. -/
theorem values_apply (r : Fin 8192) (j : Fin 1536) : val_main_v5 (F := Ideal) x w (ix2 r j)
    = val_main_v2 (F := Ideal) x w (ix2 r ⟨3072 + (3072 + j.val), by omega⟩) := by
  refine (val_main_v5_apply x w _).trans (congrArg _ (funext fun a => Fin.ext ?_))
  match a with
  | ⟨0, _⟩ => rfl
  | ⟨1, _⟩ => show 6144 + j.val = 3072 + (3072 + j.val); omega

/-- Its buffer of the last 128 positions, keys and values of group 0. -/
theorem buffer0_apply (b : Fin 2) (j : Fin 128) (kv : Fin 2) (h : Fin 4) (e : Fin 128) : val_main_v37 (F := Ideal) x w (ix6 0 b j kv h e)
    = val_main_v2 (F := Ideal) x w (ix2 (Buffers.row (o := 3968) rfl b j) ⟨3072 + (1536 * (1 + kv.val) + (0 * 512 + h.val * 128 + e.val)), by omega⟩) := by
  unfold val_main_v37 val_main_v14 val_main_v13
  refine (Buffers.stacked_apply (n := 128) (o := 3968) (by decide) rfl _ _ _ _ _ b j kv h e).trans ?_
  match kv with
  | ⟨0, _⟩ =>
    rw [if_pos rfl]
    unfold val_main_v11 val_main_v8 val_main_v7
    unfold val_main_v4
    exact (Buffers.group_apply (g := 0) (by decide) _ _ _ _ _ b _ h e).trans (keys_apply x w _ _)
  | ⟨1, _⟩ =>
    rw [if_neg Nat.one_ne_zero]
    unfold val_main_v12 val_main_v10 val_main_v9
    unfold val_main_v6
    exact (Buffers.group_apply (g := 0) (by decide) _ _ _ _ _ b _ h e).trans (values_apply x w _ _)

/-- Its buffer of the last 512 positions, keys and values of group 1. -/
theorem buffer1_apply (b : Fin 2) (j : Fin 512) (kv : Fin 2) (h : Fin 4) (e : Fin 128) : val_main_v38 (F := Ideal) x w (ix6 0 b j kv h e)
    = val_main_v2 (F := Ideal) x w (ix2 (Buffers.row (o := 3584) rfl b j) ⟨3072 + (1536 * (1 + kv.val) + (1 * 512 + h.val * 128 + e.val)), by omega⟩) := by
  unfold val_main_v38 val_main_v22 val_main_v21
  refine (Buffers.stacked_apply (n := 512) (o := 3584) (by decide) rfl _ _ _ _ _ b j kv h e).trans ?_
  match kv with
  | ⟨0, _⟩ =>
    rw [if_pos rfl]
    unfold val_main_v19 val_main_v16 val_main_v15
    unfold val_main_v4
    exact (Buffers.group_apply (g := 1) (by decide) _ _ _ _ _ b _ h e).trans (keys_apply x w _ _)
  | ⟨1, _⟩ =>
    rw [if_neg Nat.one_ne_zero]
    unfold val_main_v20 val_main_v18 val_main_v17
    unfold val_main_v6
    exact (Buffers.group_apply (g := 1) (by decide) _ _ _ _ _ b _ h e).trans (values_apply x w _ _)

/-- Its buffer of the last 2048 positions, keys and values of group 2. -/
theorem buffer2_apply (b : Fin 2) (j : Fin 2048) (kv : Fin 2) (h : Fin 4) (e : Fin 128) : val_main_v39 (F := Ideal) x w (ix6 0 b j kv h e)
    = val_main_v2 (F := Ideal) x w (ix2 (Buffers.row (o := 2048) rfl b j) ⟨3072 + (1536 * (1 + kv.val) + (2 * 512 + h.val * 128 + e.val)), by omega⟩) := by
  unfold val_main_v39 val_main_v30 val_main_v29
  refine (Buffers.stacked_apply (n := 2048) (o := 2048) (by decide) rfl _ _ _ _ _ b j kv h e).trans ?_
  match kv with
  | ⟨0, _⟩ =>
    rw [if_pos rfl]
    unfold val_main_v27 val_main_v24 val_main_v23
    unfold val_main_v4
    exact (Buffers.group_apply (g := 2) (by decide) _ _ _ _ _ b _ h e).trans (keys_apply x w _ _)
  | ⟨1, _⟩ =>
    rw [if_neg Nat.one_ne_zero]
    unfold val_main_v28 val_main_v26 val_main_v25
    unfold val_main_v6
    exact (Buffers.group_apply (g := 2) (by decide) _ _ _ _ _ b _ h e).trans (values_apply x w _ _)

end Reference

/-- An index of a matrix is its row and its column. -/
theorem pair {a b : Nat} (i : (⟨2, ![a, b]⟩ : Shape).Idx) : i = ix2 (i 0) (i 1) := by
  refine funext fun k => ?_
  match k with
  | ⟨0, _⟩ => rfl
  | ⟨1, _⟩ => rfl

/-- THE VALUES: both results and the three buffers are the reference's, entry by entry. -/
theorem algebraic : Cert.algebraic_ProjIdeal_ProjRefIdeal := by
  intro m g m' g' _ ha
  refine ⟨fun c => Cert.ProjValue.first m c, fun c => Cert.ProjValue.second m c,
    fun c => Cert.ProjIdealRun.buffer0 (F := Ideal) (Cert.ProjValue.second m c), fun c => Cert.ProjIdealRun.buffer1 (F := Ideal) (Cert.ProjValue.second m c),
    fun c => Cert.ProjIdealRun.buffer2 (F := Ideal) (Cert.ProjValue.second m c), ?_, ?_⟩
  · refine (θ_run Cert.ProjIdeal.defs _ _).mono (fun r h c => ?_) (Cert.ProjIdealRun.run m g)
    obtain ⟨a, b, b0, b1, b2, e⟩ := h.1 c
    have hs := Cert.ProjValue.second_final m c
    exact ⟨a.trans (Cert.ProjValue.first_final m c), b.trans hs, b0.trans (congrArg _ hs), b1.trans (congrArg _ hs), b2.trans (congrArg _ hs), e⟩
  · refine (θ_run Cert.ProjRefIdeal.defs _ _).mono (fun r h c => ?_) (Cert.ProjRefIdeal.Value.run (F := Ideal) m' g')
    obtain ⟨a, b, b0, b1, b2, e⟩ := h c
    rw [val_main_v35_eq, (ha c).1, (ha c).2] at a
    rw [val_main_v36_eq, (ha c).1, (ha c).2] at b
    rw [val_main_v37_eq, (ha c).1, (ha c).2] at b0
    rw [val_main_v38_eq, (ha c).1, (ha c).2] at b1
    rw [val_main_v39_eq, (ha c).1, (ha c).2] at b2
    refine ⟨a.trans (funext fun i => ?_), b.trans (funext fun i => ?_), b0.trans (funext fun i => ?_), b1.trans (funext fun i => ?_),
      b2.trans (funext fun i => ?_), e⟩
    · refine (congrArg _ (pair i)).trans ((first_apply _ _ _ _).trans ((product_apply _ _ _ _).trans ?_))
      rfl
    · refine (congrArg _ (pair i)).trans ((second_apply _ _ _ _).trans ((product_apply _ _ _ _).trans ?_))
      rfl
    · rw [Buffers.sequence i]
      refine (buffer0_apply _ _ _ _ _ _ _).trans ((product_apply _ _ _ _).trans ?_)
      unfold Cert.ProjIdealRun.buffer0
      exact (Buffers.side_apply (n := 128) (o := 3968) (g := 0) (by decide) rfl (by decide) (Cert.ProjValue.second m c) _ _ _ _ _ _ _ _ _).symm
    · rw [Buffers.sequence i]
      refine (buffer1_apply _ _ _ _ _ _ _).trans ((product_apply _ _ _ _).trans ?_)
      unfold Cert.ProjIdealRun.buffer1
      exact (Buffers.side_apply (n := 512) (o := 3584) (g := 1) (by decide) rfl (by decide) (Cert.ProjValue.second m c) _ _ _ _ _ _ _ _ _).symm
    · rw [Buffers.sequence i]
      refine (buffer2_apply _ _ _ _ _ _ _).trans ((product_apply _ _ _ _).trans ?_)
      unfold Cert.ProjIdealRun.buffer2
      exact (Buffers.side_apply (n := 2048) (o := 2048) (g := 2) (by decide) rfl (by decide) (Cert.ProjValue.second m c) _ _ _ _ _ _ _ _ _).symm

end Cert.ProjClaim

end
-- ==== Proof.MixRow.lean ====
/- One row of the layer's mixing step over the extended reals: two gated products are added, multiplied by the output weights,
   added to the scaled residual, and the row is normalised. -/
module

public import Idealize.ShloMosaic.PureOps.Ideal.Laws
public import Idealize.ShloMosaic.Lib.ValueIdx

@[expose] public section

noncomputable section

namespace Cert.MixRow

open Idealize.ShloMosaic Idealize.ShloMosaic.ValueIdx

/-- A matrix of extended reals. -/
abbrev Mat (a b : ℕ) := (⟨2, ![a, b]⟩ : Shape).Idx → EReal

/-- The mean of a row. -/
def mean (v : Fin 2048 → EReal) : EReal := Ideal.div (∑ k : Fin 2048, v k) (Ideal.ofBits .f32 0x45000000#32)

/-- The mean of the squared distances from the mean. -/
def spread (v : Fin 2048 → EReal) : EReal := mean fun k => (v k - mean v) * (v k - mean v)

/-- An entry of the normalised row, scaled and shifted. -/
def normed (v : Fin 2048 → EReal) (g b : EReal) (j : Fin 2048) : EReal :=
  (v j - mean v) * Ideal.rsqrt (spread v + Ideal.ofBits .f32 0x3727C5AC#32) * g + b

variable (p : Fin 1024 → EReal) (o : Fin 512 → EReal) (gc ga x : Fin 2048 → EReal) (Wc : Mat 1024 2048) (Wa : Mat 512 2048)
  (Wo : Mat 2048 2048) (g b : Fin 2048 → EReal)

/-- The two gated products, added. -/
def merged (k : Fin 2048) : EReal :=
  Ideal.logistic (gc k) * (∑ e : Fin 1024, p e * Wc (ix2 e k)) + Ideal.logistic (ga k) * (∑ e : Fin 512, o e * Wa (ix2 e k))

/-- The row before its normalisation. -/
def pre (j : Fin 2048) : EReal :=
  Ideal.ofBits .f32 0x3F9837F0#32 * x j + ∑ k : Fin 2048, merged p o gc ga Wc Wa k * Wo (ix2 k j)

/-- The row of the result. -/
def out (j : Fin 2048) : EReal := normed (pre p o gc ga x Wc Wa Wo) (g j) (b j) j

end Cert.MixRow

end
-- ==== Proof.MixKernel.lean ====
/- What the mixing kernel's body stores, read at `Ideal`: each row of its block is the row formula at that row of its inputs. -/
module

public import proofs.«01_k».proof.Proof.MixRow
public import proofs.«01_k».proof.Proof.Gen.MixIdeal.Value
public import Idealize.ShloMosaic.Lib.MatmulPlain
public import Idealize.ShloMosaic.Lib.WritesUnit

@[expose] public section

set_option maxRecDepth 16384

noncomputable section

namespace Cert.MixKernel

open Cert.MixIdeal Cert.MixIdeal.Gen Cert.MixRow
open Idealize.ShloMosaic Idealize.ShloMosaic.TcCoe Idealize.ShloMosaic.ValueIdx Idealize.ShloMosaic.Tactic Idealize.SL.Sem

/-- An entry of a matrix product onto zero. -/
theorem product_apply {M K N : ℕ} (X : FVec Ideal ⟨2, ![M, K]⟩ .bf16) (W : FVec Ideal ⟨2, ![K, N]⟩ .bf16) (r : Fin M) (j : Fin N) :
    matmul (φ₁ := .bf16) (φ₂ := .bf16) (DotDims.plain M K N) none X W (constant (F := Ideal) ⟨2, ![M, N]⟩ .f32 0x00000000#32) (ix2 r j)
      = ∑ k : Fin K, (X (ix2 r k) * W (ix2 k j) : EReal) := by
  simp only [matmul]
  rw [Ideal.matmul_plain_apply]
  show Ideal.ofBits .f32 0x00000000#32 + _ = _
  rw [Ideal.ofBits_zero_f32, zero_add]

/-- One number a row, repeated along the row. -/
theorem along_apply (x : FVec Ideal S256x1 .f32) (r : Fin 256) (j : Fin 2048) :
    broadcastTo S256x2048 x broadcasts_S256x1_S256x2048 (ix2 r j) = x (ix2 r 0) := by
  refine broadcastTo_apply x _ (ix2 r j) (ix2 r 0) fun a => ?_
  match a with
  | ⟨0, _⟩ => rfl
  | ⟨1, _⟩ => rfl

/-- One row, repeated down the rows. -/
theorem down_apply (x : FVec Ideal S1x2048 .f32) (r : Fin 256) (j : Fin 2048) :
    broadcastTo S256x2048 x broadcasts_S1x2048_S256x2048 (ix2 r j) = x (ix2 0 j) := by
  refine broadcastTo_apply x _ (ix2 r j) (ix2 0 j) fun a => ?_
  match a with
  | ⟨0, _⟩ => rfl
  | ⟨1, _⟩ => rfl

/-- A block's row sums, as a column. -/
def sums (x : FVec Ideal S256x2048 .f32) : FVec Ideal S256x1 .f32 :=
  shapeCast S256x1 (multiReduction .add [1] S256 x 0x00000000#32 reduces_S256x2048_S256 (.inl rfl) rfl) shapeCasts_S256_S256x1

theorem sums_apply (x : FVec Ideal S256x2048 .f32) (r : Fin 256) : sums x (ix2 r 0) = ∑ k : Fin 2048, (x (ix2 r k) : EReal) := by
  refine (shapeCast_apply _ _ (ix2 r 0) (ix1 r) ?_).trans ?_
  · rw [Shape.rowMajor_val_one, Shape.rowMajor_val_two]
    show r.val = r.val * 1 + 0
    omega
  · refine (Ideal.multiReduction_add_single _ _ _ _ _ _).trans (Finset.sum_congr rfl fun k _ => congrArg x (funext fun a => Fin.ext ?_))
    match a with
    | ⟨0, _⟩ => rfl
    | ⟨1, _⟩ => rfl

/-- A block's row means, as a column. -/
def means (x : FVec Ideal S256x2048 .f32) : FVec Ideal S256x1 .f32 :=
  divf (sums x) (broadcast S256x1 (Scalar.ofBits (F := Ideal) .f32 0x45000000#32))

theorem means_apply (x : FVec Ideal S256x2048 .f32) (r : Fin 256) : means x (ix2 r 0) = mean fun k => x (ix2 r k) := by
  show Ideal.div (sums x (ix2 r 0)) _ = _
  rw [sums_apply]; rfl

/-- A block with its row means taken off. -/
def centred (x : FVec Ideal S256x2048 .f32) : FVec Ideal S256x2048 .f32 :=
  subf x (broadcastTo S256x2048 (means x) broadcasts_S256x1_S256x2048)

theorem centred_apply (x : FVec Ideal S256x2048 .f32) (r : Fin 256) (j : Fin 2048) :
    centred x (ix2 r j) = (x (ix2 r j) : EReal) - mean fun k => x (ix2 r k) := by
  show (x (ix2 r j) : EReal) - broadcastTo S256x2048 (means x) broadcasts_S256x1_S256x2048 (ix2 r j) = _
  rw [along_apply, means_apply]

/-- The normalisation of a block, row by row. -/
theorem normed_apply (x : FVec Ideal S256x2048 .f32) (g b : Vec Ideal S1x2048 .f32) (r : Fin 256) (j : Fin 2048) :
    k0_pay1 x (k0_pay3 g) (k0_pay4 b) (sums x) (k0_pay6 (F := Ideal)) (ix2 r j)
      = normed (fun k => x (ix2 r k)) (g (ix2 0 j)) (b (ix2 0 j)) j := by
  show centred x (ix2 r j)
      * broadcastTo S256x2048 (rsqrt (addf (means (mulf (centred x) (centred x))) (broadcast S256x1 (Scalar.ofBits (F := Ideal) .f32 0x3727C5AC#32))))
          broadcasts_S256x1_S256x2048 (ix2 r j)
      * broadcastTo S256x2048 (shapeCast S1x2048 g shapeCasts_S1x2048_S1x2048) broadcasts_S1x2048_S256x2048 (ix2 r j)
      + broadcastTo S256x2048 (shapeCast S1x2048 b shapeCasts_S1x2048_S1x2048) broadcasts_S1x2048_S256x2048 (ix2 r j) = (_ : EReal)
  rw [along_apply, down_apply, down_apply, shapeCast_self, shapeCast_self]
  show centred x (ix2 r j) * Ideal.rsqrt (means (mulf (centred x) (centred x)) (ix2 r 0) + Ideal.ofBits .f32 0x3727C5AC#32) * g (ix2 0 j) + b (ix2 0 j) = (_ : EReal)
  rw [means_apply, centred_apply]
  unfold normed spread
  refine congrArg (fun s : EReal => (x (ix2 r j) - mean fun k => x (ix2 r k)) * Ideal.rsqrt (s + Ideal.ofBits .f32 0x3727C5AC#32) * g (ix2 0 j) + b (ix2 0 j)) ?_
  refine congrArg mean (funext fun k => ?_)
  show centred x (ix2 r k) * centred x (ix2 r k) = (_ : EReal)
  rw [centred_apply]

section block

variable (p : Vec Ideal S256x1024 .bf16) (o : Vec Ideal S256x512 .bf16) (gc ga : Vec Ideal S256x2048 .bf16) (x : Vec Ideal S256x2048 .f32)
  (wc : Vec Ideal S1024x2048 .bf16) (wa : Vec Ideal S512x2048 .bf16) (wo : Vec Ideal S2048x2048 .bf16)

/-- The two gated products of a block, added. -/
def both : FVec Ideal S256x2048 .bf16 :=
  truncf .bf16 (addf
    (mulf (logistic (extf .f32 gc bitsLt_bf16_f32)) (matmul (φ₁ := .bf16) (φ₂ := .bf16) (DotDims.plain 256 1024 2048) none p (shapeCast S1024x2048 wc shapeCasts_S1024x2048_S1024x2048) (constant (F := Ideal) S256x2048 .f32 0x00000000#32)))
    (mulf (logistic (extf .f32 ga bitsLt_bf16_f32)) (matmul (φ₁ := .bf16) (φ₂ := .bf16) (DotDims.plain 256 512 2048) none o (shapeCast S512x2048 wa shapeCasts_S512x2048_S512x2048) (constant (F := Ideal) S256x2048 .f32 0x00000000#32))))
    bitsLt_bf16_f32

theorem both_apply (r : Fin 256) (k : Fin 2048) : both p o gc ga wc wa (ix2 r k)
    = merged (fun e => p (ix2 r e)) (fun e => o (ix2 r e)) (fun j => gc (ix2 r j)) (fun j => ga (ix2 r j)) wc wa k := by
  show Ideal.logistic (gc (ix2 r k)) * matmul (φ₁ := .bf16) (φ₂ := .bf16) (DotDims.plain 256 1024 2048) none p (shapeCast S1024x2048 wc shapeCasts_S1024x2048_S1024x2048) (constant (F := Ideal) S256x2048 .f32 0x00000000#32) (ix2 r k)
    + Ideal.logistic (ga (ix2 r k)) * matmul (φ₁ := .bf16) (φ₂ := .bf16) (DotDims.plain 256 512 2048) none o (shapeCast S512x2048 wa shapeCasts_S512x2048_S512x2048) (constant (F := Ideal) S256x2048 .f32 0x00000000#32) (ix2 r k) = (_ : EReal)
  rw [product_apply, product_apply, shapeCast_self, shapeCast_self]
  rfl

/-- A block before its normalisation, row by row. -/
theorem pre_apply (r : Fin 256) (j : Fin 2048) : k0_pay2 p wc o wa gc ga wo x (ix2 r j)
    = pre (fun e => p (ix2 r e)) (fun e => o (ix2 r e)) (fun j => gc (ix2 r j)) (fun j => ga (ix2 r j)) (fun j => x (ix2 r j)) wc wa wo j := by
  show Ideal.ofBits .f32 0x3F9837F0#32 * shapeCast S256x2048 x shapeCasts_S256x2048_S256x2048 (ix2 r j)
    + matmul (φ₁ := .bf16) (φ₂ := .bf16) (DotDims.plain 256 2048 2048) none (both p o gc ga wc wa) (shapeCast S2048x2048 wo shapeCasts_S2048x2048_S2048x2048) (constant (F := Ideal) S256x2048 .f32 0x00000000#32) (ix2 r j) = (_ : EReal)
  rw [product_apply, shapeCast_self, shapeCast_self]
  unfold pre
  refine congrArg (fun s : EReal => Ideal.ofBits .f32 0x3F9837F0#32 * x (ix2 r j) + s) ?_
  refine Finset.sum_congr (M := EReal) rfl fun k _ => ?_
  rw [both_apply]

/-- What the body stores, from the blocks it reads. -/
def stored (g b : Vec Ideal S1x2048 .f32) : FVec Ideal S256x2048 .f32 :=
  k0_pay1 (k0_pay2 p wc o wa gc ga wo x) (k0_pay3 g) (k0_pay4 b) (k0_pay5 p wc o wa gc ga wo x) (k0_pay6 (F := Ideal))

theorem stored_apply (g b : Vec Ideal S1x2048 .f32) (r : Fin 256) (j : Fin 2048) : stored p o gc ga x wc wa wo g b (ix2 r j)
    = out (fun e => p (ix2 r e)) (fun e => o (ix2 r e)) (fun j => gc (ix2 r j)) (fun j => ga (ix2 r j)) (fun j => x (ix2 r j)) wc wa wo
        (fun j => g (ix2 0 j)) (fun j => b (ix2 0 j)) j := by
  refine (normed_apply (k0_pay2 p wc o wa gc ga wo x) g b r j).trans ?_
  unfold out
  refine congrArg (fun v => normed v (g (ix2 0 j)) (b (ix2 0 j)) j) (funext fun k => ?_)
  exact pre_apply p o gc ga x wc wa wo r k

end block

end Cert.MixKernel

end
-- ==== Proof.MixValue.lean ====
/- The values of the layer's mixing step at `Ideal`: every row that the call writes is the row formula at that row of its arguments. -/
module

public import proofs.«01_k».proof.Proof.MixKernel
public import Idealize.ShloMosaic.Lib.Pipeline.ValueKit.Geometry
public import Idealize.ShloMosaic.Lib.Pipeline.ValueKit.Partial

@[expose] public section

set_option maxRecDepth 16384

noncomputable section

namespace Cert.MixValue

open Cert.MixIdeal Cert.MixIdeal.Gen Cert.MixRow Cert.MixKernel
open Idealize.ShloMosaic Idealize.ShloMosaic.TcCoe Idealize.ShloMosaic.ValueIdx Idealize.ShloMosaic.Tactic Idealize.SL.Sem
open Idealize.ShloMosaic.Pipeline (Dat Cfg Window)

/-! ## Where the blocks lie -/

theorem index_p : ∀ t : Fin grid0.N, cc0_transform_0 (grid0.coords t) = ![t.val, 0] := by decide +kernel
theorem index_o : ∀ t : Fin grid0.N, cc0_transform_1 (grid0.coords t) = ![t.val, 0] := by decide +kernel
theorem index_gc : ∀ t : Fin grid0.N, cc0_transform_2 (grid0.coords t) = ![t.val, 0] := by decide +kernel
theorem index_ga : ∀ t : Fin grid0.N, cc0_transform_3 (grid0.coords t) = ![t.val, 1] := by decide +kernel
theorem index_x : ∀ t : Fin grid0.N, cc0_transform_4 (grid0.coords t) = ![t.val, 0] := by decide +kernel
theorem index_wc : ∀ t : Fin grid0.N, cc0_transform_5 (grid0.coords t) = ![0, 0] := by decide +kernel
theorem index_wa : ∀ t : Fin grid0.N, cc0_transform_6 (grid0.coords t) = ![0, 0] := by decide +kernel
theorem index_wo : ∀ t : Fin grid0.N, cc0_transform_7 (grid0.coords t) = ![0, 0] := by decide +kernel
theorem index_g : ∀ t : Fin grid0.N, cc0_transform_8 (grid0.coords t) = ![0, 0] := by decide +kernel
theorem index_b : ∀ t : Fin grid0.N, cc0_transform_9 (grid0.coords t) = ![0, 0] := by decide +kernel
theorem index_out : ∀ t : Fin grid0.N, cc0_transform_10 (grid0.coords t) = ![t.val, 0] := by decide +kernel

theorem point_lt (t : Fin grid0.N) : t.val < 32 := N_0 ▸ t.isLt

/-- Row `r` of point `t`'s block, among all the rows. -/
def row (t : Fin grid0.N) (r : Fin 256) : Fin 8192 := ⟨t.val * 256 + r.val, by have := point_lt t; omega⟩

/-! ## The arrays -/

variable (m : (ℓ : Loc nD τ sig) → Buf (Elt Ideal) ℓ) (c : Dev nD)

def ps : Mat 8192 1024 := (m ((c : Thread nD τ).loc main_arg0) : Vec Ideal S8192x1024 .bf16)
def os : Mat 8192 512 := (m ((c : Thread nD τ).loc main_arg1) : Vec Ideal S8192x512 .bf16)
def zs : Mat 8192 7168 := (m ((c : Thread nD τ).loc main_arg2) : Vec Ideal S8192x7168 .bf16)
def xs : Mat 8192 2048 := shapeCast S8192x2048 (m ((c : Thread nD τ).loc main_arg3) : Vec Ideal S2x4096x2048 .f32) shapeCasts_S2x4096x2048_S8192x2048
def wc : Mat 1024 2048 := shapeCast S1024x2048 (m ((c : Thread nD τ).loc main_arg4) : Vec Ideal S1x1024x2048 .f32) shapeCasts_S1x1024x2048_S1024x2048
def wa : Mat 512 2048 := shapeCast S512x2048 (m ((c : Thread nD τ).loc main_arg5) : Vec Ideal S1x512x2048 .f32) shapeCasts_S1x512x2048_S512x2048
def wo : Mat 2048 2048 := shapeCast S2048x2048 (m ((c : Thread nD τ).loc main_arg6) : Vec Ideal S1x2048x2048 .f32) shapeCasts_S1x2048x2048_S2048x2048
def gs : Mat 1 2048 := broadcastInDim S1x2048 ![1] bcast_S2048_S1x2048_1 (shapeCast S2048 (m ((c : Thread nD τ).loc main_arg7) : Vec Ideal S1x2048 .f32) shapeCasts_S1x2048_S2048)
def bs : Mat 1 2048 := broadcastInDim S1x2048 ![1] bcast_S2048_S1x2048_1 (shapeCast S2048 (m ((c : Thread nD τ).loc main_arg8) : Vec Ideal S1x2048 .f32) shapeCasts_S1x2048_S2048)

theorem V_p : V m c main_arg0 = ps m c := by unfold V ps; after_results
theorem V_o : V m c main_arg1 = os m c := by unfold V os; after_results
theorem V_z : V m c main_arg2 = zs m c := by unfold V zs; after_results
theorem V_x : V m c main_v0 = xs m c := by unfold V xs; after_results; rfl
theorem V_wc : V m c main_v2 = wc m c := by unfold V wc; after_results; rfl
theorem V_wa : V m c main_v4 = wa m c := by unfold V wa; after_results; rfl
theorem V_wo : V m c main_v6 = wo m c := by unfold V wo; after_results; rfl
theorem V_g : V m c main_v8 = gs m c := by unfold V gs; after_results; rfl
theorem V_b : V m c main_v10 = bs m c := by unfold V bs; after_results; rfl

/-! ## The blocks -/

theorem p_block (t : Fin grid0.N) (r : Fin 256) (e : Fin 1024) : (iblk m c 0 t : Mat 256 1024) (ix2 r e) = ps m c (ix2 (row t r) e) := by
  show V m c main_arg0 (((cfg0.win 0).blk t).view.emb (ix2 r e : S256x1024.Idx)) = _
  rw [V_p]
  refine congrArg _ (funext fun a => Fin.ext ?_)
  match a with
  | ⟨0, _⟩ =>
    show cc0_transform_0 (grid0.coords t) 0 * 256 + 1 * r.val = t.val * 256 + r.val
    rw [index_p]; show t.val * 256 + 1 * r.val = _; omega
  | ⟨1, _⟩ =>
    show cc0_transform_0 (grid0.coords t) 1 * 1024 + 1 * e.val = e.val
    rw [index_p]; show 0 * 1024 + 1 * e.val = _; omega

theorem o_block (t : Fin grid0.N) (r : Fin 256) (e : Fin 512) : (iblk m c 1 t : Mat 256 512) (ix2 r e) = os m c (ix2 (row t r) e) := by
  show V m c main_arg1 (((cfg0.win 1).blk t).view.emb (ix2 r e : S256x512.Idx)) = _
  rw [V_o]
  refine congrArg _ (funext fun a => Fin.ext ?_)
  match a with
  | ⟨0, _⟩ =>
    show cc0_transform_1 (grid0.coords t) 0 * 256 + 1 * r.val = t.val * 256 + r.val
    rw [index_o]; show t.val * 256 + 1 * r.val = _; omega
  | ⟨1, _⟩ =>
    show cc0_transform_1 (grid0.coords t) 1 * 512 + 1 * e.val = e.val
    rw [index_o]; show 0 * 512 + 1 * e.val = _; omega

theorem gc_block (t : Fin grid0.N) (r : Fin 256) (j : Fin 2048) :
    (X0_2 m c t : Mat 256 2048) (ix2 r j) = zs m c (ix2 (row t r) ⟨j.val, by omega⟩) := by
  unfold X0_2 Window.fill
  rw [dif_pos (moved0_2 t _)]
  refine (congrFun (V_z m c) _).trans ?_
  refine congrArg _ (funext fun a => Fin.ext ?_)
  match a with
  | ⟨0, _⟩ =>
    show cc0_transform_2 (grid0.coords t) 0 * 256 + 1 * r.val = t.val * 256 + r.val
    rw [index_gc]; show t.val * 256 + 1 * r.val = _; omega
  | ⟨1, _⟩ =>
    show cc0_transform_2 (grid0.coords t) 1 * 2048 + 1 * j.val = j.val
    rw [index_gc]; show 0 * 2048 + 1 * j.val = _; omega

theorem ga_block (t : Fin grid0.N) (r : Fin 256) (j : Fin 2048) :
    (X0_3 m c t : Mat 256 2048) (ix2 r j) = zs m c (ix2 (row t r) ⟨2048 + j.val, by omega⟩) := by
  unfold X0_3 Window.fill
  rw [dif_pos (moved0_3 t _)]
  refine (congrFun (V_z m c) _).trans ?_
  refine congrArg _ (funext fun a => Fin.ext ?_)
  match a with
  | ⟨0, _⟩ =>
    show cc0_transform_3 (grid0.coords t) 0 * 256 + 1 * r.val = t.val * 256 + r.val
    rw [index_ga]; show t.val * 256 + 1 * r.val = _; omega
  | ⟨1, _⟩ =>
    show cc0_transform_3 (grid0.coords t) 1 * 2048 + 1 * j.val = 2048 + j.val
    rw [index_ga]; show 1 * 2048 + 1 * j.val = _; omega

theorem x_block (t : Fin grid0.N) (r : Fin 256) (j : Fin 2048) : (iblk m c 4 t : Mat 256 2048) (ix2 r j) = xs m c (ix2 (row t r) j) := by
  show V m c main_v0 (((cfg0.win 4).blk t).view.emb (ix2 r j : S256x2048.Idx)) = _
  rw [V_x]
  refine congrArg _ (funext fun a => Fin.ext ?_)
  match a with
  | ⟨0, _⟩ =>
    show cc0_transform_4 (grid0.coords t) 0 * 256 + 1 * r.val = t.val * 256 + r.val
    rw [index_x]; show t.val * 256 + 1 * r.val = _; omega
  | ⟨1, _⟩ =>
    show cc0_transform_4 (grid0.coords t) 1 * 2048 + 1 * j.val = j.val
    rw [index_x]; show 0 * 2048 + 1 * j.val = _; omega

theorem wc_block (t : Fin grid0.N) : (iblk m c 5 t : Mat 1024 2048) = wc m c := by
  funext y
  show V m c main_v2 (((cfg0.win 5).blk t).view.emb (y : S1024x2048.Idx)) = _
  rw [V_wc]
  refine congrArg _ (funext fun a => Fin.ext ?_)
  match a with
  | ⟨0, _⟩ =>
    show cc0_transform_5 (grid0.coords t) 0 * 1024 + 1 * (y 0).val = (y 0).val
    rw [index_wc]; show 0 * 1024 + 1 * (y 0).val = _; omega
  | ⟨1, _⟩ =>
    show cc0_transform_5 (grid0.coords t) 1 * 2048 + 1 * (y 1).val = (y 1).val
    rw [index_wc]; show 0 * 2048 + 1 * (y 1).val = _; omega

theorem wa_block (t : Fin grid0.N) : (iblk m c 6 t : Mat 512 2048) = wa m c := by
  funext y
  show V m c main_v4 (((cfg0.win 6).blk t).view.emb (y : S512x2048.Idx)) = _
  rw [V_wa]
  refine congrArg _ (funext fun a => Fin.ext ?_)
  match a with
  | ⟨0, _⟩ =>
    show cc0_transform_6 (grid0.coords t) 0 * 512 + 1 * (y 0).val = (y 0).val
    rw [index_wa]; show 0 * 512 + 1 * (y 0).val = _; omega
  | ⟨1, _⟩ =>
    show cc0_transform_6 (grid0.coords t) 1 * 2048 + 1 * (y 1).val = (y 1).val
    rw [index_wa]; show 0 * 2048 + 1 * (y 1).val = _; omega

theorem wo_block (t : Fin grid0.N) : (iblk m c 7 t : Mat 2048 2048) = wo m c := by
  funext y
  show V m c main_v6 (((cfg0.win 7).blk t).view.emb (y : S2048x2048.Idx)) = _
  rw [V_wo]
  refine congrArg _ (funext fun a => Fin.ext ?_)
  match a with
  | ⟨0, _⟩ =>
    show cc0_transform_7 (grid0.coords t) 0 * 2048 + 1 * (y 0).val = (y 0).val
    rw [index_wo]; show 0 * 2048 + 1 * (y 0).val = _; omega
  | ⟨1, _⟩ =>
    show cc0_transform_7 (grid0.coords t) 1 * 2048 + 1 * (y 1).val = (y 1).val
    rw [index_wo]; show 0 * 2048 + 1 * (y 1).val = _; omega

theorem g_block (t : Fin grid0.N) : (iblk m c 8 t : Mat 1 2048) = gs m c := by
  funext y
  show V m c main_v8 (((cfg0.win 8).blk t).view.emb (y : S1x2048.Idx)) = _
  rw [V_g]
  refine congrArg _ (funext fun a => Fin.ext ?_)
  match a with
  | ⟨0, _⟩ =>
    show cc0_transform_8 (grid0.coords t) 0 * 1 + 1 * (y 0).val = (y 0).val
    rw [index_g]; show 0 * 1 + 1 * (y 0).val = _; omega
  | ⟨1, _⟩ =>
    show cc0_transform_8 (grid0.coords t) 1 * 2048 + 1 * (y 1).val = (y 1).val
    rw [index_g]; show 0 * 2048 + 1 * (y 1).val = _; omega

theorem b_block (t : Fin grid0.N) : (iblk m c 9 t : Mat 1 2048) = bs m c := by
  funext y
  show V m c main_v10 (((cfg0.win 9).blk t).view.emb (y : S1x2048.Idx)) = _
  rw [V_b]
  refine congrArg _ (funext fun a => Fin.ext ?_)
  match a with
  | ⟨0, _⟩ =>
    show cc0_transform_9 (grid0.coords t) 0 * 1 + 1 * (y 0).val = (y 0).val
    rw [index_b]; show 0 * 1 + 1 * (y 0).val = _; omega
  | ⟨1, _⟩ =>
    show cc0_transform_9 (grid0.coords t) 1 * 2048 + 1 * (y 1).val = (y 1).val
    rw [index_b]; show 0 * 2048 + 1 * (y 1).val = _; omega

/-! ## The result -/

/-- A load of a whole matrix is the matrix. -/
theorem load_whole {a b : ℕ} {e : EltTy} (X : (⟨2, ![a, b]⟩ : Shape).Idx → Elt Ideal e)
    (inb : ∀ k, (![0, 0] : Fin 2 → ℕ) k + (![a, b] : Fin 2 → ℕ) k ≤ (⟨2, ![a, b]⟩ : Shape).size k) :
    View.ld (Val := Elt Ideal) (S := ⟨2, ![a, b]⟩) X (Rect.unit (s := ⟨2, ![a, b]⟩) ![0, 0] ![a, b] inb) = X := by
  funext y
  refine congrArg X (funext fun k => Fin.ext ?_)
  match k with
  | ⟨0, _⟩ => show 0 + 1 * (y 0).val = (y 0).val; omega
  | ⟨1, _⟩ => show 0 + 1 * (y 1).val = (y 1).val; omega

/-- The body's stored value, each of its blocks loaded whole. -/
theorem loads (x0 : Vec Ideal S256x1024 .bf16) (x1 : Vec Ideal S256x512 .bf16) (x2 x3 : Vec Ideal S256x2048 .bf16) (x4 : Vec Ideal S256x2048 .f32)
    (x5 : Vec Ideal S1024x2048 .bf16) (x6 : Vec Ideal S512x2048 .bf16) (x7 : Vec Ideal S2048x2048 .bf16) (x8 x9 : Vec Ideal S1x2048 .f32) (y : S256x2048.Idx) :
    k0_pay1 (k0_pay2 (View.ld (Val := Elt Ideal) x0 (Rect.unit ![0, 0] ![256, 1024] inb_S256x1024_S256x1024_0_0)) (View.ld (Val := Elt Ideal) x5 (Rect.unit ![0, 0] ![1024, 2048] inb_S1024x2048_S1024x2048_0_0)) (View.ld (Val := Elt Ideal) x1 (Rect.unit ![0, 0] ![256, 512] inb_S256x512_S256x512_0_0)) (View.ld (Val := Elt Ideal) x6 (Rect.unit ![0, 0] ![512, 2048] inb_S512x2048_S512x2048_0_0)) (View.ld (Val := Elt Ideal) x2 (Rect.unit ![0, 0] ![256, 2048] inb_S256x2048_S256x2048_0_0)) (View.ld (Val := Elt Ideal) x3 (Rect.unit ![0, 0] ![256, 2048] inb_S256x2048_S256x2048_0_0)) (View.ld (Val := Elt Ideal) x7 (Rect.unit ![0, 0] ![2048, 2048] inb_S2048x2048_S2048x2048_0_0)) (View.ld (Val := Elt Ideal) x4 (Rect.unit ![0, 0] ![256, 2048] inb_S256x2048_S256x2048_0_0)))
      (k0_pay3 (View.ld (Val := Elt Ideal) x8 (Rect.unit ![0, 0] ![1, 2048] inb_S1x2048_S1x2048_0_0))) (k0_pay4 (View.ld (Val := Elt Ideal) x9 (Rect.unit ![0, 0] ![1, 2048] inb_S1x2048_S1x2048_0_0)))
      (k0_pay5 (View.ld (Val := Elt Ideal) x0 (Rect.unit ![0, 0] ![256, 1024] inb_S256x1024_S256x1024_0_0)) (View.ld (Val := Elt Ideal) x5 (Rect.unit ![0, 0] ![1024, 2048] inb_S1024x2048_S1024x2048_0_0)) (View.ld (Val := Elt Ideal) x1 (Rect.unit ![0, 0] ![256, 512] inb_S256x512_S256x512_0_0)) (View.ld (Val := Elt Ideal) x6 (Rect.unit ![0, 0] ![512, 2048] inb_S512x2048_S512x2048_0_0)) (View.ld (Val := Elt Ideal) x2 (Rect.unit ![0, 0] ![256, 2048] inb_S256x2048_S256x2048_0_0)) (View.ld (Val := Elt Ideal) x3 (Rect.unit ![0, 0] ![256, 2048] inb_S256x2048_S256x2048_0_0)) (View.ld (Val := Elt Ideal) x7 (Rect.unit ![0, 0] ![2048, 2048] inb_S2048x2048_S2048x2048_0_0)) (View.ld (Val := Elt Ideal) x4 (Rect.unit ![0, 0] ![256, 2048] inb_S256x2048_S256x2048_0_0)))
      (k0_pay6 (F := Ideal)) y = stored x0 x1 x2 x3 x4 x5 x6 x7 x8 x9 y := by
  have h0 := load_whole (e := .bf16) x0 inb_S256x1024_S256x1024_0_0
  have h1 := load_whole (e := .bf16) x1 inb_S256x512_S256x512_0_0
  have h2 := load_whole (e := .bf16) x2 inb_S256x2048_S256x2048_0_0
  have h3 := load_whole (e := .bf16) x3 inb_S256x2048_S256x2048_0_0
  have h4 := load_whole (e := .f32) x4 inb_S256x2048_S256x2048_0_0
  have h5 := load_whole (e := .bf16) x5 inb_S1024x2048_S1024x2048_0_0
  have h6 := load_whole (e := .bf16) x6 inb_S512x2048_S512x2048_0_0
  have h7 := load_whole (e := .bf16) x7 inb_S2048x2048_S2048x2048_0_0
  have h8 := load_whole (e := .f32) x8 inb_S1x2048_S1x2048_0_0
  have h9 := load_whole (e := .f32) x9 inb_S1x2048_S1x2048_0_0
  unfold stored
  erw [h0, h1, h2, h3, h4, h5, h6, h7, h8, h9]

/-- What the body leaves in the output's buffer at a point. -/
theorem left (t : Fin grid0.N) (y : S256x2048.Idx) : outsAt0 m c t y
    = stored (iblk m c 0 t) (iblk m c 1 t) (X0_2 m c t) (X0_3 m c t) (iblk m c 4 t) (iblk m c 5 t) (iblk m c 6 t) (iblk m c 7 t) (iblk m c 8 t) (iblk m c 9 t) y := by
  unfold outsAt0 out0_A_10
  unfold kernelRun0_A
  dsimp only
  sl_unfold_words
  refine (View.read_writes_cons_unit_of_mem VO0_10 _ _ _ [] y y rfl (fun a => by match a with | ⟨0, _⟩ => exact (Nat.zero_add _).symm | ⟨1, _⟩ => exact (Nat.zero_add _).symm)).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  exact loads _ _ _ _ _ _ _ _ _ _ y

/-- Entry `j` of row `r` of the result. -/
def entry (r : Fin 8192) (j : Fin 2048) : EReal :=
  out (fun e => ps m c (ix2 r e)) (fun e => os m c (ix2 r e)) (fun j => zs m c (ix2 r ⟨j.val, by omega⟩))
    (fun j => zs m c (ix2 r ⟨2048 + j.val, by omega⟩)) (fun j => xs m c (ix2 r j)) (wc m c) (wa m c) (wo m c)
    (fun j => gs m c (ix2 0 j)) (fun j => bs m c (ix2 0 j)) j

/-- The result on the rows of the prompt (and zero below them, where nothing is claimed). -/
def result : S8320x2048.Idx → EReal := fun i => if h : (i 0).val < 8192 then entry m c ⟨(i 0).val, h⟩ (i 1) else 0

/-- Each row of a point's block is the entry stated. -/
theorem left_apply (t : Fin grid0.N) (r : Fin 256) (j : Fin 2048) : outsAt0 m c t (ix2 r j) = entry m c (row t r) j := by
  refine (left m c t (ix2 r j)).trans ((stored_apply _ _ _ _ _ _ _ _ _ _ r j).trans ?_)
  unfold entry
  rw [show (fun e => iblk m c 0 t (ix2 r e : S256x1024.Idx)) = fun e => ps m c (ix2 (row t r) e) from funext (p_block m c t r),
    show (fun e => iblk m c 1 t (ix2 r e : S256x512.Idx)) = fun e => os m c (ix2 (row t r) e) from funext (o_block m c t r),
    show (fun j => X0_2 m c t (ix2 r j : S256x2048.Idx)) = fun j : Fin 2048 => zs m c (ix2 (row t r) ⟨j.val, by omega⟩) from funext (gc_block m c t r),
    show (fun j => X0_3 m c t (ix2 r j : S256x2048.Idx)) = fun j : Fin 2048 => zs m c (ix2 (row t r) ⟨2048 + j.val, by omega⟩) from funext (ga_block m c t r),
    show (fun j => iblk m c 4 t (ix2 r j : S256x2048.Idx)) = fun j => xs m c (ix2 (row t r) j) from funext (x_block m c t r),
    show iblk m c 5 t = wc m c from wc_block m c t, show iblk m c 6 t = wa m c from wa_block m c t,
    show iblk m c 7 t = wo m c from wo_block m c t, show iblk m c 8 t = gs m c from g_block m c t,
    show iblk m c 9 t = bs m c from b_block m c t]

theorem whole_out : ∀ t : Fin grid0.N, ∀ a, (cfg0.win 10).xsize (grid0.coords t) a = (![256, 2048] : Fin 2 → ℕ) a := by decide +kernel

/-- THE RESULT: on the rows of the prompt the call's array ends at the entries stated. -/
theorem final (i : S8320x2048.Idx) (hi : (i 0).val < 8192) : (dats m 0 c).arrAt 10 cfg0.N i = result m c i := by
  refine ((dats m 0 c).arrAt_apply_of_coversWhere 10 (result m c) (P := fun i : S8320x2048.Idx => (i 0).val < 8192)
    (fun β => β (0 : Fin 2) < 32) (by decide +kernel) (fun t hf y => ?_) (fun j => ?_) i).trans (if_pos hi)
  · show (dats m 0 c).after 10 t _ = _
    rw [after0_10]
    have h0 : (y 0).val < 256 := lt_of_lt_of_eq (y 0).isLt (whole_out t 0)
    have h1 : (y 1).val < 2048 := lt_of_lt_of_eq (y 1).isLt (whole_out t 1)
    have ht := point_lt t
    refine (congrArg (outsAt0 m c t) (show _ = (ix2 ⟨(y 0).val, h0⟩ ⟨(y 1).val, h1⟩ : S256x2048.Idx) from funext fun a => ?_)).trans ((left_apply m c t _ _).trans ?_)
    · match a with
      | ⟨0, _⟩ => rfl
      | ⟨1, _⟩ => rfl
    · have e0 : (((cfg0.win 10).blk t).view.emb y 0).val = t.val * 256 + (y 0).val := by
        show cc0_transform_10 (grid0.coords t) 0 * 256 + 1 * (y 0).val = _
        rw [index_out]; show t.val * 256 + 1 * (y 0).val = _; omega
      have e1 : (((cfg0.win 10).blk t).view.emb y 1).val = (y 1).val := by
        show cc0_transform_10 (grid0.coords t) 1 * 2048 + 1 * (y 1).val = _
        rw [index_out]; show 0 * 2048 + 1 * (y 1).val = _; omega
      unfold result
      rw [dif_pos (by rw [e0]; omega)]
      exact congrArg₂ (entry m c) (Fin.ext e0.symm) (Fin.ext e1.symm)
  · show (j 0).val < 8192 ↔ (j 0).val / 256 < 32
    omega

end Cert.MixValue

end
-- ==== Proof.MixClaim.lean ====
/- The claims about the layer's mixing step. -/
module

public import proofs.«01_k».proof.Defs
public import proofs.«01_k».proof.Proof.MixValue
public import proofs.«01_k».proof.Proof.Gen.Mix.Frame
public import proofs.«01_k».proof.Proof.Gen.MixRefIdeal.Run
public import proofs.«01_k».proof.Proof.Gen.MixRefIdeal.Read
public import proofs.«01_k».proof.Proof.Gen.On_rows_of_the_prompt
public import Idealize.ShloMosaic.Lib.Pipeline.Value
public import Idealize.ShloMosaic.Lib.IdealHost
public import Idealize.ShloMosaic.Lib.KernelVsHost

@[expose] public section

set_option maxRecDepth 16384

noncomputable section

namespace Cert.MixClaim

open Idealize.ShloMosaic Idealize.ShloMosaic.TcCoe Idealize.ShloMosaic.ValueIdx Idealize.SL.Sem
open Cert.MixRefIdeal.Read Cert.MixRow

theorem frame_p : Cert.quiescent_Mix := fun m ρ _ => Cert.Mix.Gen.frame m ρ
theorem frame_pi : Cert.quiescent_MixIdeal := fun m ρ _ => Cert.MixIdeal.Gen.frame m ρ
theorem frame_ri : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)
theorem preserves : Cert.preserves_Mix_MixIdeal := trivial

/-- An index of a matrix is its row and its column. -/
theorem pair {a b : Nat} (i : (⟨2, ![a, b]⟩ : Shape).Idx) (r : Fin a) (j : Fin b) (hr : (i 0).val = r.val) (hj : (i 1).val = j.val) : i = ix2 r j := by
  refine funext fun k => Fin.ext ?_
  match k with
  | ⟨0, _⟩ => exact hr
  | ⟨1, _⟩ => exact hj

/-! ## The reference, entry by entry -/

section Reference

open Cert.MixRefIdeal Cert.MixRefIdeal.Gen

variable (p : Vec Ideal S8192x1024 .bf16) (o : Vec Ideal S8192x512 .bf16) (z : Vec Ideal S8192x7168 .bf16) (x : Vec Ideal S2x4096x2048 .f32)
  (wc : Vec Ideal S1x1024x2048 .f32) (wa : Vec Ideal S1x512x2048 .f32) (wo : Vec Ideal S1x2048x2048 .f32) (g b : Vec Ideal S1x2048 .f32)

/-- The reference's first gate is the logistic function of its argument, -/
theorem gate_c (r : Fin 8192) (k : Fin 2048) : val_main_v14 (F := Ideal) z (ix2 r k) = Ideal.logistic (z (ix2 r ⟨k.val, by omega⟩)) := by
  show Ideal.div (Ideal.ofBits .f32 0x3F800000#32) (Ideal.ofBits .f32 0x3F800000#32 + Ideal.exp (-(val_main_v3 (F := Ideal) z (ix2 r k)))) = _
  rw [Ideal.ofBits_one_f32, val_main_v3_apply]
  exact congrArg (fun i => Ideal.div 1 (1 + Ideal.exp (-(z i)))) (pair _ _ _ rfl rfl)

/-- and so is its second. -/
theorem gate_a (r : Fin 8192) (k : Fin 2048) : val_main_v21 (F := Ideal) z (ix2 r k) = Ideal.logistic (z (ix2 r ⟨2048 + k.val, by omega⟩)) := by
  show Ideal.div (Ideal.ofBits .f32 0x3F800000#32) (Ideal.ofBits .f32 0x3F800000#32 + Ideal.exp (-(val_main_v4 (F := Ideal) z (ix2 r k)))) = _
  rw [Ideal.ofBits_one_f32, val_main_v4_apply]
  exact congrArg (fun i => Ideal.div 1 (1 + Ideal.exp (-(z i)))) (pair _ _ _ rfl rfl)

/-- The reference's two gated products, added. -/
theorem merged_apply (r : Fin 8192) (k : Fin 2048) : val_main_v23 (F := Ideal) p o z wc wa (ix2 r k)
    = merged (fun e => p (ix2 r e)) (fun e => o (ix2 r e)) (fun j => z (ix2 r ⟨j.val, by omega⟩)) (fun j => z (ix2 r ⟨2048 + j.val, by omega⟩))
        (val_main_v5 (F := Ideal) wc) (val_main_v7 (F := Ideal) wa) k := by
  show val_main_v14 (F := Ideal) z (ix2 r k) * val_main_v6 (F := Ideal) p wc (ix2 r k)
    + val_main_v21 (F := Ideal) z (ix2 r k) * val_main_v8 (F := Ideal) o wa (ix2 r k) = (_ : EReal)
  rw [gate_c, gate_a, val_main_v6_apply, val_main_v8_apply]
  unfold merged
  refine congrArg₂ (· + ·) (congrArg₂ (· * ·) rfl ?_) (congrArg₂ (· * ·) rfl ?_)
  · refine Finset.sum_congr (M := EReal) rfl fun e _ => congrArg₂ (· * ·) ?_ ?_
    · exact congrArg p (pair _ _ _ rfl rfl)
    · exact congrArg (val_main_v5 (F := Ideal) wc) (pair _ _ _ rfl rfl)
  · refine Finset.sum_congr (M := EReal) rfl fun e _ => congrArg₂ (· * ·) ?_ ?_
    · exact congrArg o (pair _ _ _ rfl rfl)
    · exact congrArg (val_main_v7 (F := Ideal) wa) (pair _ _ _ rfl rfl)

/-- The reference's row before its normalisation. -/
theorem pre_apply (r : Fin 8192) (j : Fin 2048) : val_main_v29 (F := Ideal) p o z x wc wa wo (ix2 r j)
    = pre (fun e => p (ix2 r e)) (fun e => o (ix2 r e)) (fun j => z (ix2 r ⟨j.val, by omega⟩)) (fun j => z (ix2 r ⟨2048 + j.val, by omega⟩))
        (fun j => val_main_v24 (F := Ideal) x (ix2 r j)) (val_main_v5 (F := Ideal) wc) (val_main_v7 (F := Ideal) wa) (val_main_v27 (F := Ideal) wo) j := by
  show Ideal.ofBits .f32 0x3F9837F0#32 * val_main_v24 (F := Ideal) x (ix2 r j) + val_main_v28 (F := Ideal) p o z wc wa wo (ix2 r j) = (_ : EReal)
  rw [val_main_v28_apply]
  unfold pre
  refine congrArg₂ (· + ·) rfl ?_
  refine Finset.sum_congr (M := EReal) rfl fun k _ => congrArg₂ (· * ·) ?_ ?_
  · exact (congrArg (val_main_v23 (F := Ideal) p o z wc wa) (pair _ r k rfl rfl)).trans (merged_apply p o z wc wa r k)
  · exact congrArg (val_main_v27 (F := Ideal) wo) (pair _ _ _ rfl rfl)

/-- The reference's row mean, -/
theorem mean_apply (r : Fin 8192) : val_main_v33 (F := Ideal) p o z x wc wa wo (ix2 r 0)
    = mean fun k => val_main_v29 (F := Ideal) p o z x wc wa wo (ix2 r k) := by
  show Ideal.div (val_main_v31 (F := Ideal) p o z x wc wa wo (ix2 r 0)) (Ideal.ofBits .f32 0x45000000#32) = _
  rw [val_main_v31_apply, val_main_v30_apply]
  unfold mean
  refine congrArg (fun s => Ideal.div s (Ideal.ofBits .f32 0x45000000#32)) ?_
  refine (congrArg (· + _) (show _ = (0 : EReal) from Ideal.ofBits_zero_f32)).trans ((zero_add _).trans ?_)
  exact Finset.sum_congr (M := EReal) rfl fun k _ => congrArg (val_main_v29 (F := Ideal) p o z x wc wa wo) (pair _ _ _ rfl rfl)

/-- its row less the mean, -/
theorem centred_apply (r : Fin 8192) (j : Fin 2048) : val_main_v35 (F := Ideal) p o z x wc wa wo (ix2 r j)
    = (val_main_v29 (F := Ideal) p o z x wc wa wo (ix2 r j) : EReal) - mean fun k => val_main_v29 (F := Ideal) p o z x wc wa wo (ix2 r k) := by
  show (val_main_v29 (F := Ideal) p o z x wc wa wo (ix2 r j) : EReal) - val_main_v34 (F := Ideal) p o z x wc wa wo (ix2 r j) = _
  rw [val_main_v34_apply]
  refine congrArg₂ (· - ·) rfl ?_
  exact (congrArg (val_main_v33 (F := Ideal) p o z x wc wa wo) (pair _ r 0 rfl rfl)).trans (mean_apply p o z x wc wa wo r)

/-- and the mean of the squares. -/
theorem spread_apply (r : Fin 8192) : val_main_v40 (F := Ideal) p o z x wc wa wo (ix2 r 0)
    = spread fun k => val_main_v29 (F := Ideal) p o z x wc wa wo (ix2 r k) := by
  show Ideal.div (val_main_v38 (F := Ideal) p o z x wc wa wo (ix2 r 0)) (Ideal.ofBits .f32 0x45000000#32) = _
  rw [val_main_v38_apply, val_main_v37_apply]
  refine Eq.trans ?_ (show Ideal.div (∑ k : Fin 2048, ((val_main_v29 (F := Ideal) p o z x wc wa wo (ix2 r k) : EReal) - mean fun k => val_main_v29 (F := Ideal) p o z x wc wa wo (ix2 r k))
    * ((val_main_v29 (F := Ideal) p o z x wc wa wo (ix2 r k) : EReal) - mean fun k => val_main_v29 (F := Ideal) p o z x wc wa wo (ix2 r k))) (Ideal.ofBits .f32 0x45000000#32) = _ from rfl)
  refine congrArg (fun s => Ideal.div s (Ideal.ofBits .f32 0x45000000#32)) ?_
  refine (congrArg (· + _) (show _ = (0 : EReal) from Ideal.ofBits_zero_f32)).trans ((zero_add _).trans ?_)
  refine Finset.sum_congr (M := EReal) rfl fun k _ => ?_
  refine (congrArg (val_main_v36 (F := Ideal) p o z x wc wa wo) (pair _ r k rfl rfl)).trans ?_
  show val_main_v35 (F := Ideal) p o z x wc wa wo (ix2 r k) * val_main_v35 (F := Ideal) p o z x wc wa wo (ix2 r k) = (_ : EReal)
  rw [centred_apply]

/-- The reference's normalised row. -/
theorem normed_apply (r : Fin 8192) (j : Fin 2048) : val_main_v55 (F := Ideal) p o z x wc wa wo g b (ix2 r j)
    = normed (fun k => val_main_v29 (F := Ideal) p o z x wc wa wo (ix2 r k)) (val_main_v49 (F := Ideal) g (ix2 0 j)) (val_main_v53 (F := Ideal) b (ix2 0 j)) j := by
  show val_main_v42 (F := Ideal) p o z x wc wa wo (ix2 r j) * val_main_v46 (F := Ideal) p o z x wc wa wo (ix2 r j) * val_main_v50 (F := Ideal) g (ix2 r j)
    + val_main_v54 (F := Ideal) b (ix2 r j) = (_ : EReal)
  have hc : (val_main_v42 (F := Ideal) p o z x wc wa wo (ix2 r j) : EReal)
      = val_main_v29 (F := Ideal) p o z x wc wa wo (ix2 r j) - mean fun k => val_main_v29 (F := Ideal) p o z x wc wa wo (ix2 r k) := by
    show (val_main_v29 (F := Ideal) p o z x wc wa wo (ix2 r j) : EReal) - val_main_v41 (F := Ideal) p o z x wc wa wo (ix2 r j) = _
    rw [val_main_v41_apply]
    refine congrArg₂ (· - ·) rfl ?_
    exact (congrArg (val_main_v33 (F := Ideal) p o z x wc wa wo) (pair _ r 0 rfl rfl)).trans (mean_apply p o z x wc wa wo r)
  have hr : (val_main_v46 (F := Ideal) p o z x wc wa wo (ix2 r j) : EReal)
      = Ideal.rsqrt ((spread fun k => val_main_v29 (F := Ideal) p o z x wc wa wo (ix2 r k)) + Ideal.ofBits .f32 0x3727C5AC#32) := by
    rw [val_main_v46_apply]
    refine (congrArg (val_main_v45 (F := Ideal) p o z x wc wa wo) (pair _ r 0 rfl rfl)).trans ?_
    show Ideal.rsqrt (val_main_v40 (F := Ideal) p o z x wc wa wo (ix2 r 0) + Ideal.ofBits .f32 0x3727C5AC#32) = _
    rw [spread_apply]
  have hg : (val_main_v50 (F := Ideal) g (ix2 r j) : EReal) = val_main_v49 (F := Ideal) g (ix2 0 j) := by
    rw [val_main_v50_apply]; exact congrArg (val_main_v49 (F := Ideal) g) (pair _ _ _ rfl rfl)
  have hb : (val_main_v54 (F := Ideal) b (ix2 r j) : EReal) = val_main_v53 (F := Ideal) b (ix2 0 j) := by
    rw [val_main_v54_apply]; exact congrArg (val_main_v53 (F := Ideal) b) (pair _ _ _ rfl rfl)
  rw [hc, hr, hg, hb]
  rfl

/-- The reference's result on the rows of the prompt. -/
theorem result_apply (i : S8320x2048.Idx) (h : (i 0).val < 8192) : val_main_v56 (F := Ideal) p o z x wc wa wo g b i
    = out (fun e => p (ix2 ⟨(i 0).val, h⟩ e)) (fun e => o (ix2 ⟨(i 0).val, h⟩ e)) (fun j => z (ix2 ⟨(i 0).val, h⟩ ⟨j.val, by omega⟩))
        (fun j => z (ix2 ⟨(i 0).val, h⟩ ⟨2048 + j.val, by omega⟩)) (fun j => val_main_v24 (F := Ideal) x (ix2 ⟨(i 0).val, h⟩ j))
        (val_main_v5 (F := Ideal) wc) (val_main_v7 (F := Ideal) wa) (val_main_v27 (F := Ideal) wo)
        (fun j => val_main_v49 (F := Ideal) g (ix2 0 j)) (fun j => val_main_v53 (F := Ideal) b (ix2 0 j)) (i 1) := by
  unfold val_main_v56
  refine (pad_apply_of_inside _ _ _ _ _ _ _ i (ix2 ⟨(i 0).val, h⟩ (i 1) : S8192x2048.Idx) fun a => ?_).trans ?_
  · match a with
    | ⟨0, _⟩ => show (i 0).val = 0 + (i 0).val * (0 + 1); omega
    | ⟨1, _⟩ => show (i 1).val = 0 + (i 1).val * (0 + 1); omega
  · refine (normed_apply p o z x wc wa wo g b ⟨(i 0).val, h⟩ (i 1)).trans ?_
    unfold out
    refine congrArg (fun v => normed v (val_main_v49 (F := Ideal) g (ix2 0 (i 1))) (val_main_v53 (F := Ideal) b (ix2 0 (i 1))) (i 1)) (funext fun k => ?_)
    exact pre_apply p o z x wc wa wo ⟨(i 0).val, h⟩ k

end Reference

/-- The mask of the claim is on exactly at the rows of the prompt. -/
theorem row_of_mask (p : Vec Ideal Cert.On_rows_of_the_prompt.S8192x1024 .bf16) (o : Vec Ideal Cert.On_rows_of_the_prompt.S8192x512 .bf16)
    (z : Vec Ideal Cert.On_rows_of_the_prompt.S8192x7168 .bf16) (x : Vec Ideal Cert.On_rows_of_the_prompt.S2x4096x2048 .f32)
    (wc : Vec Ideal Cert.On_rows_of_the_prompt.S1x1024x2048 .f32) (wa : Vec Ideal Cert.On_rows_of_the_prompt.S1x512x2048 .f32)
    (wo : Vec Ideal Cert.On_rows_of_the_prompt.S1x2048x2048 .f32) (g b : Vec Ideal Cert.On_rows_of_the_prompt.S1x2048 .f32)
    (i : (⟨2, ![8320, 2048]⟩ : Shape).Idx) (h : Cert.On_rows_of_the_prompt.fn (F := Ideal) p o z x wc wa wo g b i = 1#1) : (i 0).val < 8192 := by
  have h' : BitVec.ofBool ((BitVec.ofNat 32 (i 0).val).slt 8192#32) = 1#1 := h
  have hi : (i 0).val < 8320 := (i 0).isLt
  have hs : (BitVec.ofNat 32 (i 0).val).slt 8192#32 = true := by
    cases e : (BitVec.ofNat 32 (i 0).val).slt 8192#32 with
    | true => rfl
    | false => rw [e] at h'; exact absurd h' (by decide)
  rw [BitVec.slt_iff_toInt_lt, BitVec.toInt_ofNat', Int.bmod_def] at hs
  have e : (8192#32 : BitVec 32).toInt = 8192 := by decide
  rw [e] at hs
  omega

/-- THE VALUES: on the rows of the prompt the result is the reference's, entry by entry. -/
theorem algebraic : Cert.algebraic_MixIdeal_MixRefIdeal_on_rows_of_the_prompt := by
  intro m g m' g' _ ha
  refine ⟨fun c => Cert.MixValue.result m c, ?_, ?_⟩
  · refine (θ_run Cert.MixIdeal.defs _ _).mono (fun r h c => ?_) (Cert.MixIdeal.Value.run_blocks (F := Ideal) m g)
    obtain ⟨a, e⟩ := h c
    exact ⟨fun i hi => (congrFun a i).trans (Cert.MixValue.final m c i (row_of_mask _ _ _ _ _ _ _ _ _ i hi)), e⟩
  · refine (θ_run Cert.MixRefIdeal.defs _ _).mono (fun r h c => ?_) (Cert.MixRefIdeal.Value.run (F := Ideal) m' g')
    obtain ⟨a, e⟩ := h c
    obtain ⟨a0, a1, a2, a3, a4, a5, a6, a7, a8⟩ := ha c
    rw [val_main_v56_eq, a0, a1, a2, a3, a4, a5, a6, a7, a8] at a
    refine ⟨fun i hi => (congrFun a i).trans ?_, e⟩
    have hr := row_of_mask _ _ _ _ _ _ _ _ _ i hi
    refine (result_apply _ _ _ _ _ _ _ _ _ i hr).trans ?_
    refine Eq.trans ?_ (dif_pos hr).symm
    rfl

end Cert.MixClaim

end
-- ==== Proof.Samp1Kernel.lean ====
/- What one grid point of the attention kernel over the cache of 512 rows leaves in its three output blocks. -/
module

public import proofs.«01_k».proof.Proof.HeadAttn
public import proofs.«01_k».proof.Proof.Gen.Samp1Ideal.Value

@[expose] public section

noncomputable section

namespace Cert.Samp1Kernel

open Idealize.ShloMosaic Idealize.ShloMosaic.ValueIdx Cert.Softmax Cert.Attn Cert.HeadAttn
open Cert.Samp1Ideal Cert.Samp1Ideal.Gen Idealize.SL.Sem
open scoped BigOperators

/-- The shape facts the head's operations need. -/
theorem shapes : Head.Facts 512 where
  redn := by decide
  red4 := by decide
  col := by decide
  bn := by decide
  b4 := by decide
  bl := by decide
  up := by decide
  same := by decide
  lt := by decide

theorem cast_apply {a b : ℕ} (h : (⟨3, ![1, a, b]⟩ : Shape).ShapeCasts ⟨2, ![a, b]⟩) (x : FVec Ideal ⟨3, ![1, a, b]⟩ .f32)
    (i : Fin a) (j : Fin b) : shapeCast ⟨2, ![a, b]⟩ x h (ix2 i j) = x (ix3 0 i j) := by
  refine shapeCast_apply x h (ix2 i j) (ix3 0 i j) ?_
  rw [Shape.rowMajor_val_two, Shape.rowMajor_val_three]
  show (0 * a + i.val) * b + j.val = i.val * b + j.val
  rw [Nat.zero_mul, Nat.zero_add]

/-- A block of four rows, rounded to bfloat16. -/
def b4 (v : Vec Ideal S1x4x128 .f32) : FVec Ideal ⟨2, ![4, 128]⟩ .bf16 :=
  truncf .bf16 (shapeCast ⟨2, ![4, 128]⟩ v shapeCasts_S1x4x128_S4x128) bitsLt_bf16_f32

/-- A block of as many rows as the cache has, rounded to bfloat16. -/
def bn (v : Vec Ideal S1x512x128 .f32) : FVec Ideal ⟨2, ![512, 128]⟩ .bf16 :=
  truncf .bf16 (shapeCast ⟨2, ![512, 128]⟩ v shapeCasts_S1x512x128_S512x128) bitsLt_bf16_f32

theorem b4_apply (v : Vec Ideal S1x4x128 .f32) (t : Fin 4) (e : Fin 128) : b4 v (ix2 t e) = v (ix3 0 t e) :=
  cast_apply shapeCasts_S1x4x128_S4x128 v t e

theorem bn_apply (v : Vec Ideal S1x512x128 .f32) (j : Fin 512) (e : Fin 128) : bn v (ix2 j e) = v (ix3 0 j e) :=
  cast_apply shapeCasts_S1x512x128_S512x128 v j e

/-! Each head's stores are the head's output and log-sum-exp, of its five operands. -/

section heads

variable (Mc : IVec S4x512 1) (Mn : IVec S4x4 1) (q kn vn : Vec Ideal S1x4x128 .f32) (k v : Vec Ideal S1x512x128 .f32)

theorem o0 : k0_pay15 Mc Mn (k0_pay4 q) (k0_pay5 v) (k0_pay6 kn) (k0_pay7 vn) (k0_pay8 q k)
    = Head.out shapes Mc Mn (⊥ : EReal) (b4 q) (bn k) (bn v) (b4 kn) (b4 vn) := rfl

theorem l0 : k0_pay16 Mc Mn (k0_pay4 q) (k0_pay6 kn) (k0_pay8 q k)
    = Head.lg shapes Mc Mn (⊥ : EReal) (b4 q) (bn k) (b4 kn) := rfl

theorem o1 : k0_pay26 (k0_pay18 v) (k0_pay19 vn) (k0_pay23 Mc Mn q k kn) (k0_pay24 Mc Mn q k kn)
    = Head.out shapes Mc Mn (⊥ : EReal) (b4 q) (bn k) (bn v) (b4 kn) (b4 vn) := rfl

theorem l1 : k0_pay27 (k0_pay22 Mc Mn q k kn) (k0_pay23 Mc Mn q k kn) (k0_pay24 Mc Mn q k kn)
    = Head.lg shapes Mc Mn (⊥ : EReal) (b4 q) (bn k) (b4 kn) := rfl

theorem o2 : k0_pay38 Mc Mn (k0_pay28 q) (k0_pay29 k) (k0_pay30 v) (k0_pay31 kn) vn
    = Head.out shapes Mc Mn (⊥ : EReal) (b4 q) (bn k) (bn v) (b4 kn) (b4 vn) := rfl

theorem l2 : k0_pay40 (k0_pay39 Mc Mn (k0_pay28 q) (k0_pay29 k) (k0_pay31 kn))
    = Head.lg shapes Mc Mn (⊥ : EReal) (b4 q) (bn k) (b4 kn) := rfl

theorem o3 : k0_pay50 (k0_pay42 v) (k0_pay43 vn) (k0_pay44 Mc q k) (k0_pay45 Mn q kn) (k0_pay46 Mc Mn q k kn)
    = Head.out shapes Mc Mn (⊥ : EReal) (b4 q) (bn k) (bn v) (b4 kn) (b4 vn) := rfl

theorem l3 : k0_pay51 (k0_pay44 Mc q k) (k0_pay45 Mn q kn) (k0_pay46 Mc Mn q k kn)
    = Head.lg shapes Mc Mn (⊥ : EReal) (b4 q) (bn k) (b4 kn) := rfl

end heads

/-! The parts of the three input blocks a head loads. -/

/-- The lanes of head `h` in the query block. -/
def qr (h : Fin 4) : Rect S1x4x512 := Rect.unit ![0, 0, 128 * h.val] ![1, 4, 128] (by
  have := h.isLt
  intro a
  match a with
  | ⟨0, _⟩ => exact Nat.le_refl 1
  | ⟨1, _⟩ => exact Nat.le_refl 4
  | ⟨2, _⟩ => show 128 * h.val + 128 ≤ 512; omega)

/-- Rows `s`, `s + 8`, … of the cache block: head `s`'s keys if `s < 4`, else head `s - 4`'s values. -/
def cr (s : Fin 8) : LoadRect S1x4096x128 where
  off := ![0, s.val, 0]
  size := ![1, 512, 128]
  stride := ![1, 8, 1]
  inb := by
    revert s
    decide

/-- Rows `s`, `s + 8`, … of the block of new rows. -/
def nr (s : Fin 8) : LoadRect S1x32x128 where
  off := ![0, s.val, 0]
  size := ![1, 4, 128]
  stride := ![1, 8, 1]
  inb := by
    revert s
    decide

variable (c : Dev nD) (t : Fin cfg0.N)
variable (X0 : Vec Ideal S1x4x512 .f32) (X1 : Vec Ideal S1x4096x128 .f32) (X2 : Vec Ideal S1x32x128 .f32)

/-- The queries of head `h`. -/
def qh (h : Fin 4) : Vec Ideal S1x4x128 .f32 := View.ld X0 (qr h)

/-- Head `s`'s cached keys, or head `s - 4`'s cached values. -/
def ch (s : Fin 8) : Vec Ideal S1x512x128 .f32 := fun x => X1 ((cr s).idx x)

/-- Head `s`'s new keys, or head `s - 4`'s new values. -/
def nh (s : Fin 8) : Vec Ideal S1x4x128 .f32 := fun x => X2 ((nr s).idx x)

theorem qh_apply (h t : Fin 4) (e : Fin 128) : b4 (qh X0 h) (ix2 t e) = X0 (ix3 0 t ⟨h.val * 128 + e.val, by omega⟩) := by
  rw [b4_apply]
  refine congrArg X0 (funext fun a => Fin.ext ?_)
  match a with
  | ⟨0, _⟩ => rfl
  | ⟨1, _⟩ => show 0 + 1 * t.val = t.val; omega
  | ⟨2, _⟩ => show 128 * h.val + 1 * e.val = h.val * 128 + e.val; omega

theorem ch_apply (s : Fin 8) (j : Fin 512) (e : Fin 128) : bn (ch X1 s) (ix2 j e) = X1 (ix3 0 ⟨j.val * 8 + s.val, by omega⟩ e) := by
  rw [bn_apply]
  refine congrArg X1 (funext fun a => Fin.ext ?_)
  match a with
  | ⟨0, _⟩ => rfl
  | ⟨1, _⟩ => show s.val + 8 * j.val = j.val * 8 + s.val; omega
  | ⟨2, _⟩ => show 0 + 1 * e.val = e.val; omega

theorem nh_apply (s : Fin 8) (j : Fin 4) (e : Fin 128) : b4 (nh X2 s) (ix2 j e) = X2 (ix3 0 ⟨j.val * 8 + s.val, by omega⟩ e) := by
  rw [b4_apply]
  refine congrArg X2 (funext fun a => Fin.ext ?_)
  match a with
  | ⟨0, _⟩ => rfl
  | ⟨1, _⟩ => show s.val + 8 * j.val = j.val * 8 + s.val; omega
  | ⟨2, _⟩ => show 0 + 1 * e.val = e.val; omega

theorem ch_load (M : Memref sig .tc .vmem S1x4096x128 .f32) (hM : M.IsWhole) (s : Fin 8) :
    M.view.readAt (Elt Ideal) (cr s) (hM.unread X1) = ch X1 s :=
  funext fun x => congrFun (hM.read_unread (Val := Elt Ideal) X1) ((cr s).idx x)

theorem nh_load (M : Memref sig .tc .vmem S1x32x128 .f32) (hM : M.IsWhole) (s : Fin 8) :
    M.view.readAt (Elt Ideal) (nr s) (hM.unread X2) = nh X2 s :=
  funext fun x => congrFun (hM.read_unread (Val := Elt Ideal) X2) ((nr s).idx x)

section loads

variable (M1 : Memref sig .tc .vmem S1x4096x128 .f32) (h1 : M1.IsWhole) (M2 : Memref sig .tc .vmem S1x32x128 .f32) (h2 : M2.IsWhole)

theorem q0 : View.ld X0 (Rect.unit (s := S1x4x512) ![0, 0, 0] ![1, 4, 128] inb_S1x4x512_S1x4x128_0_0_0) = qh X0 0 := rfl

theorem q1 : View.ld X0 (Rect.unit (s := S1x4x512) ![0, 0, 128] ![1, 4, 128] inb_S1x4x512_S1x4x128_0_0_128) = qh X0 1 := rfl

theorem q2 : View.ld X0 (Rect.unit (s := S1x4x512) ![0, 0, 256] ![1, 4, 128] inb_S1x4x512_S1x4x128_0_0_256) = qh X0 2 := rfl

theorem q3 : View.ld X0 (Rect.unit (s := S1x4x512) ![0, 0, 384] ![1, 4, 128] inb_S1x4x512_S1x4x128_0_0_384) = qh X0 3 := rfl

theorem c0 : M1.view.readAt (Elt Ideal) (⟨![0, 0, 0], ![1, 512, 128], ![1, 8, 1], inb_S1x4096x128_S1x512x128_0_0_0_s_1_8_1⟩ : LoadRect S1x4096x128) (h1.unread X1) = ch X1 0 :=
  ch_load X1 M1 h1 0

theorem n0 : M2.view.readAt (Elt Ideal) (⟨![0, 0, 0], ![1, 4, 128], ![1, 8, 1], inb_S1x32x128_S1x4x128_0_0_0_s_1_8_1⟩ : LoadRect S1x32x128) (h2.unread X2) = nh X2 0 :=
  nh_load X2 M2 h2 0

theorem c1 : M1.view.readAt (Elt Ideal) (⟨![0, 1, 0], ![1, 512, 128], ![1, 8, 1], inb_S1x4096x128_S1x512x128_0_1_0_s_1_8_1⟩ : LoadRect S1x4096x128) (h1.unread X1) = ch X1 1 :=
  ch_load X1 M1 h1 1

theorem n1 : M2.view.readAt (Elt Ideal) (⟨![0, 1, 0], ![1, 4, 128], ![1, 8, 1], inb_S1x32x128_S1x4x128_0_1_0_s_1_8_1⟩ : LoadRect S1x32x128) (h2.unread X2) = nh X2 1 :=
  nh_load X2 M2 h2 1

theorem c2 : M1.view.readAt (Elt Ideal) (⟨![0, 2, 0], ![1, 512, 128], ![1, 8, 1], inb_S1x4096x128_S1x512x128_0_2_0_s_1_8_1⟩ : LoadRect S1x4096x128) (h1.unread X1) = ch X1 2 :=
  ch_load X1 M1 h1 2

theorem n2 : M2.view.readAt (Elt Ideal) (⟨![0, 2, 0], ![1, 4, 128], ![1, 8, 1], inb_S1x32x128_S1x4x128_0_2_0_s_1_8_1⟩ : LoadRect S1x32x128) (h2.unread X2) = nh X2 2 :=
  nh_load X2 M2 h2 2

theorem c3 : M1.view.readAt (Elt Ideal) (⟨![0, 3, 0], ![1, 512, 128], ![1, 8, 1], inb_S1x4096x128_S1x512x128_0_3_0_s_1_8_1⟩ : LoadRect S1x4096x128) (h1.unread X1) = ch X1 3 :=
  ch_load X1 M1 h1 3

theorem n3 : M2.view.readAt (Elt Ideal) (⟨![0, 3, 0], ![1, 4, 128], ![1, 8, 1], inb_S1x32x128_S1x4x128_0_3_0_s_1_8_1⟩ : LoadRect S1x32x128) (h2.unread X2) = nh X2 3 :=
  nh_load X2 M2 h2 3

theorem c4 : M1.view.readAt (Elt Ideal) (⟨![0, 4, 0], ![1, 512, 128], ![1, 8, 1], inb_S1x4096x128_S1x512x128_0_4_0_s_1_8_1⟩ : LoadRect S1x4096x128) (h1.unread X1) = ch X1 4 :=
  ch_load X1 M1 h1 4

theorem n4 : M2.view.readAt (Elt Ideal) (⟨![0, 4, 0], ![1, 4, 128], ![1, 8, 1], inb_S1x32x128_S1x4x128_0_4_0_s_1_8_1⟩ : LoadRect S1x32x128) (h2.unread X2) = nh X2 4 :=
  nh_load X2 M2 h2 4

theorem c5 : M1.view.readAt (Elt Ideal) (⟨![0, 5, 0], ![1, 512, 128], ![1, 8, 1], inb_S1x4096x128_S1x512x128_0_5_0_s_1_8_1⟩ : LoadRect S1x4096x128) (h1.unread X1) = ch X1 5 :=
  ch_load X1 M1 h1 5

theorem n5 : M2.view.readAt (Elt Ideal) (⟨![0, 5, 0], ![1, 4, 128], ![1, 8, 1], inb_S1x32x128_S1x4x128_0_5_0_s_1_8_1⟩ : LoadRect S1x32x128) (h2.unread X2) = nh X2 5 :=
  nh_load X2 M2 h2 5

theorem c6 : M1.view.readAt (Elt Ideal) (⟨![0, 6, 0], ![1, 512, 128], ![1, 8, 1], inb_S1x4096x128_S1x512x128_0_6_0_s_1_8_1⟩ : LoadRect S1x4096x128) (h1.unread X1) = ch X1 6 :=
  ch_load X1 M1 h1 6

theorem n6 : M2.view.readAt (Elt Ideal) (⟨![0, 6, 0], ![1, 4, 128], ![1, 8, 1], inb_S1x32x128_S1x4x128_0_6_0_s_1_8_1⟩ : LoadRect S1x32x128) (h2.unread X2) = nh X2 6 :=
  nh_load X2 M2 h2 6

theorem c7 : M1.view.readAt (Elt Ideal) (⟨![0, 7, 0], ![1, 512, 128], ![1, 8, 1], inb_S1x4096x128_S1x512x128_0_7_0_s_1_8_1⟩ : LoadRect S1x4096x128) (h1.unread X1) = ch X1 7 :=
  ch_load X1 M1 h1 7

theorem n7 : M2.view.readAt (Elt Ideal) (⟨![0, 7, 0], ![1, 4, 128], ![1, 8, 1], inb_S1x32x128_S1x4x128_0_7_0_s_1_8_1⟩ : LoadRect S1x32x128) (h2.unread X2) = nh X2 7 :=
  nh_load X2 M2 h2 7

end loads

/-- Head `h`'s output from the three blocks. -/
def ob (h : Fin 4) : FVec Ideal S1x4x128 .f32 :=
  Head.out shapes k0_pay2 k0_pay3 (⊥ : EReal) (b4 (qh X0 h)) (bn (ch X1 ⟨h.val, by omega⟩)) (bn (ch X1 ⟨4 + h.val, by omega⟩))
    (b4 (nh X2 ⟨h.val, by omega⟩)) (b4 (nh X2 ⟨4 + h.val, by omega⟩))

/-- Head `h`'s log-sum-exp from the three blocks. -/
def lb (h : Fin 4) : FVec Ideal S1x4x128 .f32 :=
  Head.lg shapes k0_pay2 k0_pay3 (⊥ : EReal) (b4 (qh X0 h)) (bn (ch X1 ⟨h.val, by omega⟩)) (b4 (nh X2 ⟨h.val, by omega⟩))

/-- Head `k`'s part of a block. -/
def part (G : Fin 4 → FVec Ideal S1x4x128 .f32) (k : Fin 4) : View.Piece (Elt Ideal) S1x4x512 .f32 := ⟨qr k, G k⟩

/-- The four heads' parts of a block, set side by side. -/
def four (G : Fin 4 → FVec Ideal S1x4x128 .f32) : Vec Ideal S1x4x512 .f32 :=
  View.canon [part G 3, part G 2, part G 1, part G 0]

theorem o_pieces : out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) X0 X1 X2 = four (ob X0 X1 X2) := by
  unfold out0_A_4
  rw [View.read_writes_eq_canon _ _ _ (cover0_A_4 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [o0, o1, o2, o3, q0, q1, q2, q3, c0, c1, c2, c3, c4, c5, c6, c7, n0, n1, n2, n3, n4, n5, n6, n7]
  unfold four
  rfl

theorem l_pieces : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) X0 X1 X2 = four (lb X0 X1 X2) := by
  unfold out0_A_5
  rw [View.read_writes_eq_canon _ _ _ (cover0_A_5 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [l0, l1, l2, l3, q0, q1, q2, q3, c0, c1, c2, c3, n0, n1, n2, n3]
  unfold four
  rfl

end Cert.Samp1Kernel

end
-- ==== Proof.Window.lean ====
/- Which positions a mask over the cached rows keeps, when it is written as a comparison and a bit mask of 32-bit words. -/
module

public import proofs.«01_k».proof.Proof.HeadAttn

@[expose] public section

namespace Cert.Window

open Idealize.ShloMosaic

/-- The distance of a row from the query, as a word. -/
theorem distance {n t j : ℕ} (hj : j < n) :
    BitVec.ofNat 32 n + BitVec.ofNat 32 t - BitVec.ofNat 32 j = BitVec.ofNat 32 (n + t - j) := by
  rw [← BitVec.ofNat_add, BitVec.sub_eq_iff_eq_add, ← BitVec.ofNat_add]
  congr 1
  omega

/-- A word below `2 ^ 31` is at most another one exactly if the numbers are. -/
theorem sle_iff {x y : ℕ} (hx : x < 2 ^ 31) (hy : y < 2 ^ 31) : (BitVec.ofNat 32 x).sle (BitVec.ofNat 32 y) = true ↔ x ≤ y := by
  rw [BitVec.sle_iff_toInt_le, BitVec.toInt_ofNat', BitVec.toInt_ofNat', Int.bmod_def, Int.bmod_def]
  omega

/-- The low `a` bits of a word are zero exactly if `2 ^ a` divides the number. -/
theorem low_iff {a x : ℕ} (hx : x < 2 ^ 32) (ha : 2 ^ a - 1 < 2 ^ 32) :
    (BitVec.ofNat 32 x &&& BitVec.ofNat 32 (2 ^ a - 1) == BitVec.ofNat 32 0) = true ↔ x % 2 ^ a = 0 := by
  rw [beq_iff_eq, ← BitVec.toNat_inj, BitVec.toNat_and, BitVec.toNat_ofNat, BitVec.toNat_ofNat, BitVec.toNat_ofNat,
    Nat.mod_eq_of_lt hx, Nat.mod_eq_of_lt ha, Nat.and_two_pow_sub_one_eq_mod, Nat.zero_mod]

/-- Of the rows before query `t`, the mask keeps those at a distance of at most `n` that is a multiple of `2 ^ a`. -/
theorem keeps {a n t j : ℕ} (hn : n = 128 * 2 ^ a) (hb : n < 2 ^ 30) (ht : t < 4) (hj : j < n) :
    BitVec.ofBool ((BitVec.ofNat 32 n + BitVec.ofNat 32 t - BitVec.ofNat 32 j).sle (BitVec.ofNat 32 n))
      &&& BitVec.ofBool ((BitVec.ofNat 32 n + BitVec.ofNat 32 t - BitVec.ofNat 32 j) &&& BitVec.ofNat 32 (2 ^ a - 1) == BitVec.ofNat 32 0) = 1#1
    ↔ ∃ k : Fin 129, j + 2 ^ a * k.val = n + t := by
  have and_one : ∀ p q : Bool, BitVec.ofBool p &&& BitVec.ofBool q = 1#1 ↔ p = true ∧ q = true := by decide
  rw [and_one, distance hj, sle_iff (by omega) (by omega), low_iff (by omega) (by omega)]
  have hp : 0 < 2 ^ a := Nat.two_pow_pos a
  constructor
  · rintro ⟨h1, h2⟩
    have hm : 2 ^ a * ((n + t - j) / 2 ^ a) = n + t - j := Nat.mul_div_cancel' (Nat.dvd_of_mod_eq_zero h2)
    refine ⟨⟨(n + t - j) / 2 ^ a, ?_⟩, ?_⟩
    · have : (n + t - j) / 2 ^ a ≤ 128 := Nat.div_le_of_le_mul (by rw [Nat.mul_comm]; omega)
      omega
    · show j + 2 ^ a * ((n + t - j) / 2 ^ a) = n + t
      omega
  · rintro ⟨k, hk⟩
    have hx : n + t - j = 2 ^ a * k.val := by omega
    rw [hx]
    refine ⟨?_, Nat.mul_mod_right _ _⟩
    rw [hn, Nat.mul_comm 128]
    exact Nat.mul_le_mul_left _ (by omega)

end Cert.Window
-- ==== Proof.Samp1.lean ====
/- The arrays the attention kernel over the cache of 512 rows leaves, as functions of its two arguments. -/
module

public import proofs.«01_k».proof.Proof.Samp1Kernel
public import proofs.«01_k».proof.Proof.Window
public import Idealize.ShloMosaic.Lib.Pipeline.ValueKit.Geometry

@[expose] public section

noncomputable section

namespace Cert.Samp1Run

open Idealize.ShloMosaic Idealize.ShloMosaic.TcCoe Idealize.ShloMosaic.ValueIdx Cert.Softmax Cert.Attn Cert.HeadAttn Cert.Samp1Kernel
open Cert.Samp1Ideal Cert.Samp1Ideal.Gen Cert.Samp1Ideal.Value Idealize.SL.Sem
open scoped BigOperators

/-! ## The masks -/

theorem masks : Masks 512 4 (k0_pay2) (k0_pay3) where
  c := by
    intro t j
    unfold k0_pay2
    dsimp only
    have h0 := iota_single_apply .tc S4x512 32 0 iota_S4x512_d0_w32 (ix2 t j)
    have h1 := iota_single_apply .tc S4x512 32 1 iota_S4x512_d1_w32 (ix2 t j)
    unfold andi cmpi subi addi
    dsimp only
    rw [h0, h1]
    exact Window.keeps (a := 2) (n := 512) (by decide) (by decide) t.isLt j.isLt
  w := by
    have hw : ∀ t j : Fin 4, k0_pay3 (ix2 t j) = 1#1 ↔ ∃ k : Fin 2, j.val + 4 * k.val = t.val := by
      unfold k0_pay3
      decide +kernel
    intro t j
    rw [hw]
    constructor
    · rintro ⟨k, hk⟩
      exact ⟨⟨k.val, by omega⟩, by show 512 + j.val + 4 * k.val = 512 + t.val; omega⟩
    · rintro ⟨k, hk⟩
      exact ⟨⟨k.val, by omega⟩, by show j.val + 4 * k.val = t.val; omega⟩

/-! ## The four heads of a block -/

theorem four_apply (G : Fin 4 → FVec Ideal S1x4x128 .f32) (t h : Fin 4) (e : Fin 128) :
    four G (ix3 0 t ⟨h.val * 128 + e.val, by omega⟩) = G h (ix3 0 t e) := by
  let Q : S1x4x512.Idx → EReal := fun y => G ⟨(y 2).val / 128, by have : (y 2).val < 512 := (y 2).isLt; omega⟩
    (ix3 0 (y 1) ⟨(y 2).val % 128, Nat.mod_lt _ (by decide)⟩)
  have piece : ∀ (k : Fin 4) (x : S1x4x128.Idx), G k x = Q ((qr k).emb x) := by
    intro k x
    have hx : (x 2).val < 128 := (x 2).isLt
    have h0 : x = ix3 0 (x 1) (x 2) := by
      refine funext fun a => Fin.ext ?_
      match a with
      | ⟨0, _⟩ => have : (x 0).val < 1 := (x 0).isLt
                  show (x 0).val = 0
                  omega
      | ⟨1, _⟩ => rfl
      | ⟨2, _⟩ => rfl
    conv_lhs => rw [h0]
    show G k _ = G ⟨(128 * k.val + 1 * (x 2).val) / 128, _⟩ (ix3 0 _ ⟨(128 * k.val + 1 * (x 2).val) % 128, _⟩)
    have hk : (⟨(128 * k.val + 1 * (x 2).val) / 128, by omega⟩ : Fin 4) = k := Fin.ext (by show (128 * k.val + 1 * (x 2).val) / 128 = k.val; omega)
    rw [hk]
    refine congrArg (G k) (funext fun a => Fin.ext ?_)
    match a with
    | ⟨0, _⟩ => rfl
    | ⟨1, _⟩ => show (x 1).val = 0 + 1 * (x 1).val; omega
    | ⟨2, _⟩ => show (x 2).val = (128 * k.val + 1 * (x 2).val) % 128; omega
  have cov : (ix3 0 t ⟨h.val * 128 + e.val, by omega⟩ : S1x4x512.Idx) ∈ (part G h).1.set := by
    have hi : (ix3 0 t ⟨h.val * 128 + e.val, by omega⟩ : S1x4x512.Idx) = (qr h).idx (ix3 0 t e) := by
      refine funext fun a => Fin.ext ?_
      match a with
      | ⟨0, _⟩ => rfl
      | ⟨1, _⟩ => show t.val = 0 + 1 * t.val; omega
      | ⟨2, _⟩ => show h.val * 128 + e.val = 128 * h.val + 1 * e.val; omega
    rw [hi]
    exact (qr h).idx_mem _
  have hQ : Q (ix3 0 t ⟨h.val * 128 + e.val, by omega⟩) = G h (ix3 0 t e) := by
    show G ⟨(h.val * 128 + e.val) / 128, _⟩ (ix3 0 t ⟨(h.val * 128 + e.val) % 128, _⟩) = _
    have hk : (⟨(h.val * 128 + e.val) / 128, by omega⟩ : Fin 4) = h := Fin.ext (by show (h.val * 128 + e.val) / 128 = h.val; omega)
    have he : (⟨(h.val * 128 + e.val) % 128, by omega⟩ : Fin 128) = e := Fin.ext (by show (h.val * 128 + e.val) % 128 = e.val; omega)
    rw [hk, he]
  have mem : ∀ k : Fin 4, part G k ∈ [part G 3, part G 2, part G 1, part G 0] := by
    intro k
    match k with
    | ⟨0, _⟩ => exact .tail _ (.tail _ (.tail _ (.head _)))
    | ⟨1, _⟩ => exact .tail _ (.tail _ (.head _))
    | ⟨2, _⟩ => exact .tail _ (.head _)
    | ⟨3, _⟩ => exact .head _
  have all : ∀ p ∈ [part G 3, part G 2, part G 1, part G 0], ∀ x, p.2 x = Q (p.1.emb x) := by
    intro p hp
    simp only [List.mem_cons, List.not_mem_nil, or_false] at hp
    have : ∃ k, p = part G k := by
      rcases hp with h | h | h | h
      · exact ⟨_, h⟩
      · exact ⟨_, h⟩
      · exact ⟨_, h⟩
      · exact ⟨_, h⟩
    obtain ⟨k, rfl⟩ := this
    exact piece k
  exact (View.canon_apply_of_pieces (Val := Elt Ideal) (S := S1x4x512) (e := .f32) Q _ all _ ⟨_, mem h, cov⟩).trans hQ

/-! ## The blocks of the two arguments -/

/-- The three input blocks are batch `b`'s part of the two arguments. -/
structure Blocks (x0 : Rows) (x1 : Cache 512) (b : Fin 32) (X0 : Vec Ideal S1x4x512 .f32) (X1 : Vec Ideal S1x4096x128 .f32)
    (X2 : Vec Ideal S1x32x128 .f32) : Prop where
  q : ∀ (t h : Fin 4) (e : Fin 128), X0 (ix3 0 t ⟨h.val * 128 + e.val, by omega⟩) = proj x0 1 0 b t h e
  c : ∀ (j : Fin 512) (w : Fin 2) (h : Fin 4) (e : Fin 128), X1 (ix3 0 ⟨j.val * 8 + w.val * 4 + h.val, by omega⟩ e) = x1 (ix6 0 b j w h e)
  n : ∀ (j : Fin 4) (w : Fin 2) (h : Fin 4) (e : Fin 128), X2 (ix3 0 ⟨j.val * 8 + w.val * 4 + h.val, by omega⟩ e) = proj x0 1 ⟨w.val + 1, by omega⟩ b j h e

section block

variable {x0 : Rows} {x1 : Cache 512} {b : Fin 32} {X0 : Vec Ideal S1x4x512 .f32} {X1 : Vec Ideal S1x4096x128 .f32}
  {X2 : Vec Ideal S1x32x128 .f32} (B : Blocks x0 x1 b X0 X1 X2)

include B

theorem cached (j : Fin 512) (w : Fin 2) (h : Fin 4) (s : Fin 8) (hs : s.val = w.val * 4 + h.val) (e : Fin 128) :
    bn (ch X1 s) (ix2 j e) = row x0 x1 1 b j.val w h e := by
  rw [ch_apply]
  unfold row
  rw [dif_pos j.isLt]
  refine Eq.trans (congrArg X1 ?_) (B.c j w h e)
  exact congrArg (fun r => (ix3 0 r e : S1x4096x128.Idx)) (Fin.ext (by show j.val * 8 + s.val = j.val * 8 + w.val * 4 + h.val; omega))

theorem fresh (j : Fin 4) (w : Fin 2) (h : Fin 4) (s : Fin 8) (hs : s.val = w.val * 4 + h.val) (e : Fin 128) :
    b4 (nh X2 s) (ix2 j e) = row x0 x1 1 b (512 + j.val) w h e := by
  rw [nh_apply]
  unfold row
  rw [dif_neg (by omega)]
  have hj : (⟨(512 + j.val - 512) % 4, Nat.mod_lt _ (by decide)⟩ : Fin 4) = j := Fin.ext (by show (512 + j.val - 512) % 4 = j.val; omega)
  refine Eq.trans (congrArg X2 ?_) ((B.n j w h e).trans ?_)
  · exact congrArg (fun r => (ix3 0 r e : S1x32x128.Idx)) (Fin.ext (by show j.val * 8 + s.val = j.val * 8 + w.val * 4 + h.val; omega))
  · exact congrArg (fun j => proj x0 1 _ b j h e) hj.symm

theorem operands (h : Fin 4) : Operands 512 x0 x1 1 b h (b4 (qh X0 h)) (bn (ch X1 ⟨h.val, by omega⟩)) (bn (ch X1 ⟨4 + h.val, by omega⟩))
    (b4 (nh X2 ⟨h.val, by omega⟩)) (b4 (nh X2 ⟨4 + h.val, by omega⟩)) where
  q t e := (qh_apply X0 h t e).trans (B.q t h e)
  k j e := cached B j 0 h _ (by show h.val = 0 * 4 + h.val; omega) e
  v j e := cached B j 1 h _ (by show 4 + h.val = 1 * 4 + h.val; omega) e
  kn j e := fresh B j 0 h _ (by show h.val = 0 * 4 + h.val; omega) e
  vn j e := fresh B j 1 h _ (by show 4 + h.val = 1 * 4 + h.val; omega) e

/-- The block of outputs is the attention of the queries. -/
theorem o_block (h0 : ∀ i, IsReal (x0 i)) (h1 : ∀ i, IsReal (x1 i)) (t h : Fin 4) (e : Fin 128) :
    four (ob X0 X1 X2) (ix3 0 t ⟨h.val * 128 + e.val, by omega⟩) = Attn.out x0 x1 1 4 b t h e := by
  rw [four_apply]
  unfold ob
  exact out_eq (d := 4) (by decide) rfl masks shapes (operands B h) h0 h1 0 t e

/-- The block of log-sum-exps is the attention's. -/
theorem l_block (t h : Fin 4) (e : Fin 128) :
    four (lb X0 X1 X2) (ix3 0 t ⟨h.val * 128 + e.val, by omega⟩) = lse (sco x0 x1 1 4 b t h) := by
  rw [four_apply]
  unfold lb
  exact lg_eq (d := 4) (by decide) rfl masks shapes (operands B h) 0 t e

/-- The block of the new buffer: the cached rows from the fifth on, then the new ones. -/
def nb (X1 : Vec Ideal S1x4096x128 .f32) (X2 : Vec Ideal S1x32x128 .f32) : Vec Ideal S1x4096x128 .f32 :=
  View.canon [
    ⟨Rect.unit ![0, 4064, 0] ![1, 32, 128] inb_S1x4096x128_S1x32x128_0_4064_0,
      k0_pay1 (k0_pay53 (View.ld X2 (Rect.unit ![0, 0, 0] ![1, 32, 128] inb_S1x32x128_S1x32x128_0_0_0)))⟩,
    ⟨Rect.unit ![0, 0, 0] ![1, 4064, 128] inb_S1x4096x128_S1x4064x128_0_0_0,
      k0_pay52 (View.ld X1 (Rect.unit ![0, 32, 0] ![1, 4064, 128] inb_S1x4096x128_S1x4064x128_0_32_0))⟩]

omit B in
theorem back_apply {p q : ℕ} (h : (⟨3, ![1, p, q]⟩ : Shape).ShapeCasts ⟨2, ![p, q]⟩) (h' : (⟨2, ![p, q]⟩ : Shape).ShapeCasts ⟨3, ![1, p, q]⟩)
    (x : FVec Ideal ⟨3, ![1, p, q]⟩ .f32) (i : Fin p) (j : Fin q) :
    shapeCast ⟨3, ![1, p, q]⟩ (shapeCast ⟨2, ![p, q]⟩ x h) h' (ix3 0 i j) = x (ix3 0 i j) := by
  refine (shapeCast_apply _ h' (ix3 0 i j) (ix2 i j) ?_).trans (cast_apply h x i j)
  rw [Shape.rowMajor_val_two, Shape.rowMajor_val_three]
  show i.val * q + j.val = (0 * p + i.val) * q + j.val
  rw [Nat.zero_mul, Nat.zero_add]

omit B in
theorem idx_eq {p q : ℕ} (x : (⟨3, ![1, p, q]⟩ : Shape).Idx) : x = ix3 0 (x 1) (x 2) := by
  refine funext fun a => Fin.ext ?_
  match a with
  | ⟨0, _⟩ => have : (x 0).val < 1 := (x 0).isLt
              show (x 0).val = 0
              omega
  | ⟨1, _⟩ => rfl
  | ⟨2, _⟩ => rfl

omit B in
theorem new_pay (v : Vec Ideal S1x32x128 .f32) (i : Fin 32) (j : Fin 128) : k0_pay1 (F := Ideal) (k0_pay53 v) (ix3 0 i j) = v (ix3 0 i j) := by
  unfold k0_pay1 k0_pay53
  exact back_apply (p := 32) (q := 128) _ _ v i j

omit B in
theorem old_pay (v : Vec Ideal S1x4064x128 .f32) (i : Fin 4064) (j : Fin 128) : k0_pay52 (F := Ideal) v (ix3 0 i j) = v (ix3 0 i j) := by
  unfold k0_pay52
  exact back_apply (p := 4064) (q := 128) _ _ v i j

/-- Row `r` of a batch's new buffer: of row `r / 8 + 4` of the cache with the new rows appended, the head's key or value. -/
def shifted (x0 : Rows) (x1 : Cache 512) (b : Fin 32) (r : Fin 4096) (e : Fin 128) : EReal :=
  row x0 x1 1 b (r.val / 8 + 4) ⟨r.val % 8 / 4, by omega⟩ ⟨r.val % 4, by omega⟩ e

theorem new_row (r : Fin 32) (e : Fin 128) : X2 (ix3 0 r e) = shifted x0 x1 b ⟨4064 + r.val, by omega⟩ e := by
  have hB := B.n ⟨r.val / 8, by omega⟩ ⟨r.val % 8 / 4, by omega⟩ ⟨r.val % 4, by omega⟩ e
  have hr : (⟨r.val / 8 * 8 + r.val % 8 / 4 * 4 + r.val % 4, by omega⟩ : Fin 32) = r := Fin.ext (by show r.val / 8 * 8 + r.val % 8 / 4 * 4 + r.val % 4 = r.val; omega)
  rw [hr] at hB
  rw [hB]
  unfold shifted row
  rw [dif_neg (by show ¬ (4064 + r.val) / 8 + 4 < 512; omega)]
  have e1 : (⟨r.val % 8 / 4, by omega⟩ : Fin 2) = ⟨(4064 + r.val) % 8 / 4, by omega⟩ := Fin.ext (by show r.val % 8 / 4 = (4064 + r.val) % 8 / 4; omega)
  have e2 : (⟨r.val / 8, by omega⟩ : Fin 4) = ⟨((4064 + r.val) / 8 + 4 - 512) % 4, by omega⟩ := Fin.ext (by show r.val / 8 = ((4064 + r.val) / 8 + 4 - 512) % 4; omega)
  have e3 : (⟨r.val % 4, by omega⟩ : Fin 4) = ⟨(4064 + r.val) % 4, by omega⟩ := Fin.ext (by show r.val % 4 = (4064 + r.val) % 4; omega)
  have e4 : (⟨r.val % 8 / 4 + 1, by omega⟩ : Fin 3) = ⟨(4064 + r.val) % 8 / 4 + 1, by omega⟩ := Fin.ext (by show r.val % 8 / 4 + 1 = (4064 + r.val) % 8 / 4 + 1; omega)
  show proj x0 1 ⟨r.val % 8 / 4 + 1, _⟩ b ⟨r.val / 8, _⟩ ⟨r.val % 4, _⟩ e = proj x0 1 ⟨(4064 + r.val) % 8 / 4 + 1, _⟩ b ⟨((4064 + r.val) / 8 + 4 - 512) % 4, _⟩ ⟨(4064 + r.val) % 4, _⟩ e
  rw [e2, e3, e4]

theorem old_row (r : Fin 4064) (e : Fin 128) : X1 (ix3 0 ⟨32 + r.val, by omega⟩ e) = shifted x0 x1 b ⟨r.val, by omega⟩ e := by
  have hB := B.c ⟨r.val / 8 + 4, by omega⟩ ⟨r.val % 8 / 4, by omega⟩ ⟨r.val % 4, by omega⟩ e
  have hr : (⟨(r.val / 8 + 4) * 8 + r.val % 8 / 4 * 4 + r.val % 4, by omega⟩ : Fin 4096) = ⟨32 + r.val, by omega⟩ := Fin.ext (by show (r.val / 8 + 4) * 8 + r.val % 8 / 4 * 4 + r.val % 4 = 32 + r.val; omega)
  refine (congrArg (fun k => X1 (ix3 0 k e)) hr).symm.trans (hB.trans ?_)
  unfold shifted row
  rw [dif_pos (by show r.val / 8 + 4 < 512; omega)]

/-- The block of the new buffer holds the rows of the cache with the new ones appended, from the fifth on. -/
theorem n_block (r : Fin 4096) (e : Fin 128) : nb X1 X2 (ix3 0 r e) = shifted x0 x1 b r e := by
  let Q : S1x4096x128.Idx → EReal := fun y => shifted x0 x1 b (y 1) (y 2)
  have hl : ∀ (x : S1x32x128.Idx), (k0_pay1 (F := Ideal) (k0_pay53 (View.ld X2 (Rect.unit ![0, 0, 0] ![1, 32, 128] inb_S1x32x128_S1x32x128_0_0_0)))) x
      = Q ((Rect.unit (s := S1x4096x128) ![0, 4064, 0] ![1, 32, 128] inb_S1x4096x128_S1x32x128_0_4064_0).emb x) := by
    intro x
    have hi : (Rect.unit (s := S1x4096x128) ![0, 4064, 0] ![1, 32, 128] inb_S1x4096x128_S1x32x128_0_4064_0).emb x = ix3 0 ⟨4064 + (x 1).val, by have : (x 1).val < 32 := (x 1).isLt; omega⟩ (x 2) := by
      refine funext fun a => Fin.ext ?_
      match a with
      | ⟨0, _⟩ => have : (x 0).val < 1 := (x 0).isLt
                  show 0 + 1 * (x 0).val = 0
                  omega
      | ⟨1, _⟩ => show 4064 + 1 * (x 1).val = 4064 + (x 1).val; omega
      | ⟨2, _⟩ => show 0 + 1 * (x 2).val = (x 2).val; omega
    refine Eq.trans ?_ ((new_row B (x 1) (x 2)).trans (congrArg Q hi).symm)
    conv_lhs => rw [idx_eq x]
    refine Eq.trans (new_pay _ (x 1) (x 2)) ?_
    refine congrArg X2 (funext fun a => Fin.ext ?_)
    match a with
    | ⟨0, _⟩ => rfl
    | ⟨1, _⟩ => show 0 + 1 * (x 1).val = (x 1).val; omega
    | ⟨2, _⟩ => show 0 + 1 * (x 2).val = (x 2).val; omega
  have hr : ∀ (x : S1x4064x128.Idx), (k0_pay52 (F := Ideal) (View.ld X1 (Rect.unit ![0, 32, 0] ![1, 4064, 128] inb_S1x4096x128_S1x4064x128_0_32_0))) x
      = Q ((Rect.unit (s := S1x4096x128) ![0, 0, 0] ![1, 4064, 128] inb_S1x4096x128_S1x4064x128_0_0_0).emb x) := by
    intro x
    have hi : (Rect.unit (s := S1x4096x128) ![0, 0, 0] ![1, 4064, 128] inb_S1x4096x128_S1x4064x128_0_0_0).emb x = ix3 0 ⟨(x 1).val, by have : (x 1).val < 4064 := (x 1).isLt; omega⟩ (x 2) := by
      refine funext fun a => Fin.ext ?_
      match a with
      | ⟨0, _⟩ => have : (x 0).val < 1 := (x 0).isLt
                  show 0 + 1 * (x 0).val = 0
                  omega
      | ⟨1, _⟩ => show 0 + 1 * (x 1).val = (x 1).val; omega
      | ⟨2, _⟩ => show 0 + 1 * (x 2).val = (x 2).val; omega
    refine Eq.trans ?_ ((old_row B (x 1) (x 2)).trans (congrArg Q hi).symm)
    conv_lhs => rw [idx_eq x]
    refine Eq.trans (old_pay _ (x 1) (x 2)) ?_
    refine congrArg X1 (funext fun a => Fin.ext ?_)
    match a with
    | ⟨0, _⟩ => rfl
    | ⟨1, _⟩ => show 32 + 1 * (x 1).val = 32 + (x 1).val; omega
    | ⟨2, _⟩ => show 0 + 1 * (x 2).val = (x 2).val; omega
  unfold nb
  refine View.canon_apply_of_pieces (Val := Elt Ideal) (S := S1x4096x128) (e := .f32) Q _ ?_ (ix3 0 r e) ?_
  · intro p hp
    simp only [List.mem_cons, List.not_mem_nil, or_false] at hp
    rcases hp with h | h
    · subst h
      exact hl
    · subst h
      exact hr
  · by_cases hlt : r.val < 4064
    · refine ⟨_, .tail _ (.head _), ?_⟩
      have hi : (ix3 0 r e : S1x4096x128.Idx) = (Rect.unit (s := S1x4096x128) ![0, 0, 0] ![1, 4064, 128] inb_S1x4096x128_S1x4064x128_0_0_0).idx (ix3 0 ⟨r.val, hlt⟩ e) := by
        refine funext fun a => Fin.ext ?_
        match a with
        | ⟨0, _⟩ => rfl
        | ⟨1, _⟩ => show r.val = 0 + 1 * r.val; omega
        | ⟨2, _⟩ => show e.val = 0 + 1 * e.val; omega
      rw [hi]
      exact LoadRect.idx_mem _ _
    · refine ⟨_, .head _, ?_⟩
      have hi : (ix3 0 r e : S1x4096x128.Idx) = (Rect.unit (s := S1x4096x128) ![0, 4064, 0] ![1, 32, 128] inb_S1x4096x128_S1x32x128_0_4064_0).idx (ix3 0 ⟨r.val - 4064, by omega⟩ e) := by
        refine funext fun a => Fin.ext ?_
        match a with
        | ⟨0, _⟩ => rfl
        | ⟨1, _⟩ => show r.val = 4064 + 1 * (r.val - 4064); omega
        | ⟨2, _⟩ => show e.val = 0 + 1 * e.val; omega
      rw [hi]
      exact LoadRect.idx_mem _ _

end block

theorem n_pieces (c : Dev nD) (t : Fin cfg0.N) (X0 : Vec Ideal S1x4x512 .f32) (X1 : Vec Ideal S1x4096x128 .f32) (X2 : Vec Ideal S1x32x128 .f32) :
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) X0 X1 X2 = nb X1 X2 := by
  unfold out0_A_3
  rw [View.read_writes_eq_canon _ _ _ (cover0_A_3 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rfl

/-! ## The arrays the windows read -/

variable (m : (ℓ : Loc nD τ sig) → Buf (Elt Ideal) ℓ) (ρ : Dev nD → PrngReg)

/-- The two arguments. -/
abbrev arg0 (c : Dev nD) : Rows := m ((c : Thread nD τ).loc main_arg0)
abbrev arg1 (c : Dev nD) : Cache 512 := m ((c : Thread nD τ).loc main_arg1)

theorem V0_eq (c : Dev nD) : V m c main_v0 = shapeCast S32x4x4608 (arg0 m c) shapeCasts_S128x4608_S32x4x4608 := by
  unfold_abbrev_sides
  after_results
  rfl

theorem V3_eq (c : Dev nD) : V m c main_v3 = shapeCast S32x4096x128 (shapeCast S32x512x2x4x128 (arg1 m c) shapeCasts_S1x32x512x2x4x128_S32x512x2x4x128) shapeCasts_S32x512x2x4x128_S32x4096x128 := by
  unfold_abbrev_sides
  after_results
  rfl

theorem V6_eq (c : Dev nD) : V m c main_v6 = shapeCast S32x32x128 (shapeCast S32x4x2x4x128
    (extractStridedSlice S32x4x2x1x4x128 ![0, 0, 1, 1, 0, 0] (shapeCast S32x4x3x3x4x128 (arg0 m c) shapeCasts_S128x4608_S32x4x3x3x4x128)
      slices_S32x4x3x3x4x128_S32x4x2x1x4x128_0_0_1_1_0_0) shapeCasts_S32x4x2x1x4x128_S32x4x2x4x128) shapeCasts_S32x4x2x4x128_S32x32x128 := by
  unfold_abbrev_sides
  after_results
  rfl

theorem V0_apply (c : Dev nD) (b : Fin 32) (t : Fin 4) (k : Fin 4608) : (V m c main_v0 : S32x4x4608.Idx → EReal) (ix3 b t k) = arg0 m c (ix2 ⟨b.val * 4 + t.val, by omega⟩ k) := by
  rw [V0_eq]
  refine shapeCast_apply _ _ _ _ ?_
  rw [Shape.rowMajor_val_two, Shape.rowMajor_val_three]
  rfl

theorem V3_apply (c : Dev nD) (b : Fin 32) (j : Fin 512) (w : Fin 2) (h : Fin 4) (e : Fin 128) :
    (V m c main_v3 : S32x4096x128.Idx → EReal) (ix3 b ⟨j.val * 8 + w.val * 4 + h.val, by omega⟩ e) = arg1 m c (ix6 0 b j w h e) := by
  rw [V3_eq]
  refine (shapeCast_apply _ _ _ (ix5 b j w h e) ?_).trans (shapeCast_apply _ _ _ (ix6 0 b j w h e) ?_)
  · rw [Shape.rowMajor_val_three, Shape.rowMajor_val_five]
    show (((b.val * 512 + j.val) * 2 + w.val) * 4 + h.val) * 128 + e.val = (b.val * 4096 + (j.val * 8 + w.val * 4 + h.val)) * 128 + e.val
    ring
  · rw [Shape.rowMajor_val_five, Shape.rowMajor_val_six]
    show ((((0 * 32 + b.val) * 512 + j.val) * 2 + w.val) * 4 + h.val) * 128 + e.val = (((b.val * 512 + j.val) * 2 + w.val) * 4 + h.val) * 128 + e.val
    ring

theorem V6_apply (c : Dev nD) (b : Fin 32) (j : Fin 4) (w : Fin 2) (h : Fin 4) (e : Fin 128) :
    (V m c main_v6 : S32x32x128.Idx → EReal) (ix3 b ⟨j.val * 8 + w.val * 4 + h.val, by omega⟩ e) = proj (arg0 m c) 1 ⟨w.val + 1, by omega⟩ b j h e := by
  rw [V6_eq]
  refine (shapeCast_apply _ _ _ (ix5 b j w h e) ?_).trans ((shapeCast_apply _ _ _ (ix6 b j w 0 h e) ?_).trans
    ((extractStridedSlice_apply _ _ _ _ (ix6 b j ⟨w.val + 1, by omega⟩ 1 h e) ?_).trans (shapeCast_apply _ _ _ _ ?_)))
  · rw [Shape.rowMajor_val_three, Shape.rowMajor_val_five]
    show (((b.val * 4 + j.val) * 2 + w.val) * 4 + h.val) * 128 + e.val = (b.val * 32 + (j.val * 8 + w.val * 4 + h.val)) * 128 + e.val
    ring
  · rw [Shape.rowMajor_val_five, Shape.rowMajor_val_six]
    show ((((b.val * 4 + j.val) * 2 + w.val) * 1 + 0) * 4 + h.val) * 128 + e.val = (((b.val * 4 + j.val) * 2 + w.val) * 4 + h.val) * 128 + e.val
    ring
  · intro a
    match a with
    | ⟨0, _⟩ => exact (Nat.zero_add _).symm
    | ⟨1, _⟩ => exact (Nat.zero_add _).symm
    | ⟨2, _⟩ => exact Nat.add_comm _ _
    | ⟨3, _⟩ => rfl
    | ⟨4, _⟩ => exact (Nat.zero_add _).symm
    | ⟨5, _⟩ => exact (Nat.zero_add _).symm
  · rw [Shape.rowMajor_val_two, Shape.rowMajor_val_six]
    show (b.val * 4 + j.val) * 4608 + ((w.val + 1) * 1536 + 1 * 512 + h.val * 128 + e.val)
      = ((((b.val * 4 + j.val) * 3 + (w.val + 1)) * 3 + 1) * 4 + h.val) * 128 + e.val
    ring

/-! ## Each point's blocks -/

/-- The batch a grid point computes. -/
def batch (t : Fin cfg0.N) : Fin 32 := ⟨t.val, t.isLt⟩

theorem index0 : ∀ t : Fin cfg0.N, win0_0.index t = ![t.val, 0, 1] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![t.val, 0, 0] := (by decide +kernel : ∀ t : Fin grid0.N, _)

theorem emb_eq {p q : ℕ} (t : Fin cfg0.N) (I : Fin 3 → ℕ) (hI : I = ![t.val, 0, 0]) (f : (⟨3, ![32, p, q]⟩ : Shape).Idx)
    (i : Fin p) (j : Fin q) (h0 : (f 0).val = I 0 * 1 + 1 * 0) (h1 : (f 1).val = I 1 * p + 1 * i.val) (h2 : (f 2).val = I 2 * q + 1 * j.val) :
    f = ix3 (batch t) i j := by
  subst hI
  refine funext fun a => Fin.ext ?_
  match a with
  | ⟨0, _⟩ => refine h0.trans ?_; show t.val * 1 + 1 * 0 = t.val; omega
  | ⟨1, _⟩ => refine h1.trans ?_; show 0 * p + 1 * i.val = i.val; omega
  | ⟨2, _⟩ => refine h2.trans ?_; show 0 * q + 1 * j.val = j.val; omega

theorem blocks (c : Dev nD) (t : Fin cfg0.N) : Blocks (arg0 m c) (arg1 m c) (batch t) (iblk m c 0 t) (iblk m c 1 t) (iblk m c 2 t) where
  q tt h e := by
    show (V m c main_v0 : S32x4x4608.Idx → EReal) (((cfg0.win 0).blk t).view.emb (ix3 0 tt ⟨h.val * 128 + e.val, _⟩)) = _
    have hi : ((cfg0.win 0).blk t).view.emb (ix3 0 tt ⟨h.val * 128 + e.val, by omega⟩) = ix3 (batch t) tt ⟨0 * 1536 + 1 * 512 + h.val * 128 + e.val, by omega⟩ := by
      have hI := index0 t
      refine funext fun a => Fin.ext ?_
      match a with
      | ⟨0, _⟩ => show win0_0.index t (0 : Fin 3) * 1 + 1 * 0 = t.val; rw [hI]; show t.val * 1 + 1 * 0 = t.val; omega
      | ⟨1, _⟩ => show win0_0.index t (1 : Fin 3) * 4 + 1 * tt.val = tt.val; rw [hI]; show 0 * 4 + 1 * tt.val = tt.val; omega
      | ⟨2, _⟩ => show win0_0.index t (2 : Fin 3) * 512 + 1 * (h.val * 128 + e.val) = 0 * 1536 + 1 * 512 + h.val * 128 + e.val; rw [hI]
                  show 1 * 512 + 1 * (h.val * 128 + e.val) = 0 * 1536 + 1 * 512 + h.val * 128 + e.val; omega
    rw [hi]
    exact V0_apply m c (batch t) tt _
  c j w h e := by
    show (V m c main_v3 : S32x4096x128.Idx → EReal) (((cfg0.win 1).blk t).view.emb (ix3 0 ⟨j.val * 8 + w.val * 4 + h.val, _⟩ e)) = _
    have hi : ((cfg0.win 1).blk t).view.emb (ix3 0 ⟨j.val * 8 + w.val * 4 + h.val, by omega⟩ e) = ix3 (batch t) ⟨j.val * 8 + w.val * 4 + h.val, by omega⟩ e :=
      emb_eq t _ (index1 t) _ _ _ rfl rfl rfl
    rw [hi]
    exact V3_apply m c (batch t) j w h e
  n j w h e := by
    show (V m c main_v6 : S32x32x128.Idx → EReal) (((cfg0.win 2).blk t).view.emb (ix3 0 ⟨j.val * 8 + w.val * 4 + h.val, _⟩ e)) = _
    have hi : ((cfg0.win 2).blk t).view.emb (ix3 0 ⟨j.val * 8 + w.val * 4 + h.val, by omega⟩ e) = ix3 (batch t) ⟨j.val * 8 + w.val * 4 + h.val, by omega⟩ e :=
      emb_eq t _ (index2 t) _ _ _ rfl rfl rfl
    rw [hi]
    exact V6_apply m c (batch t) j w h e

/-! ## The arrays after the run -/

/-- The new buffer. -/
def bufArr (c : Dev nD) : S32x4096x128.Idx → EReal := fun i =>
  shifted (arg0 m c) (arg1 m c) (i 0) (i 1) (i 2)

/-- The attention's outputs. -/
def outArr (c : Dev nD) : S32x4x512.Idx → EReal := fun i =>
  Attn.out (arg0 m c) (arg1 m c) 1 4 (i 0) (i 1) ⟨(i 2).val / 128, by have : (i 2).val < 512 := (i 2).isLt; omega⟩ ⟨(i 2).val % 128, by omega⟩

/-- The attention's log-sum-exps. -/
def lseArr (c : Dev nD) : S32x4x512.Idx → EReal := fun i =>
  lse (sco (arg0 m c) (arg1 m c) 1 4 (i 0) (i 1) ⟨(i 2).val / 128, by have : (i 2).val < 512 := (i 2).isLt; omega⟩)

theorem lanes (x : S1x4x512.Idx) : x = ix3 0 (x 1) ⟨(⟨(x 2).val / 128, by have : (x 2).val < 512 := (x 2).isLt; omega⟩ : Fin 4).val * 128
    + (⟨(x 2).val % 128, by omega⟩ : Fin 128).val, by have : (x 2).val < 512 := (x 2).isLt; show (x 2).val / 128 * 128 + (x 2).val % 128 < 512; omega⟩ := by
  conv_lhs => rw [idx_eq x]
  exact congrArg (fun k => (ix3 0 (x 1) k : S1x4x512.Idx)) (Fin.ext (by show (x 2).val = (x 2).val / 128 * 128 + (x 2).val % 128; omega))

theorem buf_final (c : Dev nD) : (dats m 0 c).arrAt 3 cfg0.N = bufArr m c := by
  refine (dats m 0 c).arrAt_eq_of_covers 3 _ (by decide +kernel) fun t hf (y : S1x4096x128.Idx) => ?_
  have hi : ((cfg0.win 3).blk t).view.emb y = ix3 (batch t) (y 1) (y 2) := by
    rw [idx_eq y]
    exact emb_eq t _ (index3 t) _ _ _ rfl rfl rfl
  rw [hi]
  show (dats m 0 c).after 3 t y = _
  rw [after0_3]
  unfold outsAt0
  dsimp only
  rw [n_pieces, idx_eq y]
  exact n_block (blocks m c t) (y 1) (y 2)

theorem out_final (c : Dev nD) (h0 : ∀ i, IsReal (arg0 m c i)) (h1 : ∀ i, IsReal (arg1 m c i)) : (dats m 0 c).arrAt 4 cfg0.N = outArr m c := by
  refine (dats m 0 c).arrAt_eq_of_covers 4 _ (by decide +kernel) fun t hf (y : S1x4x512.Idx) => ?_
  have hi : ((cfg0.win 4).blk t).view.emb y = ix3 (batch t) (y 1) (y 2) := by
    rw [idx_eq y]
    exact emb_eq t _ (index4 t) _ _ _ rfl rfl rfl
  rw [hi]
  show (dats m 0 c).after 4 t y = _
  rw [after0_4]
  unfold outsAt0
  dsimp only
  rw [o_pieces]
  refine (congrArg _ (lanes y)).trans ?_
  exact o_block (blocks m c t) h0 h1 (y 1) _ _

theorem lse_final (c : Dev nD) : (dats m 0 c).arrAt 5 cfg0.N = lseArr m c := by
  refine (dats m 0 c).arrAt_eq_of_covers 5 _ (by decide +kernel) fun t hf (y : S1x4x512.Idx) => ?_
  have hi : ((cfg0.win 5).blk t).view.emb y = ix3 (batch t) (y 1) (y 2) := by
    rw [idx_eq y]
    exact emb_eq t _ (index5 t) _ _ _ rfl rfl rfl
  rw [hi]
  show (dats m 0 c).after 5 t y = _
  rw [after0_5]
  unfold outsAt0
  dsimp only
  rw [l_pieces]
  refine (congrArg _ (lanes y)).trans ?_
  exact l_block (blocks m c t) (y 1) _ _

end Cert.Samp1Run

end
-- ==== Proof.SampRef1.lean ====
/- The reference's attention over group 1 read at an index: dilated attention over the buffer with the new rows
   appended, its log-sum-exp, and the buffer moved on by four positions. -/
module

public import proofs.«01_k».proof.Proof.Attn
public import proofs.«01_k».proof.Proof.Gen.SampRef1Ideal.Read

@[expose] public section

noncomputable section

namespace Cert.SampRef1

open Idealize.ShloMosaic Idealize.ShloMosaic.ValueIdx Cert.Softmax Cert.Attn
open Cert.SampRef1Ideal Cert.SampRef1Ideal.Read
open scoped BigOperators

variable (x0 : Rows) (x1 : Cache 512)

theorem head_idx3 (b : Fin 32) (t h : Fin 4) (e : Fin 128) : idx_main_v3 (ix4 b t h e) = ix5 b t 0 h e := by
  funext a; refine Fin.ext ?_
  match a with
  | ⟨0, _⟩ => show (((b.val * 4 + t.val) * 4 + h.val) * 128 + e.val) / 2048 = b.val; omega
  | ⟨1, _⟩ => show (((b.val * 4 + t.val) * 4 + h.val) * 128 + e.val) / 512 % 4 = t.val; omega
  | ⟨2, _⟩ => rfl
  | ⟨3, _⟩ => show (((b.val * 4 + t.val) * 4 + h.val) * 128 + e.val) / 128 % 4 = h.val; omega
  | ⟨4, _⟩ => show (((b.val * 4 + t.val) * 4 + h.val) * 128 + e.val) % 128 = e.val; omega

theorem head_idx7 (b : Fin 32) (t h : Fin 4) (e : Fin 128) : idx_main_v7 (ix4 b t h e) = ix5 b t 0 h e := by
  funext a; refine Fin.ext ?_
  match a with
  | ⟨0, _⟩ => show (((b.val * 4 + t.val) * 4 + h.val) * 128 + e.val) / 2048 = b.val; omega
  | ⟨1, _⟩ => show (((b.val * 4 + t.val) * 4 + h.val) * 128 + e.val) / 512 % 4 = t.val; omega
  | ⟨2, _⟩ => rfl
  | ⟨3, _⟩ => show (((b.val * 4 + t.val) * 4 + h.val) * 128 + e.val) / 128 % 4 = h.val; omega
  | ⟨4, _⟩ => show (((b.val * 4 + t.val) * 4 + h.val) * 128 + e.val) % 128 = e.val; omega

theorem head_idx11 (b : Fin 32) (t h : Fin 4) (e : Fin 128) : idx_main_v11 (ix4 b t h e) = ix5 b t 0 h e := by
  funext a; refine Fin.ext ?_
  match a with
  | ⟨0, _⟩ => show (((b.val * 4 + t.val) * 4 + h.val) * 128 + e.val) / 2048 = b.val; omega
  | ⟨1, _⟩ => show (((b.val * 4 + t.val) * 4 + h.val) * 128 + e.val) / 512 % 4 = t.val; omega
  | ⟨2, _⟩ => rfl
  | ⟨3, _⟩ => show (((b.val * 4 + t.val) * 4 + h.val) * 128 + e.val) / 128 % 4 = h.val; omega
  | ⟨4, _⟩ => show (((b.val * 4 + t.val) * 4 + h.val) * 128 + e.val) % 128 = e.val; omega

/-- The queries. -/
theorem q_apply (b : Fin 32) (t h : Fin 4) (e : Fin 128) :
    val_main_v3 (F := Ideal) x0 (ix4 b t h e) = proj x0 1 0 b t h e := by
  rw [val_main_v3_apply, head_idx3, val_main_v2_apply, val_main_v1_apply, val_main_v0_apply]
  refine congrArg x0 (funext fun a => Fin.ext ?_)
  match a with
  | ⟨0, _⟩ => show ((((b.val * 4 + t.val) * 3 + (1 + 0)) * 4 + h.val) * 128 + e.val) / 1536 = b.val * 4 + t.val; omega
  | ⟨1, _⟩ => show ((((b.val * 4 + t.val) * 3 + (1 + 0)) * 4 + h.val) * 128 + e.val) % 1536 = 0 * 1536 + 1 * 512 + h.val * 128 + e.val; omega

/-- The new keys. -/
theorem k_apply (b : Fin 32) (t h : Fin 4) (e : Fin 128) :
    val_main_v7 (F := Ideal) x0 (ix4 b t h e) = proj x0 1 1 b t h e := by
  rw [val_main_v7_apply, head_idx7, val_main_v6_apply, val_main_v5_apply, val_main_v4_apply]
  refine congrArg x0 (funext fun a => Fin.ext ?_)
  match a with
  | ⟨0, _⟩ => show ((((b.val * 4 + t.val) * 3 + (1 + 0)) * 4 + h.val) * 128 + e.val) / 1536 = b.val * 4 + t.val; omega
  | ⟨1, _⟩ => show 1536 + ((((b.val * 4 + t.val) * 3 + (1 + 0)) * 4 + h.val) * 128 + e.val) % 1536 = 1 * 1536 + 1 * 512 + h.val * 128 + e.val; omega

/-- The new values. -/
theorem v_apply (b : Fin 32) (t h : Fin 4) (e : Fin 128) :
    val_main_v11 (F := Ideal) x0 (ix4 b t h e) = proj x0 1 2 b t h e := by
  rw [val_main_v11_apply, head_idx11, val_main_v10_apply, val_main_v9_apply, val_main_v8_apply]
  refine congrArg x0 (funext fun a => Fin.ext ?_)
  match a with
  | ⟨0, _⟩ => show ((((b.val * 4 + t.val) * 3 + (1 + 0)) * 4 + h.val) * 128 + e.val) / 1536 = b.val * 4 + t.val; omega
  | ⟨1, _⟩ => show 3072 + ((((b.val * 4 + t.val) * 3 + (1 + 0)) * 4 + h.val) * 128 + e.val) % 1536 = 2 * 1536 + 1 * 512 + h.val * 128 + e.val; omega

/-- The new rows, keys and values side by side. -/
theorem new_apply (b : Fin 32) (t : Fin 4) (w : Fin 2) (h : Fin 4) (e : Fin 128) :
    val_main_v15 (F := Ideal) x0 (ix5 b t w h e) = proj x0 1 ⟨w.val + 1, by omega⟩ b t h e := by
  unfold val_main_v15
  have hw : w = 0 ∨ w = 1 := by omega
  rcases hw with rfl | rfl
  · refine (concatenate_pair_apply_left (t := S32x4x2x4x128) (s₁ := S32x4x1x4x128) (s₂ := S32x4x1x4x128) 2 _ _ _ (ix5 b t 0 h e) rfl (ix5 b t 0 h e) (fun a => ?_)).trans ?_
    · match a with
      | ⟨0, _⟩ => rfl
      | ⟨1, _⟩ => rfl
      | ⟨2, _⟩ => rfl
      | ⟨3, _⟩ => rfl
      | ⟨4, _⟩ => rfl
    · rw [val_main_v13_apply]
      refine (congrArg _ (?_ : _ = ix4 b t h e)).trans (k_apply x0 b t h e)
      funext a; refine Fin.ext ?_
      match a with
      | ⟨0, _⟩ => rfl
      | ⟨1, _⟩ => rfl
      | ⟨2, _⟩ => rfl
      | ⟨3, _⟩ => rfl
  · refine (concatenate_pair_apply_right (t := S32x4x2x4x128) (s₁ := S32x4x1x4x128) (s₂ := S32x4x1x4x128) 2 _ _ _ (ix5 b t 1 h e) rfl rfl (ix5 b t 0 h e) (fun a ha => ?_) rfl).trans ?_
    · match a with
      | ⟨0, _⟩ => rfl
      | ⟨1, _⟩ => rfl
      | ⟨2, _⟩ => exact absurd rfl ha
      | ⟨3, _⟩ => rfl
      | ⟨4, _⟩ => rfl
    · rw [val_main_v14_apply]
      refine (congrArg _ (?_ : _ = ix4 b t h e)).trans (v_apply x0 b t h e)
      funext a; refine Fin.ext ?_
      match a with
      | ⟨0, _⟩ => rfl
      | ⟨1, _⟩ => rfl
      | ⟨2, _⟩ => rfl
      | ⟨3, _⟩ => rfl

/-- The buffer with the new rows appended. -/
theorem row_apply (b : Fin 32) (j : Fin 516) (w : Fin 2) (h : Fin 4) (e : Fin 128) :
    val_main_v16 (F := Ideal) x0 x1 (ix5 b j w h e) = row x0 x1 1 b j.val w h e := by
  unfold val_main_v16 row
  by_cases hj : j.val < 512
  · rw [dif_pos hj]
    refine (concatenate_pair_apply_left (t := S32x516x2x4x128) (s₁ := S32x512x2x4x128) (s₂ := S32x4x2x4x128) 1 _ _ _ (ix5 b j w h e) rfl (ix5 b ⟨j.val, hj⟩ w h e) (fun a => ?_)).trans ?_
    · match a with
      | ⟨0, _⟩ => rfl
      | ⟨1, _⟩ => rfl
      | ⟨2, _⟩ => rfl
      | ⟨3, _⟩ => rfl
      | ⟨4, _⟩ => rfl
    · refine shapeCast_apply x1 _ (ix5 b ⟨j.val, hj⟩ w h e) (ix6 0 b ⟨j.val, hj⟩ w h e) ?_
      rw [Shape.rowMajor_val_six, Shape.rowMajor_val_five]
      show (((((0 : Fin 1).val * 32 + b.val) * 512 + j.val) * 2 + w.val) * 4 + h.val) * 128 + e.val
        = (((b.val * 512 + j.val) * 2 + w.val) * 4 + h.val) * 128 + e.val
      simp
  · rw [dif_neg hj]
    have hm : (j.val - 512) % 4 = j.val - 512 := by omega
    refine (concatenate_pair_apply_right (t := S32x516x2x4x128) (s₁ := S32x512x2x4x128) (s₂ := S32x4x2x4x128) 1 _ _ _ (ix5 b j w h e) rfl rfl
      (ix5 b ⟨(j.val - 512) % 4, Nat.mod_lt _ (by decide)⟩ w h e) (fun a ha => ?_) ?_).trans (new_apply x0 _ _ _ _ _)
    · match a with
      | ⟨0, _⟩ => rfl
      | ⟨1, _⟩ => exact absurd rfl ha
      | ⟨2, _⟩ => rfl
      | ⟨3, _⟩ => rfl
      | ⟨4, _⟩ => rfl
    · show (j.val - 512) % 4 + 512 = j.val
      omega

/-- The position that query `t` sees `k` keys back. -/
theorem pos_apply (t : Fin 4) (k : Fin 129) :
    val_main_v36 (F := Ideal) (ix2 t k) = BitVec.ofNat 32 (512 + t.val - 4 * k.val) := by
  simp only [val_main_v36_apply, val_main_v35_apply, val_main_v34_apply, val_main_v33_apply, val_main_v32_apply, val_main_v31_apply,
    val_main_v30_apply, val_main_v27_apply, val_main_v26_apply, val_main_v25_apply, val_main_v24_apply, val_main_v23_apply,
    val_main_v22_apply, val_main_v21_apply, val_main_v20_apply, val_main_v19_apply, val_main_v18_apply, val_main_v17_apply,
    val_main_c_apply, val_main_c_0_apply, val_main_c_2_apply, val_main_c_3_apply, val_main_c_4_apply]
  revert t k
  decide +kernel

/-- … is never before the buffer. -/
theorem seen_apply (t : Fin 4) (k : Fin 129) : val_main_v29 (F := Ideal) (ix2 t k) = 1#1 := by
  simp only [val_main_v29_apply, val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_c_apply, val_main_c_0_apply, val_main_c_1_apply]
  revert t k
  decide +kernel

/-- The rows gathered. -/
theorem seenRow_apply (b : Fin 32) (t : Fin 4) (k : Fin 129) (w : Fin 2) (h : Fin 4) (e : Fin 128) :
    val_main_v38 (F := Ideal) x0 x1 (ix6 b t k w h e) = row x0 x1 1 b (512 + t.val - 4 * k.val) w h e := by
  unfold val_main_v38
  refine (Attn.gather_apply (N := 516) (by decide) _ rfl rfl rfl rfl rfl rfl rfl _ _ b t k w h e
    ⟨512 + t.val - 4 * k.val, by omega⟩ ?_).trans (row_apply x0 x1 _ _ _ _ _)
  have : val_main_v37 (F := Ideal) (ix3 t k 0) = BitVec.ofNat 32 (512 + t.val - 4 * k.val) := by
    rw [val_main_v37_apply]
    refine (congrArg _ (?_ : _ = ix2 t k)).trans (pos_apply t k)
    funext a; refine Fin.ext ?_
    match a with
    | ⟨0, _⟩ => rfl
    | ⟨1, _⟩ => rfl
  rw [this]
  show (BitVec.ofNat 32 (512 + t.val - 4 * k.val)).toInt.toNat = 512 + t.val - 4 * k.val
  have hn : (BitVec.ofNat 32 (512 + t.val - 4 * k.val)).toNat = 512 + t.val - 4 * k.val := by
    rw [BitVec.toNat_ofNat]; exact Nat.mod_eq_of_lt (by omega)
  rw [BitVec.toInt_eq_toNat_of_lt (by rw [hn]; omega), hn]
  exact Int.toNat_natCast _

theorem seenKey_apply (b : Fin 32) (t : Fin 4) (k : Fin 129) (h : Fin 4) (e : Fin 128) :
    val_main_v40 (F := Ideal) x0 x1 (ix5 b t k h e) = row x0 x1 1 b (512 + t.val - 4 * k.val) 0 h e := by
  unfold val_main_v40
  refine (shapeCast_apply _ _ (ix5 b t k h e) (ix6 b t k 0 h e) ?_).trans ?_
  · rw [Shape.rowMajor_val_six, Shape.rowMajor_val_five]
    show (((((b.val * 4 + t.val) * 129 + k.val) * 1 + 0) * 4 + h.val) * 128 + e.val) = ((((b.val * 4 + t.val) * 129 + k.val) * 4 + h.val) * 128 + e.val)
    omega
  · rw [val_main_v39_apply]
    refine (congrArg _ (?_ : _ = ix6 b t k 0 h e)).trans (seenRow_apply x0 x1 b t k 0 h e)
    funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl

theorem seenVal_apply (b : Fin 32) (t : Fin 4) (k : Fin 129) (h : Fin 4) (e : Fin 128) :
    val_main_v56 (F := Ideal) x0 x1 (ix5 b t k h e) = row x0 x1 1 b (512 + t.val - 4 * k.val) 1 h e := by
  unfold val_main_v56
  refine (shapeCast_apply _ _ (ix5 b t k h e) (ix6 b t k 0 h e) ?_).trans ?_
  · rw [Shape.rowMajor_val_six, Shape.rowMajor_val_five]
    show (((((b.val * 4 + t.val) * 129 + k.val) * 1 + 0) * 4 + h.val) * 128 + e.val) = ((((b.val * 4 + t.val) * 129 + k.val) * 4 + h.val) * 128 + e.val)
    omega
  · rw [val_main_v55_apply]
    refine (congrArg _ (?_ : _ = ix6 b t k 1 h e)).trans (seenRow_apply x0 x1 b t k 1 h e)
    funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl

/-- The scores. -/
theorem score_apply (b : Fin 32) (t h : Fin 4) (k : Fin 129) :
    val_main_v45 (F := Ideal) x0 x1 (ix4 b t h k) = sco x0 x1 1 4 b t h k := by
  have hmask : val_main_call0_v1 (F := Ideal) (ix4 b t h k) = 1#1 := by
    rw [val_main_call0_v1_apply, val_main_v44_apply]
    refine (congrArg _ (?_ : _ = ix2 t k)).trans (seen_apply t k)
    funext a; refine Fin.ext ?_
    match a with
    | ⟨0, _⟩ => rfl
    | ⟨1, _⟩ => rfl
  rw [val_main_v45_apply, hmask]
  show val_main_v43 (F := Ideal) x0 x1 (ix4 b t h k) = _
  rw [val_main_v43_apply, val_main_v42_apply, val_main_cst_apply, val_main_v41_apply]
  show _ * Ideal.ofBits .f32 0x3DB504F3#32 = _
  refine congrArg (· * _) (Finset.sum_congr rfl fun e _ => ?_)
  refine congrArg₂ (· * ·) ((congrArg _ (?_ : _ = ix4 b t h e)).trans (q_apply x0 b t h e))
    ((congrArg _ (?_ : _ = ix5 b t k h e)).trans (seenKey_apply x0 x1 b t k h e))
  · funext a; refine Fin.ext ?_
    match a with
    | ⟨0, _⟩ => rfl
    | ⟨1, _⟩ => rfl
    | ⟨2, _⟩ => rfl
    | ⟨3, _⟩ => rfl
  · funext a; refine Fin.ext ?_
    match a with
    | ⟨0, _⟩ => rfl
    | ⟨1, _⟩ => rfl
    | ⟨2, _⟩ => rfl
    | ⟨3, _⟩ => rfl
    | ⟨4, _⟩ => rfl

/-- The greatest scores. -/
theorem top_apply (b : Fin 32) (t h : Fin 4) :
    val_main_v46 (F := Ideal) x0 x1 (ix3 b t h) = top (sco x0 x1 1 4 b t h) := by
  unfold val_main_v46
  refine (Host.reduce_eq_fold_single (FloatOps.maximumf (F := Ideal) (φ := .f32)) _ _ Facts₀.reducesTo_S32x4x4x129_S32x4x4_d3 (by decide) Facts₀.h_S_ (ix3 b t h)).trans ?_
  rw [val_main_cst_6_apply]
  show Finset.univ.fold max (Ideal.ofBits .f32 0xFF800000#32) _ = _
  rw [ofBits_neg_inf]
  refine congrArg (Finset.univ.fold max ⊥) (funext fun k => ?_)
  refine (congrArg (val_main_v45 (F := Ideal) x0 x1) (?_ : _ = ix4 b t h k)).trans (score_apply x0 x1 b t h k)
  funext a; refine Fin.ext ?_
  match a with
  | ⟨0, _⟩ => rfl
  | ⟨1, _⟩ => rfl
  | ⟨2, _⟩ => rfl
  | ⟨3, _⟩ => rfl

theorem ext3 {d : Fin 3 → ℕ} {i j : (⟨3, d⟩ : Shape).Idx} (h0 : (i 0).val = (j 0).val) (h1 : (i 1).val = (j 1).val)
    (h2 : (i 2).val = (j 2).val) : i = j := by
  funext a; refine Fin.ext ?_
  match a with
  | ⟨0, _⟩ => exact h0
  | ⟨1, _⟩ => exact h1
  | ⟨2, _⟩ => exact h2

theorem ext4 {d : Fin 4 → ℕ} {i j : (⟨4, d⟩ : Shape).Idx} (h0 : (i 0).val = (j 0).val) (h1 : (i 1).val = (j 1).val)
    (h2 : (i 2).val = (j 2).val) (h3 : (i 3).val = (j 3).val) : i = j := by
  funext a; refine Fin.ext ?_
  match a with
  | ⟨0, _⟩ => exact h0
  | ⟨1, _⟩ => exact h1
  | ⟨2, _⟩ => exact h2
  | ⟨3, _⟩ => exact h3

theorem topCol_apply (b : Fin 32) (t h : Fin 4) (z : Fin 1) :
    val_main_v47 (F := Ideal) x0 x1 (ix4 b t h z) = top (sco x0 x1 1 4 b t h) := by
  have hi : idx_main_v47 (ix4 b t h z) = ix3 b t h := ext3 rfl rfl rfl
  rw [val_main_v47_apply, hi, top_apply]

/-- The weights. -/
theorem wt_apply (b : Fin 32) (t h : Fin 4) (k : Fin 129) :
    val_main_v50 (F := Ideal) x0 x1 (ix4 b t h k) = wt (sco x0 x1 1 4 b t h) k := by
  have hi : idx_main_v48 (ix4 b t h k) = ix4 b t h 0 := ext4 rfl rfl rfl rfl
  rw [val_main_v50_apply, val_main_v49_apply, val_main_v48_apply, score_apply, hi, topCol_apply]
  rfl

/-- The sums of the weights. -/
theorem den_apply (b : Fin 32) (t h : Fin 4) (z : Fin 1) :
    val_main_v52 (F := Ideal) x0 x1 (ix4 b t h z) = den (sco x0 x1 1 4 b t h) := by
  rw [val_main_v52_apply, val_main_v51_apply, val_main_cst_7_apply]
  show Ideal.ofBits .f32 0x00000000#32 + _ = _
  rw [Ideal.ofBits_zero_f32, zero_add]
  refine Finset.sum_congr rfl fun k _ => ?_
  have hi : idx_main_v51 (idx_main_v52 (ix4 b t h z)) k = ix4 b t h k := ext4 rfl rfl rfl rfl
  rw [hi, wt_apply]

/-- THE ATTENTION OUTPUT of the reference. -/
theorem out_apply (b : Fin 32) (t h : Fin 4) (e : Fin 128) :
    val_main_v63 (F := Ideal) x0 x1 (ix3 b t ⟨h.val * 128 + e.val, by omega⟩) = Attn.out x0 x1 1 4 b t h e := by
  rw [val_main_v63_apply]
  refine (congrArg _ (ext4 ?_ ?_ ?_ ?_ : _ = ix4 b t h e)).trans ?_
  · show ((b.val * 4 + t.val) * 512 + (h.val * 128 + e.val)) / 2048 = b.val; omega
  · show ((b.val * 4 + t.val) * 512 + (h.val * 128 + e.val)) / 512 % 4 = t.val; omega
  · show ((b.val * 4 + t.val) * 512 + (h.val * 128 + e.val)) / 128 % 4 = h.val; omega
  · show ((b.val * 4 + t.val) * 512 + (h.val * 128 + e.val)) % 128 = e.val; omega
  rw [val_main_v57_apply]
  refine Finset.sum_congr rfl fun k _ => ?_
  have hl : lidx_main_v57 (ix4 b t h e) k = ix4 b t h k := ext4 rfl rfl rfl rfl
  have hr : ridx_main_v57 (ix4 b t h e) k = ix5 b t k h e := by
    funext a; refine Fin.ext ?_
    match a with
    | ⟨0, _⟩ => rfl
    | ⟨1, _⟩ => rfl
    | ⟨2, _⟩ => rfl
    | ⟨3, _⟩ => rfl
    | ⟨4, _⟩ => rfl
  have hi : idx_main_v53 (ix4 b t h k) = ix4 b t h 0 := ext4 rfl rfl rfl rfl
  rw [hl, hr, seenVal_apply, val_main_v54_apply, wt_apply, val_main_v53_apply, hi, den_apply]
  rfl

/-- THE LOG-SUM-EXP of the reference, the same in every entry of a head. -/
theorem lse_apply (b : Fin 32) (t h : Fin 4) (e : Fin 128) :
    val_main_v65 (F := Ideal) x0 x1 (ix3 b t ⟨h.val * 128 + e.val, by omega⟩) = lse (sco x0 x1 1 4 b t h) := by
  rw [val_main_v65_apply]
  refine (congrArg _ (ext4 ?_ ?_ ?_ ?_ : _ = ix4 b t h e)).trans ?_
  · show ((b.val * 4 + t.val) * 512 + (h.val * 128 + e.val)) / 2048 = b.val; omega
  · show ((b.val * 4 + t.val) * 512 + (h.val * 128 + e.val)) / 512 % 4 = t.val; omega
  · show ((b.val * 4 + t.val) * 512 + (h.val * 128 + e.val)) / 128 % 4 = h.val; omega
  · show ((b.val * 4 + t.val) * 512 + (h.val * 128 + e.val)) % 128 = e.val; omega
  have hi : idx_main_v64 (ix4 b t h e) = ix3 b t h := ext3 rfl rfl rfl
  rw [val_main_v64_apply, hi, val_main_v60_apply]
  refine (congrArg _ (ext4 ?_ ?_ ?_ ?_ : _ = ix4 b t h 0)).trans ?_
  · show ((b.val * 4 + t.val) * 4 + h.val) / 16 = b.val; omega
  · show ((b.val * 4 + t.val) * 4 + h.val) / 4 % 4 = t.val; omega
  · show ((b.val * 4 + t.val) * 4 + h.val) / 1 % 4 = h.val; omega
  · rfl
  rw [val_main_v59_apply, val_main_v58_apply, topCol_apply, den_apply]
  rfl

/-- THE BUFFER of the reference, four positions on: row `r` of a batch is entry `r / 8 + 4` of the buffer with the new
    rows appended, keys before values, head by head. -/
theorem buf_apply (b : Fin 32) (r : Fin 4096) (e : Fin 128) :
    val_main_v62 (F := Ideal) x0 x1 (ix3 b r e)
      = row x0 x1 1 b (r.val / 8 + 4) ⟨r.val % 8 / 4, by omega⟩ ⟨r.val % 4, by omega⟩ e := by
  rw [val_main_v62_apply, val_main_v61_apply]
  refine (congrArg _ (?_ : _ = ix5 b ⟨r.val / 8 + 4, by omega⟩ ⟨r.val % 8 / 4, by omega⟩ ⟨r.val % 4, by omega⟩ e)).trans (row_apply x0 x1 _ _ _ _ _)
  funext a; refine Fin.ext ?_
  match a with
  | ⟨0, _⟩ => show ((b.val * 4096 + r.val) * 128 + e.val) / 524288 = b.val; omega
  | ⟨1, _⟩ => show 4 + ((b.val * 4096 + r.val) * 128 + e.val) / 1024 % 512 = r.val / 8 + 4; omega
  | ⟨2, _⟩ => show ((b.val * 4096 + r.val) * 128 + e.val) / 512 % 2 = r.val % 8 / 4; omega
  | ⟨3, _⟩ => show ((b.val * 4096 + r.val) * 128 + e.val) / 128 % 4 = r.val % 4; omega
  | ⟨4, _⟩ => show ((b.val * 4096 + r.val) * 128 + e.val) % 128 = e.val; omega

end Cert.SampRef1

end
-- ==== Proof.Samp1Claim.lean ====
/- The claims about the attention over the cache of 512 rows. -/
module

public import proofs.«01_k».proof.Defs
public import proofs.«01_k».proof.Proof.Samp1
public import proofs.«01_k».proof.Proof.SampRef1
public import proofs.«01_k».proof.Proof.Finite
public import proofs.«01_k».proof.Proof.Gen.Samp1.Frame
public import proofs.«01_k».proof.Proof.Gen.Pre_finite_arguments_512
public import proofs.«01_k».proof.Proof.Gen.SampRef1Ideal.Run

@[expose] public section

noncomputable section

namespace Cert.Samp1Claim

open Idealize.ShloMosaic Idealize.ShloMosaic.TcCoe Idealize.ShloMosaic.ValueIdx Cert.Softmax Cert.Attn Cert.Finite Idealize.SL.Sem
open Cert.Samp1Run

theorem frame_p : Cert.quiescent_Samp1 := fun m ρ _ => Cert.Samp1.Gen.frame m ρ
theorem frame_pi : Cert.quiescent_Samp1Ideal := fun m ρ _ => Cert.Samp1Ideal.Gen.frame m ρ
theorem frame_pi_pre : Cert.quiescent_Samp1Ideal_pre_finite_arguments_512 := fun m ρ _ => Cert.Samp1Ideal.Gen.frame m ρ
/-- The reference ends with its arguments unchanged. -/
theorem frame_ref (m : (ℓ : Loc Cert.SampRef1Ideal.nD Cert.SampRef1Ideal.τ Cert.SampRef1Ideal.sig) → Buf (Elt Ideal) ℓ)
    (ρ : Dev Cert.SampRef1Ideal.nD → PrngReg) :
    θ_run (Cert.SampRef1Ideal.defs (F := Ideal)) (onTc (τ := Cert.SampRef1Ideal.τ) (Cert.SampRef1Ideal.main (F := Ideal))) ⟨m, fun _ => 0, ρ⟩
      (fun r => (∀ c : Dev Cert.SampRef1Ideal.nD,
        r.2.mem ((c.tc : Thread Cert.SampRef1Ideal.nD Cert.SampRef1Ideal.τ).loc Cert.SampRef1Ideal.main_arg0) = m ((c.tc : Thread Cert.SampRef1Ideal.nD Cert.SampRef1Ideal.τ).loc Cert.SampRef1Ideal.main_arg0)
        ∧ r.2.mem ((c.tc : Thread Cert.SampRef1Ideal.nD Cert.SampRef1Ideal.τ).loc Cert.SampRef1Ideal.main_arg1) = m ((c.tc : Thread Cert.SampRef1Ideal.nD Cert.SampRef1Ideal.τ).loc Cert.SampRef1Ideal.main_arg1))
      ∧ r.2.sem = fun _ => 0) :=
  (θ_run Cert.SampRef1Ideal.defs _ _).mono (fun r h => ⟨fun c => (h c).2.2.2, sem_eq_zero_of_no_sems (by decide) r.2⟩)
    (Cert.SampRef1Ideal.Value.run (F := Ideal) m ρ)
theorem frame_ri : Cert.quiescent_SampRef1Ideal := fun m ρ _ => frame_ref m ρ
theorem frame_ri_pre : Cert.quiescent_SampRef1Ideal_pre_finite_arguments_512 := fun m ρ _ => frame_ref m ρ
theorem preserves : Cert.preserves_Samp1_Samp1Ideal := IdealRules.named_const.statement Cert.Samp1Ideal.κ "mask" .f32 0xF149F2CA#32 ⊥ rfl

/-- An index of the lanes is a head and a lane of it. -/
theorem lanes (i : (⟨3, ![32, 4, 512]⟩ : Shape).Idx) : i = ix3 (i 0) (i 1) ⟨(⟨(i 2).val / 128, by have : (i 2).val < 512 := (i 2).isLt; omega⟩ : Fin 4).val * 128
    + (⟨(i 2).val % 128, by omega⟩ : Fin 128).val, by have : (i 2).val < 512 := (i 2).isLt; show (i 2).val / 128 * 128 + (i 2).val % 128 < 512; omega⟩ := by
  refine funext fun a => Fin.ext ?_
  match a with
  | ⟨0, _⟩ => rfl
  | ⟨1, _⟩ => rfl
  | ⟨2, _⟩ => show (i 2).val = (i 2).val / 128 * 128 + (i 2).val % 128; omega

/-- THE VALUES: the kernel's three arrays are the reference's, entry by entry. -/
theorem algebraic : Cert.algebraic_Samp1Ideal_SampRef1Ideal_pre_finite_arguments_512 := by
  intro m g m' g' hp ha
  have h0 : ∀ c i, IsReal (arg0 m c i) := fun c i => real_of_lt _ _ _ (hp c).1 i
  have h1 : ∀ c i, IsReal (arg1 m c i) := fun c i => real_of_lt _ _ _ (hp c).2 i
  refine ⟨fun c => bufArr m c, fun c => outArr m c, fun c => lseArr m c, ?_, ?_⟩
  · refine (θ_run Cert.Samp1Ideal.defs _ _).mono (fun r h c => ?_) (Cert.Samp1Ideal.Value.run_blocks m g)
    obtain ⟨a, b, d, e⟩ := h c
    exact ⟨a.trans (buf_final m c), b.trans (out_final m c (h0 c) (h1 c)), d.trans (lse_final m c), e⟩
  · refine (θ_run Cert.SampRef1Ideal.defs _ _).mono (fun r h c => ?_) (Cert.SampRef1Ideal.Value.run (F := Ideal) m' g')
    obtain ⟨a, b, d, e⟩ := h c
    rw [Cert.SampRef1Ideal.Read.val_main_v63_eq, (ha c).1, (ha c).2] at b
    rw [Cert.SampRef1Ideal.Read.val_main_v65_eq, (ha c).1, (ha c).2] at d
    rw [Cert.SampRef1Ideal.Read.val_main_v62_eq, (ha c).1, (ha c).2] at a
    refine ⟨a.trans (funext fun i => ?_), b.trans (funext fun i => ?_), d.trans (funext fun i => ?_), e⟩
    · have hi : i = ix3 (i 0) (i 1) (i 2) := funext fun a => by
        match a with
        | ⟨0, _⟩ => rfl
        | ⟨1, _⟩ => rfl
        | ⟨2, _⟩ => rfl
      refine (congrArg _ hi).trans ?_
      exact Cert.SampRef1.buf_apply _ _ _ _ _
    · refine (congrArg _ (lanes i)).trans ?_
      exact Cert.SampRef1.out_apply _ _ _ _ _ _
    · refine (congrArg _ (lanes i)).trans ?_
      exact Cert.SampRef1.lse_apply _ _ _ _ _ _

end Cert.Samp1Claim

end
-- ==== Proof.Samp2Kernel.lean ====
/- What one grid point of the attention kernel over the cache of 2048 rows leaves in its three output blocks. -/
module

public import proofs.«01_k».proof.Proof.HeadAttn
public import proofs.«01_k».proof.Proof.Gen.Samp2Ideal.Value

@[expose] public section

noncomputable section

namespace Cert.Samp2Kernel

open Idealize.ShloMosaic Idealize.ShloMosaic.ValueIdx Cert.Softmax Cert.Attn Cert.HeadAttn
open Cert.Samp2Ideal Cert.Samp2Ideal.Gen Idealize.SL.Sem
open scoped BigOperators

/-- The shape facts the head's operations need. -/
theorem shapes : Head.Facts 2048 where
  redn := by decide
  red4 := by decide
  col := by decide
  bn := by decide
  b4 := by decide
  bl := by decide
  up := by decide
  same := by decide
  lt := by decide

theorem cast_apply {a b : ℕ} (h : (⟨3, ![1, a, b]⟩ : Shape).ShapeCasts ⟨2, ![a, b]⟩) (x : FVec Ideal ⟨3, ![1, a, b]⟩ .f32)
    (i : Fin a) (j : Fin b) : shapeCast ⟨2, ![a, b]⟩ x h (ix2 i j) = x (ix3 0 i j) := by
  refine shapeCast_apply x h (ix2 i j) (ix3 0 i j) ?_
  rw [Shape.rowMajor_val_two, Shape.rowMajor_val_three]
  show (0 * a + i.val) * b + j.val = i.val * b + j.val
  rw [Nat.zero_mul, Nat.zero_add]

/-- A block of four rows, rounded to bfloat16. -/
def b4 (v : Vec Ideal S1x4x128 .f32) : FVec Ideal ⟨2, ![4, 128]⟩ .bf16 :=
  truncf .bf16 (shapeCast ⟨2, ![4, 128]⟩ v shapeCasts_S1x4x128_S4x128) bitsLt_bf16_f32

/-- A block of as many rows as the cache has, rounded to bfloat16. -/
def bn (v : Vec Ideal S1x2048x128 .f32) : FVec Ideal ⟨2, ![2048, 128]⟩ .bf16 :=
  truncf .bf16 (shapeCast ⟨2, ![2048, 128]⟩ v shapeCasts_S1x2048x128_S2048x128) bitsLt_bf16_f32

theorem b4_apply (v : Vec Ideal S1x4x128 .f32) (t : Fin 4) (e : Fin 128) : b4 v (ix2 t e) = v (ix3 0 t e) :=
  cast_apply shapeCasts_S1x4x128_S4x128 v t e

theorem bn_apply (v : Vec Ideal S1x2048x128 .f32) (j : Fin 2048) (e : Fin 128) : bn v (ix2 j e) = v (ix3 0 j e) :=
  cast_apply shapeCasts_S1x2048x128_S2048x128 v j e

/-! Each head's stores are the head's output and log-sum-exp, of its five operands. -/

section heads

variable (Mc : IVec S4x2048 1) (Mn : IVec S4x4 1) (q kn vn : Vec Ideal S1x4x128 .f32) (k v : Vec Ideal S1x2048x128 .f32)

theorem o0 : k0_pay15 Mc Mn (k0_pay4 q) (k0_pay5 v) (k0_pay6 kn) (k0_pay7 vn) (k0_pay8 q k)
    = Head.out shapes Mc Mn (⊥ : EReal) (b4 q) (bn k) (bn v) (b4 kn) (b4 vn) := rfl

theorem l0 : k0_pay16 Mc Mn (k0_pay4 q) (k0_pay6 kn) (k0_pay8 q k)
    = Head.lg shapes Mc Mn (⊥ : EReal) (b4 q) (bn k) (b4 kn) := rfl

theorem o1 : k0_pay26 (k0_pay18 v) (k0_pay19 vn) (k0_pay23 Mc Mn q k kn) (k0_pay24 Mc Mn q k kn)
    = Head.out shapes Mc Mn (⊥ : EReal) (b4 q) (bn k) (bn v) (b4 kn) (b4 vn) := rfl

theorem l1 : k0_pay27 (k0_pay22 Mc Mn q k kn) (k0_pay23 Mc Mn q k kn) (k0_pay24 Mc Mn q k kn)
    = Head.lg shapes Mc Mn (⊥ : EReal) (b4 q) (bn k) (b4 kn) := rfl

theorem o2 : k0_pay38 Mc Mn (k0_pay28 q) (k0_pay29 k) (k0_pay30 v) (k0_pay31 kn) vn
    = Head.out shapes Mc Mn (⊥ : EReal) (b4 q) (bn k) (bn v) (b4 kn) (b4 vn) := rfl

theorem l2 : k0_pay40 (k0_pay39 Mc Mn (k0_pay28 q) (k0_pay29 k) (k0_pay31 kn))
    = Head.lg shapes Mc Mn (⊥ : EReal) (b4 q) (bn k) (b4 kn) := rfl

theorem o3 : k0_pay50 (k0_pay42 v) (k0_pay43 vn) (k0_pay44 Mc q k) (k0_pay45 Mn q kn) (k0_pay46 Mc Mn q k kn)
    = Head.out shapes Mc Mn (⊥ : EReal) (b4 q) (bn k) (bn v) (b4 kn) (b4 vn) := rfl

theorem l3 : k0_pay51 (k0_pay44 Mc q k) (k0_pay45 Mn q kn) (k0_pay46 Mc Mn q k kn)
    = Head.lg shapes Mc Mn (⊥ : EReal) (b4 q) (bn k) (b4 kn) := rfl

end heads

/-! The parts of the three input blocks a head loads. -/

/-- The lanes of head `h` in the query block. -/
def qr (h : Fin 4) : Rect S1x4x512 := Rect.unit ![0, 0, 128 * h.val] ![1, 4, 128] (by
  have := h.isLt
  intro a
  match a with
  | ⟨0, _⟩ => exact Nat.le_refl 1
  | ⟨1, _⟩ => exact Nat.le_refl 4
  | ⟨2, _⟩ => show 128 * h.val + 128 ≤ 512; omega)

/-- Rows `s`, `s + 8`, … of the cache block: head `s`'s keys if `s < 4`, else head `s - 4`'s values. -/
def cr (s : Fin 8) : LoadRect S1x16384x128 where
  off := ![0, s.val, 0]
  size := ![1, 2048, 128]
  stride := ![1, 8, 1]
  inb := by
    revert s
    decide

/-- Rows `s`, `s + 8`, … of the block of new rows. -/
def nr (s : Fin 8) : LoadRect S1x32x128 where
  off := ![0, s.val, 0]
  size := ![1, 4, 128]
  stride := ![1, 8, 1]
  inb := by
    revert s
    decide

variable (c : Dev nD) (t : Fin cfg0.N)
variable (X0 : Vec Ideal S1x4x512 .f32) (X1 : Vec Ideal S1x16384x128 .f32) (X2 : Vec Ideal S1x32x128 .f32)

/-- The queries of head `h`. -/
def qh (h : Fin 4) : Vec Ideal S1x4x128 .f32 := View.ld X0 (qr h)

/-- Head `s`'s cached keys, or head `s - 4`'s cached values. -/
def ch (s : Fin 8) : Vec Ideal S1x2048x128 .f32 := fun x => X1 ((cr s).idx x)

/-- Head `s`'s new keys, or head `s - 4`'s new values. -/
def nh (s : Fin 8) : Vec Ideal S1x4x128 .f32 := fun x => X2 ((nr s).idx x)

theorem qh_apply (h t : Fin 4) (e : Fin 128) : b4 (qh X0 h) (ix2 t e) = X0 (ix3 0 t ⟨h.val * 128 + e.val, by omega⟩) := by
  rw [b4_apply]
  refine congrArg X0 (funext fun a => Fin.ext ?_)
  match a with
  | ⟨0, _⟩ => rfl
  | ⟨1, _⟩ => show 0 + 1 * t.val = t.val; omega
  | ⟨2, _⟩ => show 128 * h.val + 1 * e.val = h.val * 128 + e.val; omega

theorem ch_apply (s : Fin 8) (j : Fin 2048) (e : Fin 128) : bn (ch X1 s) (ix2 j e) = X1 (ix3 0 ⟨j.val * 8 + s.val, by omega⟩ e) := by
  rw [bn_apply]
  refine congrArg X1 (funext fun a => Fin.ext ?_)
  match a with
  | ⟨0, _⟩ => rfl
  | ⟨1, _⟩ => show s.val + 8 * j.val = j.val * 8 + s.val; omega
  | ⟨2, _⟩ => show 0 + 1 * e.val = e.val; omega

theorem nh_apply (s : Fin 8) (j : Fin 4) (e : Fin 128) : b4 (nh X2 s) (ix2 j e) = X2 (ix3 0 ⟨j.val * 8 + s.val, by omega⟩ e) := by
  rw [b4_apply]
  refine congrArg X2 (funext fun a => Fin.ext ?_)
  match a with
  | ⟨0, _⟩ => rfl
  | ⟨1, _⟩ => show s.val + 8 * j.val = j.val * 8 + s.val; omega
  | ⟨2, _⟩ => show 0 + 1 * e.val = e.val; omega

theorem ch_load (M : Memref sig .tc .vmem S1x16384x128 .f32) (hM : M.IsWhole) (s : Fin 8) :
    M.view.readAt (Elt Ideal) (cr s) (hM.unread X1) = ch X1 s :=
  funext fun x => congrFun (hM.read_unread (Val := Elt Ideal) X1) ((cr s).idx x)

theorem nh_load (M : Memref sig .tc .vmem S1x32x128 .f32) (hM : M.IsWhole) (s : Fin 8) :
    M.view.readAt (Elt Ideal) (nr s) (hM.unread X2) = nh X2 s :=
  funext fun x => congrFun (hM.read_unread (Val := Elt Ideal) X2) ((nr s).idx x)

section loads

variable (M1 : Memref sig .tc .vmem S1x16384x128 .f32) (h1 : M1.IsWhole) (M2 : Memref sig .tc .vmem S1x32x128 .f32) (h2 : M2.IsWhole)

theorem q0 : View.ld X0 (Rect.unit (s := S1x4x512) ![0, 0, 0] ![1, 4, 128] inb_S1x4x512_S1x4x128_0_0_0) = qh X0 0 := rfl

theorem q1 : View.ld X0 (Rect.unit (s := S1x4x512) ![0, 0, 128] ![1, 4, 128] inb_S1x4x512_S1x4x128_0_0_128) = qh X0 1 := rfl

theorem q2 : View.ld X0 (Rect.unit (s := S1x4x512) ![0, 0, 256] ![1, 4, 128] inb_S1x4x512_S1x4x128_0_0_256) = qh X0 2 := rfl

theorem q3 : View.ld X0 (Rect.unit (s := S1x4x512) ![0, 0, 384] ![1, 4, 128] inb_S1x4x512_S1x4x128_0_0_384) = qh X0 3 := rfl

theorem c0 : M1.view.readAt (Elt Ideal) (⟨![0, 0, 0], ![1, 2048, 128], ![1, 8, 1], inb_S1x16384x128_S1x2048x128_0_0_0_s_1_8_1⟩ : LoadRect S1x16384x128) (h1.unread X1) = ch X1 0 :=
  ch_load X1 M1 h1 0

theorem n0 : M2.view.readAt (Elt Ideal) (⟨![0, 0, 0], ![1, 4, 128], ![1, 8, 1], inb_S1x32x128_S1x4x128_0_0_0_s_1_8_1⟩ : LoadRect S1x32x128) (h2.unread X2) = nh X2 0 :=
  nh_load X2 M2 h2 0

theorem c1 : M1.view.readAt (Elt Ideal) (⟨![0, 1, 0], ![1, 2048, 128], ![1, 8, 1], inb_S1x16384x128_S1x2048x128_0_1_0_s_1_8_1⟩ : LoadRect S1x16384x128) (h1.unread X1) = ch X1 1 :=
  ch_load X1 M1 h1 1

theorem n1 : M2.view.readAt (Elt Ideal) (⟨![0, 1, 0], ![1, 4, 128], ![1, 8, 1], inb_S1x32x128_S1x4x128_0_1_0_s_1_8_1⟩ : LoadRect S1x32x128) (h2.unread X2) = nh X2 1 :=
  nh_load X2 M2 h2 1

theorem c2 : M1.view.readAt (Elt Ideal) (⟨![0, 2, 0], ![1, 2048, 128], ![1, 8, 1], inb_S1x16384x128_S1x2048x128_0_2_0_s_1_8_1⟩ : LoadRect S1x16384x128) (h1.unread X1) = ch X1 2 :=
  ch_load X1 M1 h1 2

theorem n2 : M2.view.readAt (Elt Ideal) (⟨![0, 2, 0], ![1, 4, 128], ![1, 8, 1], inb_S1x32x128_S1x4x128_0_2_0_s_1_8_1⟩ : LoadRect S1x32x128) (h2.unread X2) = nh X2 2 :=
  nh_load X2 M2 h2 2

theorem c3 : M1.view.readAt (Elt Ideal) (⟨![0, 3, 0], ![1, 2048, 128], ![1, 8, 1], inb_S1x16384x128_S1x2048x128_0_3_0_s_1_8_1⟩ : LoadRect S1x16384x128) (h1.unread X1) = ch X1 3 :=
  ch_load X1 M1 h1 3

theorem n3 : M2.view.readAt (Elt Ideal) (⟨![0, 3, 0], ![1, 4, 128], ![1, 8, 1], inb_S1x32x128_S1x4x128_0_3_0_s_1_8_1⟩ : LoadRect S1x32x128) (h2.unread X2) = nh X2 3 :=
  nh_load X2 M2 h2 3

theorem c4 : M1.view.readAt (Elt Ideal) (⟨![0, 4, 0], ![1, 2048, 128], ![1, 8, 1], inb_S1x16384x128_S1x2048x128_0_4_0_s_1_8_1⟩ : LoadRect S1x16384x128) (h1.unread X1) = ch X1 4 :=
  ch_load X1 M1 h1 4

theorem n4 : M2.view.readAt (Elt Ideal) (⟨![0, 4, 0], ![1, 4, 128], ![1, 8, 1], inb_S1x32x128_S1x4x128_0_4_0_s_1_8_1⟩ : LoadRect S1x32x128) (h2.unread X2) = nh X2 4 :=
  nh_load X2 M2 h2 4

theorem c5 : M1.view.readAt (Elt Ideal) (⟨![0, 5, 0], ![1, 2048, 128], ![1, 8, 1], inb_S1x16384x128_S1x2048x128_0_5_0_s_1_8_1⟩ : LoadRect S1x16384x128) (h1.unread X1) = ch X1 5 :=
  ch_load X1 M1 h1 5

theorem n5 : M2.view.readAt (Elt Ideal) (⟨![0, 5, 0], ![1, 4, 128], ![1, 8, 1], inb_S1x32x128_S1x4x128_0_5_0_s_1_8_1⟩ : LoadRect S1x32x128) (h2.unread X2) = nh X2 5 :=
  nh_load X2 M2 h2 5

theorem c6 : M1.view.readAt (Elt Ideal) (⟨![0, 6, 0], ![1, 2048, 128], ![1, 8, 1], inb_S1x16384x128_S1x2048x128_0_6_0_s_1_8_1⟩ : LoadRect S1x16384x128) (h1.unread X1) = ch X1 6 :=
  ch_load X1 M1 h1 6

theorem n6 : M2.view.readAt (Elt Ideal) (⟨![0, 6, 0], ![1, 4, 128], ![1, 8, 1], inb_S1x32x128_S1x4x128_0_6_0_s_1_8_1⟩ : LoadRect S1x32x128) (h2.unread X2) = nh X2 6 :=
  nh_load X2 M2 h2 6

theorem c7 : M1.view.readAt (Elt Ideal) (⟨![0, 7, 0], ![1, 2048, 128], ![1, 8, 1], inb_S1x16384x128_S1x2048x128_0_7_0_s_1_8_1⟩ : LoadRect S1x16384x128) (h1.unread X1) = ch X1 7 :=
  ch_load X1 M1 h1 7

theorem n7 : M2.view.readAt (Elt Ideal) (⟨![0, 7, 0], ![1, 4, 128], ![1, 8, 1], inb_S1x32x128_S1x4x128_0_7_0_s_1_8_1⟩ : LoadRect S1x32x128) (h2.unread X2) = nh X2 7 :=
  nh_load X2 M2 h2 7

end loads

/-- Head `h`'s output from the three blocks. -/
def ob (h : Fin 4) : FVec Ideal S1x4x128 .f32 :=
  Head.out shapes k0_pay2 k0_pay3 (⊥ : EReal) (b4 (qh X0 h)) (bn (ch X1 ⟨h.val, by omega⟩)) (bn (ch X1 ⟨4 + h.val, by omega⟩))
    (b4 (nh X2 ⟨h.val, by omega⟩)) (b4 (nh X2 ⟨4 + h.val, by omega⟩))

/-- Head `h`'s log-sum-exp from the three blocks. -/
def lb (h : Fin 4) : FVec Ideal S1x4x128 .f32 :=
  Head.lg shapes k0_pay2 k0_pay3 (⊥ : EReal) (b4 (qh X0 h)) (bn (ch X1 ⟨h.val, by omega⟩)) (b4 (nh X2 ⟨h.val, by omega⟩))

/-- Head `k`'s part of a block. -/
def part (G : Fin 4 → FVec Ideal S1x4x128 .f32) (k : Fin 4) : View.Piece (Elt Ideal) S1x4x512 .f32 := ⟨qr k, G k⟩

/-- The four heads' parts of a block, set side by side. -/
def four (G : Fin 4 → FVec Ideal S1x4x128 .f32) : Vec Ideal S1x4x512 .f32 :=
  View.canon [part G 3, part G 2, part G 1, part G 0]

theorem o_pieces : out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) X0 X1 X2 = four (ob X0 X1 X2) := by
  unfold out0_A_4
  rw [View.read_writes_eq_canon _ _ _ (cover0_A_4 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [o0, o1, o2, o3, q0, q1, q2, q3, c0, c1, c2, c3, c4, c5, c6, c7, n0, n1, n2, n3, n4, n5, n6, n7]
  unfold four
  rfl

theorem l_pieces : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) X0 X1 X2 = four (lb X0 X1 X2) := by
  unfold out0_A_5
  rw [View.read_writes_eq_canon _ _ _ (cover0_A_5 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [l0, l1, l2, l3, q0, q1, q2, q3, c0, c1, c2, c3, n0, n1, n2, n3]
  unfold four
  rfl

end Cert.Samp2Kernel

end
-- ==== Proof.Samp2.lean ====
/- The arrays the attention kernel over the cache of 2048 rows leaves, as functions of its two arguments. -/
module

public import proofs.«01_k».proof.Proof.Samp2Kernel
public import proofs.«01_k».proof.Proof.Window
public import Idealize.ShloMosaic.Lib.Pipeline.ValueKit.Geometry

@[expose] public section

noncomputable section

namespace Cert.Samp2Run

open Idealize.ShloMosaic Idealize.ShloMosaic.TcCoe Idealize.ShloMosaic.ValueIdx Cert.Softmax Cert.Attn Cert.HeadAttn Cert.Samp2Kernel
open Cert.Samp2Ideal Cert.Samp2Ideal.Gen Cert.Samp2Ideal.Value Idealize.SL.Sem
open scoped BigOperators

/-! ## The masks -/

theorem masks : Masks 2048 16 (k0_pay2) (k0_pay3) where
  c := by
    intro t j
    unfold k0_pay2
    dsimp only
    have h0 := iota_single_apply .tc S4x2048 32 0 iota_S4x2048_d0_w32 (ix2 t j)
    have h1 := iota_single_apply .tc S4x2048 32 1 iota_S4x2048_d1_w32 (ix2 t j)
    unfold andi cmpi subi addi
    dsimp only
    rw [h0, h1]
    exact Window.keeps (a := 4) (n := 2048) (by decide) (by decide) t.isLt j.isLt
  w := by
    have hw : ∀ t j : Fin 4, k0_pay3 (ix2 t j) = 1#1 ↔ ∃ k : Fin 2, j.val + 16 * k.val = t.val := by
      unfold k0_pay3
      decide +kernel
    intro t j
    rw [hw]
    constructor
    · rintro ⟨k, hk⟩
      exact ⟨⟨k.val, by omega⟩, by show 2048 + j.val + 16 * k.val = 2048 + t.val; omega⟩
    · rintro ⟨k, hk⟩
      exact ⟨⟨k.val, by omega⟩, by show j.val + 16 * k.val = t.val; omega⟩

/-! ## The four heads of a block -/

theorem four_apply (G : Fin 4 → FVec Ideal S1x4x128 .f32) (t h : Fin 4) (e : Fin 128) :
    four G (ix3 0 t ⟨h.val * 128 + e.val, by omega⟩) = G h (ix3 0 t e) := by
  let Q : S1x4x512.Idx → EReal := fun y => G ⟨(y 2).val / 128, by have : (y 2).val < 512 := (y 2).isLt; omega⟩
    (ix3 0 (y 1) ⟨(y 2).val % 128, Nat.mod_lt _ (by decide)⟩)
  have piece : ∀ (k : Fin 4) (x : S1x4x128.Idx), G k x = Q ((qr k).emb x) := by
    intro k x
    have hx : (x 2).val < 128 := (x 2).isLt
    have h0 : x = ix3 0 (x 1) (x 2) := by
      refine funext fun a => Fin.ext ?_
      match a with
      | ⟨0, _⟩ => have : (x 0).val < 1 := (x 0).isLt
                  show (x 0).val = 0
                  omega
      | ⟨1, _⟩ => rfl
      | ⟨2, _⟩ => rfl
    conv_lhs => rw [h0]
    show G k _ = G ⟨(128 * k.val + 1 * (x 2).val) / 128, _⟩ (ix3 0 _ ⟨(128 * k.val + 1 * (x 2).val) % 128, _⟩)
    have hk : (⟨(128 * k.val + 1 * (x 2).val) / 128, by omega⟩ : Fin 4) = k := Fin.ext (by show (128 * k.val + 1 * (x 2).val) / 128 = k.val; omega)
    rw [hk]
    refine congrArg (G k) (funext fun a => Fin.ext ?_)
    match a with
    | ⟨0, _⟩ => rfl
    | ⟨1, _⟩ => show (x 1).val = 0 + 1 * (x 1).val; omega
    | ⟨2, _⟩ => show (x 2).val = (128 * k.val + 1 * (x 2).val) % 128; omega
  have cov : (ix3 0 t ⟨h.val * 128 + e.val, by omega⟩ : S1x4x512.Idx) ∈ (part G h).1.set := by
    have hi : (ix3 0 t ⟨h.val * 128 + e.val, by omega⟩ : S1x4x512.Idx) = (qr h).idx (ix3 0 t e) := by
      refine funext fun a => Fin.ext ?_
      match a with
      | ⟨0, _⟩ => rfl
      | ⟨1, _⟩ => show t.val = 0 + 1 * t.val; omega
      | ⟨2, _⟩ => show h.val * 128 + e.val = 128 * h.val + 1 * e.val; omega
    rw [hi]
    exact (qr h).idx_mem _
  have hQ : Q (ix3 0 t ⟨h.val * 128 + e.val, by omega⟩) = G h (ix3 0 t e) := by
    show G ⟨(h.val * 128 + e.val) / 128, _⟩ (ix3 0 t ⟨(h.val * 128 + e.val) % 128, _⟩) = _
    have hk : (⟨(h.val * 128 + e.val) / 128, by omega⟩ : Fin 4) = h := Fin.ext (by show (h.val * 128 + e.val) / 128 = h.val; omega)
    have he : (⟨(h.val * 128 + e.val) % 128, by omega⟩ : Fin 128) = e := Fin.ext (by show (h.val * 128 + e.val) % 128 = e.val; omega)
    rw [hk, he]
  have mem : ∀ k : Fin 4, part G k ∈ [part G 3, part G 2, part G 1, part G 0] := by
    intro k
    match k with
    | ⟨0, _⟩ => exact .tail _ (.tail _ (.tail _ (.head _)))
    | ⟨1, _⟩ => exact .tail _ (.tail _ (.head _))
    | ⟨2, _⟩ => exact .tail _ (.head _)
    | ⟨3, _⟩ => exact .head _
  have all : ∀ p ∈ [part G 3, part G 2, part G 1, part G 0], ∀ x, p.2 x = Q (p.1.emb x) := by
    intro p hp
    simp only [List.mem_cons, List.not_mem_nil, or_false] at hp
    have : ∃ k, p = part G k := by
      rcases hp with h | h | h | h
      · exact ⟨_, h⟩
      · exact ⟨_, h⟩
      · exact ⟨_, h⟩
      · exact ⟨_, h⟩
    obtain ⟨k, rfl⟩ := this
    exact piece k
  exact (View.canon_apply_of_pieces (Val := Elt Ideal) (S := S1x4x512) (e := .f32) Q _ all _ ⟨_, mem h, cov⟩).trans hQ

/-! ## The blocks of the two arguments -/

/-- The three input blocks are batch `b`'s part of the two arguments. -/
structure Blocks (x0 : Rows) (x1 : Cache 2048) (b : Fin 32) (X0 : Vec Ideal S1x4x512 .f32) (X1 : Vec Ideal S1x16384x128 .f32)
    (X2 : Vec Ideal S1x32x128 .f32) : Prop where
  q : ∀ (t h : Fin 4) (e : Fin 128), X0 (ix3 0 t ⟨h.val * 128 + e.val, by omega⟩) = proj x0 2 0 b t h e
  c : ∀ (j : Fin 2048) (w : Fin 2) (h : Fin 4) (e : Fin 128), X1 (ix3 0 ⟨j.val * 8 + w.val * 4 + h.val, by omega⟩ e) = x1 (ix6 0 b j w h e)
  n : ∀ (j : Fin 4) (w : Fin 2) (h : Fin 4) (e : Fin 128), X2 (ix3 0 ⟨j.val * 8 + w.val * 4 + h.val, by omega⟩ e) = proj x0 2 ⟨w.val + 1, by omega⟩ b j h e

section block

variable {x0 : Rows} {x1 : Cache 2048} {b : Fin 32} {X0 : Vec Ideal S1x4x512 .f32} {X1 : Vec Ideal S1x16384x128 .f32}
  {X2 : Vec Ideal S1x32x128 .f32} (B : Blocks x0 x1 b X0 X1 X2)

include B

theorem cached (j : Fin 2048) (w : Fin 2) (h : Fin 4) (s : Fin 8) (hs : s.val = w.val * 4 + h.val) (e : Fin 128) :
    bn (ch X1 s) (ix2 j e) = row x0 x1 2 b j.val w h e := by
  rw [ch_apply]
  unfold row
  rw [dif_pos j.isLt]
  refine Eq.trans (congrArg X1 ?_) (B.c j w h e)
  exact congrArg (fun r => (ix3 0 r e : S1x16384x128.Idx)) (Fin.ext (by show j.val * 8 + s.val = j.val * 8 + w.val * 4 + h.val; omega))

theorem fresh (j : Fin 4) (w : Fin 2) (h : Fin 4) (s : Fin 8) (hs : s.val = w.val * 4 + h.val) (e : Fin 128) :
    b4 (nh X2 s) (ix2 j e) = row x0 x1 2 b (2048 + j.val) w h e := by
  rw [nh_apply]
  unfold row
  rw [dif_neg (by omega)]
  have hj : (⟨(2048 + j.val - 2048) % 4, Nat.mod_lt _ (by decide)⟩ : Fin 4) = j := Fin.ext (by show (2048 + j.val - 2048) % 4 = j.val; omega)
  refine Eq.trans (congrArg X2 ?_) ((B.n j w h e).trans ?_)
  · exact congrArg (fun r => (ix3 0 r e : S1x32x128.Idx)) (Fin.ext (by show j.val * 8 + s.val = j.val * 8 + w.val * 4 + h.val; omega))
  · exact congrArg (fun j => proj x0 2 _ b j h e) hj.symm

theorem operands (h : Fin 4) : Operands 2048 x0 x1 2 b h (b4 (qh X0 h)) (bn (ch X1 ⟨h.val, by omega⟩)) (bn (ch X1 ⟨4 + h.val, by omega⟩))
    (b4 (nh X2 ⟨h.val, by omega⟩)) (b4 (nh X2 ⟨4 + h.val, by omega⟩)) where
  q t e := (qh_apply X0 h t e).trans (B.q t h e)
  k j e := cached B j 0 h _ (by show h.val = 0 * 4 + h.val; omega) e
  v j e := cached B j 1 h _ (by show 4 + h.val = 1 * 4 + h.val; omega) e
  kn j e := fresh B j 0 h _ (by show h.val = 0 * 4 + h.val; omega) e
  vn j e := fresh B j 1 h _ (by show 4 + h.val = 1 * 4 + h.val; omega) e

/-- The block of outputs is the attention of the queries. -/
theorem o_block (h0 : ∀ i, IsReal (x0 i)) (h1 : ∀ i, IsReal (x1 i)) (t h : Fin 4) (e : Fin 128) :
    four (ob X0 X1 X2) (ix3 0 t ⟨h.val * 128 + e.val, by omega⟩) = Attn.out x0 x1 2 16 b t h e := by
  rw [four_apply]
  unfold ob
  exact out_eq (d := 16) (by decide) rfl masks shapes (operands B h) h0 h1 0 t e

/-- The block of log-sum-exps is the attention's. -/
theorem l_block (t h : Fin 4) (e : Fin 128) :
    four (lb X0 X1 X2) (ix3 0 t ⟨h.val * 128 + e.val, by omega⟩) = lse (sco x0 x1 2 16 b t h) := by
  rw [four_apply]
  unfold lb
  exact lg_eq (d := 16) (by decide) rfl masks shapes (operands B h) 0 t e

/-- The block of the new buffer: the cached rows from the fifth on, then the new ones. -/
def nb (X1 : Vec Ideal S1x16384x128 .f32) (X2 : Vec Ideal S1x32x128 .f32) : Vec Ideal S1x16384x128 .f32 :=
  View.canon [
    ⟨Rect.unit ![0, 16352, 0] ![1, 32, 128] inb_S1x16384x128_S1x32x128_0_16352_0,
      k0_pay1 (k0_pay53 (View.ld X2 (Rect.unit ![0, 0, 0] ![1, 32, 128] inb_S1x32x128_S1x32x128_0_0_0)))⟩,
    ⟨Rect.unit ![0, 0, 0] ![1, 16352, 128] inb_S1x16384x128_S1x16352x128_0_0_0,
      k0_pay52 (View.ld X1 (Rect.unit ![0, 32, 0] ![1, 16352, 128] inb_S1x16384x128_S1x16352x128_0_32_0))⟩]

omit B in
theorem back_apply {p q : ℕ} (h : (⟨3, ![1, p, q]⟩ : Shape).ShapeCasts ⟨2, ![p, q]⟩) (h' : (⟨2, ![p, q]⟩ : Shape).ShapeCasts ⟨3, ![1, p, q]⟩)
    (x : FVec Ideal ⟨3, ![1, p, q]⟩ .f32) (i : Fin p) (j : Fin q) :
    shapeCast ⟨3, ![1, p, q]⟩ (shapeCast ⟨2, ![p, q]⟩ x h) h' (ix3 0 i j) = x (ix3 0 i j) := by
  refine (shapeCast_apply _ h' (ix3 0 i j) (ix2 i j) ?_).trans (cast_apply h x i j)
  rw [Shape.rowMajor_val_two, Shape.rowMajor_val_three]
  show i.val * q + j.val = (0 * p + i.val) * q + j.val
  rw [Nat.zero_mul, Nat.zero_add]

omit B in
theorem idx_eq {p q : ℕ} (x : (⟨3, ![1, p, q]⟩ : Shape).Idx) : x = ix3 0 (x 1) (x 2) := by
  refine funext fun a => Fin.ext ?_
  match a with
  | ⟨0, _⟩ => have : (x 0).val < 1 := (x 0).isLt
              show (x 0).val = 0
              omega
  | ⟨1, _⟩ => rfl
  | ⟨2, _⟩ => rfl

omit B in
theorem new_pay (v : Vec Ideal S1x32x128 .f32) (i : Fin 32) (j : Fin 128) : k0_pay1 (F := Ideal) (k0_pay53 v) (ix3 0 i j) = v (ix3 0 i j) := by
  unfold k0_pay1 k0_pay53
  exact back_apply (p := 32) (q := 128) _ _ v i j

omit B in
theorem old_pay (v : Vec Ideal S1x16352x128 .f32) (i : Fin 16352) (j : Fin 128) : k0_pay52 (F := Ideal) v (ix3 0 i j) = v (ix3 0 i j) := by
  unfold k0_pay52
  exact back_apply (p := 16352) (q := 128) _ _ v i j

/-- Row `r` of a batch's new buffer: of row `r / 8 + 4` of the cache with the new rows appended, the head's key or value. -/
def shifted (x0 : Rows) (x1 : Cache 2048) (b : Fin 32) (r : Fin 16384) (e : Fin 128) : EReal :=
  row x0 x1 2 b (r.val / 8 + 4) ⟨r.val % 8 / 4, by omega⟩ ⟨r.val % 4, by omega⟩ e

theorem new_row (r : Fin 32) (e : Fin 128) : X2 (ix3 0 r e) = shifted x0 x1 b ⟨16352 + r.val, by omega⟩ e := by
  have hB := B.n ⟨r.val / 8, by omega⟩ ⟨r.val % 8 / 4, by omega⟩ ⟨r.val % 4, by omega⟩ e
  have hr : (⟨r.val / 8 * 8 + r.val % 8 / 4 * 4 + r.val % 4, by omega⟩ : Fin 32) = r := Fin.ext (by show r.val / 8 * 8 + r.val % 8 / 4 * 4 + r.val % 4 = r.val; omega)
  rw [hr] at hB
  rw [hB]
  unfold shifted row
  rw [dif_neg (by show ¬ (16352 + r.val) / 8 + 4 < 2048; omega)]
  have e1 : (⟨r.val % 8 / 4, by omega⟩ : Fin 2) = ⟨(16352 + r.val) % 8 / 4, by omega⟩ := Fin.ext (by show r.val % 8 / 4 = (16352 + r.val) % 8 / 4; omega)
  have e2 : (⟨r.val / 8, by omega⟩ : Fin 4) = ⟨((16352 + r.val) / 8 + 4 - 2048) % 4, by omega⟩ := Fin.ext (by show r.val / 8 = ((16352 + r.val) / 8 + 4 - 2048) % 4; omega)
  have e3 : (⟨r.val % 4, by omega⟩ : Fin 4) = ⟨(16352 + r.val) % 4, by omega⟩ := Fin.ext (by show r.val % 4 = (16352 + r.val) % 4; omega)
  have e4 : (⟨r.val % 8 / 4 + 1, by omega⟩ : Fin 3) = ⟨(16352 + r.val) % 8 / 4 + 1, by omega⟩ := Fin.ext (by show r.val % 8 / 4 + 1 = (16352 + r.val) % 8 / 4 + 1; omega)
  show proj x0 2 ⟨r.val % 8 / 4 + 1, _⟩ b ⟨r.val / 8, _⟩ ⟨r.val % 4, _⟩ e = proj x0 2 ⟨(16352 + r.val) % 8 / 4 + 1, _⟩ b ⟨((16352 + r.val) / 8 + 4 - 2048) % 4, _⟩ ⟨(16352 + r.val) % 4, _⟩ e
  rw [e2, e3, e4]

theorem old_row (r : Fin 16352) (e : Fin 128) : X1 (ix3 0 ⟨32 + r.val, by omega⟩ e) = shifted x0 x1 b ⟨r.val, by omega⟩ e := by
  have hB := B.c ⟨r.val / 8 + 4, by omega⟩ ⟨r.val % 8 / 4, by omega⟩ ⟨r.val % 4, by omega⟩ e
  have hr : (⟨(r.val / 8 + 4) * 8 + r.val % 8 / 4 * 4 + r.val % 4, by omega⟩ : Fin 16384) = ⟨32 + r.val, by omega⟩ := Fin.ext (by show (r.val / 8 + 4) * 8 + r.val % 8 / 4 * 4 + r.val % 4 = 32 + r.val; omega)
  refine (congrArg (fun k => X1 (ix3 0 k e)) hr).symm.trans (hB.trans ?_)
  unfold shifted row
  rw [dif_pos (by show r.val / 8 + 4 < 2048; omega)]

/-- The block of the new buffer holds the rows of the cache with the new ones appended, from the fifth on. -/
theorem n_block (r : Fin 16384) (e : Fin 128) : nb X1 X2 (ix3 0 r e) = shifted x0 x1 b r e := by
  let Q : S1x16384x128.Idx → EReal := fun y => shifted x0 x1 b (y 1) (y 2)
  have hl : ∀ (x : S1x32x128.Idx), (k0_pay1 (F := Ideal) (k0_pay53 (View.ld X2 (Rect.unit ![0, 0, 0] ![1, 32, 128] inb_S1x32x128_S1x32x128_0_0_0)))) x
      = Q ((Rect.unit (s := S1x16384x128) ![0, 16352, 0] ![1, 32, 128] inb_S1x16384x128_S1x32x128_0_16352_0).emb x) := by
    intro x
    have hi : (Rect.unit (s := S1x16384x128) ![0, 16352, 0] ![1, 32, 128] inb_S1x16384x128_S1x32x128_0_16352_0).emb x = ix3 0 ⟨16352 + (x 1).val, by have : (x 1).val < 32 := (x 1).isLt; omega⟩ (x 2) := by
      refine funext fun a => Fin.ext ?_
      match a with
      | ⟨0, _⟩ => have : (x 0).val < 1 := (x 0).isLt
                  show 0 + 1 * (x 0).val = 0
                  omega
      | ⟨1, _⟩ => show 16352 + 1 * (x 1).val = 16352 + (x 1).val; omega
      | ⟨2, _⟩ => show 0 + 1 * (x 2).val = (x 2).val; omega
    refine Eq.trans ?_ ((new_row B (x 1) (x 2)).trans (congrArg Q hi).symm)
    conv_lhs => rw [idx_eq x]
    refine Eq.trans (new_pay _ (x 1) (x 2)) ?_
    refine congrArg X2 (funext fun a => Fin.ext ?_)
    match a with
    | ⟨0, _⟩ => rfl
    | ⟨1, _⟩ => show 0 + 1 * (x 1).val = (x 1).val; omega
    | ⟨2, _⟩ => show 0 + 1 * (x 2).val = (x 2).val; omega
  have hr : ∀ (x : S1x16352x128.Idx), (k0_pay52 (F := Ideal) (View.ld X1 (Rect.unit ![0, 32, 0] ![1, 16352, 128] inb_S1x16384x128_S1x16352x128_0_32_0))) x
      = Q ((Rect.unit (s := S1x16384x128) ![0, 0, 0] ![1, 16352, 128] inb_S1x16384x128_S1x16352x128_0_0_0).emb x) := by
    intro x
    have hi : (Rect.unit (s := S1x16384x128) ![0, 0, 0] ![1, 16352, 128] inb_S1x16384x128_S1x16352x128_0_0_0).emb x = ix3 0 ⟨(x 1).val, by have : (x 1).val < 16352 := (x 1).isLt; omega⟩ (x 2) := by
      refine funext fun a => Fin.ext ?_
      match a with
      | ⟨0, _⟩ => have : (x 0).val < 1 := (x 0).isLt
                  show 0 + 1 * (x 0).val = 0
                  omega
      | ⟨1, _⟩ => show 0 + 1 * (x 1).val = (x 1).val; omega
      | ⟨2, _⟩ => show 0 + 1 * (x 2).val = (x 2).val; omega
    refine Eq.trans ?_ ((old_row B (x 1) (x 2)).trans (congrArg Q hi).symm)
    conv_lhs => rw [idx_eq x]
    refine Eq.trans (old_pay _ (x 1) (x 2)) ?_
    refine congrArg X1 (funext fun a => Fin.ext ?_)
    match a with
    | ⟨0, _⟩ => rfl
    | ⟨1, _⟩ => show 32 + 1 * (x 1).val = 32 + (x 1).val; omega
    | ⟨2, _⟩ => show 0 + 1 * (x 2).val = (x 2).val; omega
  unfold nb
  refine View.canon_apply_of_pieces (Val := Elt Ideal) (S := S1x16384x128) (e := .f32) Q _ ?_ (ix3 0 r e) ?_
  · intro p hp
    simp only [List.mem_cons, List.not_mem_nil, or_false] at hp
    rcases hp with h | h
    · subst h
      exact hl
    · subst h
      exact hr
  · by_cases hlt : r.val < 16352
    · refine ⟨_, .tail _ (.head _), ?_⟩
      have hi : (ix3 0 r e : S1x16384x128.Idx) = (Rect.unit (s := S1x16384x128) ![0, 0, 0] ![1, 16352, 128] inb_S1x16384x128_S1x16352x128_0_0_0).idx (ix3 0 ⟨r.val, hlt⟩ e) := by
        refine funext fun a => Fin.ext ?_
        match a with
        | ⟨0, _⟩ => rfl
        | ⟨1, _⟩ => show r.val = 0 + 1 * r.val; omega
        | ⟨2, _⟩ => show e.val = 0 + 1 * e.val; omega
      rw [hi]
      exact LoadRect.idx_mem _ _
    · refine ⟨_, .head _, ?_⟩
      have hi : (ix3 0 r e : S1x16384x128.Idx) = (Rect.unit (s := S1x16384x128) ![0, 16352, 0] ![1, 32, 128] inb_S1x16384x128_S1x32x128_0_16352_0).idx (ix3 0 ⟨r.val - 16352, by omega⟩ e) := by
        refine funext fun a => Fin.ext ?_
        match a with
        | ⟨0, _⟩ => rfl
        | ⟨1, _⟩ => show r.val = 16352 + 1 * (r.val - 16352); omega
        | ⟨2, _⟩ => show e.val = 0 + 1 * e.val; omega
      rw [hi]
      exact LoadRect.idx_mem _ _

end block

theorem n_pieces (c : Dev nD) (t : Fin cfg0.N) (X0 : Vec Ideal S1x4x512 .f32) (X1 : Vec Ideal S1x16384x128 .f32) (X2 : Vec Ideal S1x32x128 .f32) :
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) X0 X1 X2 = nb X1 X2 := by
  unfold out0_A_3
  rw [View.read_writes_eq_canon _ _ _ (cover0_A_3 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rfl

/-! ## The arrays the windows read -/

variable (m : (ℓ : Loc nD τ sig) → Buf (Elt Ideal) ℓ) (ρ : Dev nD → PrngReg)

/-- The two arguments. -/
abbrev arg0 (c : Dev nD) : Rows := m ((c : Thread nD τ).loc main_arg0)
abbrev arg1 (c : Dev nD) : Cache 2048 := m ((c : Thread nD τ).loc main_arg1)

theorem V0_eq (c : Dev nD) : V m c main_v0 = shapeCast S32x4x4608 (arg0 m c) shapeCasts_S128x4608_S32x4x4608 := by
  unfold_abbrev_sides
  after_results
  rfl

theorem V3_eq (c : Dev nD) : V m c main_v3 = shapeCast S32x16384x128 (shapeCast S32x2048x2x4x128 (arg1 m c) shapeCasts_S1x32x2048x2x4x128_S32x2048x2x4x128) shapeCasts_S32x2048x2x4x128_S32x16384x128 := by
  unfold_abbrev_sides
  after_results
  rfl

theorem V6_eq (c : Dev nD) : V m c main_v6 = shapeCast S32x32x128 (shapeCast S32x4x2x4x128
    (extractStridedSlice S32x4x2x1x4x128 ![0, 0, 1, 2, 0, 0] (shapeCast S32x4x3x3x4x128 (arg0 m c) shapeCasts_S128x4608_S32x4x3x3x4x128)
      slices_S32x4x3x3x4x128_S32x4x2x1x4x128_0_0_1_2_0_0) shapeCasts_S32x4x2x1x4x128_S32x4x2x4x128) shapeCasts_S32x4x2x4x128_S32x32x128 := by
  unfold_abbrev_sides
  after_results
  rfl

theorem V0_apply (c : Dev nD) (b : Fin 32) (t : Fin 4) (k : Fin 4608) : (V m c main_v0 : S32x4x4608.Idx → EReal) (ix3 b t k) = arg0 m c (ix2 ⟨b.val * 4 + t.val, by omega⟩ k) := by
  rw [V0_eq]
  refine shapeCast_apply _ _ _ _ ?_
  rw [Shape.rowMajor_val_two, Shape.rowMajor_val_three]
  rfl

theorem V3_apply (c : Dev nD) (b : Fin 32) (j : Fin 2048) (w : Fin 2) (h : Fin 4) (e : Fin 128) :
    (V m c main_v3 : S32x16384x128.Idx → EReal) (ix3 b ⟨j.val * 8 + w.val * 4 + h.val, by omega⟩ e) = arg1 m c (ix6 0 b j w h e) := by
  rw [V3_eq]
  refine (shapeCast_apply _ _ _ (ix5 b j w h e) ?_).trans (shapeCast_apply _ _ _ (ix6 0 b j w h e) ?_)
  · rw [Shape.rowMajor_val_three, Shape.rowMajor_val_five]
    show (((b.val * 2048 + j.val) * 2 + w.val) * 4 + h.val) * 128 + e.val = (b.val * 16384 + (j.val * 8 + w.val * 4 + h.val)) * 128 + e.val
    ring
  · rw [Shape.rowMajor_val_five, Shape.rowMajor_val_six]
    show ((((0 * 32 + b.val) * 2048 + j.val) * 2 + w.val) * 4 + h.val) * 128 + e.val = (((b.val * 2048 + j.val) * 2 + w.val) * 4 + h.val) * 128 + e.val
    ring

theorem V6_apply (c : Dev nD) (b : Fin 32) (j : Fin 4) (w : Fin 2) (h : Fin 4) (e : Fin 128) :
    (V m c main_v6 : S32x32x128.Idx → EReal) (ix3 b ⟨j.val * 8 + w.val * 4 + h.val, by omega⟩ e) = proj (arg0 m c) 2 ⟨w.val + 1, by omega⟩ b j h e := by
  rw [V6_eq]
  refine (shapeCast_apply _ _ _ (ix5 b j w h e) ?_).trans ((shapeCast_apply _ _ _ (ix6 b j w 0 h e) ?_).trans
    ((extractStridedSlice_apply _ _ _ _ (ix6 b j ⟨w.val + 1, by omega⟩ 2 h e) ?_).trans (shapeCast_apply _ _ _ _ ?_)))
  · rw [Shape.rowMajor_val_three, Shape.rowMajor_val_five]
    show (((b.val * 4 + j.val) * 2 + w.val) * 4 + h.val) * 128 + e.val = (b.val * 32 + (j.val * 8 + w.val * 4 + h.val)) * 128 + e.val
    ring
  · rw [Shape.rowMajor_val_five, Shape.rowMajor_val_six]
    show ((((b.val * 4 + j.val) * 2 + w.val) * 1 + 0) * 4 + h.val) * 128 + e.val = (((b.val * 4 + j.val) * 2 + w.val) * 4 + h.val) * 128 + e.val
    ring
  · intro a
    match a with
    | ⟨0, _⟩ => exact (Nat.zero_add _).symm
    | ⟨1, _⟩ => exact (Nat.zero_add _).symm
    | ⟨2, _⟩ => exact Nat.add_comm _ _
    | ⟨3, _⟩ => rfl
    | ⟨4, _⟩ => exact (Nat.zero_add _).symm
    | ⟨5, _⟩ => exact (Nat.zero_add _).symm
  · rw [Shape.rowMajor_val_two, Shape.rowMajor_val_six]
    show (b.val * 4 + j.val) * 4608 + ((w.val + 1) * 1536 + 2 * 512 + h.val * 128 + e.val)
      = ((((b.val * 4 + j.val) * 3 + (w.val + 1)) * 3 + 2) * 4 + h.val) * 128 + e.val
    ring

/-! ## Each point's blocks -/

/-- The batch a grid point computes. -/
def batch (t : Fin cfg0.N) : Fin 32 := ⟨t.val, t.isLt⟩

theorem index0 : ∀ t : Fin cfg0.N, win0_0.index t = ![t.val, 0, 2] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![t.val, 0, 0] := (by decide +kernel : ∀ t : Fin grid0.N, _)

theorem emb_eq {p q : ℕ} (t : Fin cfg0.N) (I : Fin 3 → ℕ) (hI : I = ![t.val, 0, 0]) (f : (⟨3, ![32, p, q]⟩ : Shape).Idx)
    (i : Fin p) (j : Fin q) (h0 : (f 0).val = I 0 * 1 + 1 * 0) (h1 : (f 1).val = I 1 * p + 1 * i.val) (h2 : (f 2).val = I 2 * q + 1 * j.val) :
    f = ix3 (batch t) i j := by
  subst hI
  refine funext fun a => Fin.ext ?_
  match a with
  | ⟨0, _⟩ => refine h0.trans ?_; show t.val * 1 + 1 * 0 = t.val; omega
  | ⟨1, _⟩ => refine h1.trans ?_; show 0 * p + 1 * i.val = i.val; omega
  | ⟨2, _⟩ => refine h2.trans ?_; show 0 * q + 1 * j.val = j.val; omega

theorem blocks (c : Dev nD) (t : Fin cfg0.N) : Blocks (arg0 m c) (arg1 m c) (batch t) (iblk m c 0 t) (iblk m c 1 t) (iblk m c 2 t) where
  q tt h e := by
    show (V m c main_v0 : S32x4x4608.Idx → EReal) (((cfg0.win 0).blk t).view.emb (ix3 0 tt ⟨h.val * 128 + e.val, _⟩)) = _
    have hi : ((cfg0.win 0).blk t).view.emb (ix3 0 tt ⟨h.val * 128 + e.val, by omega⟩) = ix3 (batch t) tt ⟨0 * 1536 + 2 * 512 + h.val * 128 + e.val, by omega⟩ := by
      have hI := index0 t
      refine funext fun a => Fin.ext ?_
      match a with
      | ⟨0, _⟩ => show win0_0.index t (0 : Fin 3) * 1 + 1 * 0 = t.val; rw [hI]; show t.val * 1 + 1 * 0 = t.val; omega
      | ⟨1, _⟩ => show win0_0.index t (1 : Fin 3) * 4 + 1 * tt.val = tt.val; rw [hI]; show 0 * 4 + 1 * tt.val = tt.val; omega
      | ⟨2, _⟩ => show win0_0.index t (2 : Fin 3) * 512 + 1 * (h.val * 128 + e.val) = 0 * 1536 + 2 * 512 + h.val * 128 + e.val; rw [hI]
                  show 2 * 512 + 1 * (h.val * 128 + e.val) = 0 * 1536 + 2 * 512 + h.val * 128 + e.val; omega
    rw [hi]
    exact V0_apply m c (batch t) tt _
  c j w h e := by
    show (V m c main_v3 : S32x16384x128.Idx → EReal) (((cfg0.win 1).blk t).view.emb (ix3 0 ⟨j.val * 8 + w.val * 4 + h.val, _⟩ e)) = _
    have hi : ((cfg0.win 1).blk t).view.emb (ix3 0 ⟨j.val * 8 + w.val * 4 + h.val, by omega⟩ e) = ix3 (batch t) ⟨j.val * 8 + w.val * 4 + h.val, by omega⟩ e :=
      emb_eq t _ (index1 t) _ _ _ rfl rfl rfl
    rw [hi]
    exact V3_apply m c (batch t) j w h e
  n j w h e := by
    show (V m c main_v6 : S32x32x128.Idx → EReal) (((cfg0.win 2).blk t).view.emb (ix3 0 ⟨j.val * 8 + w.val * 4 + h.val, _⟩ e)) = _
    have hi : ((cfg0.win 2).blk t).view.emb (ix3 0 ⟨j.val * 8 + w.val * 4 + h.val, by omega⟩ e) = ix3 (batch t) ⟨j.val * 8 + w.val * 4 + h.val, by omega⟩ e :=
      emb_eq t _ (index2 t) _ _ _ rfl rfl rfl
    rw [hi]
    exact V6_apply m c (batch t) j w h e

/-! ## The arrays after the run -/

/-- The new buffer. -/
def bufArr (c : Dev nD) : S32x16384x128.Idx → EReal := fun i =>
  shifted (arg0 m c) (arg1 m c) (i 0) (i 1) (i 2)

/-- The attention's outputs. -/
def outArr (c : Dev nD) : S32x4x512.Idx → EReal := fun i =>
  Attn.out (arg0 m c) (arg1 m c) 2 16 (i 0) (i 1) ⟨(i 2).val / 128, by have : (i 2).val < 512 := (i 2).isLt; omega⟩ ⟨(i 2).val % 128, by omega⟩

/-- The attention's log-sum-exps. -/
def lseArr (c : Dev nD) : S32x4x512.Idx → EReal := fun i =>
  lse (sco (arg0 m c) (arg1 m c) 2 16 (i 0) (i 1) ⟨(i 2).val / 128, by have : (i 2).val < 512 := (i 2).isLt; omega⟩)

theorem lanes (x : S1x4x512.Idx) : x = ix3 0 (x 1) ⟨(⟨(x 2).val / 128, by have : (x 2).val < 512 := (x 2).isLt; omega⟩ : Fin 4).val * 128
    + (⟨(x 2).val % 128, by omega⟩ : Fin 128).val, by have : (x 2).val < 512 := (x 2).isLt; show (x 2).val / 128 * 128 + (x 2).val % 128 < 512; omega⟩ := by
  conv_lhs => rw [idx_eq x]
  exact congrArg (fun k => (ix3 0 (x 1) k : S1x4x512.Idx)) (Fin.ext (by show (x 2).val = (x 2).val / 128 * 128 + (x 2).val % 128; omega))

theorem buf_final (c : Dev nD) : (dats m 0 c).arrAt 3 cfg0.N = bufArr m c := by
  refine (dats m 0 c).arrAt_eq_of_covers 3 _ (by decide +kernel) fun t hf (y : S1x16384x128.Idx) => ?_
  have hi : ((cfg0.win 3).blk t).view.emb y = ix3 (batch t) (y 1) (y 2) := by
    rw [idx_eq y]
    exact emb_eq t _ (index3 t) _ _ _ rfl rfl rfl
  rw [hi]
  show (dats m 0 c).after 3 t y = _
  rw [after0_3]
  unfold outsAt0
  dsimp only
  rw [n_pieces, idx_eq y]
  exact n_block (blocks m c t) (y 1) (y 2)

theorem out_final (c : Dev nD) (h0 : ∀ i, IsReal (arg0 m c i)) (h1 : ∀ i, IsReal (arg1 m c i)) : (dats m 0 c).arrAt 4 cfg0.N = outArr m c := by
  refine (dats m 0 c).arrAt_eq_of_covers 4 _ (by decide +kernel) fun t hf (y : S1x4x512.Idx) => ?_
  have hi : ((cfg0.win 4).blk t).view.emb y = ix3 (batch t) (y 1) (y 2) := by
    rw [idx_eq y]
    exact emb_eq t _ (index4 t) _ _ _ rfl rfl rfl
  rw [hi]
  show (dats m 0 c).after 4 t y = _
  rw [after0_4]
  unfold outsAt0
  dsimp only
  rw [o_pieces]
  refine (congrArg _ (lanes y)).trans ?_
  exact o_block (blocks m c t) h0 h1 (y 1) _ _

theorem lse_final (c : Dev nD) : (dats m 0 c).arrAt 5 cfg0.N = lseArr m c := by
  refine (dats m 0 c).arrAt_eq_of_covers 5 _ (by decide +kernel) fun t hf (y : S1x4x512.Idx) => ?_
  have hi : ((cfg0.win 5).blk t).view.emb y = ix3 (batch t) (y 1) (y 2) := by
    rw [idx_eq y]
    exact emb_eq t _ (index5 t) _ _ _ rfl rfl rfl
  rw [hi]
  show (dats m 0 c).after 5 t y = _
  rw [after0_5]
  unfold outsAt0
  dsimp only
  rw [l_pieces]
  refine (congrArg _ (lanes y)).trans ?_
  exact l_block (blocks m c t) (y 1) _ _

end Cert.Samp2Run

end
-- ==== Proof.SampRef2.lean ====
/- The reference's attention over group 2 read at an index: dilated attention over the buffer with the new rows
   appended, its log-sum-exp, and the buffer moved on by four positions. -/
module

public import proofs.«01_k».proof.Proof.Attn
public import proofs.«01_k».proof.Proof.Gen.SampRef2Ideal.Read

@[expose] public section

noncomputable section

namespace Cert.SampRef2

open Idealize.ShloMosaic Idealize.ShloMosaic.ValueIdx Cert.Softmax Cert.Attn
open Cert.SampRef2Ideal Cert.SampRef2Ideal.Read
open scoped BigOperators

variable (x0 : Rows) (x1 : Cache 2048)

theorem head_idx3 (b : Fin 32) (t h : Fin 4) (e : Fin 128) : idx_main_v3 (ix4 b t h e) = ix5 b t 0 h e := by
  funext a; refine Fin.ext ?_
  match a with
  | ⟨0, _⟩ => show (((b.val * 4 + t.val) * 4 + h.val) * 128 + e.val) / 2048 = b.val; omega
  | ⟨1, _⟩ => show (((b.val * 4 + t.val) * 4 + h.val) * 128 + e.val) / 512 % 4 = t.val; omega
  | ⟨2, _⟩ => rfl
  | ⟨3, _⟩ => show (((b.val * 4 + t.val) * 4 + h.val) * 128 + e.val) / 128 % 4 = h.val; omega
  | ⟨4, _⟩ => show (((b.val * 4 + t.val) * 4 + h.val) * 128 + e.val) % 128 = e.val; omega

theorem head_idx7 (b : Fin 32) (t h : Fin 4) (e : Fin 128) : idx_main_v7 (ix4 b t h e) = ix5 b t 0 h e := by
  funext a; refine Fin.ext ?_
  match a with
  | ⟨0, _⟩ => show (((b.val * 4 + t.val) * 4 + h.val) * 128 + e.val) / 2048 = b.val; omega
  | ⟨1, _⟩ => show (((b.val * 4 + t.val) * 4 + h.val) * 128 + e.val) / 512 % 4 = t.val; omega
  | ⟨2, _⟩ => rfl
  | ⟨3, _⟩ => show (((b.val * 4 + t.val) * 4 + h.val) * 128 + e.val) / 128 % 4 = h.val; omega
  | ⟨4, _⟩ => show (((b.val * 4 + t.val) * 4 + h.val) * 128 + e.val) % 128 = e.val; omega

theorem head_idx11 (b : Fin 32) (t h : Fin 4) (e : Fin 128) : idx_main_v11 (ix4 b t h e) = ix5 b t 0 h e := by
  funext a; refine Fin.ext ?_
  match a with
  | ⟨0, _⟩ => show (((b.val * 4 + t.val) * 4 + h.val) * 128 + e.val) / 2048 = b.val; omega
  | ⟨1, _⟩ => show (((b.val * 4 + t.val) * 4 + h.val) * 128 + e.val) / 512 % 4 = t.val; omega
  | ⟨2, _⟩ => rfl
  | ⟨3, _⟩ => show (((b.val * 4 + t.val) * 4 + h.val) * 128 + e.val) / 128 % 4 = h.val; omega
  | ⟨4, _⟩ => show (((b.val * 4 + t.val) * 4 + h.val) * 128 + e.val) % 128 = e.val; omega

/-- The queries. -/
theorem q_apply (b : Fin 32) (t h : Fin 4) (e : Fin 128) :
    val_main_v3 (F := Ideal) x0 (ix4 b t h e) = proj x0 2 0 b t h e := by
  rw [val_main_v3_apply, head_idx3, val_main_v2_apply, val_main_v1_apply, val_main_v0_apply]
  refine congrArg x0 (funext fun a => Fin.ext ?_)
  match a with
  | ⟨0, _⟩ => show ((((b.val * 4 + t.val) * 3 + (2 + 0)) * 4 + h.val) * 128 + e.val) / 1536 = b.val * 4 + t.val; omega
  | ⟨1, _⟩ => show ((((b.val * 4 + t.val) * 3 + (2 + 0)) * 4 + h.val) * 128 + e.val) % 1536 = 0 * 1536 + 2 * 512 + h.val * 128 + e.val; omega

/-- The new keys. -/
theorem k_apply (b : Fin 32) (t h : Fin 4) (e : Fin 128) :
    val_main_v7 (F := Ideal) x0 (ix4 b t h e) = proj x0 2 1 b t h e := by
  rw [val_main_v7_apply, head_idx7, val_main_v6_apply, val_main_v5_apply, val_main_v4_apply]
  refine congrArg x0 (funext fun a => Fin.ext ?_)
  match a with
  | ⟨0, _⟩ => show ((((b.val * 4 + t.val) * 3 + (2 + 0)) * 4 + h.val) * 128 + e.val) / 1536 = b.val * 4 + t.val; omega
  | ⟨1, _⟩ => show 1536 + ((((b.val * 4 + t.val) * 3 + (2 + 0)) * 4 + h.val) * 128 + e.val) % 1536 = 1 * 1536 + 2 * 512 + h.val * 128 + e.val; omega

/-- The new values. -/
theorem v_apply (b : Fin 32) (t h : Fin 4) (e : Fin 128) :
    val_main_v11 (F := Ideal) x0 (ix4 b t h e) = proj x0 2 2 b t h e := by
  rw [val_main_v11_apply, head_idx11, val_main_v10_apply, val_main_v9_apply, val_main_v8_apply]
  refine congrArg x0 (funext fun a => Fin.ext ?_)
  match a with
  | ⟨0, _⟩ => show ((((b.val * 4 + t.val) * 3 + (2 + 0)) * 4 + h.val) * 128 + e.val) / 1536 = b.val * 4 + t.val; omega
  | ⟨1, _⟩ => show 3072 + ((((b.val * 4 + t.val) * 3 + (2 + 0)) * 4 + h.val) * 128 + e.val) % 1536 = 2 * 1536 + 2 * 512 + h.val * 128 + e.val; omega

/-- The new rows, keys and values side by side. -/
theorem new_apply (b : Fin 32) (t : Fin 4) (w : Fin 2) (h : Fin 4) (e : Fin 128) :
    val_main_v15 (F := Ideal) x0 (ix5 b t w h e) = proj x0 2 ⟨w.val + 1, by omega⟩ b t h e := by
  unfold val_main_v15
  have hw : w = 0 ∨ w = 1 := by omega
  rcases hw with rfl | rfl
  · refine (concatenate_pair_apply_left (t := S32x4x2x4x128) (s₁ := S32x4x1x4x128) (s₂ := S32x4x1x4x128) 2 _ _ _ (ix5 b t 0 h e) rfl (ix5 b t 0 h e) (fun a => ?_)).trans ?_
    · match a with
      | ⟨0, _⟩ => rfl
      | ⟨1, _⟩ => rfl
      | ⟨2, _⟩ => rfl
      | ⟨3, _⟩ => rfl
      | ⟨4, _⟩ => rfl
    · rw [val_main_v13_apply]
      refine (congrArg _ (?_ : _ = ix4 b t h e)).trans (k_apply x0 b t h e)
      funext a; refine Fin.ext ?_
      match a with
      | ⟨0, _⟩ => rfl
      | ⟨1, _⟩ => rfl
      | ⟨2, _⟩ => rfl
      | ⟨3, _⟩ => rfl
  · refine (concatenate_pair_apply_right (t := S32x4x2x4x128) (s₁ := S32x4x1x4x128) (s₂ := S32x4x1x4x128) 2 _ _ _ (ix5 b t 1 h e) rfl rfl (ix5 b t 0 h e) (fun a ha => ?_) rfl).trans ?_
    · match a with
      | ⟨0, _⟩ => rfl
      | ⟨1, _⟩ => rfl
      | ⟨2, _⟩ => exact absurd rfl ha
      | ⟨3, _⟩ => rfl
      | ⟨4, _⟩ => rfl
    · rw [val_main_v14_apply]
      refine (congrArg _ (?_ : _ = ix4 b t h e)).trans (v_apply x0 b t h e)
      funext a; refine Fin.ext ?_
      match a with
      | ⟨0, _⟩ => rfl
      | ⟨1, _⟩ => rfl
      | ⟨2, _⟩ => rfl
      | ⟨3, _⟩ => rfl

/-- The buffer with the new rows appended. -/
theorem row_apply (b : Fin 32) (j : Fin 2052) (w : Fin 2) (h : Fin 4) (e : Fin 128) :
    val_main_v16 (F := Ideal) x0 x1 (ix5 b j w h e) = row x0 x1 2 b j.val w h e := by
  unfold val_main_v16 row
  by_cases hj : j.val < 2048
  · rw [dif_pos hj]
    refine (concatenate_pair_apply_left (t := S32x2052x2x4x128) (s₁ := S32x2048x2x4x128) (s₂ := S32x4x2x4x128) 1 _ _ _ (ix5 b j w h e) rfl (ix5 b ⟨j.val, hj⟩ w h e) (fun a => ?_)).trans ?_
    · match a with
      | ⟨0, _⟩ => rfl
      | ⟨1, _⟩ => rfl
      | ⟨2, _⟩ => rfl
      | ⟨3, _⟩ => rfl
      | ⟨4, _⟩ => rfl
    · refine shapeCast_apply x1 _ (ix5 b ⟨j.val, hj⟩ w h e) (ix6 0 b ⟨j.val, hj⟩ w h e) ?_
      rw [Shape.rowMajor_val_six, Shape.rowMajor_val_five]
      show (((((0 : Fin 1).val * 32 + b.val) * 2048 + j.val) * 2 + w.val) * 4 + h.val) * 128 + e.val
        = (((b.val * 2048 + j.val) * 2 + w.val) * 4 + h.val) * 128 + e.val
      simp
  · rw [dif_neg hj]
    have hm : (j.val - 2048) % 4 = j.val - 2048 := by omega
    refine (concatenate_pair_apply_right (t := S32x2052x2x4x128) (s₁ := S32x2048x2x4x128) (s₂ := S32x4x2x4x128) 1 _ _ _ (ix5 b j w h e) rfl rfl
      (ix5 b ⟨(j.val - 2048) % 4, Nat.mod_lt _ (by decide)⟩ w h e) (fun a ha => ?_) ?_).trans (new_apply x0 _ _ _ _ _)
    · match a with
      | ⟨0, _⟩ => rfl
      | ⟨1, _⟩ => exact absurd rfl ha
      | ⟨2, _⟩ => rfl
      | ⟨3, _⟩ => rfl
      | ⟨4, _⟩ => rfl
    · show (j.val - 2048) % 4 + 2048 = j.val
      omega

/-- The position that query `t` sees `k` keys back. -/
theorem pos_apply (t : Fin 4) (k : Fin 129) :
    val_main_v36 (F := Ideal) (ix2 t k) = BitVec.ofNat 32 (2048 + t.val - 16 * k.val) := by
  simp only [val_main_v36_apply, val_main_v35_apply, val_main_v34_apply, val_main_v33_apply, val_main_v32_apply, val_main_v31_apply,
    val_main_v30_apply, val_main_v27_apply, val_main_v26_apply, val_main_v25_apply, val_main_v24_apply, val_main_v23_apply,
    val_main_v22_apply, val_main_v21_apply, val_main_v20_apply, val_main_v19_apply, val_main_v18_apply, val_main_v17_apply,
    val_main_c_apply, val_main_c_0_apply, val_main_c_2_apply, val_main_c_3_apply, val_main_c_4_apply]
  revert t k
  decide +kernel

/-- … is never before the buffer. -/
theorem seen_apply (t : Fin 4) (k : Fin 129) : val_main_v29 (F := Ideal) (ix2 t k) = 1#1 := by
  simp only [val_main_v29_apply, val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_c_apply, val_main_c_0_apply, val_main_c_1_apply]
  revert t k
  decide +kernel

/-- The rows gathered. -/
theorem seenRow_apply (b : Fin 32) (t : Fin 4) (k : Fin 129) (w : Fin 2) (h : Fin 4) (e : Fin 128) :
    val_main_v38 (F := Ideal) x0 x1 (ix6 b t k w h e) = row x0 x1 2 b (2048 + t.val - 16 * k.val) w h e := by
  unfold val_main_v38
  refine (Attn.gather_apply (N := 2052) (by decide) _ rfl rfl rfl rfl rfl rfl rfl _ _ b t k w h e
    ⟨2048 + t.val - 16 * k.val, by omega⟩ ?_).trans (row_apply x0 x1 _ _ _ _ _)
  have : val_main_v37 (F := Ideal) (ix3 t k 0) = BitVec.ofNat 32 (2048 + t.val - 16 * k.val) := by
    rw [val_main_v37_apply]
    refine (congrArg _ (?_ : _ = ix2 t k)).trans (pos_apply t k)
    funext a; refine Fin.ext ?_
    match a with
    | ⟨0, _⟩ => rfl
    | ⟨1, _⟩ => rfl
  rw [this]
  show (BitVec.ofNat 32 (2048 + t.val - 16 * k.val)).toInt.toNat = 2048 + t.val - 16 * k.val
  have hn : (BitVec.ofNat 32 (2048 + t.val - 16 * k.val)).toNat = 2048 + t.val - 16 * k.val := by
    rw [BitVec.toNat_ofNat]; exact Nat.mod_eq_of_lt (by omega)
  rw [BitVec.toInt_eq_toNat_of_lt (by rw [hn]; omega), hn]
  exact Int.toNat_natCast _

theorem seenKey_apply (b : Fin 32) (t : Fin 4) (k : Fin 129) (h : Fin 4) (e : Fin 128) :
    val_main_v40 (F := Ideal) x0 x1 (ix5 b t k h e) = row x0 x1 2 b (2048 + t.val - 16 * k.val) 0 h e := by
  unfold val_main_v40
  refine (shapeCast_apply _ _ (ix5 b t k h e) (ix6 b t k 0 h e) ?_).trans ?_
  · rw [Shape.rowMajor_val_six, Shape.rowMajor_val_five]
    show (((((b.val * 4 + t.val) * 129 + k.val) * 1 + 0) * 4 + h.val) * 128 + e.val) = ((((b.val * 4 + t.val) * 129 + k.val) * 4 + h.val) * 128 + e.val)
    omega
  · rw [val_main_v39_apply]
    refine (congrArg _ (?_ : _ = ix6 b t k 0 h e)).trans (seenRow_apply x0 x1 b t k 0 h e)
    funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl

theorem seenVal_apply (b : Fin 32) (t : Fin 4) (k : Fin 129) (h : Fin 4) (e : Fin 128) :
    val_main_v56 (F := Ideal) x0 x1 (ix5 b t k h e) = row x0 x1 2 b (2048 + t.val - 16 * k.val) 1 h e := by
  unfold val_main_v56
  refine (shapeCast_apply _ _ (ix5 b t k h e) (ix6 b t k 0 h e) ?_).trans ?_
  · rw [Shape.rowMajor_val_six, Shape.rowMajor_val_five]
    show (((((b.val * 4 + t.val) * 129 + k.val) * 1 + 0) * 4 + h.val) * 128 + e.val) = ((((b.val * 4 + t.val) * 129 + k.val) * 4 + h.val) * 128 + e.val)
    omega
  · rw [val_main_v55_apply]
    refine (congrArg _ (?_ : _ = ix6 b t k 1 h e)).trans (seenRow_apply x0 x1 b t k 1 h e)
    funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl

/-- The scores. -/
theorem score_apply (b : Fin 32) (t h : Fin 4) (k : Fin 129) :
    val_main_v45 (F := Ideal) x0 x1 (ix4 b t h k) = sco x0 x1 2 16 b t h k := by
  have hmask : val_main_call0_v1 (F := Ideal) (ix4 b t h k) = 1#1 := by
    rw [val_main_call0_v1_apply, val_main_v44_apply]
    refine (congrArg _ (?_ : _ = ix2 t k)).trans (seen_apply t k)
    funext a; refine Fin.ext ?_
    match a with
    | ⟨0, _⟩ => rfl
    | ⟨1, _⟩ => rfl
  rw [val_main_v45_apply, hmask]
  show val_main_v43 (F := Ideal) x0 x1 (ix4 b t h k) = _
  rw [val_main_v43_apply, val_main_v42_apply, val_main_cst_apply, val_main_v41_apply]
  show _ * Ideal.ofBits .f32 0x3DB504F3#32 = _
  refine congrArg (· * _) (Finset.sum_congr rfl fun e _ => ?_)
  refine congrArg₂ (· * ·) ((congrArg _ (?_ : _ = ix4 b t h e)).trans (q_apply x0 b t h e))
    ((congrArg _ (?_ : _ = ix5 b t k h e)).trans (seenKey_apply x0 x1 b t k h e))
  · funext a; refine Fin.ext ?_
    match a with
    | ⟨0, _⟩ => rfl
    | ⟨1, _⟩ => rfl
    | ⟨2, _⟩ => rfl
    | ⟨3, _⟩ => rfl
  · funext a; refine Fin.ext ?_
    match a with
    | ⟨0, _⟩ => rfl
    | ⟨1, _⟩ => rfl
    | ⟨2, _⟩ => rfl
    | ⟨3, _⟩ => rfl
    | ⟨4, _⟩ => rfl

/-- The greatest scores. -/
theorem top_apply (b : Fin 32) (t h : Fin 4) :
    val_main_v46 (F := Ideal) x0 x1 (ix3 b t h) = top (sco x0 x1 2 16 b t h) := by
  unfold val_main_v46
  refine (Host.reduce_eq_fold_single (FloatOps.maximumf (F := Ideal) (φ := .f32)) _ _ Facts₀.reducesTo_S32x4x4x129_S32x4x4_d3 (by decide) Facts₀.h_S_ (ix3 b t h)).trans ?_
  rw [val_main_cst_6_apply]
  show Finset.univ.fold max (Ideal.ofBits .f32 0xFF800000#32) _ = _
  rw [ofBits_neg_inf]
  refine congrArg (Finset.univ.fold max ⊥) (funext fun k => ?_)
  refine (congrArg (val_main_v45 (F := Ideal) x0 x1) (?_ : _ = ix4 b t h k)).trans (score_apply x0 x1 b t h k)
  funext a; refine Fin.ext ?_
  match a with
  | ⟨0, _⟩ => rfl
  | ⟨1, _⟩ => rfl
  | ⟨2, _⟩ => rfl
  | ⟨3, _⟩ => rfl

theorem ext3 {d : Fin 3 → ℕ} {i j : (⟨3, d⟩ : Shape).Idx} (h0 : (i 0).val = (j 0).val) (h1 : (i 1).val = (j 1).val)
    (h2 : (i 2).val = (j 2).val) : i = j := by
  funext a; refine Fin.ext ?_
  match a with
  | ⟨0, _⟩ => exact h0
  | ⟨1, _⟩ => exact h1
  | ⟨2, _⟩ => exact h2

theorem ext4 {d : Fin 4 → ℕ} {i j : (⟨4, d⟩ : Shape).Idx} (h0 : (i 0).val = (j 0).val) (h1 : (i 1).val = (j 1).val)
    (h2 : (i 2).val = (j 2).val) (h3 : (i 3).val = (j 3).val) : i = j := by
  funext a; refine Fin.ext ?_
  match a with
  | ⟨0, _⟩ => exact h0
  | ⟨1, _⟩ => exact h1
  | ⟨2, _⟩ => exact h2
  | ⟨3, _⟩ => exact h3

theorem topCol_apply (b : Fin 32) (t h : Fin 4) (z : Fin 1) :
    val_main_v47 (F := Ideal) x0 x1 (ix4 b t h z) = top (sco x0 x1 2 16 b t h) := by
  have hi : idx_main_v47 (ix4 b t h z) = ix3 b t h := ext3 rfl rfl rfl
  rw [val_main_v47_apply, hi, top_apply]

/-- The weights. -/
theorem wt_apply (b : Fin 32) (t h : Fin 4) (k : Fin 129) :
    val_main_v50 (F := Ideal) x0 x1 (ix4 b t h k) = wt (sco x0 x1 2 16 b t h) k := by
  have hi : idx_main_v48 (ix4 b t h k) = ix4 b t h 0 := ext4 rfl rfl rfl rfl
  rw [val_main_v50_apply, val_main_v49_apply, val_main_v48_apply, score_apply, hi, topCol_apply]
  rfl

/-- The sums of the weights. -/
theorem den_apply (b : Fin 32) (t h : Fin 4) (z : Fin 1) :
    val_main_v52 (F := Ideal) x0 x1 (ix4 b t h z) = den (sco x0 x1 2 16 b t h) := by
  rw [val_main_v52_apply, val_main_v51_apply, val_main_cst_7_apply]
  show Ideal.ofBits .f32 0x00000000#32 + _ = _
  rw [Ideal.ofBits_zero_f32, zero_add]
  refine Finset.sum_congr rfl fun k _ => ?_
  have hi : idx_main_v51 (idx_main_v52 (ix4 b t h z)) k = ix4 b t h k := ext4 rfl rfl rfl rfl
  rw [hi, wt_apply]

/-- THE ATTENTION OUTPUT of the reference. -/
theorem out_apply (b : Fin 32) (t h : Fin 4) (e : Fin 128) :
    val_main_v63 (F := Ideal) x0 x1 (ix3 b t ⟨h.val * 128 + e.val, by omega⟩) = Attn.out x0 x1 2 16 b t h e := by
  rw [val_main_v63_apply]
  refine (congrArg _ (ext4 ?_ ?_ ?_ ?_ : _ = ix4 b t h e)).trans ?_
  · show ((b.val * 4 + t.val) * 512 + (h.val * 128 + e.val)) / 2048 = b.val; omega
  · show ((b.val * 4 + t.val) * 512 + (h.val * 128 + e.val)) / 512 % 4 = t.val; omega
  · show ((b.val * 4 + t.val) * 512 + (h.val * 128 + e.val)) / 128 % 4 = h.val; omega
  · show ((b.val * 4 + t.val) * 512 + (h.val * 128 + e.val)) % 128 = e.val; omega
  rw [val_main_v57_apply]
  refine Finset.sum_congr rfl fun k _ => ?_
  have hl : lidx_main_v57 (ix4 b t h e) k = ix4 b t h k := ext4 rfl rfl rfl rfl
  have hr : ridx_main_v57 (ix4 b t h e) k = ix5 b t k h e := by
    funext a; refine Fin.ext ?_
    match a with
    | ⟨0, _⟩ => rfl
    | ⟨1, _⟩ => rfl
    | ⟨2, _⟩ => rfl
    | ⟨3, _⟩ => rfl
    | ⟨4, _⟩ => rfl
  have hi : idx_main_v53 (ix4 b t h k) = ix4 b t h 0 := ext4 rfl rfl rfl rfl
  rw [hl, hr, seenVal_apply, val_main_v54_apply, wt_apply, val_main_v53_apply, hi, den_apply]
  rfl

/-- THE LOG-SUM-EXP of the reference, the same in every entry of a head. -/
theorem lse_apply (b : Fin 32) (t h : Fin 4) (e : Fin 128) :
    val_main_v65 (F := Ideal) x0 x1 (ix3 b t ⟨h.val * 128 + e.val, by omega⟩) = lse (sco x0 x1 2 16 b t h) := by
  rw [val_main_v65_apply]
  refine (congrArg _ (ext4 ?_ ?_ ?_ ?_ : _ = ix4 b t h e)).trans ?_
  · show ((b.val * 4 + t.val) * 512 + (h.val * 128 + e.val)) / 2048 = b.val; omega
  · show ((b.val * 4 + t.val) * 512 + (h.val * 128 + e.val)) / 512 % 4 = t.val; omega
  · show ((b.val * 4 + t.val) * 512 + (h.val * 128 + e.val)) / 128 % 4 = h.val; omega
  · show ((b.val * 4 + t.val) * 512 + (h.val * 128 + e.val)) % 128 = e.val; omega
  have hi : idx_main_v64 (ix4 b t h e) = ix3 b t h := ext3 rfl rfl rfl
  rw [val_main_v64_apply, hi, val_main_v60_apply]
  refine (congrArg _ (ext4 ?_ ?_ ?_ ?_ : _ = ix4 b t h 0)).trans ?_
  · show ((b.val * 4 + t.val) * 4 + h.val) / 16 = b.val; omega
  · show ((b.val * 4 + t.val) * 4 + h.val) / 4 % 4 = t.val; omega
  · show ((b.val * 4 + t.val) * 4 + h.val) / 1 % 4 = h.val; omega
  · rfl
  rw [val_main_v59_apply, val_main_v58_apply, topCol_apply, den_apply]
  rfl

/-- THE BUFFER of the reference, four positions on: row `r` of a batch is entry `r / 8 + 4` of the buffer with the new
    rows appended, keys before values, head by head. -/
theorem buf_apply (b : Fin 32) (r : Fin 16384) (e : Fin 128) :
    val_main_v62 (F := Ideal) x0 x1 (ix3 b r e)
      = row x0 x1 2 b (r.val / 8 + 4) ⟨r.val % 8 / 4, by omega⟩ ⟨r.val % 4, by omega⟩ e := by
  rw [val_main_v62_apply, val_main_v61_apply]
  refine (congrArg _ (?_ : _ = ix5 b ⟨r.val / 8 + 4, by omega⟩ ⟨r.val % 8 / 4, by omega⟩ ⟨r.val % 4, by omega⟩ e)).trans (row_apply x0 x1 _ _ _ _ _)
  funext a; refine Fin.ext ?_
  match a with
  | ⟨0, _⟩ => show ((b.val * 16384 + r.val) * 128 + e.val) / 2097152 = b.val; omega
  | ⟨1, _⟩ => show 4 + ((b.val * 16384 + r.val) * 128 + e.val) / 1024 % 2048 = r.val / 8 + 4; omega
  | ⟨2, _⟩ => show ((b.val * 16384 + r.val) * 128 + e.val) / 512 % 2 = r.val % 8 / 4; omega
  | ⟨3, _⟩ => show ((b.val * 16384 + r.val) * 128 + e.val) / 128 % 4 = r.val % 4; omega
  | ⟨4, _⟩ => show ((b.val * 16384 + r.val) * 128 + e.val) % 128 = e.val; omega

end Cert.SampRef2

end
-- ==== Proof.Samp2Claim.lean ====
/- The claims about the attention over the cache of 2048 rows. -/
module

public import proofs.«01_k».proof.Defs
public import proofs.«01_k».proof.Proof.Samp2
public import proofs.«01_k».proof.Proof.SampRef2
public import proofs.«01_k».proof.Proof.Finite
public import proofs.«01_k».proof.Proof.Gen.Samp2.Frame
public import proofs.«01_k».proof.Proof.Gen.Pre_finite_arguments_2048
public import proofs.«01_k».proof.Proof.Gen.SampRef2Ideal.Run

@[expose] public section

noncomputable section

namespace Cert.Samp2Claim

open Idealize.ShloMosaic Idealize.ShloMosaic.TcCoe Idealize.ShloMosaic.ValueIdx Cert.Softmax Cert.Attn Cert.Finite Idealize.SL.Sem
open Cert.Samp2Run

theorem frame_p : Cert.quiescent_Samp2 := fun m ρ _ => Cert.Samp2.Gen.frame m ρ
theorem frame_pi : Cert.quiescent_Samp2Ideal := fun m ρ _ => Cert.Samp2Ideal.Gen.frame m ρ
theorem frame_pi_pre : Cert.quiescent_Samp2Ideal_pre_finite_arguments_2048 := fun m ρ _ => Cert.Samp2Ideal.Gen.frame m ρ
/-- The reference ends with its arguments unchanged. -/
theorem frame_ref (m : (ℓ : Loc Cert.SampRef2Ideal.nD Cert.SampRef2Ideal.τ Cert.SampRef2Ideal.sig) → Buf (Elt Ideal) ℓ)
    (ρ : Dev Cert.SampRef2Ideal.nD → PrngReg) :
    θ_run (Cert.SampRef2Ideal.defs (F := Ideal)) (onTc (τ := Cert.SampRef2Ideal.τ) (Cert.SampRef2Ideal.main (F := Ideal))) ⟨m, fun _ => 0, ρ⟩
      (fun r => (∀ c : Dev Cert.SampRef2Ideal.nD,
        r.2.mem ((c.tc : Thread Cert.SampRef2Ideal.nD Cert.SampRef2Ideal.τ).loc Cert.SampRef2Ideal.main_arg0) = m ((c.tc : Thread Cert.SampRef2Ideal.nD Cert.SampRef2Ideal.τ).loc Cert.SampRef2Ideal.main_arg0)
        ∧ r.2.mem ((c.tc : Thread Cert.SampRef2Ideal.nD Cert.SampRef2Ideal.τ).loc Cert.SampRef2Ideal.main_arg1) = m ((c.tc : Thread Cert.SampRef2Ideal.nD Cert.SampRef2Ideal.τ).loc Cert.SampRef2Ideal.main_arg1))
      ∧ r.2.sem = fun _ => 0) :=
  (θ_run Cert.SampRef2Ideal.defs _ _).mono (fun r h => ⟨fun c => (h c).2.2.2, sem_eq_zero_of_no_sems (by decide) r.2⟩)
    (Cert.SampRef2Ideal.Value.run (F := Ideal) m ρ)
theorem frame_ri : Cert.quiescent_SampRef2Ideal := fun m ρ _ => frame_ref m ρ
theorem frame_ri_pre : Cert.quiescent_SampRef2Ideal_pre_finite_arguments_2048 := fun m ρ _ => frame_ref m ρ
theorem preserves : Cert.preserves_Samp2_Samp2Ideal := IdealRules.named_const.statement Cert.Samp2Ideal.κ "mask" .f32 0xF149F2CA#32 ⊥ rfl

/-- An index of the lanes is a head and a lane of it. -/
theorem lanes (i : (⟨3, ![32, 4, 512]⟩ : Shape).Idx) : i = ix3 (i 0) (i 1) ⟨(⟨(i 2).val / 128, by have : (i 2).val < 512 := (i 2).isLt; omega⟩ : Fin 4).val * 128
    + (⟨(i 2).val % 128, by omega⟩ : Fin 128).val, by have : (i 2).val < 512 := (i 2).isLt; show (i 2).val / 128 * 128 + (i 2).val % 128 < 512; omega⟩ := by
  refine funext fun a => Fin.ext ?_
  match a with
  | ⟨0, _⟩ => rfl
  | ⟨1, _⟩ => rfl
  | ⟨2, _⟩ => show (i 2).val = (i 2).val / 128 * 128 + (i 2).val % 128; omega

/-- THE VALUES: the kernel's three arrays are the reference's, entry by entry. -/
theorem algebraic : Cert.algebraic_Samp2Ideal_SampRef2Ideal_pre_finite_arguments_2048 := by
  intro m g m' g' hp ha
  have h0 : ∀ c i, IsReal (arg0 m c i) := fun c i => real_of_lt _ _ _ (hp c).1 i
  have h1 : ∀ c i, IsReal (arg1 m c i) := fun c i => real_of_lt _ _ _ (hp c).2 i
  refine ⟨fun c => bufArr m c, fun c => outArr m c, fun c => lseArr m c, ?_, ?_⟩
  · refine (θ_run Cert.Samp2Ideal.defs _ _).mono (fun r h c => ?_) (Cert.Samp2Ideal.Value.run_blocks m g)
    obtain ⟨a, b, d, e⟩ := h c
    exact ⟨a.trans (buf_final m c), b.trans (out_final m c (h0 c) (h1 c)), d.trans (lse_final m c), e⟩
  · refine (θ_run Cert.SampRef2Ideal.defs _ _).mono (fun r h c => ?_) (Cert.SampRef2Ideal.Value.run (F := Ideal) m' g')
    obtain ⟨a, b, d, e⟩ := h c
    rw [Cert.SampRef2Ideal.Read.val_main_v63_eq, (ha c).1, (ha c).2] at b
    rw [Cert.SampRef2Ideal.Read.val_main_v65_eq, (ha c).1, (ha c).2] at d
    rw [Cert.SampRef2Ideal.Read.val_main_v62_eq, (ha c).1, (ha c).2] at a
    refine ⟨a.trans (funext fun i => ?_), b.trans (funext fun i => ?_), d.trans (funext fun i => ?_), e⟩
    · have hi : i = ix3 (i 0) (i 1) (i 2) := funext fun a => by
        match a with
        | ⟨0, _⟩ => rfl
        | ⟨1, _⟩ => rfl
        | ⟨2, _⟩ => rfl
      refine (congrArg _ hi).trans ?_
      exact Cert.SampRef2.buf_apply _ _ _ _ _
    · refine (congrArg _ (lanes i)).trans ?_
      exact Cert.SampRef2.out_apply _ _ _ _ _ _
    · refine (congrArg _ (lanes i)).trans ?_
      exact Cert.SampRef2.lse_apply _ _ _ _ _ _

end Cert.Samp2Claim

end
-- ==== Proof.ConvSValue.lean ====
/- The short gated convolution over the positions being sampled, `ConvSIdeal`: the gated inputs the call leaves, and from
   them the state it hands on, the last two gated inputs of every sequence.

   The grid has one point, whose blocks are whole columns of the projection's rows. The body stores the products of two of
   them; the host operations after the call split the rows into sequences of four and keep the last two of each. -/
module

public import proofs.«01_k».proof.Proof.Gen.ConvSIdeal.Frame
public import Idealize.ShloMosaic.Lib.Pipeline.ValueKit.Geometry
public import Idealize.ShloMosaic.Lib.WritesUnit
public import Idealize.ShloMosaic.Lib.Pipeline.Value
public import Idealize.ShloMosaic.Lib.IdealHost
public import Idealize.ShloMosaic.Lib.KernelVsHost
public import Idealize.ShloMosaic.Lib.Tactic

@[expose] public section

set_option maxRecDepth 16384

noncomputable section

namespace Cert.ConvSValue

open Cert.ConvSIdeal Cert.ConvSIdeal.Gen
open Idealize.ShloMosaic Idealize.ShloMosaic.TcCoe Idealize.ShloMosaic.ValueIdx Idealize.ShloMosaic.Tactic Idealize.SL.Sem
open Idealize.ShloMosaic.Pipeline (Dat Cfg Window)

/-! ## The body -/

/-- A load of a whole block reads its contents. -/
theorem read_block {e : EltTy} (M : Memref sig .tc .vmem S128x1024 e) (hM : M.IsWhole) (X : Vec Ideal S128x1024 e) :
    M.view.readAt (Elt Ideal) (Rect.unit (s := S128x1024) ![0, 0] ![128, 1024] inb_S128x1024_S128x1024_0_0).toLoadRect (hM.unread X) = X := by
  funext x
  refine (congrFun (hM.read_unread X) _).trans (congrArg X ?_)
  funext a; apply Fin.ext
  match a with
  | ⟨0, _⟩ => show 0 + 1 * (x 0).val = (x 0).val; omega
  | ⟨1, _⟩ => show 0 + 1 * (x 1).val = (x 1).val; omega

/-- A store of a whole block leaves what is stored. -/
theorem stored_block (v : View sig .tc .vmem S128x1024 .f32) (f) (p : Vec Ideal S128x1024 .f32) :
    v.read (Elt Ideal) (v.writes (Elt Ideal) f [⟨Rect.unit (s := S128x1024) ![0, 0] ![128, 1024] inb_S128x1024_S128x1024_0_0, p⟩]) = p := by
  funext y
  refine View.read_writes_cons_unit_of_mem v f inb_S128x1024_S128x1024_0_0 p [] y y rfl fun a => ?_
  match a with
  | ⟨0, _⟩ => show (y 0).val = 0 + (y 0).val; omega
  | ⟨1, _⟩ => show (y 1).val = 0 + (y 1).val; omega

/-- The body leaves the products of its second and third blocks. -/
theorem gated_block (c : Dev nD) (t : Fin cfg0.N) (X0 X1 X2 : Vec Ideal S128x1024 .bf16) (X3 : Vec Ideal S3x1024 .f32) (X4 X5 : Vec Ideal S128x1024 .f32) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) scM0_0 (Memref.isWhole_whole _) X0 X1 X2 X3 X4 X5 = k0_pay2 X1 X2 := by
  unfold out0_A_7 kernelRun0_A
  dsimp only
  sl_unfold_words
  refine (stored_block VO0_7 _ _).trans ?_
  rw [read_block (ms0_1 t) (hs0_1 t) X1, read_block (ms0_2 t) (hs0_2 t) X2]

theorem index_c : ∀ t : Fin grid0.N, cc0_transform_1 (grid0.coords t) = ![0, 5] := by decide +kernel
theorem index_h : ∀ t : Fin grid0.N, cc0_transform_2 (grid0.coords t) = ![0, 6] := by decide +kernel
theorem index_u : ∀ t : Fin grid0.N, cc0_transform_7 (grid0.coords t) = ![0, 0] := by decide +kernel

variable (m : (ℓ : Loc nD τ sig) → Buf (Elt Ideal) ℓ) (c : Dev nD)

/-- The projection's rows. -/
def zs : Vec Ideal S128x7168 .bf16 := m ((c : Thread nD τ).loc main_arg0)

/-- Columns 5120 to 6143 of a row are its second block, -/
theorem c_block (t : Fin cfg0.N) (y : S128x1024.Idx) :
    (iblk m c 1 t : Vec Ideal S128x1024 .bf16) y = zs m c (ix2 (y 0) ⟨5120 + (y 1).val, by have h : (y 1).val < 1024 := (y 1).isLt; omega⟩) := by
  show V m c main_arg0 (((cfg0.win 1).blk t).view.emb y) = _
  rw [V_main_arg0]
  refine congrArg (zs m c) (funext fun a => Fin.ext ?_)
  match a with
  | ⟨0, _⟩ =>
    show cc0_transform_1 (grid0.coords t) 0 * 128 + 1 * (y 0).val = (y 0).val
    rw [index_c]; show 0 * 128 + 1 * (y 0).val = _; omega
  | ⟨1, _⟩ =>
    show cc0_transform_1 (grid0.coords t) 1 * 1024 + 1 * (y 1).val = 5120 + (y 1).val
    rw [index_c]; show 5 * 1024 + 1 * (y 1).val = _; omega

/-- columns 6144 to 7167 its third. -/
theorem h_block (t : Fin cfg0.N) (y : S128x1024.Idx) :
    (iblk m c 2 t : Vec Ideal S128x1024 .bf16) y = zs m c (ix2 (y 0) ⟨6144 + (y 1).val, by have h : (y 1).val < 1024 := (y 1).isLt; omega⟩) := by
  show V m c main_arg0 (((cfg0.win 2).blk t).view.emb y) = _
  rw [V_main_arg0]
  refine congrArg (zs m c) (funext fun a => Fin.ext ?_)
  match a with
  | ⟨0, _⟩ =>
    show cc0_transform_2 (grid0.coords t) 0 * 128 + 1 * (y 0).val = (y 0).val
    rw [index_h]; show 0 * 128 + 1 * (y 0).val = _; omega
  | ⟨1, _⟩ =>
    show cc0_transform_2 (grid0.coords t) 1 * 1024 + 1 * (y 1).val = 6144 + (y 1).val
    rw [index_h]; show 6 * 1024 + 1 * (y 1).val = _; omega

/-- The gated inputs of every row: the products of columns 5120 to 6143 with columns 6144 to 7167. -/
def gated (z : Vec Ideal S128x7168 .bf16) : Vec Ideal S128x1024 .f32 := fun i =>
  (z (ix2 (i 0) ⟨5120 + (i 1).val, by have h : (i 1).val < 1024 := (i 1).isLt; omega⟩) : EReal)
    * (z (ix2 (i 0) ⟨6144 + (i 1).val, by have h : (i 1).val < 1024 := (i 1).isLt; omega⟩) : EReal)

/-- The call leaves them in its second result. -/
theorem gated_final : (dats m 0 c).arrAt 7 cfg0.N = gated (zs m c) := by
  refine (dats m 0 c).arrAt_eq_of_covers 7 _ (by decide +kernel) fun t hf (y : S128x1024.Idx) => ?_
  have hi : ((cfg0.win 7).blk t).view.emb y = y := funext fun a => Fin.ext (by
    match a with
    | ⟨0, _⟩ =>
      show cc0_transform_7 (grid0.coords t) 0 * 128 + 1 * (y 0).val = (y 0).val
      rw [index_u]; show 0 * 128 + 1 * (y 0).val = _; omega
    | ⟨1, _⟩ =>
      show cc0_transform_7 (grid0.coords t) 1 * 1024 + 1 * (y 1).val = (y 1).val
      rw [index_u]; show 0 * 1024 + 1 * (y 1).val = _; omega)
  rw [hi]
  show (dats m 0 c).after 7 t y = _
  rw [after0_7]
  unfold outsAt0
  dsimp only
  rw [gated_block]
  exact congrArg₂ (fun a b : EReal => a * b) (c_block m c t y) (h_block m c t y)

/-! ## The operations after the call -/

/-- The last two rows of every sequence of four. -/
def lastTwo (u : Vec Ideal S128x1024 .f32) : Vec Ideal S32x2x1024 .f32 :=
  extractStridedSlice S32x2x1024 ![0, 2, 0] (shapeCast S32x4x1024 u shapeCasts_S128x1024_S32x4x1024) slices_S32x4x1024_S32x2x1024_0_2_0

/-- From whatever contents they start, the operations after the call keep the last two rows of every sequence. -/
theorem tail_state (W : Valuation τ sig (Elt Ideal)) :
    StableHlo.after (List.flatten [hostOps1]) W (Proc.devRef .tc main_v9) = lastTwo (W (Proc.devRef .tc main_v7_1)) := by
  show StableHlo.after hostOps1 W (Proc.devRef .tc main_v9) = _
  unfold lastTwo; after_results; rfl

/-- A core's buffers when the call is over: its arrays at what the blocks written back leave, the others untouched. -/
abbrev leaves : Valuation τ sig (Elt Ideal) :=
  Pipeline.withArrays spec0 c (V0 m c) fun w => (dats m 0 c).arrAt w cfg0.N

/-- What the call leaves in its second result's array. -/
theorem leaves_gated : leaves m c (Proc.devRef .tc main_v7_1) = (dats m 0 c).arrAt 7 cfg0.N :=
  (dats m 0 c).withArrays_arrAt sharedIn0 (V0 m c) (A_eq m c) 7

/-- THE STATE: the call and the operations after it leave the last two gated inputs of every sequence. -/
theorem state_final : Pipeline.afterTail₀ cfgs (dats m) 0 (V0 m) [hostOps1] c main_v9 = lastTwo (gated (zs m c)) :=
  (tail_state (leaves m c)).trans (congrArg lastTwo ((leaves_gated m c).trans (gated_final m c)))

variable (ρ : Dev nD → PrngReg)

/-- The final contents: the state, and the arguments as they were. -/
theorem run : θ_run defs (onTc (τ := τ) (main (F := Ideal))) ⟨m, fun _ => 0, ρ⟩ fun r => ∀ c : Dev nD,
      r.2.mem ((c.tc : Thread nD τ).loc main_v9) = lastTwo (gated (zs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v9 (Pipeline.mem_restRefs_of main_v9 (by decide) (by decide))).trans (state_final m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ConvSValue

end
-- ==== Proof.ConvSClaim.lean ====
/- The claims on the short gated convolution over the positions being sampled: the state the kernel hands on is the plain
   reference's. -/
module

public import proofs.«01_k».proof.Defs
public import proofs.«01_k».proof.Proof.ConvSValue
public import proofs.«01_k».proof.Proof.Gen.ConvS.Frame
public import proofs.«01_k».proof.Proof.Gen.ConvSRefIdeal.Run
public import proofs.«01_k».proof.Proof.Gen.ConvSRefIdeal.Read

@[expose] public section

set_option maxRecDepth 16384

noncomputable section

namespace Cert.ConvSClaim

open Idealize.ShloMosaic Idealize.ShloMosaic.TcCoe Idealize.ShloMosaic.ValueIdx Idealize.SL.Sem
open Cert.ConvSRefIdeal.Read Cert.ConvSValue

/-! ## Frames -/

theorem frame_p : Cert.quiescent_ConvS := fun m ρ _ => Cert.ConvS.Gen.frame m ρ
theorem frame_pi : Cert.quiescent_ConvSIdeal := fun m ρ _ => Cert.ConvSIdeal.Gen.frame m ρ
theorem frame_ri : Cert.quiescent_ConvSRefIdeal := fun m ρ _ =>
  (θ_run Cert.ConvSRefIdeal.defs _ _).mono (fun r h => ⟨fun c => (h c).2, sem_eq_zero_of_no_sems (by decide) r.2⟩)
    (Cert.ConvSRefIdeal.Value.run (F := Ideal) m ρ)

/-- THE IDEALIZATION: the program's own text, read over the extended reals. -/
theorem preserves : Cert.preserves_ConvS_ConvSIdeal := trivial

section Reference

open Cert.ConvSRefIdeal Cert.ConvSRefIdeal.Gen

/-- The reference's gated inputs, sequence by sequence, are the rows' gated inputs split into sequences. -/
theorem gated_apply (z : Vec Ideal S128x7168 .bf16) (b : Fin 32) (t : Fin 4) (e : Fin 1024) :
    val_main_v9 (F := Ideal) z (ix3 b t e) = shapeCast S32x4x1024 (gated z) shapeCasts_S128x1024_S32x4x1024 (ix3 b t e) := by
  have h : (gated z : FVec Ideal S128x1024 .f32) = mulf (F := Ideal) (φ := .f32) (val_main_v4 (F := Ideal) z) (val_main_v7 (F := Ideal) z) := funext fun i => by
    refine congrArg₂ (fun a b : EReal => a * b) ?_ ?_
    · refine Eq.symm ((val_main_v3_apply z i).trans (congrArg z (funext fun a => ?_)))
      match a with
      | ⟨0, _⟩ => rfl
      | ⟨1, _⟩ => rfl
    · refine Eq.symm ((val_main_v6_apply z i).trans (congrArg z (funext fun a => ?_)))
      match a with
      | ⟨0, _⟩ => rfl
      | ⟨1, _⟩ => rfl
  rw [h]
  rfl

/-- The reference's state is the last two gated inputs of every sequence. -/
theorem state_eq (z : Vec Ideal S128x7168 .bf16) (s : Vec Ideal S1x32x2x1024 .f32) :
    val_main_v40 (F := Ideal) z s = lastTwo (gated z) := by
  funext i
  have h1 : (i 1).val < 2 := (i 1).isLt
  refine (val_main_v40_apply z s i).trans ?_
  refine Eq.trans (b := val_main_v9 (F := Ideal) z (ix3 (i 0) ⟨2 + (i 1).val, by omega⟩ (i 2))) ?_ ?_
  · refine concatenate_apply_piece (t := S32x6x1024) 1 _ _ _ 1 (by show 1 < 2; omega) S32x4x1024 (val_main_v9 (F := Ideal) z) rfl rfl 2 rfl
      (ix3 (i 0) ⟨2 + (i 1).val, by omega⟩ (i 2)) (fun a ha => ?_) (by show 2 + (2 + (i 1).val) = 4 + (i 1).val; omega)
    match a with
    | ⟨0, _⟩ => rfl
    | ⟨1, _⟩ => exact absurd rfl ha
    | ⟨2, _⟩ => rfl
  · refine (gated_apply z _ _ _).trans (Eq.symm ?_)
    refine extractStridedSlice_apply _ _ _ i (ix3 (i 0) ⟨2 + (i 1).val, by omega⟩ (i 2)) fun a => ?_
    match a with
    | ⟨0, _⟩ => show (i 0).val = 0 + (i 0).val; omega
    | ⟨1, _⟩ => rfl
    | ⟨2, _⟩ => show (i 2).val = 0 + (i 2).val; omega

end Reference

/-- THE VALUES: the state is the reference's. -/
theorem algebraic : Cert.algebraic_ConvSIdeal_ConvSRefIdeal := by
  intro m g m' g' _ ha
  refine ⟨fun c => lastTwo (gated (zs m c)), Cert.ConvSValue.run m g, ?_⟩
  refine (θ_run Cert.ConvSRefIdeal.defs _ _).mono (fun r h c => ?_) (Cert.ConvSRefIdeal.Value.run (F := Ideal) m' g')
  obtain ⟨a, e⟩ := h c
  rw [val_main_v40_eq, (ha c).1] at a
  exact ⟨a.trans (state_eq _ _), e⟩

end Cert.ConvSClaim

end
-- ==== Proof.ConvPValue.lean ====
/- The short gated convolution over the prompt, `ConvPIdeal`: the state the call hands on, the last two gated inputs of every
   sequence.

   The grid is 2 sequences by 8 row blocks of 512 rows. At every point the body stores the products of two column blocks
   below 8 rows of a scratch array, and leaves the last two of them in the sequence's block of the second result, which is
   written back after the sequence's last point. -/
module

public import proofs.«01_k».proof.Proof.Gen.ConvPIdeal.Value
public import Idealize.ShloMosaic.Lib.Pipeline.ValueKit.Geometry
public import Idealize.ShloMosaic.Lib.WritesUnit
public import Idealize.ShloMosaic.Lib.IdealHost
public import Idealize.ShloMosaic.Lib.KernelVsHost
public import Idealize.ShloMosaic.Lib.Tactic

@[expose] public section

set_option maxRecDepth 16384

noncomputable section

namespace Cert.ConvPValue

open Cert.ConvPIdeal Cert.ConvPIdeal.Gen
open Idealize.ShloMosaic Idealize.ShloMosaic.TcCoe Idealize.ShloMosaic.ValueIdx Idealize.ShloMosaic.Tactic Idealize.SL.Sem
open Idealize.ShloMosaic.Pipeline (Dat Cfg Window)

/-! ## The body -/

/-- A load of a whole block reads its contents. -/
theorem read_block {e : EltTy} (M : Memref sig .tc .vmem S512x1024 e) (hM : M.IsWhole) (X : Vec Ideal S512x1024 e) :
    M.view.readAt (Elt Ideal) (Rect.unit (s := S512x1024) ![0, 0] S512x1024.size inb_S512x1024_S512x1024_0_0).toLoadRect (hM.unread X) = X := by
  funext x
  refine (congrFun (hM.read_unread X) _).trans (congrArg X ?_)
  funext a; apply Fin.ext
  match a with
  | ⟨0, _⟩ => show 0 + 1 * (x 0).val = (x 0).val; omega
  | ⟨1, _⟩ => show 0 + 1 * (x 1).val = (x 1).val; omega

/-- A store of a whole state block leaves what is stored. -/
theorem stored_state (v : View sig .tc .vmem S1x2x1024 .f32) (f) (p : Vec Ideal S1x2x1024 .f32) :
    v.read (Elt Ideal) (v.writes (Elt Ideal) f [⟨Rect.unit (s := S1x2x1024) ![0, 0, 0] ![1, 2, 1024] inb_S1x2x1024_S1x2x1024_0_0_0, p⟩]) = p := by
  funext y
  refine View.read_writes_cons_unit_of_mem v f inb_S1x2x1024_S1x2x1024_0_0_0 p [] y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

/-- The last 8 rows of the scratch array are the last 8 rows stored below its first 8. -/
theorem last_rows (v : View sig .tc .vmem S520x1024 .f32) (L : List (View.Piece (Elt Ideal) S520x1024 .f32)) (p : Vec Ideal S512x1024 .f32) (r : Fin 8) (e : Fin 1024) :
    v.readCov ((⟨Rect.unit (s := S520x1024) ![8, 0] S512x1024.size inb_S520x1024_S512x1024_8_0, p⟩ : View.Piece (Elt Ideal) S520x1024 .f32) :: L)
      (Rect.unit (s := S520x1024) ![512, 0] ![8, 1024] inb_S520x1024_S8x1024_512_0).toLoadRect (ix2 r e)
    = p (ix2 ⟨504 + r.val, by omega⟩ e) := by
  refine View.read_writes_cons_unit_of_mem v v.junk inb_S520x1024_S512x1024_8_0 p L _ (ix2 ⟨504 + r.val, by omega⟩ e) rfl fun a => ?_
  match a with
  | ⟨0, _⟩ => show 512 + 1 * r.val = 8 + (504 + r.val); omega
  | ⟨1, _⟩ => show 0 + 1 * e.val = 0 + e.val; omega

/-- The state kept of 8 rows is the last two. -/
theorem kept_apply (V : Vec Ideal S8x1024 .f32) (y : S1x2x1024.Idx) :
    k0_pay2 (F := Ideal) V y = V (ix2 ⟨6 + (y 1).val, by have h : (y 1).val < 2 := (y 1).isLt; omega⟩ (y 2)) := by
  have h0 : (y 0).val < 1 := (y 0).isLt
  have h1 : (y 1).val < 2 := (y 1).isLt
  have h2 : (y 2).val < 1024 := (y 2).isLt
  unfold k0_pay2
  dsimp only
  refine (shapeCast_apply _ _ y (ix2 ⟨(y 1).val, h1⟩ ⟨(y 2).val, h2⟩ : S2x1024.Idx) ?_).trans ?_
  · rewrite [Shape.rowMajor_val_two, Shape.rowMajor_val_three]
    show (y 1).val * 1024 + (y 2).val = ((y 0).val * 2 + (y 1).val) * 1024 + (y 2).val
    omega
  · refine extractStridedSlice_apply _ _ _ _ (ix2 ⟨6 + (y 1).val, by omega⟩ (y 2)) fun a => ?_
    match a with
    | ⟨0, _⟩ => rfl
    | ⟨1, _⟩ => show (y 2).val = 0 + (y 2).val; omega

/-- What is stored below the scratch array's first 8 rows is the products of the second and third blocks. -/
theorem gated_rows (X1 X2 : Vec Ideal S512x1024 .bf16) : k0_pay5 (F := Ideal) X1 X2 = fun i => ((X1 i : EReal) * (X2 i : EReal)) := by
  unfold k0_pay5
  dsimp only
  rw [shapeCast_self]
  rfl

/-- At every point but a sequence's first the body leaves in the state's block the last two products of its second and
    third blocks. -/
theorem state_block (c : Dev nD) (t : Fin cfg0.N) (h) (X0 X1 X2 : Vec Ideal S512x1024 .bf16) (X3 : Vec Ideal S3x1024 .f32) (Xs : Vec Ideal S520x1024 .f32) (y : S1x2x1024.Idx) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) h X0 X1 X2 X3 Xs y
    = ((X1 (ix2 ⟨510 + (y 1).val, by have h : (y 1).val < 2 := (y 1).isLt; omega⟩ (y 2)) : EReal)
        * (X2 (ix2 ⟨510 + (y 1).val, by have h : (y 1).val < 2 := (y 1).isLt; omega⟩ (y 2)) : EReal)) := by
  have h1 : (y 1).val < 2 := (y 1).isLt
  unfold out0_B_5 kernelRun0_B
  dsimp only
  sl_unfold_words
  refine (congrFun (stored_state VO0_5 _ _) y).trans ((kept_apply _ y).trans ((last_rows scM0_0.view [] _ _ _).trans ?_))
  rw [read_block (ms0_1 t) (hs0_1 t) X1, read_block (ms0_2 t) (hs0_2 t) X2, gated_rows]
  have e : (⟨504 + (6 + (y 1).val), by omega⟩ : Fin 512) = ⟨510 + (y 1).val, by omega⟩ := Fin.ext (by show 504 + (6 + (y 1).val) = 510 + (y 1).val; omega)
  exact congrArg (fun r : Fin 512 => ((X1 (ix2 r (y 2)) : EReal) * (X2 (ix2 r (y 2)) : EReal))) e

theorem index_c : ∀ t : Fin grid0.N, cc0_transform_1 (grid0.coords t) = ![t.val, 5] := by decide +kernel
theorem index_h : ∀ t : Fin grid0.N, cc0_transform_2 (grid0.coords t) = ![t.val, 6] := by decide +kernel
theorem index_state : ∀ t : Fin grid0.N, cc0_transform_5 (grid0.coords t) = ![t.val / 8, 0, 0] := by decide +kernel
theorem flush_state : ∀ t : Fin grid0.N, (cfg0.win 5).flush t = true → t.val % 8 = 7 := by decide +kernel

variable (m : (ℓ : Loc nD τ sig) → Buf (Elt Ideal) ℓ) (c : Dev nD)

theorem point_lt (t : Fin grid0.N) : t.val < 16 := N_0 ▸ t.isLt

/-- The projection's rows. -/
def zs : Vec Ideal S8192x7168 .bf16 := m ((c : Thread nD τ).loc main_arg0)

/-- Columns 5120 to 6143 of a point's rows are its second block, -/
theorem c_block (t : Fin grid0.N) (r : Fin 512) (e : Fin 1024) :
    (iblk m c 1 t : Vec Ideal S512x1024 .bf16) (ix2 r e)
    = zs m c (ix2 ⟨t.val * 512 + r.val, by have := point_lt t; omega⟩ ⟨5120 + e.val, by omega⟩) := by
  show V m c main_arg0 (((cfg0.win 1).blk t).view.emb (ix2 r e : S512x1024.Idx)) = _
  rw [V_main_arg0]
  refine congrArg (zs m c) (funext fun a => Fin.ext ?_)
  match a with
  | ⟨0, _⟩ =>
    show cc0_transform_1 (grid0.coords t) 0 * 512 + 1 * r.val = t.val * 512 + r.val
    rw [index_c]; show t.val * 512 + 1 * r.val = _; omega
  | ⟨1, _⟩ =>
    show cc0_transform_1 (grid0.coords t) 1 * 1024 + 1 * e.val = 5120 + e.val
    rw [index_c]; show 5 * 1024 + 1 * e.val = _; omega

/-- columns 6144 to 7167 its third. -/
theorem h_block (t : Fin grid0.N) (r : Fin 512) (e : Fin 1024) :
    (iblk m c 2 t : Vec Ideal S512x1024 .bf16) (ix2 r e)
    = zs m c (ix2 ⟨t.val * 512 + r.val, by have := point_lt t; omega⟩ ⟨6144 + e.val, by omega⟩) := by
  show V m c main_arg0 (((cfg0.win 2).blk t).view.emb (ix2 r e : S512x1024.Idx)) = _
  rw [V_main_arg0]
  refine congrArg (zs m c) (funext fun a => Fin.ext ?_)
  match a with
  | ⟨0, _⟩ =>
    show cc0_transform_2 (grid0.coords t) 0 * 512 + 1 * r.val = t.val * 512 + r.val
    rw [index_h]; show t.val * 512 + 1 * r.val = _; omega
  | ⟨1, _⟩ =>
    show cc0_transform_2 (grid0.coords t) 1 * 1024 + 1 * e.val = 6144 + e.val
    rw [index_h]; show 6 * 1024 + 1 * e.val = _; omega

/-- The gated input of a row: the product of an entry of columns 5120 to 6143 with one of columns 6144 to 7167. -/
def gated (z : Vec Ideal S8192x7168 .bf16) (r : Fin 8192) (e : Fin 1024) : EReal :=
  (z (ix2 r ⟨5120 + e.val, by omega⟩) : EReal) * (z (ix2 r ⟨6144 + e.val, by omega⟩) : EReal)

/-- The state: the last two gated inputs of every sequence of 4096 rows. -/
def state (z : Vec Ideal S8192x7168 .bf16) : Vec Ideal S2x2x1024 .f32 := fun i =>
  gated z ⟨(i 0).val * 4096 + (4094 + (i 1).val), by have h0 : (i 0).val < 2 := (i 0).isLt; have h1 : (i 1).val < 2 := (i 1).isLt; omega⟩ (i 2)

/-- THE STATE: the call leaves it in its second result. -/
theorem state_final : (dats m 0 c).arrAt 5 cfg0.N = state (zs m c) := by
  refine (dats m 0 c).arrAt_eq_of_covers 5 _ (by decide +kernel) fun t hf (y : S1x2x1024.Idx) => ?_
  have ht := flush_state t hf
  have hlt := point_lt t
  have h0 : (y 0).val < 1 := (y 0).isLt
  have h1 : (y 1).val < 2 := (y 1).isLt
  have h2 : (y 2).val < 1024 := (y 2).isLt
  have hi : ((cfg0.win 5).blk t).view.emb y = (ix3 ⟨t.val / 8, by omega⟩ ⟨(y 1).val, h1⟩ ⟨(y 2).val, h2⟩ : S2x2x1024.Idx) := funext fun a => Fin.ext (by
    match a with
    | ⟨0, _⟩ =>
      show cc0_transform_5 (grid0.coords t) 0 * 1 + 1 * (y 0).val = t.val / 8
      rw [index_state]; show t.val / 8 * 1 + 1 * (y 0).val = _; omega
    | ⟨1, _⟩ =>
      show cc0_transform_5 (grid0.coords t) 1 * 2 + 1 * (y 1).val = (y 1).val
      rw [index_state]; show 0 * 2 + 1 * (y 1).val = _; omega
    | ⟨2, _⟩ =>
      show cc0_transform_5 (grid0.coords t) 2 * 1024 + 1 * (y 2).val = (y 2).val
      rw [index_state]; show 0 * 1024 + 1 * (y 2).val = _; omega)
  rw [hi]
  show (dats m 0 c).after 5 t y = _
  rw [after0_5, outsAt0_B m c t (by omega)]
  dsimp only
  refine (state_block c t _ _ _ _ _ _ y).trans ?_
  refine (congrArg₂ (fun a b : EReal => a * b) (c_block m c t _ _) (h_block m c t _ _)).trans ?_
  have hr : (⟨t.val * 512 + (510 + (y 1).val), by omega⟩ : Fin 8192) = ⟨t.val / 8 * 4096 + (4094 + (y 1).val), by omega⟩ :=
    Fin.ext (by show t.val * 512 + (510 + (y 1).val) = t.val / 8 * 4096 + (4094 + (y 1).val); omega)
  exact congrArg (fun r : Fin 8192 => gated (zs m c) r (y 2)) hr

/-- THE RUN: every fair execution ends with the state in the second result and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v1_1) = state (zs m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).2.1.trans (state_final m c), (h c).2.2.1, (h c).2.2.2⟩)
    (Cert.ConvPIdeal.Value.run_blocks m ρ)

end Cert.ConvPValue

end
-- ==== Proof.ConvPClaim.lean ====
/- The claims on the short gated convolution over the prompt: the state the kernel hands on is the plain reference's. -/
module

public import proofs.«01_k».proof.Defs
public import proofs.«01_k».proof.Proof.ConvPValue
public import proofs.«01_k».proof.Proof.Gen.ConvP.Frame
public import proofs.«01_k».proof.Proof.Gen.ConvPRefIdeal.Run
public import proofs.«01_k».proof.Proof.Gen.ConvPRefIdeal.Read

@[expose] public section

set_option maxRecDepth 16384

noncomputable section

namespace Cert.ConvPClaim

open Idealize.ShloMosaic Idealize.ShloMosaic.TcCoe Idealize.ShloMosaic.ValueIdx Idealize.SL.Sem
open Cert.ConvPRefIdeal.Read Cert.ConvPValue

/-! ## Frames -/

theorem frame_p : Cert.quiescent_ConvP := fun m ρ _ => Cert.ConvP.Gen.frame m ρ
theorem frame_pi : Cert.quiescent_ConvPIdeal := fun m ρ _ => Cert.ConvPIdeal.Gen.frame m ρ
theorem frame_ri : Cert.quiescent_ConvPRefIdeal := fun m ρ _ =>
  (θ_run Cert.ConvPRefIdeal.defs _ _).mono (fun r h => ⟨fun c => (h c).2, sem_eq_zero_of_no_sems (by decide) r.2⟩)
    (Cert.ConvPRefIdeal.Value.run (F := Ideal) m ρ)

/-- THE IDEALIZATION: the program's own text, read over the extended reals. -/
theorem preserves : Cert.preserves_ConvP_ConvPIdeal := trivial

section Reference

open Cert.ConvPRefIdeal Cert.ConvPRefIdeal.Gen

/-- The reference's first factors are columns 5120 to 6143, sequence by sequence, -/
theorem c_apply (z : Vec Ideal S8192x7168 .bf16) (b : Fin 2) (s : Fin 4096) (e : Fin 1024) :
    val_main_v5 (F := Ideal) z (ix3 b s e) = (z (ix2 ⟨b.val * 4096 + s.val, by omega⟩ ⟨5120 + e.val, by omega⟩) : EReal) := by
  unfold val_main_v5
  refine (shapeCast_apply _ _ _ (ix2 ⟨b.val * 4096 + s.val, by omega⟩ e : S8192x1024.Idx) ?_).trans ?_
  · rewrite [Shape.rowMajor_val_two, Shape.rowMajor_val_three]; rfl
  · refine (val_main_v3_apply z _).trans (congrArg z (funext fun a => ?_))
    match a with
    | ⟨0, _⟩ => rfl
    | ⟨1, _⟩ => rfl

/-- its second factors columns 6144 to 7167. -/
theorem h_apply (z : Vec Ideal S8192x7168 .bf16) (b : Fin 2) (s : Fin 4096) (e : Fin 1024) :
    val_main_v8 (F := Ideal) z (ix3 b s e) = (z (ix2 ⟨b.val * 4096 + s.val, by omega⟩ ⟨6144 + e.val, by omega⟩) : EReal) := by
  unfold val_main_v8
  refine (shapeCast_apply _ _ _ (ix2 ⟨b.val * 4096 + s.val, by omega⟩ e : S8192x1024.Idx) ?_).trans ?_
  · rewrite [Shape.rowMajor_val_two, Shape.rowMajor_val_three]; rfl
  · refine (val_main_v6_apply z _).trans (congrArg z (funext fun a => ?_))
    match a with
    | ⟨0, _⟩ => rfl
    | ⟨1, _⟩ => rfl

/-- The reference's state is the last two gated inputs of every sequence. -/
theorem state_eq (z : Vec Ideal S8192x7168 .bf16) : val_main_v39 (F := Ideal) z = state z := by
  funext i
  have h0 : (i 0).val < 2 := (i 0).isLt
  have h1 : (i 1).val < 2 := (i 1).isLt
  refine (val_main_v39_apply z i).trans ?_
  refine Eq.trans (b := val_main_v9 (F := Ideal) z (ix3 (i 0) ⟨4094 + (i 1).val, by omega⟩ (i 2))) ?_ ?_
  · unfold val_main_v10
    refine pad_apply_of_inside _ _ _ _ _ _ _ _ (ix3 (i 0) ⟨4094 + (i 1).val, by omega⟩ (i 2)) fun a => ?_
    match a with
    | ⟨0, _⟩ => show (i 0).val = 0 + (i 0).val * (0 + 1); omega
    | ⟨1, _⟩ => show 4096 + (i 1).val = 2 + (4094 + (i 1).val) * (0 + 1); omega
    | ⟨2, _⟩ => show (i 2).val = 0 + (i 2).val * (0 + 1); omega
  · exact congrArg₂ (fun a b : EReal => a * b) (c_apply z _ _ _) (h_apply z _ _ _)

end Reference

/-- THE VALUES: the state is the reference's. -/
theorem algebraic : Cert.algebraic_ConvPIdeal_ConvPRefIdeal := by
  intro m g m' g' _ ha
  refine ⟨fun c => state (zs m c), Cert.ConvPValue.run m g, ?_⟩
  refine (θ_run Cert.ConvPRefIdeal.defs _ _).mono (fun r h c => ?_) (Cert.ConvPRefIdeal.Value.run (F := Ideal) m' g')
  obtain ⟨a, e⟩ := h c
  rw [val_main_v39_eq, (ha c).1] at a
  exact ⟨a.trans (state_eq _), e⟩

end Cert.ConvPClaim

end
-- ==== Proof.lean ====
/- The proof of every claim of the layer's certificate: the modules under Proof/ prove the claims of each call,
   and this module puts them in the order in which they are stated. -/
module

public import proofs.«01_k».proof.Defs
public import proofs.«01_k».proof.Proof.Samp0Claim
public import proofs.«01_k».proof.Proof.ProjClaim
public import proofs.«01_k».proof.Proof.MixClaim
public import proofs.«01_k».proof.Proof.Samp1Claim
public import proofs.«01_k».proof.Proof.Samp2Claim
public import proofs.«01_k».proof.Proof.ConvSClaim
public import proofs.«01_k».proof.Proof.ConvPClaim

@[expose] public section

noncomputable section

namespace Cert.Proof

open Idealize.ShloMosaic Idealize.SL.Sem

theorem claim : Cert.Claim :=
  ⟨Cert.Samp0.Gen.facts, Cert.Samp0Ideal.Gen.facts, Cert.SampRef0Ideal.Gen.facts,
    Cert.Mix.Gen.facts, Cert.MixIdeal.Gen.facts, Cert.MixRefIdeal.Gen.facts,
    Cert.Proj.Gen.facts, Cert.ProjIdeal.Gen.facts, Cert.ProjRefIdeal.Gen.facts,
    Cert.Samp1.Gen.facts, Cert.Samp1Ideal.Gen.facts, Cert.SampRef1Ideal.Gen.facts,
    Cert.Samp2.Gen.facts, Cert.Samp2Ideal.Gen.facts, Cert.SampRef2Ideal.Gen.facts,
    Cert.ConvS.Gen.facts, Cert.ConvSIdeal.Gen.facts, Cert.ConvSRefIdeal.Gen.facts,
    Cert.ConvP.Gen.facts, Cert.ConvPIdeal.Gen.facts, Cert.ConvPRefIdeal.Gen.facts,
    Cert.Pre_finite_arguments.Gen.facts, Cert.Pre_finite_arguments_512.Gen.facts, Cert.Pre_finite_arguments_2048.Gen.facts, Cert.On_rows_of_the_prompt.Gen.facts,
    Cert.Samp0Claim.frame_p, Cert.Samp0Claim.frame_pi, Cert.Samp0Claim.frame_pi_pre, Cert.Samp0Claim.frame_ri, Cert.Samp0Claim.frame_ri_pre,
    Cert.MixClaim.frame_p, Cert.MixClaim.frame_pi, Cert.MixClaim.frame_ri,
    Cert.ProjClaim.frame_p, Cert.ProjClaim.frame_pi, Cert.ProjClaim.frame_ri,
    Cert.Samp1Claim.frame_p, Cert.Samp1Claim.frame_pi, Cert.Samp1Claim.frame_pi_pre, Cert.Samp1Claim.frame_ri, Cert.Samp1Claim.frame_ri_pre,
    Cert.Samp2Claim.frame_p, Cert.Samp2Claim.frame_pi, Cert.Samp2Claim.frame_pi_pre, Cert.Samp2Claim.frame_ri, Cert.Samp2Claim.frame_ri_pre,
    Cert.ConvSClaim.frame_p, Cert.ConvSClaim.frame_pi, Cert.ConvSClaim.frame_ri,
    Cert.ConvPClaim.frame_p, Cert.ConvPClaim.frame_pi, Cert.ConvPClaim.frame_ri,
    Cert.Samp0Claim.preserves, Cert.Samp0Claim.algebraic, Cert.MixClaim.preserves, Cert.MixClaim.algebraic,
    Cert.ProjClaim.preserves, Cert.ProjClaim.algebraic,
    Cert.Samp1Claim.preserves, Cert.Samp1Claim.algebraic, Cert.Samp2Claim.preserves, Cert.Samp2Claim.algebraic,
    Cert.ConvSClaim.preserves, Cert.ConvSClaim.algebraic, Cert.ConvPClaim.preserves, Cert.ConvPClaim.algebraic⟩

end Cert.Proof

end
